-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Moe [hPre_moe_in_range : Cert.Pre_moe_in_range.Facts] (m : (ℓ : Loc Cert.Moe.nD Cert.Moe.τ Cert.Moe.sig) → Buf (Elt Bits) ℓ) : Prop :=
  ∀ c : Dev Cert.Moe.nD,
    (Cert.Pre_moe_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8)) (m ((c.tc : Thread Cert.Moe.nD Cert.Moe.τ).loc Cert.Moe.main_arg9))) = (fun _ => 1#1)

def Pre_MoeIdeal [hPre_moe_in_range : Cert.Pre_moe_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_moe_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_MoeIdeal_moe_partition [hPre_moe_partition : Cert.Pre_moe_partition.Facts] (m : (ℓ : Loc Cert.MoeIdeal.nD Cert.MoeIdeal.τ Cert.MoeIdeal.sig) → Buf (Elt Ideal) ℓ) : Prop :=
  ∀ c : Dev Cert.MoeIdeal.nD,
    (Cert.Pre_moe_partition.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8)) (m ((c.tc : Thread Cert.MoeIdeal.nD Cert.MoeIdeal.τ).loc Cert.MoeIdeal.main_arg9))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_moe_partition [hPre_moe_partition : Cert.Pre_moe_partition.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_moe_partition.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8)) (m ((c.tc : Thread Cert.MoeReferenceIdeal.nD Cert.MoeReferenceIdeal.τ).loc Cert.MoeReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_Moe [hMoe : Cert.Moe.Facts] [hPre_moe_in_range : Cert.Pre_moe_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8)
      ∧ r.2.mem ((c.tc : Thread Cert.Moe.nD Cert.Moe.τ).loc Cert.Moe.main_arg9) = m ((c.tc : Thread Cert.Moe.nD Cert.Moe.τ).loc Cert.Moe.main_arg9))
      ∧ r.2.sem = fun _ => 0)

def quiescent_MoeIdeal [hMoeIdeal : Cert.MoeIdeal.Facts] [hPre_moe_in_range : Cert.Pre_moe_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeIdeal_pre_moe_partition [hMoeIdeal : Cert.MoeIdeal.Facts] [hPre_moe_partition : Cert.Pre_moe_partition.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_moe_partition m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
      ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9))
      ∧ r.2.sem = fun _ => 0)

def quiescent_MoeReferenceIdeal_pre_moe_partition [hMoeReferenceIdeal : Cert.MoeReferenceIdeal.Facts] [hPre_moe_partition : Cert.Pre_moe_partition.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_moe_partition m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8)
      ∧ r.2.mem ((c.tc : Thread Cert.MoeReferenceIdeal.nD Cert.MoeReferenceIdeal.τ).loc Cert.MoeReferenceIdeal.main_arg9) = m ((c.tc : Thread Cert.MoeReferenceIdeal.nD Cert.MoeReferenceIdeal.τ).loc Cert.MoeReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v124)) (v2 : (c : Dev Cert.KernelIdeal.nD) → Buf (Elt Ideal) ((c.tc : Thread Cert.KernelIdeal.nD Cert.KernelIdeal.τ).loc Cert.KernelIdeal.main_v79)) (v3 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_indices) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_indices) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v6) = v0 c
          ∧ r.2.mem ((c.tc : Thread Cert.QkvReferenceIdeal.nD Cert.QkvReferenceIdeal.τ).loc Cert.QkvReferenceIdeal.main_v10) = v1 c
          ∧ r.2.mem ((c.tc : Thread Cert.QkvReferenceIdeal.nD Cert.QkvReferenceIdeal.τ).loc Cert.QkvReferenceIdeal.main_v14) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Attn_AttnIdeal : Prop :=
  True

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v22) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)) →
    ∃ (v0 : (c : Dev Cert.OprojIdeal.nD) → Buf (Elt Ideal) ((c.tc : Thread Cert.OprojIdeal.nD Cert.OprojIdeal.τ).loc Cert.OprojIdeal.main_v0)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v4) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v0)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v6) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v4) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_Moe_MoeIdeal : Prop :=
  True

def algebraic_MoeIdeal_MoeReferenceIdeal_pre_moe_partition [hMoeIdeal : Cert.MoeIdeal.Facts] [hMoeReferenceIdeal : Cert.MoeReferenceIdeal.Facts] [hPre_moe_partition : Cert.Pre_moe_partition.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal_moe_partition m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)
      ∧ m' ((c.tc : Thread Cert.MoeReferenceIdeal.nD Cert.MoeReferenceIdeal.τ).loc Cert.MoeReferenceIdeal.main_arg9) = m ((c.tc : Thread Cert.MoeIdeal.nD Cert.MoeIdeal.τ).loc Cert.MoeIdeal.main_arg9)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8)
          ∧ r.2.mem ((c.tc : Thread Cert.MoeIdeal.nD Cert.MoeIdeal.τ).loc Cert.MoeIdeal.main_arg9) = m ((c.tc : Thread Cert.MoeIdeal.nD Cert.MoeIdeal.τ).loc Cert.MoeIdeal.main_arg9))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v157) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8)
          ∧ r.2.mem ((c.tc : Thread Cert.MoeReferenceIdeal.nD Cert.MoeReferenceIdeal.τ).loc Cert.MoeReferenceIdeal.main_arg9) = m' ((c.tc : Thread Cert.MoeReferenceIdeal.nD Cert.MoeReferenceIdeal.τ).loc Cert.MoeReferenceIdeal.main_arg9))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hAttn : Cert.Attn.Facts) (hAttnIdeal : Cert.AttnIdeal.Facts) (hAttnReferenceIdeal : Cert.AttnReferenceIdeal.Facts) (hOproj : Cert.Oproj.Facts) (hOprojIdeal : Cert.OprojIdeal.Facts) (hOprojReferenceIdeal : Cert.OprojReferenceIdeal.Facts) (hShared : Cert.Shared.Facts) (hSharedIdeal : Cert.SharedIdeal.Facts) (hSharedReferenceIdeal : Cert.SharedReferenceIdeal.Facts) (hFinal : Cert.Final.Facts) (hFinalIdeal : Cert.FinalIdeal.Facts) (hFinalReferenceIdeal : Cert.FinalReferenceIdeal.Facts) (hMoe : Cert.Moe.Facts) (hMoeIdeal : Cert.MoeIdeal.Facts) (hMoeReferenceIdeal : Cert.MoeReferenceIdeal.Facts) (hPre_moe_in_range : Cert.Pre_moe_in_range.Facts) (hPre_moe_partition : Cert.Pre_moe_partition.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Attn (hAttn := hAttn)
    ∧ quiescent_AttnIdeal (hAttnIdeal := hAttnIdeal)
    ∧ quiescent_AttnReferenceIdeal (hAttnReferenceIdeal := hAttnReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Shared (hShared := hShared)
    ∧ quiescent_SharedIdeal (hSharedIdeal := hSharedIdeal)
    ∧ quiescent_SharedReferenceIdeal (hSharedReferenceIdeal := hSharedReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Moe (hMoe := hMoe) (hPre_moe_in_range := hPre_moe_in_range)
    ∧ quiescent_MoeIdeal (hMoeIdeal := hMoeIdeal) (hPre_moe_in_range := hPre_moe_in_range)
    ∧ quiescent_MoeIdeal_pre_moe_partition (hMoeIdeal := hMoeIdeal) (hPre_moe_partition := hPre_moe_partition)
    ∧ quiescent_MoeReferenceIdeal (hMoeReferenceIdeal := hMoeReferenceIdeal)
    ∧ quiescent_MoeReferenceIdeal_pre_moe_partition (hMoeReferenceIdeal := hMoeReferenceIdeal) (hPre_moe_partition := hPre_moe_partition)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
    ∧ preserves_Attn_AttnIdeal
    ∧ algebraic_AttnIdeal_AttnReferenceIdeal (hAttnIdeal := hAttnIdeal) (hAttnReferenceIdeal := hAttnReferenceIdeal)
    ∧ preserves_Oproj_OprojIdeal
    ∧ algebraic_OprojIdeal_OprojReferenceIdeal (hOprojIdeal := hOprojIdeal) (hOprojReferenceIdeal := hOprojReferenceIdeal)
    ∧ preserves_Shared_SharedIdeal
    ∧ algebraic_SharedIdeal_SharedReferenceIdeal (hSharedIdeal := hSharedIdeal) (hSharedReferenceIdeal := hSharedReferenceIdeal)
    ∧ preserves_Final_FinalIdeal
    ∧ algebraic_FinalIdeal_FinalReferenceIdeal (hFinalIdeal := hFinalIdeal) (hFinalReferenceIdeal := hFinalReferenceIdeal)
    ∧ preserves_Moe_MoeIdeal
    ∧ algebraic_MoeIdeal_MoeReferenceIdeal_pre_moe_partition (hMoeIdeal := hMoeIdeal) (hMoeReferenceIdeal := hMoeReferenceIdeal) (hPre_moe_partition := hPre_moe_partition)
-- ==== Pre_moe_in_range.lean ====
abbrev S39 : Shape := ⟨1, ![39]⟩
abbrev S8192x1024 : Shape := ⟨2, ![8192, 1024]⟩
abbrev S8x1024x2048 : Shape := ⟨3, ![8, 1024, 2048]⟩
abbrev S8x2048x1024 : Shape := ⟨3, ![8, 2048, 1024]⟩
abbrev S8192x1 : Shape := ⟨2, ![8192, 1]⟩
abbrev S_ : Shape := ⟨0, ![]⟩

class Facts : Prop where
  bcast_S_S39 : S_.BroadcastsInDim S39 (![] : Fin 0 → Fin S39.rank)

variable [Facts]

def fn {F : FTy → Type} [FloatOps F] (main_arg0 : IVec S39 32) (main_arg1 : IVec S39 32) (main_arg2 : IVec S39 32) (main_arg3 : IVec S39 32) (main_arg4 : IVec S39 32) (main_arg5 : IVec S39 32) (main_arg6 : FVec F S8192x1024 .bf16) (main_arg7 : FVec F S8x1024x2048 .bf16) (main_arg8 : FVec F S8x2048x1024 .bf16) (main_arg9 : FVec F S8192x1 .f32) : IVec S39 1 :=
  let main_c : IVec S_ 32 := constantI S_ 32 0#32
  let main_v0 : IVec S39 32 := broadcastInDim S39 ![] bcast_S_S39 main_c
  let main_v1 : IVec S39 1 := cmpi .sge main_arg0 main_v0
  let main_c_0 : IVec S_ 32 := constantI S_ 32 32#32
  let main_v2 : IVec S39 32 := broadcastInDim S39 ![] bcast_S_S39 main_c_0
  let main_v3 : IVec S39 1 := cmpi .slt main_arg0 main_v2
  let main_v4 : IVec S39 1 := andi main_v1 main_v3
  let main_c_1 : IVec S_ 32 := constantI S_ 32 0#32
  let main_v5 : IVec S39 32 := broadcastInDim S39 ![] bcast_S_S39 main_c_1
  let main_v6 : IVec S39 1 := cmpi .sge main_arg1 main_v5
  let main_v7 : IVec S39 1 := andi main_v4 main_v6
  let main_c_2 : IVec S_ 32 := constantI S_ 32 8#32
  let main_v8 : IVec S39 32 := broadcastInDim S39 ![] bcast_S_S39 main_c_2
  let main_v9 : IVec S39 1 := cmpi .slt main_arg1 main_v8
  let main_v10 : IVec S39 1 := andi main_v7 main_v9
  main_v10
-- ==== Pre_moe_partition.lean ====
abbrev S39 : Shape := ⟨1, ![39]⟩
abbrev S8192x1024 : Shape := ⟨2, ![8192, 1024]⟩
abbrev S8x1024x2048 : Shape := ⟨3, ![8, 1024, 2048]⟩
abbrev S8x2048x1024 : Shape := ⟨3, ![8, 2048, 1024]⟩
abbrev S8192x1 : Shape := ⟨2, ![8192, 1]⟩
abbrev S8192 : Shape := ⟨1, ![8192]⟩
abbrev S_ : Shape := ⟨0, ![]⟩
abbrev S1x39 : Shape := ⟨2, ![1, 39]⟩
abbrev S8192x39 : Shape := ⟨2, ![8192, 39]⟩
abbrev S38 : Shape := ⟨1, ![38]⟩
abbrev S1 : Shape := ⟨1, ![1]⟩

class Facts : Prop where
  bcast_S8192_S8192x1_0 : S8192.BroadcastsInDim S8192x1 (![0] : Fin 1 → Fin S8192x1.rank)
  bcast_S_S39 : S_.BroadcastsInDim S39 (![] : Fin 0 → Fin S39.rank)
  bcast_S39_S1x39_1 : S39.BroadcastsInDim S1x39 (![1] : Fin 1 → Fin S1x39.rank)
  bcast_S1x39_S8192x39_0_1 : S1x39.BroadcastsInDim S8192x39 (![0, 1] : Fin 2 → Fin S8192x39.rank)
  bcast_S8192x1_S8192x39_0_1 : S8192x1.BroadcastsInDim S8192x39 (![0, 1] : Fin 2 → Fin S8192x39.rank)
  reducesTo_S39_S_d0 : S39.ReducesTo [0] S_
  h_S_ : 0 < S_.numel
  slices_S39_S38_0 : S39.Slices ![0] S38
  slices_S39_S38_1 : S39.Slices ![1] S38
  reducesTo_S38_S_d0 : S38.ReducesTo [0] S_
  natLt_1_32 : 1 < 32
  reducesTo_S8192x39_S8192_d1 : S8192x39.ReducesTo [1] S8192
  bcast_S_S8192 : S_.BroadcastsInDim S8192 (![] : Fin 0 → Fin S8192.rank)
  reducesTo_S8192_S_d0 : S8192.ReducesTo [0] S_
  bcast_S_S38 : S_.BroadcastsInDim S38 (![] : Fin 0 → Fin S38.rank)
  slices_S39_S1_38 : S39.Slices ![38] S1
  shapeCasts_S1_S_ : S1.ShapeCasts S_

variable [Facts]

def fn_part3 {F : FTy → Type} [FloatOps F] (main_arg0 : IVec S39 32) (main_arg5 : IVec S39 32) (main_v48 : IVec S_ 1) (main_v55 : IVec S38 1) (main_c_14 : IVec S_ 1) : IVec S_ 1 :=
  let main_v56 : IVec S_ 1 := (fun x v => Host.reduce IntOp.andi x v reducesTo_S38_S_d0 h_S_) main_v55 main_c_14
  let main_v57 : IVec S_ 1 := andi main_v48 main_v56
  let main_v58 : IVec S38 32 := (extractStridedSlice S38 ![0] · slices_S39_S38_0) main_arg5
  let main_c_15 : IVec S_ 32 := constantI S_ 32 1#32
  let main_v59 : IVec S38 32 := broadcastInDim S38 ![] bcast_S_S38 main_c_15
  let main_v60 : IVec S38 1 := cmpi .eq main_v58 main_v59
  let main_v61 : IVec S38 32 := (extractStridedSlice S38 ![1] · slices_S39_S38_1) main_arg0
  let main_v62 : IVec S38 32 := (extractStridedSlice S38 ![0] · slices_S39_S38_0) main_arg0
  let main_v63 : IVec S38 1 := cmpi .eq main_v61 main_v62
  let main_v64 : IVec S38 1 := ori main_v60 main_v63
  let main_c_16 : IVec S_ 1 := constantI S_ 1 1#1
  let main_v65 : IVec S_ 1 := (fun x v => Host.reduce IntOp.andi x v reducesTo_S38_S_d0 h_S_) main_v64 main_c_16
  let main_v66 : IVec S_ 1 := andi main_v57 main_v65
  let main_v67 : IVec S1 32 := (extractStridedSlice S1 ![38] · slices_S39_S1_38) main_arg5
  let main_v68 : IVec S_ 32 := shapeCast S_ main_v67 shapeCasts_S1_S_
  let main_c_17 : IVec S_ 32 := constantI S_ 32 1#32
  let main_v69 : IVec S_ 1 := cmpi .eq main_v68 main_c_17
  let main_v70 : IVec S_ 1 := andi main_v66 main_v69
  main_v70

def fn_part2 {F : FTy → Type} [FloatOps F] (main_arg0 : IVec S39 32) (main_arg4 : IVec S39 32) (main_arg5 : IVec S39 32) (main_v16 : IVec S8192x39 1) (main_v37 : IVec S_ 1) : IVec S_ 1 :=
  let main_v38 : IVec S38 32 := (extractStridedSlice S38 ![0] · slices_S39_S38_0) main_arg0
  let main_v39 : IVec S38 32 := (extractStridedSlice S38 ![1] · slices_S39_S38_1) main_arg0
  let main_v40 : IVec S38 1 := cmpi .sle main_v38 main_v39
  let main_c_9 : IVec S_ 1 := constantI S_ 1 1#1
  let main_v41 : IVec S_ 1 := (fun x v => Host.reduce IntOp.andi x v reducesTo_S38_S_d0 h_S_) main_v40 main_c_9
  let main_v42 : IVec S_ 1 := andi main_v37 main_v41
  let main_v43 : IVec S8192x39 32 := (extui 32 · natLt_1_32) main_v16
  let main_c_10 : IVec S_ 32 := constantI S_ 32 0#32
  let main_v44 : IVec S8192 32 := (fun x v => Host.reduce IntOp.addi x v reducesTo_S8192x39_S8192_d1 h_S_) main_v43 main_c_10
  let main_c_11 : IVec S_ 32 := constantI S_ 32 1#32
  let main_v45 : IVec S8192 32 := broadcastInDim S8192 ![] bcast_S_S8192 main_c_11
  let main_v46 : IVec S8192 1 := cmpi .eq main_v44 main_v45
  let main_c_12 : IVec S_ 1 := constantI S_ 1 1#1
  let main_v47 : IVec S_ 1 := (fun x v => Host.reduce IntOp.andi x v reducesTo_S8192_S_d0 h_S_) main_v46 main_c_12
  let main_v48 : IVec S_ 1 := andi main_v42 main_v47
  let main_v49 : IVec S38 32 := (extractStridedSlice S38 ![1] · slices_S39_S38_1) main_arg4
  let main_c_13 : IVec S_ 32 := constantI S_ 32 1#32
  let main_v50 : IVec S38 32 := broadcastInDim S38 ![] bcast_S_S38 main_c_13
  let main_v51 : IVec S38 1 := cmpi .ne main_v49 main_v50
  let main_v52 : IVec S38 32 := (extractStridedSlice S38 ![1] · slices_S39_S38_1) main_arg0
  let main_v53 : IVec S38 32 := (extractStridedSlice S38 ![0] · slices_S39_S38_0) main_arg0
  let main_v54 : IVec S38 1 := cmpi .ne main_v52 main_v53
  let main_v55 : IVec S38 1 := ori main_v51 main_v54
  let main_c_14 : IVec S_ 1 := constantI S_ 1 1#1
  fn_part3 (F := F) main_arg0 main_arg5 main_v48 main_v55 main_c_14

def fn_part1 {F : FTy → Type} [FloatOps F] (main_arg0 : IVec S39 32) (main_arg1 : IVec S39 32) (main_arg2 : IVec S39 32) (main_arg3 : IVec S39 32) (main_arg4 : IVec S39 32) (main_arg5 : IVec S39 32) (main_v16 : IVec S8192x39 1) (main_v18 : IVec S39 1) (main_v19 : IVec S39 32) : IVec S_ 1 :=
  let main_v20 : IVec S39 1 := cmpi .slt main_arg0 main_v19
  let main_v21 : IVec S39 1 := andi main_v18 main_v20
  let main_c_3 : IVec S_ 32 := constantI S_ 32 0#32
  let main_v22 : IVec S39 32 := broadcastInDim S39 ![] bcast_S_S39 main_c_3
  let main_v23 : IVec S39 1 := cmpi .sge main_arg1 main_v22
  let main_v24 : IVec S39 1 := andi main_v21 main_v23
  let main_c_4 : IVec S_ 32 := constantI S_ 32 8#32
  let main_v25 : IVec S39 32 := broadcastInDim S39 ![] bcast_S_S39 main_c_4
  let main_v26 : IVec S39 1 := cmpi .slt main_arg1 main_v25
  let main_v27 : IVec S39 1 := andi main_v24 main_v26
  let main_c_5 : IVec S_ 32 := constantI S_ 32 0#32
  let main_v28 : IVec S39 32 := broadcastInDim S39 ![] bcast_S_S39 main_c_5
  let main_v29 : IVec S39 1 := cmpi .sge main_arg2 main_v28
  let main_v30 : IVec S39 1 := andi main_v27 main_v29
  let main_c_6 : IVec S_ 32 := constantI S_ 32 256#32
  let main_v31 : IVec S39 32 := broadcastInDim S39 ![] bcast_S_S39 main_c_6
  let main_v32 : IVec S39 1 := cmpi .sle main_arg2 main_v31
  let main_v33 : IVec S39 1 := andi main_v30 main_v32
  let main_c_7 : IVec S_ 32 := constantI S_ 32 256#32
  let main_v34 : IVec S39 32 := broadcastInDim S39 ![] bcast_S_S39 main_c_7
  let main_v35 : IVec S39 1 := cmpi .sle main_arg3 main_v34
  let main_v36 : IVec S39 1 := andi main_v33 main_v35
  let main_c_8 : IVec S_ 1 := constantI S_ 1 1#1
  let main_v37 : IVec S_ 1 := (fun x v => Host.reduce IntOp.andi x v reducesTo_S39_S_d0 h_S_) main_v36 main_c_8
  fn_part2 (F := F) main_arg0 main_arg4 main_arg5 main_v16 main_v37

def fn {F : FTy → Type} [FloatOps F] (main_arg0 : IVec S39 32) (main_arg1 : IVec S39 32) (main_arg2 : IVec S39 32) (main_arg3 : IVec S39 32) (main_arg4 : IVec S39 32) (main_arg5 : IVec S39 32) (main_arg6 : FVec F S8192x1024 .bf16) (main_arg7 : FVec F S8x1024x2048 .bf16) (main_arg8 : FVec F S8x2048x1024 .bf16) (main_arg9 : FVec F S8192x1 .f32) : IVec S_ 1 :=
  let main_v0 : IVec S8192 32 := iotaInDim S8192 32 0
  let main_v1 : IVec S8192x1 32 := broadcastInDim S8192x1 ![0] bcast_S8192_S8192x1_0 main_v0
  let main_c : IVec S_ 32 := constantI S_ 32 256#32
  let main_v2 : IVec S39 32 := broadcastInDim S39 ![] bcast_S_S39 main_c
  let main_v3 : IVec S39 32 := muli main_arg0 main_v2
  let main_v4 : IVec S39 32 := addi main_v3 main_arg2
  let main_v5 : IVec S1x39 32 := broadcastInDim S1x39 ![1] bcast_S39_S1x39_1 main_v4
  let main_v6 : IVec S8192x39 32 := broadcastInDim S8192x39 ![0, 1] bcast_S1x39_S8192x39_0_1 main_v5
  let main_v7 : IVec S8192x39 32 := broadcastInDim S8192x39 ![0, 1] bcast_S8192x1_S8192x39_0_1 main_v1
  let main_v8 : IVec S8192x39 1 := cmpi .sle main_v6 main_v7
  let main_c_0 : IVec S_ 32 := constantI S_ 32 256#32
  let main_v9 : IVec S39 32 := broadcastInDim S39 ![] bcast_S_S39 main_c_0
  let main_v10 : IVec S39 32 := muli main_arg0 main_v9
  let main_v11 : IVec S39 32 := addi main_v10 main_arg3
  let main_v12 : IVec S1x39 32 := broadcastInDim S1x39 ![1] bcast_S39_S1x39_1 main_v11
  let main_v13 : IVec S8192x39 32 := broadcastInDim S8192x39 ![0, 1] bcast_S8192x1_S8192x39_0_1 main_v1
  let main_v14 : IVec S8192x39 32 := broadcastInDim S8192x39 ![0, 1] bcast_S1x39_S8192x39_0_1 main_v12
  let main_v15 : IVec S8192x39 1 := cmpi .slt main_v13 main_v14
  let main_v16 : IVec S8192x39 1 := andi main_v8 main_v15
  let main_c_1 : IVec S_ 32 := constantI S_ 32 0#32
  let main_v17 : IVec S39 32 := broadcastInDim S39 ![] bcast_S_S39 main_c_1
  let main_v18 : IVec S39 1 := cmpi .sge main_arg0 main_v17
  let main_c_2 : IVec S_ 32 := constantI S_ 32 32#32
  let main_v19 : IVec S39 32 := broadcastInDim S39 ![] bcast_S_S39 main_c_2
  fn_part1 (F := F) main_arg0 main_arg1 main_arg2 main_arg3 main_arg4 main_arg5 main_v16 main_v18 main_v19
-- ==== Kernel.lean ====
abbrev S2x2048x1024 : Shape := ⟨3, ![2, 2048, 1024]⟩
abbrev S1024 : Shape := ⟨1, ![1024]⟩
abbrev S1024x1024 : Shape := ⟨2, ![1024, 1024]⟩
abbrev S1024x8 : Shape := ⟨2, ![1024, 8]⟩
abbrev S2x2048 : Shape := ⟨2, ![2, 2048]⟩
abbrev S4096x512 : Shape := ⟨2, ![4096, 512]⟩
abbrev S8192x512 : Shape := ⟨2, ![8192, 512]⟩
abbrev S_ : Shape := ⟨0, ![]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩
abbrev S2x2048x8 : Shape := ⟨3, ![2, 2048, 8]⟩
abbrev S2x2048x2 : Shape := ⟨3, ![2, 2048, 2]⟩
abbrev S8192 : Shape := ⟨1, ![8192]⟩
abbrev S16384x128 : Shape := ⟨2, ![16384, 128]⟩
abbrev S8192x1 : Shape := ⟨2, ![8192, 1]⟩
abbrev S4 : Shape := ⟨1, ![4]⟩
abbrev S1x4 : Shape := ⟨2, ![1, 4]⟩
abbrev S8192x4 : Shape := ⟨2, ![8192, 4]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4096x2 : Shape := ⟨2, ![4096, 2]⟩
abbrev S4096x1 : Shape := ⟨2, ![4096, 1]⟩
abbrev S4096 : Shape := ⟨1, ![4096]⟩

abbrev nBuf : Table → Nat
  | .hbm => 184
  | .local .scVector .vmem => 4
  | _ => 0

abbrev hbmTy0_0 (i : Nat) : BufTy := match i % 128 with
  | 0 => ⟨S2x2048x1024, .f32⟩
  | 1 => ⟨S1024, .f32⟩
  | 2 => ⟨S1024, .f32⟩
  | 3 => ⟨S1024x1024, .f32⟩
  | 4 => ⟨S1024x1024, .f32⟩
  | 5 => ⟨S1024x1024, .f32⟩
  | 6 => ⟨S1024x1024, .f32⟩
  | 7 => ⟨S1024, .f32⟩
  | 8 => ⟨S1024, .f32⟩
  | 9 => ⟨S1024x8, .f32⟩
  | 10 => ⟨S2x2048, .i1⟩
  | 11 => ⟨S4096x512, .i32⟩
  | 12 => ⟨S8192x512, .i32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S2x2048x1024, .f32⟩
  | 20 => ⟨S2x2048x1024, .f32⟩
  | 21 => ⟨S2x2048x1024, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S2x2048x1024, .f32⟩
  | 29 => ⟨S2x2048x1024, .f32⟩
  | 30 => ⟨S_, .f32⟩
  | 31 => ⟨S2x2048x1, .f32⟩
  | 32 => ⟨S2x2048x1, .f32⟩
  | 33 => ⟨S2x2048x1, .f32⟩
  | 34 => ⟨S2x2048x1024, .f32⟩
  | 35 => ⟨S2x2048x1024, .f32⟩
  | 36 => ⟨S1x1x1024, .f32⟩
  | 37 => ⟨S2x2048x1024, .f32⟩
  | 38 => ⟨S2x2048x1024, .f32⟩
  | 39 => ⟨S1x1x1024, .f32⟩
  | 40 => ⟨S2x2048x1024, .f32⟩
  | 41 => ⟨S2x2048x1024, .f32⟩
  | 42 => ⟨S2x2048x1024, .f32⟩
  | 43 => ⟨S2x2048x16x64, .f32⟩
  | 44 => ⟨S2x16x2048x64, .f32⟩
  | 45 => ⟨S2x2048x1024, .f32⟩
  | 46 => ⟨S2x2048x16x64, .f32⟩
  | 47 => ⟨S2x16x2048x64, .f32⟩
  | 48 => ⟨S2x2048x1024, .f32⟩
  | 49 => ⟨S2x2048x16x64, .f32⟩
  | 50 => ⟨S2x16x2048x64, .f32⟩
  | 51 => ⟨S2x16x2048x2048, .f32⟩
  | 52 => ⟨S_, .f32⟩
  | 53 => ⟨S_, .f32⟩
  | 54 => ⟨S2x16x2048x2048, .f32⟩
  | 55 => ⟨S2x16x2048x2048, .f32⟩
  | 56 => ⟨S2x1x1x2048, .i1⟩
  | 57 => ⟨S_, .f32⟩
  | 58 => ⟨S_, .f32⟩
  | 59 => ⟨S2x16x2048x2048, .i1⟩
  | 60 => ⟨S2x16x2048x2048, .f32⟩
  | 61 => ⟨S2x16x2048x2048, .f32⟩
  | 62 => ⟨S_, .f32⟩
  | 63 => ⟨S2x16x2048, .f32⟩
  | 64 => ⟨S_, .f32⟩
  | 65 => ⟨S2x16x2048, .f32⟩
  | 66 => ⟨S2x16x2048, .f32⟩
  | 67 => ⟨S2x16x2048x1, .f32⟩
  | 68 => ⟨S2x16x2048x2048, .f32⟩
  | 69 => ⟨S2x16x2048x2048, .f32⟩
  | 70 => ⟨S2x16x2048x2048, .f32⟩
  | 71 => ⟨S_, .f32⟩
  | 72 => ⟨S2x16x2048, .f32⟩
  | 73 => ⟨S2x16x2048x1, .f32⟩
  | 74 => ⟨S2x16x2048x2048, .f32⟩
  | 75 => ⟨S2x16x2048x2048, .f32⟩
  | 76 => ⟨S2x16x2048x64, .f32⟩
  | 77 => ⟨S2x2048x16x64, .f32⟩
  | 78 => ⟨S2x2048x1024, .f32⟩
  | 79 => ⟨S2x2048x1024, .f32⟩
  | 80 => ⟨S2x2048x1024, .f32⟩
  | 81 => ⟨S_, .f32⟩
  | 82 => ⟨S2x2048, .f32⟩
  | 83 => ⟨S2x2048x1, .f32⟩
  | 84 => ⟨S_, .f32⟩
  | 85 => ⟨S2x2048x1, .f32⟩
  | 86 => ⟨S2x2048x1, .f32⟩
  | 87 => ⟨S2x2048x1024, .f32⟩
  | 88 => ⟨S2x2048x1024, .f32⟩
  | 89 => ⟨S2x2048x1024, .f32⟩
  | 90 => ⟨S_, .f32⟩
  | 91 => ⟨S2x2048, .f32⟩
  | 92 => ⟨S2x2048x1, .f32⟩
  | 93 => ⟨S_, .f32⟩
  | 94 => ⟨S2x2048x1, .f32⟩
  | 95 => ⟨S2x2048x1, .f32⟩
  | 96 => ⟨S2x2048x1024, .f32⟩
  | 97 => ⟨S2x2048x1024, .f32⟩
  | 98 => ⟨S_, .f32⟩
  | 99 => ⟨S2x2048x1, .f32⟩
  | 100 => ⟨S2x2048x1, .f32⟩
  | 101 => ⟨S2x2048x1, .f32⟩
  | 102 => ⟨S2x2048x1024, .f32⟩
  | 103 => ⟨S2x2048x1024, .f32⟩
  | 104 => ⟨S1x1x1024, .f32⟩
  | 105 => ⟨S2x2048x1024, .f32⟩
  | 106 => ⟨S2x2048x1024, .f32⟩
  | 107 => ⟨S1x1x1024, .f32⟩
  | 108 => ⟨S2x2048x1024, .f32⟩
  | 109 => ⟨S2x2048x1024, .f32⟩
  | 110 => ⟨S2x2048x8, .f32⟩
  | 111 => ⟨S_, .f32⟩
  | 112 => ⟨S2x2048, .f32⟩
  | 113 => ⟨S_, .f32⟩
  | 114 => ⟨S2x2048, .f32⟩
  | 115 => ⟨S2x2048, .f32⟩
  | 116 => ⟨S2x2048x1, .f32⟩
  | 117 => ⟨S2x2048x8, .f32⟩
  | 118 => ⟨S2x2048x8, .f32⟩
  | 119 => ⟨S2x2048x8, .f32⟩
  | 120 => ⟨S_, .f32⟩
  | 121 => ⟨S2x2048, .f32⟩
  | 122 => ⟨S2x2048x1, .f32⟩
  | 123 => ⟨S2x2048x8, .f32⟩
  | 124 => ⟨S2x2048x8, .f32⟩
  | 125 => ⟨S2x2048x2, .f32⟩
  | 126 => ⟨S2x2048x2, .i32⟩
  | 127 => ⟨S8192, .i32⟩
  | _ => ⟨S2x2048x1024, .f32⟩

abbrev hbmTy0_1 (i : Nat) : BufTy := match i % 128 with
  | 0 => ⟨S8192, .i32⟩
  | 1 => ⟨S8192, .i32⟩
  | 2 => ⟨S8192, .i32⟩
  | 3 => ⟨S8192, .i32⟩
  | 4 => ⟨S8192, .i32⟩
  | 5 => ⟨S8192, .i32⟩
  | 6 => ⟨S_, .i32⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192, .i32⟩
  | 15 => ⟨S8192, .i32⟩
  | 16 => ⟨S_, .i32⟩
  | 17 => ⟨S8192, .i32⟩
  | 18 => ⟨S8192, .i1⟩
  | 19 => ⟨S8192, .i1⟩
  | 20 => ⟨S_, .i32⟩
  | 21 => ⟨S8192, .i32⟩
  | 22 => ⟨S8192, .i32⟩
  | 23 => ⟨S8192, .i32⟩
  | 24 => ⟨S16384x128, .i32⟩
  | 25 => ⟨S8192x1, .i32⟩
  | 26 => ⟨S_, .i32⟩
  | 27 => ⟨S8192x1, .i32⟩
  | 28 => ⟨S8192x1, .i32⟩
  | 29 => ⟨S4, .i32⟩
  | 30 => ⟨S1x4, .i32⟩
  | 31 => ⟨S8192x4, .i32⟩
  | 32 => ⟨S8192x4, .i32⟩
  | 33 => ⟨S8192x4, .i32⟩
  | 34 => ⟨S1x32768, .i32⟩
  | 35 => ⟨S32768x128, .i32⟩
  | 36 => ⟨S8192x512, .i32⟩
  | 37 => ⟨S4096x2, .i32⟩
  | 38 => ⟨S4096x1, .i32⟩
  | 39 => ⟨S4096, .i32⟩
  | 40 => ⟨S4096x1, .i32⟩
  | 41 => ⟨S4096, .i32⟩
  | 42 => ⟨S8192, .i32⟩
  | 43 => ⟨S32768x128, .i32⟩
  | 44 => ⟨S8192x1, .i32⟩
  | 45 => ⟨S_, .i32⟩
  | 46 => ⟨S8192x1, .i32⟩
  | 47 => ⟨S8192x1, .i32⟩
  | 48 => ⟨S4, .i32⟩
  | 49 => ⟨S1x4, .i32⟩
  | 50 => ⟨S8192x4, .i32⟩
  | 51 => ⟨S8192x4, .i32⟩
  | 52 => ⟨S8192x4, .i32⟩
  | 53 => ⟨S1x32768, .i32⟩
  | 54 => ⟨S32768x128, .i32⟩
  | 55 => ⟨S8192x512, .i32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (nBuf tb) → BufTy
  | .hbm, ⟨i, _⟩ => hbmTy i
  | .local .scVector .vmem, ⟨0, _⟩ => ⟨S2x1x128, .i32⟩
  | .local .scVector .vmem, ⟨1, _⟩ => ⟨S2x128x128, .i32⟩
  | .local .scVector .vmem, ⟨2, _⟩ => ⟨S2x1x128, .i32⟩
  | .local .scVector .vmem, ⟨3, _⟩ => ⟨S2x128x128, .i32⟩
  | _, _ => ⟨S2x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_values : Ref sig .tc := ⟨.hbm, 125, rfl⟩
abbrev main_indices : Ref sig .tc := ⟨.hbm, 126, rfl⟩
abbrev main_v91 : Ref sig .tc := ⟨.hbm, 127, rfl⟩
abbrev main_call1_v0 : Ref sig .tc := ⟨.hbm, 128, rfl⟩
abbrev main_call1_v1_0 : Ref sig .tc := ⟨.hbm, 129, rfl⟩
abbrev main_v92 : Ref sig .tc := ⟨.hbm, 130, rfl⟩
abbrev main_call2_v0 : Ref sig .tc := ⟨.hbm, 131, rfl⟩
abbrev main_call2_v1_0 : Ref sig .tc := ⟨.hbm, 132, rfl⟩
abbrev main_v93 : Ref sig .tc := ⟨.hbm, 133, rfl⟩
abbrev main_c : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_c : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_0 : Ref sig .tc := ⟨.hbm, 148, rfl⟩
abbrev main_call3_v12 : Ref sig .tc := ⟨.hbm, 149, rfl⟩
abbrev main_call3_v13 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_c_17 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c_18 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v95_scv : Ref sig .scVector := ⟨.hbm, 152, rfl⟩
abbrev main_v104_scv : Ref sig .scVector := ⟨.hbm, 162, rfl⟩
abbrev main_v105_scv : Ref sig .scVector := ⟨.hbm, 163, rfl⟩
abbrev main_v113_scv : Ref sig .scVector := ⟨.hbm, 171, rfl⟩
abbrev main_v122_scv : Ref sig .scVector := ⟨.hbm, 181, rfl⟩
abbrev main_v123_scv : Ref sig .scVector := ⟨.hbm, 182, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_11_r0 : BitVec 32 := 0#32
  let c2_i32_r0 : BitVec 32 := 2#32
  let v17_r0 : BitVec 32 := Scalar.remui c0_i32_11_r0 c2_i32_r0
  let c0_i32_12_r0 : BitVec 32 := 0#32
  let c0_i32_13_r0 : BitVec 32 := 0#32
  ![v17_r0.toNat, 0, 0]
def k0_off2 (i : grid0.Coords) : Fin 2 → Nat :=
  let c0_i32_14_r0 : BitVec 32 := 0#32
  let c128_i32_r0 : BitVec 32 := 128#32
  let c0_i32_r0 : BitVec 32 := 0#32
  let arg1 : BitVec 32 := BitVec.ofNat 32 (i 1).val
  let c16_i32 : BitVec 32 := 16#32
  let v0 : BitVec 32 := Scalar.muli arg1 c16_i32
  let v3_r0 : BitVec 32 := Scalar.addi c0_i32_r0 v0
  let v18_r0 : BitVec 32 := Scalar.muli c128_i32_r0 v3_r0
  ![0, v18_r0.toNat]
def k0_off3 : Fin 1 → Nat :=
  let c0_i32_11_r0 : BitVec 32 := 0#32
  let c2_i32_r0 : BitVec 32 := 2#32
  let v17_r0 : BitVec 32 := Scalar.remui c0_i32_11_r0 c2_i32_r0
  ![v17_r0.toNat]
@[reducible] def k0_t1_loop : Scf.Loop 32 :=
  let c0_i32_24_r0 : BitVec 32 := 0#32
  let c16_i32_25_r0 : BitVec 32 := 16#32
  let v28_r0 : BitVec 32 := Scalar.addi c0_i32_24_r0 c16_i32_25_r0
  let c1_i32_26_r0 : BitVec 32 := 1#32
  ⟨c0_i32_24_r0, v28_r0, c1_i32_26_r0⟩
def k0_off4 (arg6_r0 : BitVec 32) : Fin 3 → Nat :=
  let c2_i32_97_r0 : BitVec 32 := 2#32
  let v140_r0 : BitVec 32 := Scalar.remui arg6_r0 c2_i32_97_r0
  let c0_i32_99_r0 : BitVec 32 := 0#32
  let c0_i32_100_r0 : BitVec 32 := 0#32
  ![v140_r0.toNat, 0, 0]
def k0_cond1 (i : grid0.Coords) (k0_t1 : Fin k0_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c16_i32_60_r0 : BitVec 32 := 16#32
  let v70_r0 : BitVec 1 := Scalar.cmpi .eq v69_r0 c16_i32_60_r0
  let c0_i32_61_r0 : BitVec 32 := 0#32
  let v71_r0 : BitVec 32 := Scalar.select v70_r0 c0_i32_61_r0 v69_r0
  let v72_r0 : BitVec 32 := Scalar.addi v71_r0 v0
  let v78_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c15_i32_66_r0 : BitVec 32 := 15#32
  let v79_r0 : BitVec 1 := Scalar.cmpi .sge arg5_r0 c15_i32_66_r0
  let true_67_r0 : BitVec 1 := 1#1
  let v80_r0 : BitVec 1 := Scalar.xori v79_r0 true_67_r0
  let v81_r0 : BitVec 1 := Scalar.andi v78_r0 v80_r0
  let true_68_r0 : BitVec 1 := 1#1
  let v82_r0 : BitVec 1 := Scalar.andi v81_r0 true_68_r0
  let v83_r0 : BitVec 32 := Scalar.extui v82_r0
  let c0_i32_69_r0 : BitVec 32 := 0#32
  let v84_r0 : BitVec 1 := Scalar.cmpi .ne v83_r0 c0_i32_69_r0
  v84_r0

def k0_off5 (i : grid0.Coords) (arg10_r0 : BitVec 32) : Fin 2 → Nat :=
  let c0_i32_101_r0 : BitVec 32 := 0#32
  let c128_i32_98_r0 : BitVec 32 := 128#32
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c16_i32_60_r0 : BitVec 32 := 16#32
  let v70_r0 : BitVec 1 := Scalar.cmpi .eq v69_r0 c16_i32_60_r0
  let c0_i32_61_r0 : BitVec 32 := 0#32
  let v71_r0 : BitVec 32 := Scalar.select v70_r0 c0_i32_61_r0 v69_r0
  let arg1 : BitVec 32 := BitVec.ofNat 32 (i 1).val
  let c16_i32 : BitVec 32 := 16#32
  let v0 : BitVec 32 := Scalar.muli arg1 c16_i32
  let v72_r0 : BitVec 32 := Scalar.addi v71_r0 v0
  let v141_r0 : BitVec 32 := Scalar.muli c128_i32_98_r0 v72_r0
  ![0, v141_r0.toNat]
def k0_off6 (arg6_r0 : BitVec 32) : Fin 1 → Nat :=
  let c2_i32_97_r0 : BitVec 32 := 2#32
  let v140_r0 : BitVec 32 := Scalar.remui arg6_r0 c2_i32_97_r0
  ![v140_r0.toNat]
def k0_off7 (arg7_r0 : BitVec 32) : Fin 3 → Nat :=
  let c2_i32_98_r0 : BitVec 32 := 2#32
  let v141_r0 : BitVec 32 := Scalar.remui arg7_r0 c2_i32_98_r0
  let c0_i32_99_r0 : BitVec 32 := 0#32
  let c0_i32_100_r0 : BitVec 32 := 0#32
  ![v141_r0.toNat, 0, 0]
def k0_cond2 (i : grid0.Coords) (k0_t1 : Fin k0_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c15_i32_57_r0 : BitVec 32 := 15#32
  let v66_r0 : BitVec 32 := Scalar.select v65_r0 c15_i32_57_r0 v64_r0
  let v67_r0 : BitVec 32 := Scalar.addi v66_r0 v0
  let v92_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let v93_r0 : BitVec 1 := Scalar.ori v92_r0 v60_r0
  let c0_i32_74_r0 : BitVec 32 := 0#32
  let v94_r0 : BitVec 1 := Scalar.cmpi .sge arg5_r0 c0_i32_74_r0
  let v95_r0 : BitVec 1 := Scalar.andi v93_r0 v94_r0
  let v96_r0 : BitVec 32 := Scalar.extui v95_r0
  let c0_i32_75_r0 : BitVec 32 := 0#32
  let v97_r0 : BitVec 1 := Scalar.cmpi .ne v96_r0 c0_i32_75_r0
  v97_r0

def k0_off8 (i : grid0.Coords) (arg10_r0 : BitVec 32) : Fin 2 → Nat :=
  let c0_i32_101_r0 : BitVec 32 := 0#32
  let c128_i32_97_r0 : BitVec 32 := 128#32
  let arg1 : BitVec 32 := BitVec.ofNat 32 (i 1).val
  let c16_i32 : BitVec 32 := 16#32
  let v0 : BitVec 32 := Scalar.muli arg1 c16_i32
  let v62_r0 : BitVec 32 := Scalar.addi arg10_r0 v0
  let v140_r0 : BitVec 32 := Scalar.muli c128_i32_97_r0 v62_r0
  ![0, v140_r0.toNat]
def k0_off9 (arg7_r0 : BitVec 32) : Fin 1 → Nat :=
  let c2_i32_98_r0 : BitVec 32 := 2#32
  let v141_r0 : BitVec 32 := Scalar.remui arg7_r0 c2_i32_98_r0
  ![v141_r0.toNat]
def k0_off10 (arg8_r0 : BitVec 32) : Fin 3 → Nat :=
  let c2_i32_79_r0 : BitVec 32 := 2#32
  let v105_r0 : BitVec 32 := Scalar.remui arg8_r0 c2_i32_79_r0
  let c0_i32_97_r1 : BitVec 32 := 0#32
  let c0_i32_98_r1 : BitVec 32 := 0#32
  ![v105_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_78_r0 : BitVec 32 := 2#32
  let v104_r0 : BitVec 32 := Scalar.remui arg7_r0 c2_i32_78_r0
  let c0_i32_99_r1 : BitVec 32 := 0#32
  let c0_i32_100_r1 : BitVec 32 := 0#32
  ![v104_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_97_r0 : BitVec 32 := 2#32
  let v140_r0 : BitVec 32 := Scalar.remui arg8_r0 c2_i32_97_r0
  let c0_i32_99_r0 : BitVec 32 := 0#32
  let c0_i32_100_r0 : BitVec 32 := 0#32
  ![v140_r0.toNat, 0, 0]
def k0_cond5 (i : grid0.Coords) (k0_t1 : Fin k0_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c16_i32_60_r0 : BitVec 32 := 16#32
  let v70_r0 : BitVec 1 := Scalar.cmpi .eq v69_r0 c16_i32_60_r0
  let c0_i32_61_r0 : BitVec 32 := 0#32
  let v71_r0 : BitVec 32 := Scalar.select v70_r0 c0_i32_61_r0 v69_r0
  let v72_r0 : BitVec 32 := Scalar.addi v71_r0 v0
  let v111_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k0_t1
  let c15_i32_53_r0 : BitVec 32 := 15#32
  let v61_r0 : BitVec 1 := Scalar.cmpi .eq arg5_r0 c15_i32_53_r0
  let v112_r0 : BitVec 1 := Scalar.ori v111_r0 v61_r0
  let v113_r0 : BitVec 32 := Scalar.extui v112_r0
  let c0_i32_82_r0 : BitVec 32 := 0#32
  let v114_r0 : BitVec 1 := Scalar.cmpi .ne v113_r0 c0_i32_82_r0
  v114_r0

def k0_off13 (i : grid0.Coords) (arg10_r0 : BitVec 32) : Fin 2 → Nat :=
  let c128_i32_98_r0 : BitVec 32 := 128#32
  let arg1 : BitVec 32 := BitVec.ofNat 32 (i 1).val
  let c16_i32 : BitVec 32 := 16#32
  let v0 : BitVec 32 := Scalar.muli arg1 c16_i32
  let v62_r0 : BitVec 32 := Scalar.addi arg10_r0 v0
  let v141_r0 : BitVec 32 := Scalar.muli c128_i32_98_r0 v62_r0
  let c0_i32_101_r0 : BitVec 32 := 0#32
  ![v141_r0.toNat, 0]
def k0_off14 (arg8_r0 : BitVec 32) : Fin 1 → Nat :=
  let c2_i32_97_r0 : BitVec 32 := 2#32
  let v140_r0 : BitVec 32 := Scalar.remui arg8_r0 c2_i32_97_r0
  ![v140_r0.toNat]
def k0_off15 (arg9_r0 : BitVec 32) : Fin 3 → Nat :=
  let c2_i32_97_r0 : BitVec 32 := 2#32
  let v140_r0 : BitVec 32 := Scalar.remui arg9_r0 c2_i32_97_r0
  let c0_i32_99_r0 : BitVec 32 := 0#32
  let c0_i32_100_r0 : BitVec 32 := 0#32
  ![v140_r0.toNat, 0, 0]
def k0_cond7 (i : grid0.Coords) (k0_t1 : Fin k0_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c15_i32_57_r0 : BitVec 32 := 15#32
  let v66_r0 : BitVec 32 := Scalar.select v65_r0 c15_i32_57_r0 v64_r0
  let v67_r0 : BitVec 32 := Scalar.addi v66_r0 v0
  let v124_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k0_t1
  let c0_i32_52_r0 : BitVec 32 := 0#32
  let v60_r0 : BitVec 1 := Scalar.cmpi .eq arg5_r0 c0_i32_52_r0
  let true_88_r0 : BitVec 1 := 1#1
  let v125_r0 : BitVec 1 := Scalar.xori v60_r0 true_88_r0
  let v126_r0 : BitVec 1 := Scalar.andi v124_r0 v125_r0
  let v127_r0 : BitVec 32 := Scalar.extui v126_r0
  let c0_i32_89_r0 : BitVec 32 := 0#32
  let v128_r0 : BitVec 1 := Scalar.cmpi .ne v127_r0 c0_i32_89_r0
  v128_r0

def k0_off16 (i : grid0.Coords) (arg10_r0 : BitVec 32) : Fin 2 → Nat :=
  let c128_i32_98_r0 : BitVec 32 := 128#32
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c15_i32_57_r0 : BitVec 32 := 15#32
  let v66_r0 : BitVec 32 := Scalar.select v65_r0 c15_i32_57_r0 v64_r0
  let arg1 : BitVec 32 := BitVec.ofNat 32 (i 1).val
  let c16_i32 : BitVec 32 := 16#32
  let v0 : BitVec 32 := Scalar.muli arg1 c16_i32
  let v67_r0 : BitVec 32 := Scalar.addi v66_r0 v0
  let v141_r0 : BitVec 32 := Scalar.muli c128_i32_98_r0 v67_r0
  let c0_i32_101_r0 : BitVec 32 := 0#32
  ![v141_r0.toNat, 0]
def k0_off17 (arg9_r0 : BitVec 32) : Fin 1 → Nat :=
  let c2_i32_97_r0 : BitVec 32 := 2#32
  let v140_r0 : BitVec 32 := Scalar.remui arg9_r0 c2_i32_97_r0
  ![v140_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v29_3_r0 : BitVec 32) : Fin 3 → Nat :=
  let c2_i32_44_r0 : BitVec 32 := 2#32
  let v50_r0 : BitVec 32 := Scalar.remui v29_3_r0 c2_i32_44_r0
  let c0_i32_46_r0 : BitVec 32 := 0#32
  let c0_i32_47_r0 : BitVec 32 := 0#32
  ![v50_r0.toNat, 0, 0]

def k0_off19 (i : grid0.Coords) (v29_4_r0 : BitVec 32) : Fin 2 → Nat :=
  let c128_i32_45_r0 : BitVec 32 := 128#32
  let true_29_r0 : BitVec 1 := 1#1
  let c1_i32_28_r0 : BitVec 32 := 1#32
  let v30_r0 : BitVec 32 := Scalar.subi v29_4_r0 c1_i32_28_r0
  let v31_r0 : BitVec 32 := Scalar.select true_29_r0 v30_r0 v29_4_r0
  let c_m1_i32_30_r0 : BitVec 32 := 4294967295#32
  let v32_r0 : BitVec 1 := Scalar.cmpi .eq v31_r0 c_m1_i32_30_r0
  let c15_i32_31_r0 : BitVec 32 := 15#32
  let v33_r0 : BitVec 32 := Scalar.select v32_r0 c15_i32_31_r0 v31_r0
  let arg1 : BitVec 32 := BitVec.ofNat 32 (i 1).val
  let c16_i32 : BitVec 32 := 16#32
  let v0 : BitVec 32 := Scalar.muli arg1 c16_i32
  let v34_r0 : BitVec 32 := Scalar.addi v33_r0 v0
  let v51_r0 : BitVec 32 := Scalar.muli c128_i32_45_r0 v34_r0
  let c0_i32_48_r0 : BitVec 32 := 0#32
  ![v51_r0.toNat, 0]

def k0_chk5 (i : grid0.Coords) (v29_4_r0 : BitVec 32) : Prop :=
  (∀ a, (k0_off19 i v29_4_r0) a + S128x128.size a ≤ S32768x128.size a)
theorem k0_off19_inb : ∀ (i : grid0.Coords) (v29_4_r0 : BitVec 32) (k0_hw5 : k0_chk5 i v29_4_r0), ∀ a, (k0_off19 i v29_4_r0) a + S128x128.size a ≤ S32768x128.size a := fun i v29_4_r0 k0_hw5 => k0_hw5

def k0_off20 (v29_3_r0 : BitVec 32) : Fin 1 → Nat :=
  let c2_i32_44_r0 : BitVec 32 := 2#32
  let v50_r0 : BitVec 32 := Scalar.remui v29_3_r0 c2_i32_44_r0
  ![v50_r0.toNat]
def k0_off21 (v29_3_r0 : BitVec 32) : Fin 3 → Nat :=
  let c2_i32_44_r0 : BitVec 32 := 2#32
  let v50_r0 : BitVec 32 := Scalar.remui v29_3_r0 c2_i32_44_r0
  let c0_i32_50_r0 : BitVec 32 := 0#32
  let c0_i32_51_r0 : BitVec 32 := 0#32
  ![v50_r0.toNat, 0, 0]

def k0_chk4 (v29_3_r0 : BitVec 32) : Prop :=
  (∀ a, (k0_off18 v29_3_r0) a + S1x128x128.size a ≤ S2x128x128.size a) ∧
  (∀ a, (k0_off20 v29_3_r0) a + S1.size a ≤ S2.size a) ∧
  (∀ a, (k0_off21 v29_3_r0) a + S1x128x128.size a ≤ S2x128x128.size a)
theorem k0_off18_inb : ∀ (v29_3_r0 : BitVec 32) (k0_hw4 : k0_chk4 v29_3_r0), ∀ a, (k0_off18 v29_3_r0) a + S1x128x128.size a ≤ S2x128x128.size a := fun v29_3_r0 k0_hw4 => k0_hw4.1
theorem k0_off20_inb : ∀ (v29_3_r0 : BitVec 32) (k0_hw4 : k0_chk4 v29_3_r0), ∀ a, (k0_off20 v29_3_r0) a + S1.size a ≤ S2.size a := fun v29_3_r0 k0_hw4 => k0_hw4.2.1
theorem k0_off21_inb : ∀ (v29_3_r0 : BitVec 32) (k0_hw4 : k0_chk4 v29_3_r0), ∀ a, (k0_off21 v29_3_r0) a + S1x128x128.size a ≤ S2x128x128.size a := fun v29_3_r0 k0_hw4 => k0_hw4.2.2

abbrev grid1 : Pipeline.Grid := ⟨2, ![2, 16], ![false, false]⟩

def k1_off1 : Fin 3 → Nat :=
  let c0_i32_11_r0 : BitVec 32 := 0#32
  let c2_i32_r0 : BitVec 32 := 2#32
  let v17_r0 : BitVec 32 := Scalar.remui c0_i32_11_r0 c2_i32_r0
  let c0_i32_12_r0 : BitVec 32 := 0#32
  let c0_i32_13_r0 : BitVec 32 := 0#32
  ![v17_r0.toNat, 0, 0]
def k1_off2 (i : grid1.Coords) : Fin 2 → Nat :=
  let c0_i32_14_r0 : BitVec 32 := 0#32
  let c128_i32_r0 : BitVec 32 := 128#32
  let c0_i32_r0 : BitVec 32 := 0#32
  let arg1 : BitVec 32 := BitVec.ofNat 32 (i 1).val
  let c16_i32 : BitVec 32 := 16#32
  let v0 : BitVec 32 := Scalar.muli arg1 c16_i32
  let v3_r0 : BitVec 32 := Scalar.addi c0_i32_r0 v0
  let v18_r0 : BitVec 32 := Scalar.muli c128_i32_r0 v3_r0
  ![0, v18_r0.toNat]
def k1_off3 : Fin 1 → Nat :=
  let c0_i32_11_r0 : BitVec 32 := 0#32
  let c2_i32_r0 : BitVec 32 := 2#32
  let v17_r0 : BitVec 32 := Scalar.remui c0_i32_11_r0 c2_i32_r0
  ![v17_r0.toNat]
@[reducible] def k1_t1_loop : Scf.Loop 32 :=
  let c0_i32_24_r0 : BitVec 32 := 0#32
  let c16_i32_25_r0 : BitVec 32 := 16#32
  let v28_r0 : BitVec 32 := Scalar.addi c0_i32_24_r0 c16_i32_25_r0
  let c1_i32_26_r0 : BitVec 32 := 1#32
  ⟨c0_i32_24_r0, v28_r0, c1_i32_26_r0⟩
def k1_off4 (arg6_r0 : BitVec 32) : Fin 3 → Nat :=
  let c2_i32_97_r0 : BitVec 32 := 2#32
  let v140_r0 : BitVec 32 := Scalar.remui arg6_r0 c2_i32_97_r0
  let c0_i32_99_r0 : BitVec 32 := 0#32
  let c0_i32_100_r0 : BitVec 32 := 0#32
  ![v140_r0.toNat, 0, 0]
def k1_cond1 (i : grid1.Coords) (k1_t1 : Fin k1_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c16_i32_60_r0 : BitVec 32 := 16#32
  let v70_r0 : BitVec 1 := Scalar.cmpi .eq v69_r0 c16_i32_60_r0
  let c0_i32_61_r0 : BitVec 32 := 0#32
  let v71_r0 : BitVec 32 := Scalar.select v70_r0 c0_i32_61_r0 v69_r0
  let v72_r0 : BitVec 32 := Scalar.addi v71_r0 v0
  let v78_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k1_t1
  let c15_i32_66_r0 : BitVec 32 := 15#32
  let v79_r0 : BitVec 1 := Scalar.cmpi .sge arg5_r0 c15_i32_66_r0
  let true_67_r0 : BitVec 1 := 1#1
  let v80_r0 : BitVec 1 := Scalar.xori v79_r0 true_67_r0
  let v81_r0 : BitVec 1 := Scalar.andi v78_r0 v80_r0
  let true_68_r0 : BitVec 1 := 1#1
  let v82_r0 : BitVec 1 := Scalar.andi v81_r0 true_68_r0
  let v83_r0 : BitVec 32 := Scalar.extui v82_r0
  let c0_i32_69_r0 : BitVec 32 := 0#32
  let v84_r0 : BitVec 1 := Scalar.cmpi .ne v83_r0 c0_i32_69_r0
  v84_r0

def k1_off5 (i : grid1.Coords) (arg10_r0 : BitVec 32) : Fin 2 → Nat :=
  let c0_i32_101_r0 : BitVec 32 := 0#32
  let c128_i32_98_r0 : BitVec 32 := 128#32
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c16_i32_60_r0 : BitVec 32 := 16#32
  let v70_r0 : BitVec 1 := Scalar.cmpi .eq v69_r0 c16_i32_60_r0
  let c0_i32_61_r0 : BitVec 32 := 0#32
  let v71_r0 : BitVec 32 := Scalar.select v70_r0 c0_i32_61_r0 v69_r0
  let arg1 : BitVec 32 := BitVec.ofNat 32 (i 1).val
  let c16_i32 : BitVec 32 := 16#32
  let v0 : BitVec 32 := Scalar.muli arg1 c16_i32
  let v72_r0 : BitVec 32 := Scalar.addi v71_r0 v0
  let v141_r0 : BitVec 32 := Scalar.muli c128_i32_98_r0 v72_r0
  ![0, v141_r0.toNat]
def k1_off6 (arg6_r0 : BitVec 32) : Fin 1 → Nat :=
  let c2_i32_97_r0 : BitVec 32 := 2#32
  let v140_r0 : BitVec 32 := Scalar.remui arg6_r0 c2_i32_97_r0
  ![v140_r0.toNat]
def k1_off7 (arg7_r0 : BitVec 32) : Fin 3 → Nat :=
  let c2_i32_98_r0 : BitVec 32 := 2#32
  let v141_r0 : BitVec 32 := Scalar.remui arg7_r0 c2_i32_98_r0
  let c0_i32_99_r0 : BitVec 32 := 0#32
  let c0_i32_100_r0 : BitVec 32 := 0#32
  ![v141_r0.toNat, 0, 0]
def k1_cond2 (i : grid1.Coords) (k1_t1 : Fin k1_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c15_i32_57_r0 : BitVec 32 := 15#32
  let v66_r0 : BitVec 32 := Scalar.select v65_r0 c15_i32_57_r0 v64_r0
  let v67_r0 : BitVec 32 := Scalar.addi v66_r0 v0
  let v92_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k1_t1
  let c0_i32_52_r0 : BitVec 32 := 0#32
  let v60_r0 : BitVec 1 := Scalar.cmpi .eq arg5_r0 c0_i32_52_r0
  let v93_r0 : BitVec 1 := Scalar.ori v92_r0 v60_r0
  let c0_i32_74_r0 : BitVec 32 := 0#32
  let v94_r0 : BitVec 1 := Scalar.cmpi .sge arg5_r0 c0_i32_74_r0
  let v95_r0 : BitVec 1 := Scalar.andi v93_r0 v94_r0
  let v96_r0 : BitVec 32 := Scalar.extui v95_r0
  let c0_i32_75_r0 : BitVec 32 := 0#32
  let v97_r0 : BitVec 1 := Scalar.cmpi .ne v96_r0 c0_i32_75_r0
  v97_r0

def k1_off8 (i : grid1.Coords) (arg10_r0 : BitVec 32) : Fin 2 → Nat :=
  let c0_i32_101_r0 : BitVec 32 := 0#32
  let c128_i32_97_r0 : BitVec 32 := 128#32
  let arg1 : BitVec 32 := BitVec.ofNat 32 (i 1).val
  let c16_i32 : BitVec 32 := 16#32
  let v0 : BitVec 32 := Scalar.muli arg1 c16_i32
  let v62_r0 : BitVec 32 := Scalar.addi arg10_r0 v0
  let v140_r0 : BitVec 32 := Scalar.muli c128_i32_97_r0 v62_r0
  ![0, v140_r0.toNat]
def k1_off9 (arg7_r0 : BitVec 32) : Fin 1 → Nat :=
  let c2_i32_98_r0 : BitVec 32 := 2#32
  let v141_r0 : BitVec 32 := Scalar.remui arg7_r0 c2_i32_98_r0
  ![v141_r0.toNat]
def k1_off10 (arg8_r0 : BitVec 32) : Fin 3 → Nat :=
  let c2_i32_79_r0 : BitVec 32 := 2#32
  let v105_r0 : BitVec 32 := Scalar.remui arg8_r0 c2_i32_79_r0
  let c0_i32_97_r1 : BitVec 32 := 0#32
  let c0_i32_98_r1 : BitVec 32 := 0#32
  ![v105_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_78_r0 : BitVec 32 := 2#32
  let v104_r0 : BitVec 32 := Scalar.remui arg7_r0 c2_i32_78_r0
  let c0_i32_99_r1 : BitVec 32 := 0#32
  let c0_i32_100_r1 : BitVec 32 := 0#32
  ![v104_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_97_r0 : BitVec 32 := 2#32
  let v140_r0 : BitVec 32 := Scalar.remui arg8_r0 c2_i32_97_r0
  let c0_i32_99_r0 : BitVec 32 := 0#32
  let c0_i32_100_r0 : BitVec 32 := 0#32
  ![v140_r0.toNat, 0, 0]
def k1_cond5 (i : grid1.Coords) (k1_t1 : Fin k1_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_59_r0 : BitVec 1 := 1#1
  let c1_i32_58_r0 : BitVec 32 := 1#32
  let v68_r0 : BitVec 32 := Scalar.addi arg10_r0 c1_i32_58_r0
  let v69_r0 : BitVec 32 := Scalar.select true_59_r0 v68_r0 arg10_r0
  let c16_i32_60_r0 : BitVec 32 := 16#32
  let v70_r0 : BitVec 1 := Scalar.cmpi .eq v69_r0 c16_i32_60_r0
  let c0_i32_61_r0 : BitVec 32 := 0#32
  let v71_r0 : BitVec 32 := Scalar.select v70_r0 c0_i32_61_r0 v69_r0
  let v72_r0 : BitVec 32 := Scalar.addi v71_r0 v0
  let v111_r0 : BitVec 1 := Scalar.cmpi .ne v62_r0 v72_r0
  let c0_i32_24_r0 : BitVec 32 := 0#32
  let c1_i32_26_r0 : BitVec 32 := 1#32
  let arg5_r0 : BitVec 32 := Scf.iv c0_i32_24_r0 c1_i32_26_r0 k1_t1
  let c15_i32_53_r0 : BitVec 32 := 15#32
  let v61_r0 : BitVec 1 := Scalar.cmpi .eq arg5_r0 c15_i32_53_r0
  let v112_r0 : BitVec 1 := Scalar.ori v111_r0 v61_r0
  let v113_r0 : BitVec 32 := Scalar.extui v112_r0
  let c0_i32_82_r0 : BitVec 32 := 0#32
  let v114_r0 : BitVec 1 := Scalar.cmpi .ne v113_r0 c0_i32_82_r0
  v114_r0

def k1_off13 (i : grid1.Coords) (arg10_r0 : BitVec 32) : Fin 2 → Nat :=
  let c128_i32_98_r0 : BitVec 32 := 128#32
  let arg1 : BitVec 32 := BitVec.ofNat 32 (i 1).val
  let c16_i32 : BitVec 32 := 16#32
  let v0 : BitVec 32 := Scalar.muli arg1 c16_i32
  let v62_r0 : BitVec 32 := Scalar.addi arg10_r0 v0
  let v141_r0 : BitVec 32 := Scalar.muli c128_i32_98_r0 v62_r0
  let c0_i32_101_r0 : BitVec 32 := 0#32
  ![v141_r0.toNat, 0]
def k1_off14 (arg8_r0 : BitVec 32) : Fin 1 → Nat :=
  let c2_i32_97_r0 : BitVec 32 := 2#32
  let v140_r0 : BitVec 32 := Scalar.remui arg8_r0 c2_i32_97_r0
  ![v140_r0.toNat]
def k1_off15 (arg9_r0 : BitVec 32) : Fin 3 → Nat :=
  let c2_i32_97_r0 : BitVec 32 := 2#32
  let v140_r0 : BitVec 32 := Scalar.remui arg9_r0 c2_i32_97_r0
  let c0_i32_99_r0 : BitVec 32 := 0#32
  let c0_i32_100_r0 : BitVec 32 := 0#32
  ![v140_r0.toNat, 0, 0]
def k1_cond7 (i : grid1.Coords) (k1_t1 : Fin k1_t1_loop.trips) (arg10_r0 : BitVec 32) : BitVec 1 :=
  let arg1 : BitVec 32 := BitVec.ofNat 32 (i 1).val
  let c16_i32 : BitVec 32 := 16#32
  let v0 : BitVec 32 := Scalar.muli arg1 c16_i32
  let v62_r0 : BitVec 32 := Scalar.addi arg10_r0 v0
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c15_i32_57_r0 : BitVec 32 := 15#32
  let v66_r0 : BitVec 32 := Scalar.select v65_r0 c15_i32_57_r0 v64_r0
  let v67_r0 : BitVec 32 := Scalar.addi v66_r0 v0
  let v124_r0 : BitVec 1 := Scalar.cmpi .ne v62_r0 v67_r0
  let c0_i32_24_r0 : BitVec 32 := 0#32
  let c1_i32_26_r0 : BitVec 32 := 1#32
  let arg5_r0 : BitVec 32 := Scf.iv c0_i32_24_r0 c1_i32_26_r0 k1_t1
  let c0_i32_52_r0 : BitVec 32 := 0#32
  let v60_r0 : BitVec 1 := Scalar.cmpi .eq arg5_r0 c0_i32_52_r0
  let true_88_r0 : BitVec 1 := 1#1
  let v125_r0 : BitVec 1 := Scalar.xori v60_r0 true_88_r0
  let v126_r0 : BitVec 1 := Scalar.andi v124_r0 v125_r0
  let v127_r0 : BitVec 32 := Scalar.extui v126_r0
  let c0_i32_89_r0 : BitVec 32 := 0#32
  let v128_r0 : BitVec 1 := Scalar.cmpi .ne v127_r0 c0_i32_89_r0
  v128_r0

def k1_off16 (i : grid1.Coords) (arg10_r0 : BitVec 32) : Fin 2 → Nat :=
  let c128_i32_98_r0 : BitVec 32 := 128#32
  let true_55_r0 : BitVec 1 := 1#1
  let c1_i32_54_r0 : BitVec 32 := 1#32
  let v63_r0 : BitVec 32 := Scalar.subi arg10_r0 c1_i32_54_r0
  let v64_r0 : BitVec 32 := Scalar.select true_55_r0 v63_r0 arg10_r0
  let c_m1_i32_56_r0 : BitVec 32 := 4294967295#32
  let v65_r0 : BitVec 1 := Scalar.cmpi .eq v64_r0 c_m1_i32_56_r0
  let c15_i32_57_r0 : BitVec 32 := 15#32
  let v66_r0 : BitVec 32 := Scalar.select v65_r0 c15_i32_57_r0 v64_r0
  let arg1 : BitVec 32 := BitVec.ofNat 32 (i 1).val
  let c16_i32 : BitVec 32 := 16#32
  let v0 : BitVec 32 := Scalar.muli arg1 c16_i32
  let v67_r0 : BitVec 32 := Scalar.addi v66_r0 v0
  let v141_r0 : BitVec 32 := Scalar.muli c128_i32_98_r0 v67_r0
  let c0_i32_101_r0 : BitVec 32 := 0#32
  ![v141_r0.toNat, 0]
def k1_off17 (arg9_r0 : BitVec 32) : Fin 1 → Nat :=
  let c2_i32_97_r0 : BitVec 32 := 2#32
  let v140_r0 : BitVec 32 := Scalar.remui arg9_r0 c2_i32_97_r0
  ![v140_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x32768.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x32768.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S32768x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S32768x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x32768.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x32768.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S32768x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S32768x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v29_3_r0 : BitVec 32) : Fin 3 → Nat :=
  let c2_i32_44_r0 : BitVec 32 := 2#32
  let v50_r0 : BitVec 32 := Scalar.remui v29_3_r0 c2_i32_44_r0
  let c0_i32_46_r0 : BitVec 32 := 0#32
  let c0_i32_47_r0 : BitVec 32 := 0#32
  ![v50_r0.toNat, 0, 0]

def k1_off19 (i : grid1.Coords) (v29_4_r0 : BitVec 32) : Fin 2 → Nat :=
  let c128_i32_45_r0 : BitVec 32 := 128#32
  let true_29_r0 : BitVec 1 := 1#1
  let c1_i32_28_r0 : BitVec 32 := 1#32
  let v30_r0 : BitVec 32 := Scalar.subi v29_4_r0 c1_i32_28_r0
  let v31_r0 : BitVec 32 := Scalar.select true_29_r0 v30_r0 v29_4_r0
  let c_m1_i32_30_r0 : BitVec 32 := 4294967295#32
  let v32_r0 : BitVec 1 := Scalar.cmpi .eq v31_r0 c_m1_i32_30_r0
  let c15_i32_31_r0 : BitVec 32 := 15#32
  let v33_r0 : BitVec 32 := Scalar.select v32_r0 c15_i32_31_r0 v31_r0
  let arg1 : BitVec 32 := BitVec.ofNat 32 (i 1).val
  let c16_i32 : BitVec 32 := 16#32
  let v0 : BitVec 32 := Scalar.muli arg1 c16_i32
  let v34_r0 : BitVec 32 := Scalar.addi v33_r0 v0
  let v51_r0 : BitVec 32 := Scalar.muli c128_i32_45_r0 v34_r0
  let c0_i32_48_r0 : BitVec 32 := 0#32
  ![v51_r0.toNat, 0]

def k1_chk5 (i : grid1.Coords) (v29_4_r0 : BitVec 32) : Prop :=
  (∀ a, (k1_off19 i v29_4_r0) a + S128x128.size a ≤ S32768x128.size a)
theorem k1_off19_inb : ∀ (i : grid1.Coords) (v29_4_r0 : BitVec 32) (k1_hw5 : k1_chk5 i v29_4_r0), ∀ a, (k1_off19 i v29_4_r0) a + S128x128.size a ≤ S32768x128.size a := fun i v29_4_r0 k1_hw5 => k1_hw5

def k1_off20 (v29_3_r0 : BitVec 32) : Fin 1 → Nat :=
  let c2_i32_44_r0 : BitVec 32 := 2#32
  let v50_r0 : BitVec 32 := Scalar.remui v29_3_r0 c2_i32_44_r0
  ![v50_r0.toNat]
def k1_off21 (v29_3_r0 : BitVec 32) : Fin 3 → Nat :=
  let c2_i32_44_r0 : BitVec 32 := 2#32
  let v50_r0 : BitVec 32 := Scalar.remui v29_3_r0 c2_i32_44_r0
  let c0_i32_50_r0 : BitVec 32 := 0#32
  let c0_i32_51_r0 : BitVec 32 := 0#32
  ![v50_r0.toNat, 0, 0]

def k1_chk4 (v29_3_r0 : BitVec 32) : Prop :=
  (∀ a, (k1_off18 v29_3_r0) a + S1x128x128.size a ≤ S2x128x128.size a) ∧
  (∀ a, (k1_off20 v29_3_r0) a + S1.size a ≤ S2.size a) ∧
  (∀ a, (k1_off21 v29_3_r0) a + S1x128x128.size a ≤ S2x128x128.size a)
theorem k1_off18_inb : ∀ (v29_3_r0 : BitVec 32) (k1_hw4 : k1_chk4 v29_3_r0), ∀ a, (k1_off18 v29_3_r0) a + S1x128x128.size a ≤ S2x128x128.size a := fun v29_3_r0 k1_hw4 => k1_hw4.1
theorem k1_off20_inb : ∀ (v29_3_r0 : BitVec 32) (k1_hw4 : k1_chk4 v29_3_r0), ∀ a, (k1_off20 v29_3_r0) a + S1.size a ≤ S2.size a := fun v29_3_r0 k1_hw4 => k1_hw4.2.1
theorem k1_off21_inb : ∀ (v29_3_r0 : BitVec 32) (k1_hw4 : k1_chk4 v29_3_r0), ∀ a, (k1_off21 v29_3_r0) a + S1x128x128.size a ≤ S2x128x128.size a := fun v29_3_r0 k1_hw4 => k1_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S1024x1024 : Shape := ⟨2, ![1024, 1024]⟩
abbrev S1024x8 : Shape := ⟨2, ![1024, 8]⟩
abbrev S2x2048 : Shape := ⟨2, ![2, 2048]⟩
abbrev S4096x512 : Shape := ⟨2, ![4096, 512]⟩
abbrev S8192x512 : Shape := ⟨2, ![8192, 512]⟩
abbrev S_ : Shape := ⟨0, ![]⟩
abbrev S2x2048x1 : Shape := ⟨3, ![2, 2048, 1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩
abbrev S2x2048x8 : Shape := ⟨3, ![2, 2048, 8]⟩
abbrev S2x2048x2 : Shape := ⟨3, ![2, 2048, 2]⟩
abbrev S8192 : Shape := ⟨1, ![8192]⟩
abbrev S8192x1 : Shape := ⟨2, ![8192, 1]⟩
abbrev S4096x2 : Shape := ⟨2, ![4096, 2]⟩
abbrev S4096x1 : Shape := ⟨2, ![4096, 1]⟩
abbrev S4096 : Shape := ⟨1, ![4096]⟩

abbrev nBuf : Space → Nat
  | .hbm => 185
  | .vmem => 0
  | .smem => 0
  | _ => 0

abbrev hbmTy0_0 (i : Nat) : BufTy := match i % 128 with
  | 0 => ⟨S2x2048x1024, .f32⟩
  | 1 => ⟨S1024, .f32⟩
  | 2 => ⟨S1024, .f32⟩
  | 3 => ⟨S1024x1024, .f32⟩
  | 4 => ⟨S1024x1024, .f32⟩
  | 5 => ⟨S1024x1024, .f32⟩
  | 6 => ⟨S1024x1024, .f32⟩
  | 7 => ⟨S1024, .f32⟩
  | 8 => ⟨S1024, .f32⟩
  | 9 => ⟨S1024x8, .f32⟩
  | 10 => ⟨S2x2048, .i1⟩
  | 11 => ⟨S4096x512, .i32⟩
  | 12 => ⟨S8192x512, .i32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S2x2048x1024, .f32⟩
  | 20 => ⟨S2x2048x1024, .f32⟩
  | 21 => ⟨S2x2048x1024, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S2x2048x1024, .f32⟩
  | 29 => ⟨S2x2048x1024, .f32⟩
  | 30 => ⟨S_, .f32⟩
  | 31 => ⟨S2x2048x1, .f32⟩
  | 32 => ⟨S2x2048x1, .f32⟩
  | 33 => ⟨S2x2048x1, .f32⟩
  | 34 => ⟨S2x2048x1024, .f32⟩
  | 35 => ⟨S2x2048x1024, .f32⟩
  | 36 => ⟨S1x1x1024, .f32⟩
  | 37 => ⟨S2x2048x1024, .f32⟩
  | 38 => ⟨S2x2048x1024, .f32⟩
  | 39 => ⟨S1x1x1024, .f32⟩
  | 40 => ⟨S2x2048x1024, .f32⟩
  | 41 => ⟨S2x2048x1024, .f32⟩
  | 42 => ⟨S2x2048x1024, .f32⟩
  | 43 => ⟨S2x2048x16x64, .f32⟩
  | 44 => ⟨S2x16x2048x64, .f32⟩
  | 45 => ⟨S2x2048x1024, .f32⟩
  | 46 => ⟨S2x2048x16x64, .f32⟩
  | 47 => ⟨S2x16x2048x64, .f32⟩
  | 48 => ⟨S2x2048x1024, .f32⟩
  | 49 => ⟨S2x2048x16x64, .f32⟩
  | 50 => ⟨S2x16x2048x64, .f32⟩
  | 51 => ⟨S2x16x2048x2048, .f32⟩
  | 52 => ⟨S_, .f32⟩
  | 53 => ⟨S_, .f32⟩
  | 54 => ⟨S2x16x2048x2048, .f32⟩
  | 55 => ⟨S2x16x2048x2048, .f32⟩
  | 56 => ⟨S2x1x1x2048, .i1⟩
  | 57 => ⟨S_, .f32⟩
  | 58 => ⟨S_, .f32⟩
  | 59 => ⟨S2x16x2048x2048, .i1⟩
  | 60 => ⟨S2x16x2048x2048, .f32⟩
  | 61 => ⟨S2x16x2048x2048, .f32⟩
  | 62 => ⟨S_, .f32⟩
  | 63 => ⟨S2x16x2048, .f32⟩
  | 64 => ⟨S_, .f32⟩
  | 65 => ⟨S2x16x2048, .f32⟩
  | 66 => ⟨S2x16x2048, .f32⟩
  | 67 => ⟨S2x16x2048x1, .f32⟩
  | 68 => ⟨S2x16x2048x2048, .f32⟩
  | 69 => ⟨S2x16x2048x2048, .f32⟩
  | 70 => ⟨S2x16x2048x2048, .f32⟩
  | 71 => ⟨S_, .f32⟩
  | 72 => ⟨S2x16x2048, .f32⟩
  | 73 => ⟨S2x16x2048x1, .f32⟩
  | 74 => ⟨S2x16x2048x2048, .f32⟩
  | 75 => ⟨S2x16x2048x2048, .f32⟩
  | 76 => ⟨S2x16x2048x64, .f32⟩
  | 77 => ⟨S2x2048x16x64, .f32⟩
  | 78 => ⟨S2x2048x1024, .f32⟩
  | 79 => ⟨S2x2048x1024, .f32⟩
  | 80 => ⟨S2x2048x1024, .f32⟩
  | 81 => ⟨S_, .f32⟩
  | 82 => ⟨S2x2048, .f32⟩
  | 83 => ⟨S2x2048x1, .f32⟩
  | 84 => ⟨S_, .f32⟩
  | 85 => ⟨S2x2048x1, .f32⟩
  | 86 => ⟨S2x2048x1, .f32⟩
  | 87 => ⟨S2x2048x1024, .f32⟩
  | 88 => ⟨S2x2048x1024, .f32⟩
  | 89 => ⟨S2x2048x1024, .f32⟩
  | 90 => ⟨S_, .f32⟩
  | 91 => ⟨S2x2048, .f32⟩
  | 92 => ⟨S2x2048x1, .f32⟩
  | 93 => ⟨S_, .f32⟩
  | 94 => ⟨S2x2048x1, .f32⟩
  | 95 => ⟨S2x2048x1, .f32⟩
  | 96 => ⟨S2x2048x1024, .f32⟩
  | 97 => ⟨S2x2048x1024, .f32⟩
  | 98 => ⟨S_, .f32⟩
  | 99 => ⟨S2x2048x1, .f32⟩
  | 100 => ⟨S2x2048x1, .f32⟩
  | 101 => ⟨S2x2048x1, .f32⟩
  | 102 => ⟨S2x2048x1024, .f32⟩
  | 103 => ⟨S2x2048x1024, .f32⟩
  | 104 => ⟨S1x1x1024, .f32⟩
  | 105 => ⟨S2x2048x1024, .f32⟩
  | 106 => ⟨S2x2048x1024, .f32⟩
  | 107 => ⟨S1x1x1024, .f32⟩
  | 108 => ⟨S2x2048x1024, .f32⟩
  | 109 => ⟨S2x2048x1024, .f32⟩
  | 110 => ⟨S2x2048x8, .f32⟩
  | 111 => ⟨S_, .f32⟩
  | 112 => ⟨S2x2048, .f32⟩
  | 113 => ⟨S_, .f32⟩
  | 114 => ⟨S2x2048, .f32⟩
  | 115 => ⟨S2x2048, .f32⟩
  | 116 => ⟨S2x2048x1, .f32⟩
  | 117 => ⟨S2x2048x8, .f32⟩
  | 118 => ⟨S2x2048x8, .f32⟩
  | 119 => ⟨S2x2048x8, .f32⟩
  | 120 => ⟨S_, .f32⟩
  | 121 => ⟨S2x2048, .f32⟩
  | 122 => ⟨S2x2048x1, .f32⟩
  | 123 => ⟨S2x2048x8, .f32⟩
  | 124 => ⟨S2x2048x8, .f32⟩
  | 125 => ⟨S2x2048x2, .f32⟩
  | 126 => ⟨S2x2048x2, .i32⟩
  | 127 => ⟨S8192, .i32⟩
  | _ => ⟨S2x2048x1024, .f32⟩

abbrev hbmTy0_1 (i : Nat) : BufTy := match i % 128 with
  | 0 => ⟨S8192, .i32⟩
  | 1 => ⟨S8192, .i32⟩
  | 2 => ⟨S8192, .i32⟩
  | 3 => ⟨S_, .i32⟩
  | 4 => ⟨S_, .i32⟩
  | 5 => ⟨S8192, .i32⟩
  | 6 => ⟨S8192, .i32⟩
  | 7 => ⟨S8192, .i32⟩
  | 8 => ⟨S_, .i32⟩
  | 9 => ⟨S8192, .i32⟩
  | 10 => ⟨S8192, .i1⟩
  | 11 => ⟨S8192, .i32⟩
  | 12 => ⟨S8192, .i32⟩
  | 13 => ⟨S_, .i32⟩
  | 14 => ⟨S8192, .i32⟩
  | 15 => ⟨S8192, .i1⟩
  | 16 => ⟨S8192, .i1⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x512, .i32⟩
  | 30 => ⟨S8192, .i32⟩
  | 31 => ⟨S8192, .i32⟩
  | 32 => ⟨S8192, .i32⟩
  | 33 => ⟨S4096x2, .i32⟩
  | 34 => ⟨S4096x1, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x512, .i32⟩
  | 45 => ⟨S4096x1, .i32⟩
  | 46 => ⟨S4096, .i32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4096x512, .i32⟩
  | 56 => ⟨S8192x512, .i32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_values : Ref sig .tc := ⟨.hbm, 125, rfl⟩
abbrev main_indices : Ref sig .tc := ⟨.hbm, 126, rfl⟩
abbrev main_v91 : Ref sig .tc := ⟨.hbm, 127, rfl⟩
abbrev main_call1_v0 : Ref sig .tc := ⟨.hbm, 128, rfl⟩
abbrev main_call1_v1_0 : Ref sig .tc := ⟨.hbm, 129, rfl⟩
abbrev main_v92 : Ref sig .tc := ⟨.hbm, 130, rfl⟩
abbrev main_c : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_c : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_c_0 : Ref sig .tc := ⟨.hbm, 145, rfl⟩
abbrev main_call2_v12 : Ref sig .tc := ⟨.hbm, 146, rfl⟩
abbrev main_call2_v13 : Ref sig .tc := ⟨.hbm, 147, rfl⟩
abbrev main_v93 : Ref sig .tc := ⟨.hbm, 148, rfl⟩
abbrev main_c_17 : Ref sig .tc := ⟨.hbm, 149, rfl⟩
abbrev main_v94 : Ref sig .tc := ⟨.hbm, 150, rfl⟩
abbrev main_v95 : Ref sig .tc := ⟨.hbm, 151, rfl⟩
abbrev main_c_18 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_call3_v0 : Ref sig .tc := ⟨.hbm, 158, rfl⟩
abbrev main_call3_v1_0 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_19 : Ref sig .tc := ⟨.hbm, 164, rfl⟩
abbrev main_v105 : Ref sig .tc := ⟨.hbm, 165, rfl⟩
abbrev main_v106 : Ref sig .tc := ⟨.hbm, 166, rfl⟩
abbrev main_c_20 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_c_21 : Ref sig .tc := ⟨.hbm, 175, rfl⟩
abbrev main_v114 : Ref sig .tc := ⟨.hbm, 176, rfl⟩
abbrev main_v115 : Ref sig .tc := ⟨.hbm, 177, rfl⟩
abbrev main_c_22 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩

abbrev nD : Nat := 1
abbrev τ : Topo := Topo.v7x

variable {F : FTy → Type} [FloatOps F]
-- ==== Qkv.lean ====
abbrev S4096x1024 : Shape := ⟨2, ![4096, 1024]⟩
abbrev S1024x3072 : Shape := ⟨2, ![1024, 3072]⟩
abbrev S16x4096x64 : Shape := ⟨3, ![16, 4096, 64]⟩
abbrev S256x1024 : Shape := ⟨2, ![256, 1024]⟩
abbrev S1024x1024 : Shape := ⟨2, ![1024, 1024]⟩
abbrev S16x256x64 : Shape := ⟨3, ![16, 256, 64]⟩
abbrev S256x16x64 : Shape := ⟨3, ![256, 16, 64]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S16x4096x64, .bf16⟩
  | .hbm, ⟨3, _⟩ => ⟨S16x4096x64, .bf16⟩
  | .hbm, ⟨4, _⟩ => ⟨S16x4096x64, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x256x64, .bf16⟩
  | .local _ .vmem, ⟨5, _⟩ => ⟨S16x256x64, .bf16⟩
  | .local _ .vmem, ⟨6, _⟩ => ⟨S16x256x64, .bf16⟩
  | .local _ .vmem, ⟨7, _⟩ => ⟨S16x256x64, .bf16⟩
  | .local _ .vmem, ⟨8, _⟩ => ⟨S16x256x64, .bf16⟩
  | .local _ .vmem, ⟨9, _⟩ => ⟨S16x256x64, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== QkvReferenceIdeal.lean ====
abbrev S4096x1024 : Shape := ⟨2, ![4096, 1024]⟩
abbrev S1024x3072 : Shape := ⟨2, ![1024, 3072]⟩
abbrev S4096x3072 : Shape := ⟨2, ![4096, 3072]⟩
abbrev S4096x16x64 : Shape := ⟨3, ![4096, 16, 64]⟩
abbrev S16x4096x64 : Shape := ⟨3, ![16, 4096, 64]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x1024, .f32⟩
  | .hbm, ⟨6, _⟩ => ⟨S4096x16x64, .f32⟩
  | .hbm, ⟨7, _⟩ => ⟨S16x4096x64, .f32⟩
  | .hbm, ⟨8, _⟩ => ⟨S16x4096x64, .bf16⟩
  | .hbm, ⟨9, _⟩ => ⟨S4096x1024, .f32⟩
  | .hbm, ⟨10, _⟩ => ⟨S4096x16x64, .f32⟩
  | .hbm, ⟨11, _⟩ => ⟨S16x4096x64, .f32⟩
  | .hbm, ⟨12, _⟩ => ⟨S16x4096x64, .bf16⟩
  | .hbm, ⟨13, _⟩ => ⟨S4096x1024, .f32⟩
  | .hbm, ⟨14, _⟩ => ⟨S4096x16x64, .f32⟩
  | .hbm, ⟨15, _⟩ => ⟨S16x4096x64, .f32⟩
  | .hbm, ⟨16, _⟩ => ⟨S16x4096x64, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Attn.lean ====
abbrev S16x4096x64 : Shape := ⟨3, ![16, 4096, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x4096x64, .bf16⟩
  | .hbm, ⟨1, _⟩ => ⟨S16x4096x64, .bf16⟩
  | .hbm, ⟨2, _⟩ => ⟨S16x4096x64, .bf16⟩
  | .hbm, ⟨3, _⟩ => ⟨S16x4096x64, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | _, _ => ⟨S16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnReferenceIdeal.lean ====
abbrev S16x4096x64 : Shape := ⟨3, ![16, 4096, 64]⟩
abbrev S16x2x2048x64 : Shape := ⟨4, ![16, 2, 2048, 64]⟩
abbrev S16x2x2048x2048 : Shape := ⟨4, ![16, 2, 2048, 2048]⟩
abbrev S_ : Shape := ⟨0, ![]⟩
abbrev S16x2x2048 : Shape := ⟨3, ![16, 2, 2048]⟩
abbrev S16x2x2048x1 : Shape := ⟨4, ![16, 2, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x4096x64, .bf16⟩
  | .hbm, ⟨1, _⟩ => ⟨S16x4096x64, .bf16⟩
  | .hbm, ⟨2, _⟩ => ⟨S16x4096x64, .bf16⟩
  | .hbm, ⟨3, _⟩ => ⟨S16x4096x64, .f32⟩
  | .hbm, ⟨4, _⟩ => ⟨S16x2x2048x64, .f32⟩
  | .hbm, ⟨5, _⟩ => ⟨S16x4096x64, .f32⟩
  | .hbm, ⟨6, _⟩ => ⟨S16x2x2048x64, .f32⟩
  | .hbm, ⟨7, _⟩ => ⟨S16x4096x64, .f32⟩
  | .hbm, ⟨8, _⟩ => ⟨S16x2x2048x64, .f32⟩
  | .hbm, ⟨9, _⟩ => ⟨S16x2x2048x2048, .f32⟩
  | .hbm, ⟨10, _⟩ => ⟨S_, .f32⟩
  | .hbm, ⟨11, _⟩ => ⟨S_, .f32⟩
  | .hbm, ⟨12, _⟩ => ⟨S16x2x2048x2048, .f32⟩
  | .hbm, ⟨13, _⟩ => ⟨S16x2x2048x2048, .f32⟩
  | .hbm, ⟨14, _⟩ => ⟨S_, .f32⟩
  | .hbm, ⟨15, _⟩ => ⟨S16x2x2048, .f32⟩
  | .hbm, ⟨16, _⟩ => ⟨S_, .f32⟩
  | .hbm, ⟨17, _⟩ => ⟨S16x2x2048, .f32⟩
  | .hbm, ⟨18, _⟩ => ⟨S16x2x2048, .f32⟩
  | .hbm, ⟨19, _⟩ => ⟨S16x2x2048x1, .f32⟩
  | .hbm, ⟨20, _⟩ => ⟨S16x2x2048x2048, .f32⟩
  | .hbm, ⟨21, _⟩ => ⟨S16x2x2048x2048, .f32⟩
  | .hbm, ⟨22, _⟩ => ⟨S16x2x2048x2048, .f32⟩
  | .hbm, ⟨23, _⟩ => ⟨S_, .f32⟩
  | .hbm, ⟨24, _⟩ => ⟨S16x2x2048, .f32⟩
  | .hbm, ⟨25, _⟩ => ⟨S16x2x2048x1, .f32⟩
  | .hbm, ⟨26, _⟩ => ⟨S16x2x2048x2048, .f32⟩
  | .hbm, ⟨27, _⟩ => ⟨S16x2x2048x2048, .f32⟩
  | .hbm, ⟨28, _⟩ => ⟨S16x2x2048x64, .f32⟩
  | .hbm, ⟨29, _⟩ => ⟨S16x4096x64, .f32⟩
  | _, _ => ⟨S16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Oproj.lean ====
abbrev S16x4096x64 : Shape := ⟨3, ![16, 4096, 64]⟩
abbrev S1024x1024 : Shape := ⟨2, ![1024, 1024]⟩
abbrev S4096x1024 : Shape := ⟨2, ![4096, 1024]⟩
abbrev S16x256x64 : Shape := ⟨3, ![16, 256, 64]⟩
abbrev S256x1024 : Shape := ⟨2, ![256, 1024]⟩
abbrev S256x16x64 : Shape := ⟨3, ![256, 16, 64]⟩

abbrev nBuf : Space → Nat
  | .hbm => 4
  | .vmem => 7
  | .smem => 0
  | _ => 0

abbrev bufTy : (tb : Table) → Fin (tcTables nBuf tb) → BufTy
  | .hbm, ⟨0, _⟩ => ⟨S16x4096x64, .f32⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S16x256x64, .f32⟩
  | .local _ .vmem, ⟨1, _⟩ => ⟨S16x256x64, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OprojReferenceIdeal.lean ====
abbrev S16x4096x64 : Shape := ⟨3, ![16, 4096, 64]⟩
abbrev S1024x1024 : Shape := ⟨2, ![1024, 1024]⟩
abbrev S4096x1024 : Shape := ⟨2, ![4096, 1024]⟩
abbrev S4096x16x64 : Shape := ⟨3, ![4096, 16, 64]⟩

abbrev nBuf : Space → Nat
  | .hbm => 8
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S1024x1024, .bf16⟩
  | .hbm, ⟨2, _⟩ => ⟨S4096x1024, .f32⟩
  | .hbm, ⟨3, _⟩ => ⟨S4096x16x64, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Shared.lean ====
abbrev S4096x1024 : Shape := ⟨2, ![4096, 1024]⟩
abbrev S1024x2048 : Shape := ⟨2, ![1024, 2048]⟩
abbrev S2048x1024 : Shape := ⟨2, ![2048, 1024]⟩
abbrev S256x1024 : Shape := ⟨2, ![256, 1024]⟩
abbrev S256x2048 : Shape := ⟨2, ![256, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S2048x1024, .bf16⟩
  | .hbm, ⟨3, _⟩ => ⟨S4096x1024, .f32⟩
  | .hbm, ⟨4, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SharedReferenceIdeal.lean ====
abbrev S4096x1024 : Shape := ⟨2, ![4096, 1024]⟩
abbrev S1024x2048 : Shape := ⟨2, ![1024, 2048]⟩
abbrev S2048x1024 : Shape := ⟨2, ![2048, 1024]⟩
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S2048x1024, .bf16⟩
  | .hbm, ⟨3, _⟩ => ⟨S4096x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x1024, .f32⟩
  | .hbm, ⟨12, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Final.lean ====
abbrev S4096x1024 : Shape := ⟨2, ![4096, 1024]⟩
abbrev S8192x1024 : Shape := ⟨2, ![8192, 1024]⟩
abbrev S256x1024 : Shape := ⟨2, ![256, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S8192x1024, .bf16⟩
  | .hbm, ⟨2, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalReferenceIdeal.lean ====
abbrev S4096x1024 : Shape := ⟨2, ![4096, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .bf16⟩
  | .hbm, ⟨2, _⟩ => ⟨S8192x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Moe.lean ====
abbrev S39 : Shape := ⟨1, ![39]⟩
abbrev S8192x1024 : Shape := ⟨2, ![8192, 1024]⟩
abbrev S8x1024x2048 : Shape := ⟨3, ![8, 1024, 2048]⟩
abbrev S8x2048x1024 : Shape := ⟨3, ![8, 2048, 1024]⟩
abbrev S8192x1 : Shape := ⟨2, ![8192, 1]⟩
abbrev S256x1024 : Shape := ⟨2, ![256, 1024]⟩
abbrev S1 : Shape := ⟨1, ![1]⟩
abbrev S1x1024x2048 : Shape := ⟨3, ![1, 1024, 2048]⟩
abbrev S1x2048x1024 : Shape := ⟨3, ![1, 2048, 1024]⟩
abbrev S256x1 : Shape := ⟨2, ![256, 1]⟩
abbrev S1024x2048 : Shape := ⟨2, ![1024, 2048]⟩
abbrev S256x2048 : Shape := ⟨2, ![256, 2048]⟩
abbrev S2048x1024 : Shape := ⟨2, ![2048, 1024]⟩

abbrev nBuf : Space → Nat
  | .hbm => 5
  | .vmem => 11
  | .smem => 6
  | _ => 0

abbrev bufTy : (tb : Table) → Fin (tcTables nBuf tb) → BufTy
  | .hbm, ⟨0, _⟩ => ⟨S8192x1024, .bf16⟩
  | .hbm, ⟨1, _⟩ => ⟨S8x1024x2048, .bf16⟩
  | .hbm, ⟨2, _⟩ => ⟨S8x2048x1024, .bf16⟩
  | .hbm, ⟨3, _⟩ => ⟨S8192x1, .f32⟩
  | .hbm, ⟨4, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S256x1, .f32⟩
  | .local _ .vmem, ⟨7, _⟩ => ⟨S256x1, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .smem, ⟨0, _⟩ => ⟨S39, .i32⟩
  | .local _ .smem, ⟨1, _⟩ => ⟨S39, .i32⟩
  | .local _ .smem, ⟨2, _⟩ => ⟨S39, .i32⟩
  | .local _ .smem, ⟨3, _⟩ => ⟨S39, .i32⟩
  | .local _ .smem, ⟨4, _⟩ => ⟨S39, .i32⟩
  | .local _ .smem, ⟨5, _⟩ => ⟨S39, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![39], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v35 : Index := Scalar.indexCast arg0
  ![v35.toNat]
def k0_off3 (i : grid0.Coords) : Fin 1 → Nat :=
  let arg0 : BitVec 32 := BitVec.ofNat 32 (i 0).val
  let v7 : Index := Scalar.indexCast arg0
  ![v7.toNat]
def k0_cond2 (v8 : BitVec 32) : BitVec 1 :=
  let c1_i32 : BitVec 32 := 1#32
  let v9 : BitVec 1 := Scalar.cmpi .eq v8 c1_i32
  let v10 : BitVec 32 := Scalar.extui v9
  let c0_i32_0 : BitVec 32 := 0#32
  let v11 : BitVec 1 := Scalar.cmpi .ne v10 c0_i32_0
  v11

def cc0_transform_0 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeReferenceIdeal.lean ====
abbrev S39 : Shape := ⟨1, ![39]⟩
abbrev S8192x1024 : Shape := ⟨2, ![8192, 1024]⟩
abbrev S8x1024x2048 : Shape := ⟨3, ![8, 1024, 2048]⟩
abbrev S8x2048x1024 : Shape := ⟨3, ![8, 2048, 1024]⟩
abbrev S8192x1 : Shape := ⟨2, ![8192, 1]⟩
abbrev S8192 : Shape := ⟨1, ![8192]⟩
abbrev S_ : Shape := ⟨0, ![]⟩
abbrev S1x39 : Shape := ⟨2, ![1, 39]⟩
abbrev S8192x39 : Shape := ⟨2, ![8192, 39]⟩
abbrev S1x1024x2048 : Shape := ⟨3, ![1, 1024, 2048]⟩
abbrev S1024x2048 : Shape := ⟨2, ![1024, 2048]⟩
abbrev S8192x2048 : Shape := ⟨2, ![8192, 2048]⟩
abbrev S1x2048x1024 : Shape := ⟨3, ![1, 2048, 1024]⟩
abbrev S2048x1024 : Shape := ⟨2, ![2048, 1024]⟩

abbrev nBuf : Space → Nat
  | .hbm => 224
  | .vmem => 0
  | .smem => 0
  | _ => 0

abbrev hbmTy0_0 (i : Nat) : BufTy := match i % 128 with
  | 0 => ⟨S39, .i32⟩
  | 1 => ⟨S39, .i32⟩
  | 2 => ⟨S39, .i32⟩
  | 3 => ⟨S39, .i32⟩
  | 4 => ⟨S39, .i32⟩
  | 5 => ⟨S39, .i32⟩
  | 6 => ⟨S8192x1024, .bf16⟩
  | 7 => ⟨S8x1024x2048, .bf16⟩
  | 8 => ⟨S8x2048x1024, .bf16⟩
  | 9 => ⟨S8192x1, .f32⟩
  | 10 => ⟨S8192, .i32⟩
  | 11 => ⟨S8192x1, .i32⟩
  | 12 => ⟨S_, .i32⟩
  | 13 => ⟨S39, .i32⟩
  | 14 => ⟨S39, .i32⟩
  | 15 => ⟨S39, .i32⟩
  | 16 => ⟨S1x39, .i32⟩
  | 17 => ⟨S8192x39, .i32⟩
  | 18 => ⟨S8192x39, .i32⟩
  | 19 => ⟨S8192x39, .i1⟩
  | 20 => ⟨S_, .i32⟩
  | 21 => ⟨S39, .i32⟩
  | 22 => ⟨S39, .i32⟩
  | 23 => ⟨S39, .i32⟩
  | 24 => ⟨S1x39, .i32⟩
  | 25 => ⟨S8192x39, .i32⟩
  | 26 => ⟨S8192x39, .i32⟩
  | 27 => ⟨S8192x39, .i1⟩
  | 28 => ⟨S8192x39, .i1⟩
  | 29 => ⟨S_, .i32⟩
  | 30 => ⟨S_, .i32⟩
  | 31 => ⟨S8192x39, .i32⟩
  | 32 => ⟨S8192x39, .i32⟩
  | 33 => ⟨S8192x39, .i32⟩
  | 34 => ⟨S_, .i32⟩
  | 35 => ⟨S8192, .i32⟩
  | 36 => ⟨S8192x1024, .f32⟩
  | 37 => ⟨S_, .f32⟩
  | 38 => ⟨S8192x1024, .f32⟩
  | 39 => ⟨S1x1024x2048, .bf16⟩
  | 40 => ⟨S1024x2048, .bf16⟩
  | 41 => ⟨S1024x2048, .f32⟩
  | 42 => ⟨S8192x2048, .f32⟩
  | 43 => ⟨S_, .f32⟩
  | 44 => ⟨S8192x2048, .f32⟩
  | 45 => ⟨S8192x2048, .f32⟩
  | 46 => ⟨S1x2048x1024, .bf16⟩
  | 47 => ⟨S2048x1024, .bf16⟩
  | 48 => ⟨S2048x1024, .f32⟩
  | 49 => ⟨S8192x1024, .f32⟩
  | 50 => ⟨S_, .i32⟩
  | 51 => ⟨S8192, .i32⟩
  | 52 => ⟨S8192, .i1⟩
  | 53 => ⟨S8192x1, .i1⟩
  | 54 => ⟨S8192x1024, .f32⟩
  | 55 => ⟨S8192x1024, .f32⟩
  | 56 => ⟨S_, .f32⟩
  | 57 => ⟨S_, .f32⟩
  | 58 => ⟨S8192x1024, .i1⟩
  | 59 => ⟨S8192x1024, .f32⟩
  | 60 => ⟨S8192x1024, .f32⟩
  | 61 => ⟨S8192x1024, .f32⟩
  | 62 => ⟨S1x1024x2048, .bf16⟩
  | 63 => ⟨S1024x2048, .bf16⟩
  | 64 => ⟨S1024x2048, .f32⟩
  | 65 => ⟨S8192x2048, .f32⟩
  | 66 => ⟨S_, .f32⟩
  | 67 => ⟨S8192x2048, .f32⟩
  | 68 => ⟨S8192x2048, .f32⟩
  | 69 => ⟨S1x2048x1024, .bf16⟩
  | 70 => ⟨S2048x1024, .bf16⟩
  | 71 => ⟨S2048x1024, .f32⟩
  | 72 => ⟨S8192x1024, .f32⟩
  | 73 => ⟨S_, .i32⟩
  | 74 => ⟨S8192, .i32⟩
  | 75 => ⟨S8192, .i1⟩
  | 76 => ⟨S8192x1, .i1⟩
  | 77 => ⟨S8192x1024, .f32⟩
  | 78 => ⟨S8192x1024, .f32⟩
  | 79 => ⟨S_, .f32⟩
  | 80 => ⟨S_, .f32⟩
  | 81 => ⟨S8192x1024, .i1⟩
  | 82 => ⟨S8192x1024, .f32⟩
  | 83 => ⟨S8192x1024, .f32⟩
  | 84 => ⟨S8192x1024, .f32⟩
  | 85 => ⟨S1x1024x2048, .bf16⟩
  | 86 => ⟨S1024x2048, .bf16⟩
  | 87 => ⟨S1024x2048, .f32⟩
  | 88 => ⟨S8192x2048, .f32⟩
  | 89 => ⟨S_, .f32⟩
  | 90 => ⟨S8192x2048, .f32⟩
  | 91 => ⟨S8192x2048, .f32⟩
  | 92 => ⟨S1x2048x1024, .bf16⟩
  | 93 => ⟨S2048x1024, .bf16⟩
  | 94 => ⟨S2048x1024, .f32⟩
  | 95 => ⟨S8192x1024, .f32⟩
  | 96 => ⟨S_, .i32⟩
  | 97 => ⟨S8192, .i32⟩
  | 98 => ⟨S8192, .i1⟩
  | 99 => ⟨S8192x1, .i1⟩
  | 100 => ⟨S8192x1024, .f32⟩
  | 101 => ⟨S8192x1024, .f32⟩
  | 102 => ⟨S_, .f32⟩
  | 103 => ⟨S_, .f32⟩
  | 104 => ⟨S8192x1024, .i1⟩
  | 105 => ⟨S8192x1024, .f32⟩
  | 106 => ⟨S8192x1024, .f32⟩
  | 107 => ⟨S8192x1024, .f32⟩
  | 108 => ⟨S1x1024x2048, .bf16⟩
  | 109 => ⟨S1024x2048, .bf16⟩
  | 110 => ⟨S1024x2048, .f32⟩
  | 111 => ⟨S8192x2048, .f32⟩
  | 112 => ⟨S_, .f32⟩
  | 113 => ⟨S8192x2048, .f32⟩
  | 114 => ⟨S8192x2048, .f32⟩
  | 115 => ⟨S1x2048x1024, .bf16⟩
  | 116 => ⟨S2048x1024, .bf16⟩
  | 117 => ⟨S2048x1024, .f32⟩
  | 118 => ⟨S8192x1024, .f32⟩
  | 119 => ⟨S_, .i32⟩
  | 120 => ⟨S8192, .i32⟩
  | 121 => ⟨S8192, .i1⟩
  | 122 => ⟨S8192x1, .i1⟩
  | 123 => ⟨S8192x1024, .f32⟩
  | 124 => ⟨S8192x1024, .f32⟩
  | 125 => ⟨S_, .f32⟩
  | 126 => ⟨S_, .f32⟩
  | 127 => ⟨S8192x1024, .i1⟩
  | _ => ⟨S39, .i32⟩

abbrev hbmTy0_1 (i : Nat) : BufTy := match i % 128 with
  | 0 => ⟨S8192x1024, .f32⟩
  | 1 => ⟨S8192x1024, .f32⟩
  | 2 => ⟨S8192x1024, .f32⟩
  | 3 => ⟨S1x1024x2048, .bf16⟩
  | 4 => ⟨S1024x2048, .bf16⟩
  | 5 => ⟨S1024x2048, .f32⟩
  | 6 => ⟨S8192x2048, .f32⟩
  | 7 => ⟨S_, .f32⟩
  | 8 => ⟨S8192x2048, .f32⟩
  | 9 => ⟨S8192x2048, .f32⟩
  | 10 => ⟨S1x2048x1024, .bf16⟩
  | 11 => ⟨S2048x1024, .bf16⟩
  | 12 => ⟨S2048x1024, .f32⟩
  | 13 => ⟨S8192x1024, .f32⟩
  | 14 => ⟨S_, .i32⟩
  | 15 => ⟨S8192, .i32⟩
  | 16 => ⟨S8192, .i1⟩
  | 17 => ⟨S8192x1, .i1⟩
  | 18 => ⟨S8192x1024, .f32⟩
  | 19 => ⟨S8192x1024, .f32⟩
  | 20 => ⟨S_, .f32⟩
  | 21 => ⟨S_, .f32⟩
  | 22 => ⟨S8192x1024, .i1⟩
  | 23 => ⟨S8192x1024, .f32⟩
  | 24 => ⟨S8192x1024, .f32⟩
  | 25 => ⟨S8192x1024, .f32⟩
  | 26 => ⟨S1x1024x2048, .bf16⟩
  | 27 => ⟨S1024x2048, .bf16⟩
  | 28 => ⟨S1024x2048, .f32⟩
  | 29 => ⟨S8192x2048, .f32⟩
  | 30 => ⟨S_, .f32⟩
  | 31 => ⟨S8192x2048, .f32⟩
  | 32 => ⟨S8192x2048, .f32⟩
  | 33 => ⟨S1x2048x1024, .bf16⟩
  | 34 => ⟨S2048x1024, .bf16⟩
  | 35 => ⟨S2048x1024, .f32⟩
  | 36 => ⟨S8192x1024, .f32⟩
  | 37 => ⟨S_, .i32⟩
  | 38 => ⟨S8192, .i32⟩
  | 39 => ⟨S8192, .i1⟩
  | 40 => ⟨S8192x1, .i1⟩
  | 41 => ⟨S8192x1024, .f32⟩
  | 42 => ⟨S8192x1024, .f32⟩
  | 43 => ⟨S_, .f32⟩
  | 44 => ⟨S_, .f32⟩
  | 45 => ⟨S8192x1024, .i1⟩
  | 46 => ⟨S8192x1024, .f32⟩
  | 47 => ⟨S8192x1024, .f32⟩
  | 48 => ⟨S8192x1024, .f32⟩
  | 49 => ⟨S1x1024x2048, .bf16⟩
  | 50 => ⟨S1024x2048, .bf16⟩
  | 51 => ⟨S1024x2048, .f32⟩
  | 52 => ⟨S8192x2048, .f32⟩
  | 53 => ⟨S_, .f32⟩
  | 54 => ⟨S8192x2048, .f32⟩
  | 55 => ⟨S8192x2048, .f32⟩
  | 56 => ⟨S1x2048x1024, .bf16⟩
  | 57 => ⟨S2048x1024, .bf16⟩
  | 58 => ⟨S2048x1024, .f32⟩
  | 59 => ⟨S8192x1024, .f32⟩
  | 60 => ⟨S_, .i32⟩
  | 61 => ⟨S8192, .i32⟩
  | 62 => ⟨S8192, .i1⟩
  | 63 => ⟨S8192x1, .i1⟩
  | 64 => ⟨S8192x1024, .f32⟩
  | 65 => ⟨S8192x1024, .f32⟩
  | 66 => ⟨S_, .f32⟩
  | 67 => ⟨S_, .f32⟩
  | 68 => ⟨S8192x1024, .i1⟩
  | 69 => ⟨S8192x1024, .f32⟩
  | 70 => ⟨S8192x1024, .f32⟩
  | 71 => ⟨S8192x1024, .f32⟩
  | 72 => ⟨S1x1024x2048, .bf16⟩
  | 73 => ⟨S1024x2048, .bf16⟩
  | 74 => ⟨S1024x2048, .f32⟩
  | 75 => ⟨S8192x2048, .f32⟩
  | 76 => ⟨S_, .f32⟩
  | 77 => ⟨S8192x2048, .f32⟩
  | 78 => ⟨S8192x2048, .f32⟩
  | 79 => ⟨S1x2048x1024, .bf16⟩
  | 80 => ⟨S2048x1024, .bf16⟩
  | 81 => ⟨S2048x1024, .f32⟩
  | 82 => ⟨S8192x1024, .f32⟩
  | 83 => ⟨S_, .i32⟩
  | 84 => ⟨S8192, .i32⟩
  | 85 => ⟨S8192, .i1⟩
  | 86 => ⟨S8192x1, .i1⟩
  | 87 => ⟨S8192x1024, .f32⟩
  | 88 => ⟨S8192x1024, .f32⟩
  | 89 => ⟨S_, .f32⟩
  | 90 => ⟨S_, .f32⟩
  | 91 => ⟨S8192x1024, .i1⟩
  | 92 => ⟨S8192x1024, .f32⟩
  | 93 => ⟨S8192x1024, .f32⟩
  | 94 => ⟨S8192x1024, .f32⟩
  | 95 => ⟨S8192x1024, .bf16⟩
  | _ => ⟨S39, .i32⟩

abbrev hbmTy (i : Nat) : BufTy := match i / 128 with
  | 0 => hbmTy0_0 i
  | 1 => hbmTy0_1 i
  | _ => ⟨S39, .i32⟩

abbrev bufTy : (tb : Table) → Fin (tcTables nBuf tb) → BufTy
  | .hbm, ⟨i, _⟩ => hbmTy i
  | _, _ => ⟨S39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_13 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_15 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_16 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_17 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_18 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_19 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_20 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_21 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_c_22 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_23 : Ref sig .tc := ⟨.hbm, 194, rfl⟩
abbrev main_call7_v0 : Ref sig .tc := ⟨.hbm, 195, rfl⟩
abbrev main_call7_v1 : Ref sig .tc := ⟨.hbm, 196, rfl⟩
abbrev main_call7_v2 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_24 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_c_25 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_cst_26 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩

abbrev nD : Nat := 1
abbrev τ : Topo := Topo.v7x

variable {F : FTy → Type} [FloatOps F]
-- ==== Proof.MoeRun.lean ====
/-
  The call that runs each row through its expert, over any float values.
-/
module

public import proofs.«01_k».proof.Proof.Gen.MoeIdeal.Launch
public import Idealize.ShloMosaic.Lib.Claim
public import Idealize.ShloMosaic.Lib.Pipeline.Frame
public import Idealize.ShloMosaic.Lib.Pipeline.FrameBody
public import Idealize.ShloMosaic.Lib.Pipeline.TableIdle
public import Idealize.ShloMosaic.Lib.Pipeline.DatRel
public import Idealize.ShloMosaic.Lib.Pipeline.ArrRel
public import Idealize.ShloMosaic.Lib.Tactic

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

namespace Cert.Proof.MoeRun

open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rx : Rect S256x1024 := Rect.unit (s := S256x1024) ![0, 0] S256x1024.size inb_S256x1024_S256x1024_0_0
abbrev rt (i : grid0.Coords) : Rect S39 := Rect.unit (s := S39) (k0_off1 i) S1.size (k0_off1_inb i)

/-- A table's word at a point. -/
def wd (f : Vec F S39 .i32) (i : grid0.Coords) : BitVec 32 := f ((rt i).idx (Shape.Idx.first (numel1_S1.symm ▸ Nat.one_pos)))

/-- Whether a step has rows at all. -/
def live (lo hi : BitVec 32) : BitVec 1 := Scalar.cmpi .ne (Scalar.extui (Scalar.cmpi .sgt hi lo) : BitVec 32) 0#32

/-- The rows of a step, as a mask. -/
def mask (lo hi : BitVec 32) : IVec S256x1024 1 :=
  broadcastTo S256x1024 (shapeCast S256x1 (andi (cmpi .sge (iota .tc S256x1 32 [0] iota_S256x1_d0_w32) (broadcast S256x1 lo))
    (cmpi .slt (iota .tc S256x1 32 [0] iota_S256x1_d0_w32) (broadcast S256x1 hi))) shapeCasts_S256x1_S256x1) broadcasts_S256x1_S256x1024

/-- The accumulator after a step that has rows. -/
def step (lo hi df : BitVec 32) (h : Vec F S256x1024 .bf16) (w1 : Vec F S1x1024x2048 .bf16) (w2 : Vec F S1x2048x1024 .bf16)
    (gs : Vec F S256x1 .f32) (a : Vec F S256x1024 .f32) : Vec F S256x1024 .f32 :=
  select (mask lo hi)
    (mulf
      (matmul dot_S256x2048_S2048x1024_S256x1024_1_0_0_1_n_n none
        (truncf .bf16
          (maximumf
            (matmul dot_S256x1024_S1024x2048_S256x2048_1_0_0_1_n_n none
              (select (mask lo hi) h (broadcast S256x1024 (Scalar.ofBits .bf16 0x0000#16)))
              (shapeCast S1024x2048 w1 shapeCasts_S1x1024x2048_S1024x2048) (constant S256x2048 .f32 0x00000000#32))
            (broadcast S256x2048 (Scalar.ofBits .f32 0x00000000#32))) bitsLt_bf16_f32)
        (shapeCast S2048x1024 w2 shapeCasts_S1x2048x1024_S2048x1024) (constant S256x1024 .f32 0x00000000#32))
      (broadcastTo S256x1024 gs broadcasts_S256x1_S256x1024))
    (Scalar.select (Scalar.cmpi .eq df 1#32) (broadcast S256x1024 (Scalar.ofBits .f32 0x00000000#32)) a)

/-- The accumulator after a step. -/
def accNext (lo hi df : BitVec 32) (h : Vec F S256x1024 .bf16) (w1 : Vec F S1x1024x2048 .bf16) (w2 : Vec F S1x2048x1024 .bf16)
    (gs : Vec F S256x1 .f32) (a : Vec F S256x1024 .f32) : Vec F S256x1024 .f32 :=
  if live lo hi = 1#1 then step lo hi df h w1 w2 gs a else a

/-- The result's buffer after a step. -/
def outNext (dl : BitVec 32) (a : Vec F S256x1024 .f32) (o : Vec F S256x1024 .bf16) : Vec F S256x1024 .bf16 :=
  if k0_cond2 dl = 1#1 then truncf .bf16 a bitsLt_bf16_f32 else o

theorem cover_rx {e : EltTy} (p : Vec F S256x1024 e) (y : S256x1024.Idx) :
    ∃ pc ∈ ([⟨rx, p⟩] : List (View.Piece (Elt F) S256x1024 e)), y ∈ pc.1.set :=
  View.cover_of_tiled [⟨rx, p⟩] S256x1024.size (by rfl) y

/-- A whole store leaves what it stores. -/
theorem stored {e : EltTy} (v : View sig .tc .vmem S256x1024 e) (g : v.ty.Contents (Elt F)) (p : Vec F S256x1024 e) :
    v.read (Elt F) (v.writes (Elt F) g [⟨rx, p⟩]) = p :=
  (View.read_writes_eq_canon v g _ (cover_rx p)).trans (View.canon_cons_unit_lit _ p [] (by decide))

/-- A whole load reads all there is. -/
theorem loaded {S : Shape} {e : EltTy} (v : View sig .tc .vmem S e) (g : v.ty.Contents (Elt F)) {off : Fin S.rank → Nat}
    (inb : ∀ a, off a + S.size a ≤ S.size a) (h : ∀ a, off a = 0) :
    v.readAt (Elt F) (Rect.unit (s := S) off S.size inb).toLoadRect g = v.read (Elt F) g :=
  (View.readAt_eq_ld v g _).trans (View.ld_unit_lit inb _ h)

set_option maxHeartbeats 2000000 in
theorem body_run (c : Dev nD) (E : Set ℕ) (i : grid0.Coords) (q : PosShare TreeShare)
    (f3 : Buf (Elt F) ((c : Thread nD τ).loc main_arg2)) (f4 : Buf (Elt F) ((c : Thread nD τ).loc main_arg3))
    (f5 : Buf (Elt F) ((c : Thread nD τ).loc main_arg4)) (f6 : Buf (Elt F) ((c : Thread nD τ).loc main_arg5))
    (arg7 : Memref sig .tc .vmem S256x1024 .bf16) (harg7 : arg7.IsWhole) (arg8 : Memref sig .tc .vmem S1x1024x2048 .bf16) (harg8 : arg8.IsWhole)
    (arg9 : Memref sig .tc .vmem S1x2048x1024 .bf16) (harg9 : arg9.IsWhole) (arg10 : Memref sig .tc .vmem S256x1 .f32) (harg10 : arg10.IsWhole)
    (arg11 : Memref sig .tc .vmem S256x1024 .bf16) (harg11 : arg11.IsWhole) (arg12 : Memref sig .tc .vmem S256x1024 .f32) (harg12 : arg12.IsWhole)
    (h : Vec F S256x1024 .bf16) (w1 : Vec F S1x1024x2048 .bf16) (w2 : Vec F S1x2048x1024 .bf16)
    (gs : Vec F S256x1 .f32) (o : Vec F S256x1024 .bf16) (a : Vec F S256x1024 .f32) (K : PUnit → sProp 𝕄) :
    iprop((((Memref.whole main_arg2).view.loc (c : Thread nD τ)) ↦{q} f3)
        ∗ (((Memref.whole main_arg3).view.loc (c : Thread nD τ)) ↦{q} f4)
        ∗ (((Memref.whole main_arg4).view.loc (c : Thread nD τ)) ↦{q} f5)
        ∗ (((Memref.whole main_arg5).view.loc (c : Thread nD τ)) ↦{q} f6)
        ∗ owns (c : Thread nD τ) arg7 fullShare h ∗ owns (c : Thread nD τ) arg8 fullShare w1
        ∗ owns (c : Thread nD τ) arg9 fullShare w2 ∗ owns (c : Thread nD τ) arg10 fullShare gs
        ∗ owns (c : Thread nD τ) arg11 fullShare o ∗ owns (c : Thread nD τ) arg12 fullShare a
        ∗ (iprop((((Memref.whole main_arg2).view.loc (c : Thread nD τ)) ↦{q} f3)
            ∗ (((Memref.whole main_arg3).view.loc (c : Thread nD τ)) ↦{q} f4)
            ∗ (((Memref.whole main_arg4).view.loc (c : Thread nD τ)) ↦{q} f5)
            ∗ (((Memref.whole main_arg5).view.loc (c : Thread nD τ)) ↦{q} f6)
            ∗ owns (c : Thread nD τ) arg7 fullShare h ∗ owns (c : Thread nD τ) arg8 fullShare w1
            ∗ owns (c : Thread nD τ) arg9 fullShare w2 ∗ owns (c : Thread nD τ) arg10 fullShare gs
            ∗ owns (c : Thread nD τ) arg11 fullShare (outNext (wd f6 i) (accNext (wd f3 i) (wd f4 i) (wd f5 i) h w1 w2 gs a) o)
            ∗ owns (c : Thread nD τ) arg12 fullShare (accNext (wd f3 i) (wd f4 i) (wd f5 i) h w1 w2 gs a)) -∗ K ⟨⟩))
      ⊢ wp frame (wpE (defs₀ (F := F)) Variants.none c none) E
          (cc0__moe_body i (Memref.whole main_arg0) (Memref.isWhole_whole _) (Memref.whole main_arg1) (Memref.isWhole_whole _)
            (Memref.whole main_arg2) (Memref.isWhole_whole _) (Memref.whole main_arg3) (Memref.isWhole_whole _)
            (Memref.whole main_arg4) (Memref.isWhole_whole _) (Memref.whole main_arg5) (Memref.isWhole_whole _)
            arg7 harg7 arg8 harg8 arg9 harg9 arg10 harg10 arg11 harg11 arg12 harg12) K := by
  unfold cc0__moe_body owns
  iintro ⟨T3, T4, T5, T6, ⟨%g7, %hg7, H7⟩, ⟨%g8, %hg8, H8⟩, ⟨%g9, %hg9, H9⟩, ⟨%g10, %hg10, H10⟩, ⟨%g11, %hg11, H11⟩, ⟨%g12, %hg12, H12⟩, Hk⟩
  subst hg7 hg8 hg9 hg10 hg11 hg12
  unfold smemLoad
  simp only [smemLoadElt_bind, Prog.bind_ret]
  named_smem T3 (wd f3 i) rfl
  named_smem T4 (wd f4 i) rfl
  by_cases h1 : live (wd f3 i) (wd f4 i) = 1#1
  · unfold live at h1
    simp only [if_pos h1]
    sl_exec
    iapply (wp_load_rect Variants.none (c : Thread nD τ) none E (m := Memref.whole main_arg4)
      (r := Rect.unit (s := S39) (k0_off2 i) S1.size (k0_off2_inb i)) (Finset.subset_univ _)) $$ T5
    iintro T5
    sl_exec
    iapply (wp_load_rect Variants.none (c : Thread nD τ) none E (m := Memref.whole main_arg5)
      (r := Rect.unit (s := S39) (k0_off3 i) S1.size (k0_off3_inb i)) (Finset.subset_univ _)) $$ T6
    iintro T6
    beta_reduce
    split
    next h2 =>
      sl_exec
      sl_step
      iapply Hk
      isplitl [T3]; · iexact T3
      isplitl [T4]; · iexact T4
      isplitl [T5]; · iexact T5
      isplitl [T6]; · iexact T6
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro
        rw [stored, outNext, if_pos (show k0_cond2 (wd f6 i) = 1#1 from h2), accNext, if_pos (show live (wd f3 i) (wd f4 i) = 1#1 from h1), step]
        refine congrArg (fun x => truncf .bf16 x bitsLt_bf16_f32) ?_
        unfold body_run.sl.v12
        refine (View.readCov_unit_lit arg12.view _ _ (by decide)).trans ?_
        refine (shapeCast_self _ _).trans ?_
        rw [loaded arg7.view g7 _ (by decide), loaded arg8.view g8 _ (by decide), loaded arg9.view g9 _ (by decide),
          loaded arg10.view g10 _ (by decide), loaded arg12.view g12 _ (by decide)]
        rfl
      iexists _; isplitr; swap; · iexact H12
      ipureintro
      rw [stored, accNext, if_pos (show live (wd f3 i) (wd f4 i) = 1#1 from h1), step]
      refine (shapeCast_self _ _).trans ?_
      rw [loaded arg7.view g7 _ (by decide), loaded arg8.view g8 _ (by decide), loaded arg9.view g9 _ (by decide),
        loaded arg10.view g10 _ (by decide), loaded arg12.view g12 _ (by decide)]
      rfl
    next h2 =>
      sl_exec
      sl_step
      iapply Hk
      isplitl [T3]; · iexact T3
      isplitl [T4]; · iexact T4
      isplitl [T5]; · iexact T5
      isplitl [T6]; · iexact T6
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro
        rw [outNext, if_neg (show ¬ k0_cond2 (wd f6 i) = 1#1 from h2)]
      iexists _; isplitr; swap; · iexact H12
      ipureintro
      rw [stored, accNext, if_pos (show live (wd f3 i) (wd f4 i) = 1#1 from h1), step]
      refine (shapeCast_self _ _).trans ?_
      rw [loaded arg7.view g7 _ (by decide), loaded arg8.view g8 _ (by decide), loaded arg9.view g9 _ (by decide),
        loaded arg10.view g10 _ (by decide), loaded arg12.view g12 _ (by decide)]
      rfl
  · unfold live at h1
    simp only [if_neg h1]
    named_smem T6 (wd f6 i) rfl
    by_cases h2 : k0_cond2 (wd f6 i) = 1#1
    · simp only [dif_pos h2]
      sl_exec
      sl_step
      iapply Hk
      isplitl [T3]; · iexact T3
      isplitl [T4]; · iexact T4
      isplitl [T5]; · iexact T5
      isplitl [T6]; · iexact T6
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro
        rw [stored, outNext, if_pos h2, accNext, if_neg (show ¬ live (wd f3 i) (wd f4 i) = 1#1 from h1), loaded _ _ _ (by decide)]
      iexists _; isplitr; swap; · iexact H12
      ipureintro
      rw [accNext, if_neg (show ¬ live (wd f3 i) (wd f4 i) = 1#1 from h1)]
    · simp only [dif_neg h2]
      sl_exec
      sl_step
      iapply Hk
      isplitl [T3]; · iexact T3
      isplitl [T4]; · iexact T4
      isplitl [T5]; · iexact T5
      isplitl [T6]; · iexact T6
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _; isplitr; swap; · iexact H11
        ipureintro
        rw [outNext, if_neg h2]
      iexists _; isplitr; swap; · iexact H12
      ipureintro
      rw [accNext, if_neg (show ¬ live (wd f3 i) (wd f4 i) = 1#1 from h1)]

end Cert.Proof.MoeRun

end
-- ==== Proof.MoeFrame.lean ====
/-
  The call that runs each row through its expert: its run, with whatever invariant of the accumulator a caller states.
-/
module

public import proofs.«01_k».proof.Proof.MoeRun

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

namespace Cert.Proof.MoeRun

open Cert.MoeIdeal Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables, as the memory holds them. -/
def tbl : pre0.Contents (Elt F) := fun k => m (((0 : Dev nD).tc : Thread nD τ).loc (pre0.ref k))

/-- What every buffer holds at the start. -/
def V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem tbl_eq (c : Dev nD) (k : Fin pre0.K) : V m c (pre0.ref k) = tbl m k := by
  obtain rfl : c = 0 := Subsingleton.elim _ _
  rfl

variable (hok : ok0 (tbl m))

/-- The tables, with what the run asks of them. -/
def adm : (pcfg0 (F := F)).Adm := ⟨tbl m, hok⟩

/-- A window's block at a point. -/
def iblk (c : Dev nD) (w : Fin 5) (t : Fin grid0.N) :
    (((cfg0 (adm m hok)).win w).xblock ((cfg0 (adm m hok)).grid.coords t)).Idx → Elt F ((cfg0 (adm m hok)).win w).elt :=
  (((cfg0 (adm m hok)).win w).blk t).view.read (Elt F) (V m c (Pipeline.arrRef spec0 w))

/-- The words of the tables at a point. -/
def lo (t : Fin grid0.N) : BitVec 32 := wd (F := F) (tbl m 2) (grid0.coords t)
def hi (t : Fin grid0.N) : BitVec 32 := wd (F := F) (tbl m 3) (grid0.coords t)
def df (t : Fin grid0.N) : BitVec 32 := wd (F := F) (tbl m 4) (grid0.coords t)
def dl (t : Fin grid0.N) : BitVec 32 := wd (F := F) (tbl m 5) (grid0.coords t)

/-- The accumulator after a point, from before it. -/
def acc (c : Dev nD) (t : Fin grid0.N) (a : Vec F S256x1024 .f32) : Vec F S256x1024 .f32 :=
  accNext (lo m t) (hi m t) (df m t) (iblk m hok c 0 t) (iblk m hok c 1 t) (iblk m hok c 2 t) (iblk m hok c 3 t) a

variable (I : ℕ → Vec F S256x1024 .f32 → Prop) (O : Fin grid0.N → Vec F S256x1024 .bf16 → Prop)

def dat (c : Dev nD) : Dat τ (Elt F) Unit ℕ (UR sig nD τ) ℕ (cfg0 (adm m hok)) c where
  A w := V m c (Pipeline.arrRef spec0 w)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => constant S256x1024 .bf16 0x0000#16
  Φ t := iprop((∃ a, ⌜I t.val a⌝ ∗ ((c : Thread nD τ).loc cc0_scratch0) ↦{fullShare} a) ∗ (∃ r, prngReg c r)
    ∗ Pipeline.ΦT pre0 (tbl m) c)
  q _ := fullShare
  owed _ := 0

def fgt : Fin 5 → Bool := fun w => decide (w = 4)

def Rl : (w : Fin (cfg0 (adm m hok)).W) → Fin (cfg0 (adm m hok)).N → (((cfg0 (adm m hok)).win w).block.Idx → Elt F ((cfg0 (adm m hok)).win w).elt) → Prop
  | ⟨0, _⟩ => fun _ _ => True
  | ⟨1, _⟩ => fun _ _ => True
  | ⟨2, _⟩ => fun _ _ => True
  | ⟨3, _⟩ => fun _ _ => True
  | ⟨4, _⟩ => fun t X => k0_cond2 (dl m t) = 1#1 → O t X

theorem A_eq (c : Dev nD) (w : Fin 5) : (dat m hok I c).A w = V m c (Pipeline.arrRef spec0 w) := by dsimp only [dat]

theorem after_0 (c : Dev nD) (t : Fin grid0.N) : (dat m hok I c).after 0 t = iblk m hok c 0 t := by dsimp only [dat]; rfl
theorem after_1 (c : Dev nD) (t : Fin grid0.N) : (dat m hok I c).after 1 t = iblk m hok c 1 t := by dsimp only [dat]; rfl
theorem after_2 (c : Dev nD) (t : Fin grid0.N) : (dat m hok I c).after 2 t = iblk m hok c 2 t := by dsimp only [dat]; rfl
theorem after_3 (c : Dev nD) (t : Fin grid0.N) : (dat m hok I c).after 3 t = iblk m hok c 3 t := by dsimp only [dat]; rfl

theorem before_0 (c : Dev nD) (t : Fin grid0.N) (d) : (dat m hok I c).before 0 t d = iblk m hok c 0 t :=
  ((dat m hok I c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin grid0.N) (d) : (dat m hok I c).before 1 t d = iblk m hok c 1 t :=
  ((dat m hok I c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin grid0.N) (d) : (dat m hok I c).before 2 t d = iblk m hok c 2 t :=
  ((dat m hok I c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin grid0.N) (d) : (dat m hok I c).before 3 t d = iblk m hok c 3 t :=
  ((dat m hok I c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

abbrev st (w : Fin 5) (t : Fin grid0.N) := ((cfg0 (adm m hok)).win w).stage ((cfg0 (adm m hok)).slots t w)

/-- The body at a point, on the buffers it is called with. -/
abbrev bodyAt (t : Fin grid0.N) : Prog (TpuEff nD τ sig (Elt F) Λ₀ .tc) PUnit :=
  cc0__moe_body (grid0.coords t) (Memref.whole main_arg0) (Memref.isWhole_whole _) (Memref.whole main_arg1) (Memref.isWhole_whole _)
    (Memref.whole main_arg2) (Memref.isWhole_whole _) (Memref.whole main_arg3) (Memref.isWhole_whole _)
    (Memref.whole main_arg4) (Memref.isWhole_whole _) (Memref.whole main_arg5) (Memref.isWhole_whole _)
    (spec0_0.stage ((cfg0 (adm m hok)).slots t 0)) (hstage0_0 (((cfg0 (adm m hok)).slots t 0).cast nbuf0_0))
    (spec0_1.stage ((cfg0 (adm m hok)).slots t 1)) (hstage0_1 (((cfg0 (adm m hok)).slots t 1).cast nbuf0_1))
    (spec0_2.stage ((cfg0 (adm m hok)).slots t 2)) (hstage0_2 (((cfg0 (adm m hok)).slots t 2).cast nbuf0_2))
    (spec0_3.stage ((cfg0 (adm m hok)).slots t 3)) (hstage0_3 (((cfg0 (adm m hok)).slots t 3).cast nbuf0_3))
    (spec0_4.stage ((cfg0 (adm m hok)).slots t 4)) (hstage0_4 (((cfg0 (adm m hok)).slots t 4).cast nbuf0_4))
    (Memref.whole cc0_scratch0) (Memref.isWhole_whole _)

theorem row_at (t : Fin grid0.N) :
    defs₀ (F := F) .tc (cfg0 (adm m hok)).body ((cfg0 (adm m hok)).bodyArgs t ((cfg0 (adm m hok)).slots t)) = bodyAt m hok t := by
  unfold defs₀; rw [Defs.onTc_tc]

/-- The tables one by one. -/
theorem tables (c : Dev nD) : (Pipeline.ΦT (U := UR sig nD τ) pre0 (tbl m) c : sProp 𝕄)
    = iprop((((c : Thread nD τ).loc main_arg0) ↦{fullShare.right} tbl m 0) ∗ (((c : Thread nD τ).loc main_arg1) ↦{fullShare.right} tbl m 1)
      ∗ (((Memref.whole main_arg2).view.loc (c : Thread nD τ)) ↦{fullShare.right} tbl m 2)
      ∗ (((Memref.whole main_arg3).view.loc (c : Thread nD τ)) ↦{fullShare.right} tbl m 3)
      ∗ (((Memref.whole main_arg4).view.loc (c : Thread nD τ)) ↦{fullShare.right} tbl m 4)
      ∗ (((Memref.whole main_arg5).view.loc (c : Thread nD τ)) ↦{fullShare.right} tbl m 5)) :=
  bigSep_univ_eq_bigSepL [(0 : Fin 6), 1, 2, 3, 4, 5] (by decide) (by decide)
    (fun k : Fin 6 => ((c : Thread nD τ).loc (pre0.ref k)) ↦{fullShare.right} tbl m k)

def bodyPre (c : Dev nD) (t : Fin grid0.N) : sProp 𝕄 :=
  iprop((dat m hok I c).Φ t.castSucc ∗ (dat m hok I c).owesAt () t.castSucc
    ∗ (∃ d, owns (c : Thread nD τ) (st m hok 0 t) fullShare ((dat m hok I c).before 0 t d))
    ∗ (∃ d, owns (c : Thread nD τ) (st m hok 1 t) fullShare ((dat m hok I c).before 1 t d))
    ∗ (∃ d, owns (c : Thread nD τ) (st m hok 2 t) fullShare ((dat m hok I c).before 2 t d))
    ∗ (∃ d, owns (c : Thread nD τ) (st m hok 3 t) fullShare ((dat m hok I c).before 3 t d))
    ∗ (∃ Y, ⌜((dat m hok I c).toRRel fgt (Rl m hok O)).Finds 4 t Y⌝ ∗ owns (c : Thread nD τ) (st m hok 4 t) fullShare Y))

def bodyPost (c : Dev nD) (t : Fin grid0.N) : sProp 𝕄 :=
  iprop((dat m hok I c).Φ t.succ ∗ (dat m hok I c).owesAt () t.succ
    ∗ owns (c : Thread nD τ) (st m hok 0 t) fullShare ((dat m hok I c).after 0 t)
    ∗ owns (c : Thread nD τ) (st m hok 1 t) fullShare ((dat m hok I c).after 1 t)
    ∗ owns (c : Thread nD τ) (st m hok 2 t) fullShare ((dat m hok I c).after 2 t)
    ∗ owns (c : Thread nD τ) (st m hok 3 t) fullShare ((dat m hok I c).after 3 t)
    ∗ (∃ X, ⌜Rl m hok O 4 t X⌝ ∗ owns (c : Thread nD τ) (st m hok 4 t) fullShare X))

/-- What the invariant must survive, and what it must tell of a result. -/
structure Kept : Prop where
  start : ∀ a, I 0 a
  next : ∀ c t a, I t.val a → I (t.val + 1) (acc m hok c t a)
  tells : ∀ (t : Fin grid0.N) a, I (t.val + 1) a → k0_cond2 (dl m t) = 1#1 → O t (truncf .bf16 a bitsLt_bf16_f32)

variable {I O}

set_option maxHeartbeats 1000000 in
theorem sound_body (hk : Kept m hok I O) (c : Dev nD) (t : Fin grid0.N) :
    bodyPre m hok I O c t ⊢ wp frame (wpE (defs₀ (F := F)) Variants.none c none) Set.univ (bodyAt m hok t) (fun _ => bodyPost m hok I O c t) := by
  unfold bodyPre bodyPost bodyAt
  simp only [before_0, before_1, before_2, before_3]
  rw [after_0, after_1, after_2, after_3, show (dat m hok I c).owesAt () t.succ = (dat m hok I c).owesAt () t.castSucc from rfl,
    show (dat m hok I c).Φ t.castSucc = iprop((∃ a, ⌜I t.val a⌝ ∗ ((c : Thread nD τ).loc cc0_scratch0) ↦{fullShare} a)
      ∗ (∃ r, prngReg c r) ∗ Pipeline.ΦT pre0 (tbl m) c) from rfl,
    show (dat m hok I c).Φ t.succ = iprop((∃ a, ⌜I (t.val + 1) a⌝ ∗ ((c : Thread nD τ).loc cc0_scratch0) ↦{fullShare} a)
      ∗ (∃ r, prngReg c r) ∗ Pipeline.ΦT pre0 (tbl m) c) from rfl, tables]
  iintro ⟨⟨⟨%a, %ha, Ha⟩, Hp, T0, T1, T2, T3, T4, T5⟩, Ho, ⟨%d0, H0⟩, ⟨%d1, H1⟩, ⟨%d2, H2⟩, ⟨%d3, H3⟩, ⟨%Y, -, H4⟩⟩
  iapply (body_run c Set.univ (grid0.coords t) fullShare.right (tbl m 2) (tbl m 3) (tbl m 4) (tbl m 5)
    _ _ _ _ _ _ _ _ _ _ _ _ (iblk m hok c 0 t) (iblk m hok c 1 t) (iblk m hok c 2 t) (iblk m hok c 3 t) Y a _)
  rw [owns_whole, owns_whole]
  isplitl [T2]; · iexact T2
  isplitl [T3]; · iexact T3
  isplitl [T4]; · iexact T4
  isplitl [T5]; · iexact T5
  isplitl [H0]; · iexact H0
  isplitl [H1]; · iexact H1
  isplitl [H2]; · iexact H2
  isplitl [H3]; · iexact H3
  isplitl [H4]; · iexact H4
  isplitl [Ha]; · iexact Ha
  iintro ⟨T2, T3, T4, T5, H0, H1, H2, H3, H4, Ha⟩
  isplitl [Ha Hp T0 T1 T2 T3 T4 T5]
  · isplitl [Ha]
    · iexists _; isplitr
      swap; · iexact Ha
      ipureintro; exact hk.next c t a ha
    isplitl [Hp]; · iexact Hp
    isplitl [T0]; · iexact T0
    isplitl [T1]; · iexact T1
    isplitl [T2]; · iexact T2
    isplitl [T3]; · iexact T3
    isplitl [T4]; · iexact T4
    iexact T5
  isplitl [Ho]; · iexact Ho
  isplitl [H0]; · iexact H0
  isplitl [H1]; · iexact H1
  isplitl [H2]; · iexact H2
  isplitl [H3]; · iexact H3
  iexists _; isplitr
  swap; · iexact H4
  ipureintro
  intro h
  have e := hk.tells t _ (hk.next c t a ha) h
  have e' : outNext (dl m t) (acc m hok c t a) Y = truncf .bf16 (acc m hok c t a) bitsLt_bf16_f32 := if_pos h
  exact (congrArg (O t) e').mpr e

theorem obligation (hk : Kept m hok I O) (c : Dev nD) :
    BodyObligationRel (dat m hok I c) (defs₀ (F := F)) Variants.none () Set.univ fgt (Rl m hok O) := fun t => by
  rw [bigSep_W0, bigSep_W0, row_at]
  exact triple_restated (sound_body m hok hk c t) rfl .rfl fun _ => .rfl

/-- The proof data of the run. -/
abbrev rd (I : ℕ → Vec F S256x1024 .f32 → Prop) (O : Fin grid0.N → Vec F S256x1024 .bf16 → Prop) (c : Dev nD) :
    RDat τ (Elt F) Unit ℕ (UR sig nD τ) ℕ (cfg0 (adm m hok)) c := (dat m hok I c).toRRel fgt (Rl m hok O)

set_option backward.isDefEq.respectTransparency.types false in
set_option maxHeartbeats 800000 in
/-- Every execution ends, the result's array as the points' write-backs leave it, every semaphore at zero. -/
theorem run_ends (hk : Kept m hok I O) : θ_run defs (onTc (τ := τ) (main (F := F))) (s₀ m ρ)
    (fun r => RDat.FramePost (cfg0 (adm m hok)) (rd m hok I O) (V m) r ∧ r.2.sem = fun _ => 0) :=
  Pipeline.RDat.θ_run_frameP_track (Q' := _) pcfgs (fun _ => adm m hok) (0 : Fin 1) launch0 defs₀ Variants.none (rd m hok I O) m ρ main
    (hbody := fun c => (obligation m hok hk c).toRRel) (hshare := fun c => (dat m hok I c).share_full fun _ => rfl)
    (howed := fun _ _ => rfl) (V := V m) (hmain := hmain m Variants.none) (hA := fun c w => A_eq m hok I c w)
    (hpf := fun c k => tbl_eq m c k)
    (hin := fun c => by
      show iprop(Pipeline.ΦA spec0 c ∗ Pipeline.ΦT pre0 (tbl m) c) ⊢ iprop((∃ a, ⌜I 0 a⌝ ∗ ((c : Thread nD τ).loc cc0_scratch0) ↦{fullShare} a)
        ∗ (∃ r, prngReg c r) ∗ Pipeline.ΦT pre0 (tbl m) c)
      unfold Pipeline.ΦA
      rw [scopedRest0_eq]
      iintro ⟨⟨⟨%f, Hf⟩, Hp⟩, HT⟩
      isplitl [Hf]
      · iexists f; isplitr
        swap; · iexact Hf
        ipureintro; exact hk.start f
      isplitl [Hp]; · iexact Hp
      iexact HT)
    (hout := fun c => by
      show iprop((∃ a, ⌜I grid0.N a⌝ ∗ ((c : Thread nD τ).loc cc0_scratch0) ↦{fullShare} a)
        ∗ (∃ r, prngReg c r) ∗ Pipeline.ΦT pre0 (tbl m) c) ⊢ Pipeline.ΦA spec0 c
      unfold Pipeline.ΦA
      rw [scopedRest0_eq]
      iintro ⟨⟨%a, -, Ha⟩, Hp, -⟩
      isplitl [Ha]; · iexists a; iexact Ha
      iexact Hp)

/-- The arguments end as they were. -/
theorem kept_of (r : PUnit × MemSt nD τ sig (Elt F)) (h : RDat.FramePost (cfg0 (adm m hok)) (rd m hok I O) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨(h c).2 main_arg0 (show _ ∈ Pipeline.restRefs sig spec0 from by decide), (h c).2 main_arg1 (show _ ∈ Pipeline.restRefs sig spec0 from by decide), (h c).2 main_arg2 (show _ ∈ Pipeline.restRefs sig spec0 from by decide),
    (h c).2 main_arg3 (show _ ∈ Pipeline.restRefs sig spec0 from by decide), (h c).2 main_arg4 (show _ ∈ Pipeline.restRefs sig spec0 from by decide), (h c).2 main_arg5 (show _ ∈ Pipeline.restRefs sig spec0 from by decide),
    (RDat.FramePost.arr_in h c (0 : Fin 5) rfl).trans (A_eq m hok I c 0), (RDat.FramePost.arr_in h c (1 : Fin 5) rfl).trans (A_eq m hok I c 1),
    (RDat.FramePost.arr_in h c (2 : Fin 5) rfl).trans (A_eq m hok I c 2), (RDat.FramePost.arr_in h c (3 : Fin 5) rfl).trans (A_eq m hok I c 3)⟩

/-- The arguments end as they were and every semaphore at zero. -/
theorem quiet (hok : ok0 (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨kept_of m hok r h.1, h.2⟩)
    (run_ends m ρ hok (I := fun _ _ => True) (O := fun _ _ => True) ⟨fun _ => trivial, fun _ _ _ _ => trivial, fun _ _ _ _ => trivial⟩)

end Cert.Proof.MoeRun

end
-- ==== Proof.MoePre.lean ====
/-
  What the preconditions of the call that runs each row through its expert say of its tables.
-/
module

public import proofs.«01_k».proof.Proof.MoeFrame
public import proofs.«01_k».proof.Defs
public import proofs.«01_k».proof.Proof.Gen.Moe
public import proofs.«01_k».proof.Proof.Gen.MoeIdeal
public import proofs.«01_k».proof.Proof.Gen.MoeReferenceIdeal
public import proofs.«01_k».proof.Proof.Gen.MoeReferenceIdeal.Run
public import proofs.«01_k».proof.Proof.Gen.Pre_moe_in_range
public import proofs.«01_k».proof.Proof.Gen.Pre_moe_partition
public import Idealize.ShloMosaic.Lib.Pointwise
public import Idealize.ShloMosaic.Lib.ReduceAll
public import Idealize.ShloMosaic.Lib.StableHlo.Predicate
public import Idealize.ShloMosaic.Lib.Claim

@[expose] public section

set_option maxRecDepth 16384

noncomputable section

open Idealize.ShloMosaic Idealize.ShloMosaic.TcCoe Idealize.SL.Sem

namespace Cert.Proof.MoePre

abbrev T : Type := IVec Cert.Pre_moe_partition.S39 32

/-- A table's entry, as a number. -/
def n (f : T) (i : Fin 39) : ℤ := (f (ix1 i)).toInt

/-- The tile and the expert of each step name one there is. -/
def InRange (dt de : T) : Prop := ∀ i : Fin 39, 0 ≤ n dt i ∧ n dt i < 32 ∧ 0 ≤ n de i ∧ n de i < 8

/-- Step `i` has row `r`. -/
def Has (dt lo hi : T) (r : Fin 8192) (i : Fin 39) : Prop := n dt i * 256 + n lo i ≤ (r.val : ℤ) ∧ (r.val : ℤ) < n dt i * 256 + n hi i

/-- The steps part the rows between them, tile after tile; a tile's first-step mark stands at no later step of it; and each tile's
    last step bears the last-step mark. -/
structure Parted (dt de lo hi df dl : T) : Prop where
  range : InRange dt de
  rows : ∀ i, 0 ≤ n lo i ∧ n lo i ≤ 256 ∧ n hi i ≤ 256
  mono : ∀ i j : Fin 39, i.val + 1 = j.val → n dt i ≤ n dt j
  once : ∀ r, ∃! i, Has dt lo hi r i
  first : ∀ i j : Fin 39, i.val + 1 = j.val → n dt i = n dt j → df (ix1 j) ≠ 1#32
  last : ∀ i : Fin 39, (∀ j : Fin 39, i.val + 1 = j.val → n dt j ≠ n dt i) → dl (ix1 i) = 1#32

theorem sle_iff (a b : BitVec 32) : IntOp.cmpi .sle a b = 1#1 ↔ a.toInt ≤ b.toInt := by
  unfold IntOp.cmpi; rw [StableHlo.Predicate.ofBool_eq_one_iff]; simp [BitVec.sle]
theorem slt_iff (a b : BitVec 32) : IntOp.cmpi .slt a b = 1#1 ↔ a.toInt < b.toInt := by
  unfold IntOp.cmpi; rw [StableHlo.Predicate.ofBool_eq_one_iff]; simp [BitVec.slt]
theorem sge_iff (a b : BitVec 32) : IntOp.cmpi .sge a b = 1#1 ↔ b.toInt ≤ a.toInt := by
  unfold IntOp.cmpi; rw [StableHlo.Predicate.ofBool_eq_one_iff]; simp [BitVec.sle]
theorem sgt_iff (a b : BitVec 32) : IntOp.cmpi .sgt a b = 1#1 ↔ b.toInt < a.toInt := by
  unfold IntOp.cmpi; rw [StableHlo.Predicate.ofBool_eq_one_iff]; simp [BitVec.slt]
theorem ne_iff (a b : BitVec 32) : IntOp.cmpi .ne a b = 1#1 ↔ a ≠ b := by
  unfold IntOp.cmpi; rw [StableHlo.Predicate.ofBool_eq_one_iff]; simp
theorem and_iff (a b : BitVec 1) : IntOp.andi a b = 1#1 ↔ a = 1#1 ∧ b = 1#1 := by revert a b; decide
theorem or_iff (a b : BitVec 1) : IntOp.ori a b = 1#1 ↔ a = 1#1 ∨ b = 1#1 := by revert a b; decide

theorem one_idx (j : Cert.Pre_moe_partition.S39.Idx) : j = ix1 (j 0) := funext fun a => by
  have : a = 0 := Subsingleton.elim _ _
  subst this; rfl

/-! ## The rows of the steps, as the two host functions say them -/

section
open Cert.Pre_moe_partition Cert.Pre_moe_partition.Gen

/-- Row by step, whether the step has the row. -/
def bits (dt lo hi : T) : IVec S8192x39 1 :=
  andi (cmpi .sle (broadcastInDim S8192x39 ![0, 1] bcast_S1x39_S8192x39_0_1 (broadcastInDim S1x39 ![1] bcast_S39_S1x39_1
      (addi (muli dt (broadcastInDim S39 ![] bcast_S_S39 (constantI S_ 32 256#32))) lo)))
      (broadcastInDim S8192x39 ![0, 1] bcast_S8192x1_S8192x39_0_1 (broadcastInDim S8192x1 ![0] bcast_S8192_S8192x1_0 (iotaInDim S8192 32 0))))
    (cmpi .slt (broadcastInDim S8192x39 ![0, 1] bcast_S8192x1_S8192x39_0_1 (broadcastInDim S8192x1 ![0] bcast_S8192_S8192x1_0 (iotaInDim S8192 32 0)))
      (broadcastInDim S8192x39 ![0, 1] bcast_S1x39_S8192x39_0_1 (broadcastInDim S1x39 ![1] bcast_S39_S1x39_1
      (addi (muli dt (broadcastInDim S39 ![] bcast_S_S39 (constantI S_ 32 256#32))) hi))))

theorem toInt_row (a b : BitVec 32) (h0 : 0 ≤ a.toInt) (h1 : a.toInt < 32) (h2 : b.toInt ≤ 256) : (a * 256#32 + b).toInt = a.toInt * 256 + b.toInt := by
  have hb := BitVec.le_toInt b
  rw [BitVec.toInt_add, BitVec.toInt_mul, show (256#32 : BitVec 32).toInt = 256 from by decide,
    Int.bmod_eq_of_le (n := a.toInt * 256) (by omega) (by omega), Int.bmod_eq_of_le (by omega) (by omega)]

theorem bits_iff (dt lo hi : T) (r : Fin 8192) (i : Fin 39) (h0 : 0 ≤ n dt i) (h1 : n dt i < 32) (h2 : n lo i ≤ 256) (h3 : n hi i ≤ 256) :
    bits dt lo hi (StableHlo.Predicate.ij r i) = 1#1 ↔ Has dt lo hi r i := by
  unfold bits
  show IntOp.andi (IntOp.cmpi .sle (broadcastInDim _ _ _ _ _) (broadcastInDim _ _ _ _ _)) (IntOp.cmpi .slt (broadcastInDim _ _ _ _ _) (broadcastInDim _ _ _ _ _)) = 1#1 ↔ _
  rw [and_iff, sle_iff, slt_iff, StableHlo.Predicate.bcast_cols, StableHlo.Predicate.bcast_cols, StableHlo.Predicate.bcast_rows]
  have e : (Shape.Idx.ofFin i : S39.Idx) = ix1 i := funext fun a => by
    have : a = 0 := Subsingleton.elim _ _
    subst this; rfl
  show (dt (Shape.Idx.ofFin i) * 256#32 + lo (Shape.Idx.ofFin i)).toInt ≤ (BitVec.ofNat 32 r.val).toInt
    ∧ (BitVec.ofNat 32 r.val).toInt < (dt (Shape.Idx.ofFin i) * 256#32 + hi (Shape.Idx.ofFin i)).toInt ↔ _
  rw [e, StableHlo.Predicate.toInt_ofNat_small r.val (by omega), toInt_row _ _ h0 h1 h2, toInt_row _ _ h0 h1 h3]
  rfl

theorem in_range {F : FTy → Type} [FloatOps F] (dt de lo hi df dl : T) (h : FVec F S8192x1024 .bf16) (w : FVec F S8x1024x2048 .bf16)
    (w' : FVec F S8x2048x1024 .bf16) (g : FVec F S8192x1 .f32)
    (e : Cert.Pre_moe_in_range.fn (F := F) dt de lo hi df dl h w w' g = fun _ => 1#1) : InRange dt de := fun i => by
  have := congrFun e (ix1 i)
  have h2 : IntOp.andi (IntOp.andi (IntOp.andi (IntOp.cmpi .sge (dt (ix1 i)) 0#32) (IntOp.cmpi .slt (dt (ix1 i)) 32#32)) (IntOp.cmpi .sge (de (ix1 i)) 0#32))
    (IntOp.cmpi .slt (de (ix1 i)) 8#32) = 1#1 := this
  rw [and_iff, and_iff, and_iff, sge_iff, slt_iff, sge_iff, slt_iff] at h2
  exact ⟨h2.1.1.1, h2.1.1.2, h2.1.2, h2.2⟩

instance : Subsingleton S_.Idx := ⟨fun a b => funext fun x => x.elim0⟩

theorem parted {F : FTy → Type} [FloatOps F] (dt de lo hi df dl : T) (h : FVec F S8192x1024 .bf16) (w : FVec F S8x1024x2048 .bf16)
    (w' : FVec F S8x2048x1024 .bf16) (g : FVec F S8192x1 .f32)
    (e : Cert.Pre_moe_partition.fn (F := F) dt de lo hi df dl h w w' g = fun _ => 1#1) : Parted dt de lo hi df dl := by
  have e0 := congrFun e ix0
  unfold fn fn_part1 fn_part2 fn_part3 at e0
  obtain ⟨e1, hD⟩ := (and_iff _ _).1 e0
  obtain ⟨e2, hL⟩ := (and_iff _ _).1 e1
  obtain ⟨e3, hF⟩ := (and_iff _ _).1 e2
  obtain ⟨e4, hO⟩ := (and_iff _ _).1 e3
  obtain ⟨hR, hM⟩ := (and_iff _ _).1 e4
  have r1 : ∀ i : Fin 39, (0 ≤ n dt i ∧ n dt i < 32 ∧ 0 ≤ n de i ∧ n de i < 8) ∧ 0 ≤ n lo i ∧ n lo i ≤ 256 ∧ n hi i ≤ 256 := fun i => by
    have h2 : IntOp.andi (IntOp.andi (IntOp.andi (IntOp.andi (IntOp.andi (IntOp.andi (IntOp.cmpi .sge (dt (ix1 i)) 0#32) (IntOp.cmpi .slt (dt (ix1 i)) 32#32)) (IntOp.cmpi .sge (de (ix1 i)) 0#32))
      (IntOp.cmpi .slt (de (ix1 i)) 8#32)) (IntOp.cmpi .sge (lo (ix1 i)) 0#32)) (IntOp.cmpi .sle (lo (ix1 i)) 256#32)) (IntOp.cmpi .sle (hi (ix1 i)) 256#32) = 1#1 :=
      Host.reduce_andi_all _ _ _ _ _ hR (ix1 i)
    rw [and_iff, and_iff, and_iff, and_iff, and_iff, and_iff, sge_iff, slt_iff, sge_iff, slt_iff, sge_iff, sle_iff, sle_iff] at h2
    exact ⟨⟨h2.1.1.1.1.1.1, h2.1.1.1.1.1.2, h2.1.1.1.1.2, h2.1.1.1.2⟩, h2.1.1.2, h2.1.2, h2.2⟩
  have s0 : ∀ (f : T) (i : Fin 38) (k : Fin 39), k.val = i.val → extractStridedSlice S38 ![0] f slices_S39_S38_0 (ix1 i) = f (ix1 k) := fun f i k hk =>
    congrArg f (funext fun a => by
      have : a = 0 := Subsingleton.elim _ _
      subst this; apply Fin.ext; show 0 + i.val = k.val; omega)
  have s1 : ∀ (f : T) (i : Fin 38) (k : Fin 39), k.val = i.val + 1 → extractStridedSlice S38 ![1] f slices_S39_S38_1 (ix1 i) = f (ix1 k) := fun f i k hk =>
    congrArg f (funext fun a => by
      have : a = 0 := Subsingleton.elim _ _
      subst this; apply Fin.ext; show 1 + i.val = k.val; omega)
  have nn : ∀ i j : Fin 39, dt (ix1 i) = dt (ix1 j) ↔ n dt i = n dt j := fun i j => BitVec.toInt_inj.symm
  refine ⟨fun i => (r1 i).1, fun i => (r1 i).2, fun i j hj => ?_, fun r => ?_, fun i j hj hij => ?_, fun i hi => ?_⟩
  · have h2 : IntOp.cmpi .sle (extractStridedSlice S38 ![0] dt slices_S39_S38_0 (ix1 ⟨i.val, by omega⟩)) (extractStridedSlice S38 ![1] dt slices_S39_S38_1 (ix1 ⟨i.val, by omega⟩)) = 1#1 :=
      Host.reduce_andi_all _ _ _ _ _ hM (ix1 ⟨i.val, by omega⟩)
    rw [s0 dt ⟨i.val, by omega⟩ i rfl, s1 dt ⟨i.val, by omega⟩ j hj.symm, sle_iff] at h2
    exact h2
  · have h2 : IntOp.cmpi .eq (Host.reduce IntOp.addi (extui 32 (bits dt lo hi) natLt_1_32) (constantI S_ 32 0#32) reducesTo_S8192x39_S8192_d1 h_S_ (ix1 r)) 1#32 = 1#1 :=
      Host.reduce_andi_all _ _ _ _ _ hO (ix1 r)
    rw [StableHlo.Predicate.cmpi_eq_iff] at h2
    have h3 := congrArg BitVec.toNat h2
    rw [StableHlo.Predicate.toNat_reduce_count_cols (by decide)] at h3
    obtain ⟨i, one⟩ := Finset.card_eq_one.1 h3
    have key : ∀ j, j ∈ (Finset.univ.filter fun q : Fin 39 => bits dt lo hi (StableHlo.Predicate.ij r q) = 1#1) ↔ Has dt lo hi r j := fun j => by
      rw [Finset.mem_filter]
      exact ⟨fun x => (bits_iff dt lo hi r j (r1 j).1.1 (r1 j).1.2.1 (r1 j).2.2.1 (r1 j).2.2.2).1 x.2,
        fun x => ⟨Finset.mem_univ _, (bits_iff dt lo hi r j (r1 j).1.1 (r1 j).1.2.1 (r1 j).2.2.1 (r1 j).2.2.2).2 x⟩⟩
    have hi' : (Finset.univ.filter fun q : Fin 39 => bits dt lo hi (StableHlo.Predicate.ij r q) = 1#1) = {i} := one
    refine ⟨i, (key i).1 (by rw [hi']; exact Finset.mem_singleton_self _), fun j hj => ?_⟩
    have := (key j).2 hj
    rw [hi'] at this
    exact Finset.mem_singleton.1 this
  · have h2 : IntOp.ori (IntOp.cmpi .ne (extractStridedSlice S38 ![1] df slices_S39_S38_1 (ix1 ⟨i.val, by omega⟩)) 1#32)
        (IntOp.cmpi .ne (extractStridedSlice S38 ![1] dt slices_S39_S38_1 (ix1 ⟨i.val, by omega⟩)) (extractStridedSlice S38 ![0] dt slices_S39_S38_0 (ix1 ⟨i.val, by omega⟩))) = 1#1 :=
      Host.reduce_andi_all _ _ _ _ _ hF (ix1 ⟨i.val, by omega⟩)
    rw [s0 dt ⟨i.val, by omega⟩ i rfl, s1 dt ⟨i.val, by omega⟩ j hj.symm, s1 df ⟨i.val, by omega⟩ j hj.symm, or_iff, ne_iff, ne_iff] at h2
    rcases h2 with h2 | h2
    · exact h2
    · exact absurd ((nn i j).2 hij).symm h2
  · by_cases h38 : i.val = 38
    · have s2 : ∀ j : S1.Idx, extractStridedSlice S1 ![38] dl slices_S39_S1_38 j = dl (ix1 i) := fun j =>
        congrArg dl (funext fun a => by
          have : a = 0 := Subsingleton.elim _ _
          subst this; apply Fin.ext; have := (j 0).isLt; show 38 + (j 0).val = i.val; change (j 0).val < 1 at this; omega)
      exact (s2 _).symm.trans (StableHlo.Predicate.cmpi_eq_iff.1 hD)
    · have h2 : IntOp.ori (IntOp.cmpi .eq (extractStridedSlice S38 ![0] dl slices_S39_S38_0 (ix1 ⟨i.val, by omega⟩)) 1#32)
          (IntOp.cmpi .eq (extractStridedSlice S38 ![1] dt slices_S39_S38_1 (ix1 ⟨i.val, by omega⟩)) (extractStridedSlice S38 ![0] dt slices_S39_S38_0 (ix1 ⟨i.val, by omega⟩))) = 1#1 :=
        Host.reduce_andi_all _ _ _ _ _ hL (ix1 ⟨i.val, by omega⟩)
      have hj := hi ⟨i.val + 1, by omega⟩ rfl
      rw [s0 dt ⟨i.val, by omega⟩ i rfl, s1 dt ⟨i.val, by omega⟩ ⟨i.val + 1, by omega⟩ rfl, s0 dl ⟨i.val, by omega⟩ i rfl, or_iff,
        StableHlo.Predicate.cmpi_eq_iff, StableHlo.Predicate.cmpi_eq_iff] at h2
      rcases h2 with h2 | h2
      · exact h2
      · exact absurd ((nn _ _).1 h2) hj

end

end Cert.Proof.MoePre

end
-- ==== Proof.MoeTables.lean ====
/-
  The tables of the call that runs each row through its expert, and the blocks they choose.
-/
module

public import proofs.«01_k».proof.Proof.MoePre

@[expose] public section

set_option maxRecDepth 16384

noncomputable section

open Idealize.ShloMosaic Idealize.ShloMosaic.TcCoe Idealize.SL.Sem
open Idealize.ShloMosaic.Pipeline (Dat RDat Cfg Window)

namespace Cert.Proof.MoeRun

open Cert.MoeIdeal Cert.MoeIdeal.Gen Cert.Proof.MoePre

/-! ## The tables and the blocks they choose -/

section
variable {F : FTy → Type} [FloatOps F] (m : (ℓ : Loc nD τ sig) → Buf (Elt F) ℓ)

theorem N39 : grid0.N = 39 := by decide +kernel

/-- A point as a step. -/
def pt (t : Fin grid0.N) : Fin 39 := ⟨t.val, N39 ▸ t.isLt⟩

theorem coord (t : Fin grid0.N) : (grid0.coords t 0).val = t.val := (by decide +kernel : ∀ t : Fin grid0.N, (grid0.coords t 0).val = t.val) t

theorem wd_eq (f : Vec F S39 .i32) (t : Fin grid0.N) : wd (F := F) f (grid0.coords t) = f (ix1 (pt t)) :=
  congrArg f (funext fun a => by
    have : a = 0 := Subsingleton.elim _ _
    subst this
    apply Fin.ext
    show k0_off1 (grid0.coords t) 0 + 1 * (Shape.Idx.first (s := S1) _ 0).val = t.val
    have := (Shape.Idx.first (s := S1) (numel1_S1.symm ▸ Nat.one_pos) 0).isLt
    change (Shape.Idx.first (s := S1) _ 0).val < 1 at this
    rw [k0_off1_eq]
    show (grid0.coords t 0).val + 1 * _ = _
    rw [coord]; omega)

theorem words0 : ∀ d : Fin 32, ∃ h : ∀ a, ((![d.val, 0] : Fin 2 → Nat) a + 1) * S256x1024.size a ≤ S8192x1024.size a,
    EltTy.bits .bf16 = 32 ∨ (Rect.block (s := S8192x1024) S256x1024.size ![d.val, 0] h).WholeWords (EltTy.packing .bf16) := by decide +kernel
theorem words1 : ∀ d : Fin 8, ∃ h : ∀ a, ((![d.val, 0, 0] : Fin 3 → Nat) a + 1) * S1x1024x2048.size a ≤ S8x1024x2048.size a,
    EltTy.bits .bf16 = 32 ∨ (Rect.block (s := S8x1024x2048) S1x1024x2048.size ![d.val, 0, 0] h).WholeWords (EltTy.packing .bf16) := by decide +kernel
theorem words2 : ∀ d : Fin 8, ∃ h : ∀ a, ((![d.val, 0, 0] : Fin 3 → Nat) a + 1) * S1x2048x1024.size a ≤ S8x2048x1024.size a,
    EltTy.bits .bf16 = 32 ∨ (Rect.block (s := S8x2048x1024) S1x2048x1024.size ![d.val, 0, 0] h).WholeWords (EltTy.packing .bf16) := by decide +kernel
theorem words3 : ∀ d : Fin 32, ∃ h : ∀ a, ((![d.val, 0] : Fin 2 → Nat) a + 1) * S256x1.size a ≤ S8192x1.size a,
    EltTy.bits .f32 = 32 ∨ (Rect.block (s := S8192x1) S256x1.size ![d.val, 0] h).WholeWords (EltTy.packing .f32) := by decide +kernel

theorem ix_0 (i : grid0.Coords) : cc0_transform_0 (F := F) k0_off1_inb numel1_S1 (tbl m) i = ![(wd (F := F) (tbl m 0) i).toNat, 0] := rfl
theorem ix_1 (i : grid0.Coords) : cc0_transform_1 (F := F) k0_off1_inb numel1_S1 (tbl m) i = ![(wd (F := F) (tbl m 1) i).toNat, 0, 0] := rfl
theorem ix_2 (i : grid0.Coords) : cc0_transform_2 (F := F) k0_off1_inb numel1_S1 (tbl m) i = ![(wd (F := F) (tbl m 1) i).toNat, 0, 0] := rfl
theorem ix_3 (i : grid0.Coords) : cc0_transform_3 (F := F) k0_off1_inb numel1_S1 (tbl m) i = ![(wd (F := F) (tbl m 0) i).toNat, 0] := rfl
theorem ix_4 (i : grid0.Coords) : cc0_transform_4 (F := F) k0_off1_inb numel1_S1 (tbl m) i = ![(wd (F := F) (tbl m 0) i).toNat, 0] := rfl

theorem toNat_of (x : BitVec 32) (b : ℕ) (hb : b ≤ 2 ^ 31) (h0 : 0 ≤ x.toInt) (h1 : x.toInt < b) : x.toNat < b ∧ (x.toNat : ℤ) = x.toInt := by
  rw [BitVec.toInt_eq_toNat_cond] at *
  have := x.isLt
  split at h0 <;> omega

theorem wd_rng (f : T) (i : grid0.Coords) : ∃ k : Fin 39, wd (F := F) f i = f (ix1 k) :=
  ⟨(rt i).idx (Shape.Idx.first (numel1_S1.symm ▸ Nat.one_pos)) 0, congrArg f (one_idx _)⟩

theorem ok_of (h : InRange (tbl m 0) (tbl m 1)) : ok0 (tbl m) := by
  have a0 : ∀ i : grid0.Coords, (wd (F := F) (tbl m 0) i).toNat < 32 := fun i => by
    obtain ⟨k, e⟩ := wd_rng (F := F) (tbl m 0) i
    rw [e]; exact (toNat_of _ 32 (by decide) (h k).1 (h k).2.1).1
  have a1 : ∀ i : grid0.Coords, (wd (F := F) (tbl m 1) i).toNat < 8 := fun i => by
    obtain ⟨k, e⟩ := wd_rng (F := F) (tbl m 1) i
    rw [e]; exact (toNat_of _ 8 (by decide) (h k).2.2.1 (h k).2.2.2).1
  exact ⟨fun i => words0 ⟨_, a0 i⟩, fun i => words1 ⟨_, a1 i⟩, fun i => words2 ⟨_, a1 i⟩, fun i => words3 ⟨_, a0 i⟩, fun i => words0 ⟨_, a0 i⟩⟩

end

end Cert.Proof.MoeRun

end
-- ==== Proof.MoeStep.lean ====
/-
  The call that runs each row through its expert: one step of the accumulator, row by row, and what the reference makes of
  a row.
-/
module

public import proofs.«01_k».proof.Proof.MoeTables

@[expose] public section

set_option maxRecDepth 16384

noncomputable section

open Idealize.ShloMosaic Idealize.ShloMosaic.TcCoe Idealize.SL.Sem
open Idealize.ShloMosaic.Pipeline (Dat RDat Cfg Window)

namespace Cert.Proof.MoeRun

open Cert.MoeIdeal Cert.MoeIdeal.Gen Cert.Proof.MoePre

/-- What expert `e` makes of row `R`. -/
def ev (h : FVec Ideal S8192x1024 .bf16) (w : FVec Ideal S8x1024x2048 .bf16) (w' : FVec Ideal S8x2048x1024 .bf16) (g : FVec Ideal S8192x1 .f32)
    (e : Fin 8) (R : Fin 8192) (q : Fin 1024) : EReal :=
  (∑ x : Fin 2048, max (∑ y : Fin 1024, h (ix2 R y) * w (ix3 e y x)) 0 * w' (ix3 e x q)) * g (ix2 R 0)

/-! ## A step -/

theorem mask_in (lo hi : BitVec 32) (p : Fin 256) (q : Fin 1024) :
    mask lo hi (ix2 p q) = 1#1 ↔ lo.toInt ≤ (p.val : ℤ) ∧ (p.val : ℤ) < hi.toInt := by
  pointwise [mask]
  rw [and_iff, sge_iff, slt_iff, StableHlo.Predicate.toInt_ofNat_small p.val (by omega)]

theorem live_iff (lo hi : BitVec 32) : live lo hi = 1#1 ↔ lo.toInt < hi.toInt := by
  rw [← sgt_iff]
  have : ∀ b : BitVec 1, IntOp.cmpi .ne (b.setWidth 32) 0#32 = 1#1 ↔ b = 1#1 := by decide
  exact this (IntOp.cmpi .sgt hi lo)

theorem cond_of (d : BitVec 32) (h : d = 1#32) : k0_cond2 d = 1#1 := by subst h; decide

theorem sel_pos {α : Type} {c : BitVec 1} (h : c = 1#1) (x y : α) : Scalar.select c x y = x := if_pos h
theorem sel_neg {α : Type} {c : BitVec 1} (h : ¬c = 1#1) (x y : α) : Scalar.select c x y = y := if_neg h

/-- A row of the step is its expert's. -/
theorem step_in (lo hi df : BitVec 32) (hb : Vec Ideal S256x1024 .bf16) (w1 : Vec Ideal S1x1024x2048 .bf16) (w2 : Vec Ideal S1x2048x1024 .bf16)
    (gs : Vec Ideal S256x1 .f32) (a : Vec Ideal S256x1024 .f32) (h : FVec Ideal S8192x1024 .bf16) (w : FVec Ideal S8x1024x2048 .bf16)
    (w' : FVec Ideal S8x2048x1024 .bf16) (g : FVec Ideal S8192x1 .f32) (e : Fin 8) (R : Fin 8192) (p : Fin 256) (q : Fin 1024)
    (eh : ∀ y, hb (ix2 p y) = h (ix2 R y)) (e1 : ∀ y x, w1 (ix3 0 y x) = w (ix3 e y x)) (e2 : ∀ y x, w2 (ix3 0 y x) = w' (ix3 e y x))
    (eg : gs (ix2 p 0) = g (ix2 R 0)) (hm : lo.toInt ≤ (p.val : ℤ) ∧ (p.val : ℤ) < hi.toInt) :
    step (F := Ideal) lo hi df hb w1 w2 gs a (ix2 p q) = ev h w w' g e R q := by
  pointwise [step]
  simp only [sel_pos ((mask_in lo hi p _).2 hm), eh, e1, e2, eg]
  rfl

/-- A row not of the step is as it was, but where the tile starts. -/
theorem step_out (lo hi df : BitVec 32) (hb : Vec Ideal S256x1024 .bf16) (w1 : Vec Ideal S1x1024x2048 .bf16) (w2 : Vec Ideal S1x2048x1024 .bf16)
    (gs : Vec Ideal S256x1 .f32) (a : Vec Ideal S256x1024 .f32) (p : Fin 256) (q : Fin 1024)
    (hm : ¬(lo.toInt ≤ (p.val : ℤ) ∧ (p.val : ℤ) < hi.toInt)) (hd : df ≠ 1#32) :
    step (F := Ideal) lo hi df hb w1 w2 gs a (ix2 p q) = a (ix2 p q) := by
  pointwise [step]
  rw [sel_neg (fun x => hm ((mask_in lo hi p q).1 x))]
  exact sel_neg (c := Scalar.cmpi .eq df 1#32) (fun x => hd (StableHlo.Predicate.cmpi_eq_iff.1 x)) _ _

/-! ## The reference -/

section
open Cert.MoeReferenceIdeal.Value
variable (V0 : Valuation Cert.MoeReferenceIdeal.τ Cert.MoeReferenceIdeal.sig (Elt Ideal))

abbrev a0 : T := V0 (Proc.devRef .tc Cert.MoeReferenceIdeal.main_arg0)
abbrev a1 : T := V0 (Proc.devRef .tc Cert.MoeReferenceIdeal.main_arg1)
abbrev a2 : T := V0 (Proc.devRef .tc Cert.MoeReferenceIdeal.main_arg2)
abbrev a3 : T := V0 (Proc.devRef .tc Cert.MoeReferenceIdeal.main_arg3)
abbrev a4 : T := V0 (Proc.devRef .tc Cert.MoeReferenceIdeal.main_arg4)
abbrev a5 : T := V0 (Proc.devRef .tc Cert.MoeReferenceIdeal.main_arg5)

theorem drop_iff {k l : ℕ} (g : (⟨2, ![k, l]⟩ : Shape).ReducesTo [1] ⟨1, ![k]⟩) (y : (⟨2, ![k, l]⟩ : Shape).Idx) (R : Fin k) :
    g.drop y = ix1 R ↔ y = StableHlo.Predicate.ij R (y 1) := by
  have row : (g.drop y 0 : ℕ) = y 0 := Shape.ReducesTo.drop_apply_val g y 0
  constructor
  · intro h
    rw [h] at row
    funext z
    match z with
    | ⟨0, _⟩ => exact Fin.ext row.symm
    | ⟨1, _⟩ => rfl
  · intro h
    funext b
    have : b = 0 := Subsingleton.elim _ _
    subst this
    refine Fin.ext (row.trans ?_)
    rw [h]; rfl

theorem sum_one {k l : ℕ} (x : IVec ⟨2, ![k, l]⟩ 32) (g : (⟨2, ![k, l]⟩ : Shape).ReducesTo [1] ⟨1, ![k]⟩)
    (R : Fin k) (i : Fin l) (h0 : ∀ j, j ≠ i → x (StableHlo.Predicate.ij R j) = 0#32) [DecidablePred fun y : (⟨2, ![k, l]⟩ : Shape).Idx => g.drop y = ix1 R] :
    ∑ y ∈ Finset.univ.filter (fun y : (⟨2, ![k, l]⟩ : Shape).Idx => g.drop y = ix1 R), (x y).toNat = (x (StableHlo.Predicate.ij R i)).toNat := by
  refine Finset.sum_eq_single (StableHlo.Predicate.ij R i) (fun b hb hne => ?_) (fun hn => ?_)
  · have hb' := (drop_iff g b R).1 (Finset.mem_filter.1 hb).2
    have hj : b 1 ≠ i := fun e => hne (hb'.trans (congrArg (StableHlo.Predicate.ij R) e))
    have := (congrArg x hb').trans (h0 (b 1) hj)
    show (x b).toNat = 0
    rw [this]; rfl
  · exact absurd (Finset.mem_filter.2 ⟨Finset.mem_univ (StableHlo.Predicate.ij R i), (drop_iff g (StableHlo.Predicate.ij R i) R).2 rfl⟩) hn

/-- A row with one entry that is not zero adds up to that entry. -/
theorem fold_one {k l : ℕ} (x : IVec ⟨2, ![k, l]⟩ 32) (g : (⟨2, ![k, l]⟩ : Shape).ReducesTo [1] ⟨1, ![k]⟩) {u : Shape} (hu : 0 < u.numel)
    (R : Fin k) (i : Fin l) (h0 : ∀ j, j ≠ i → x (StableHlo.Predicate.ij R j) = 0#32) :
    Host.reduce IntOp.addi x (constantI u 32 0#32) g hu (ix1 R) = x (StableHlo.Predicate.ij R i) := by
  classical
  rw [Host.reduce_eq_fold]
  apply BitVec.eq_of_toNat_eq
  show (Finset.fold IntOp.addi 0#32 x (Finset.univ.filter fun y : (⟨2, ![k, l]⟩ : Shape).Idx => g.drop y = ix1 R)).toNat = _
  rw [StableHlo.Predicate.toNat_fold_addi _ _ (by rw [sum_one x g R i h0]; exact BitVec.isLt _), sum_one x g R i h0]

theorem expert_eq (P : Parted (a0 V0) (a1 V0) (a2 V0) (a3 V0) (a4 V0) (a5 V0)) (R : Fin 8192) (i : Fin 39)
    (hi : Has (a0 V0) (a2 V0) (a3 V0) R i) : res_main_v18 V0 (ix1 R) = a1 V0 (ix1 i) := by
  have one : ∀ j, bits (a0 V0) (a2 V0) (a3 V0) (StableHlo.Predicate.ij R j) = 1#1 ↔ j = i := fun j => by
    rw [bits_iff _ _ _ R j (P.range j).1 (P.range j).2.1 (P.rows j).2.1 (P.rows j).2.2]
    exact ⟨fun x => (P.once R).unique x hi, fun x => x ▸ hi⟩
  have at_ : ∀ j, select (bits (a0 V0) (a2 V0) (a3 V0)) (broadcastInDim Cert.MoeReferenceIdeal.S8192x39 ![1] Cert.MoeReferenceIdeal.Gen.bcast_S39_S8192x39_1 (a1 V0))
        (broadcastInDim Cert.MoeReferenceIdeal.S8192x39 ![] Cert.MoeReferenceIdeal.Gen.bcast_S_S8192x39 (id (constantI Cert.MoeReferenceIdeal.S_ 32 0#32))) (StableHlo.Predicate.ij R j)
      = Scalar.select (bits (a0 V0) (a2 V0) (a3 V0) (StableHlo.Predicate.ij R j)) (a1 V0 (ix1 j)) 0#32 := fun j => by
    have : broadcastInDim Cert.MoeReferenceIdeal.S8192x39 ![1] Cert.MoeReferenceIdeal.Gen.bcast_S39_S8192x39_1 (a1 V0) (StableHlo.Predicate.ij R j) = a1 V0 (ix1 j) :=
      congrArg (a1 V0) (funext fun b => by
        have : b = 0 := Subsingleton.elim _ _
        subst this; apply Fin.ext; rfl)
    show Scalar.select _ (broadcastInDim Cert.MoeReferenceIdeal.S8192x39 ![1] Cert.MoeReferenceIdeal.Gen.bcast_S39_S8192x39_1 (a1 V0) (StableHlo.Predicate.ij R j)) _ = _
    rw [this]; rfl
  unfold res_main_v18
  refine (fold_one _ _ _ R i fun j hj => ?_).trans ?_
  · exact (at_ j).trans (sel_neg (fun x => hj ((one j).1 x)) _ _)
  · exact (at_ i).trans (sel_pos ((one i).2 rfl) _ _)

theorem ref_in (P : Parted (a0 V0) (a1 V0) (a2 V0) (a3 V0) (a4 V0) (a5 V0)) (R : Fin 8192) (q : Fin 1024) (i : Fin 39)
    (hi : Has (a0 V0) (a2 V0) (a3 V0) R i) (e : Fin 8) (he : n (a1 V0) i = e.val) :
    res_main_v156 V0 (ix2 R q) = ev (V0 (Proc.devRef .tc Cert.MoeReferenceIdeal.main_arg6)) (V0 (Proc.devRef .tc Cert.MoeReferenceIdeal.main_arg7))
      (V0 (Proc.devRef .tc Cert.MoeReferenceIdeal.main_arg8)) (V0 (Proc.devRef .tc Cert.MoeReferenceIdeal.main_arg9)) e R q := by
  have h18 : res_main_v18 V0 (ix1 R) = BitVec.ofNat 32 e.val := by
    rw [expert_eq V0 P R i hi]
    apply BitVec.eq_of_toInt_eq
    rw [StableHlo.Predicate.toInt_ofNat_small _ (by omega)]; exact he
  pointwise [res_main_v156, res_main_v88, res_main_v19]
  rw [h18]
  unfold ev
  have hz : constant (F := Ideal) Cert.MoeReferenceIdeal.S_ .f32 (0#32) ix0 = (0 : EReal) := by pointwise [constant]
  fin_cases e <;> simp [Scalar.select, IntOp.cmpi, hz]

end

end Cert.Proof.MoeRun

end
-- ==== Proof.MoeKeep.lean ====
/-
  The call that runs each row through its expert: what its accumulator holds from step to step, and so what each tile it
  writes back is.
-/
module

public import proofs.«01_k».proof.Proof.MoeTables
public import proofs.«01_k».proof.Proof.MoeStep

@[expose] public section

set_option maxRecDepth 16384

noncomputable section

open Idealize.ShloMosaic Idealize.ShloMosaic.TcCoe Idealize.SL.Sem
open Idealize.ShloMosaic.Pipeline (Dat RDat Cfg Window)

namespace Cert.Proof.MoeRun

open Cert.MoeIdeal Cert.MoeIdeal.Gen Cert.Proof.MoePre

/-- Tiles come in order. -/
theorem mono_le {dt de lo hi df dl : T} (P : Parted dt de lo hi df dl) (i j : Fin 39) (h : i.val ≤ j.val) : n dt i ≤ n dt j := by
  obtain ⟨k, hk⟩ := Nat.exists_eq_add_of_le h
  induction k generalizing j with
  | zero => obtain rfl : i = j := Fin.ext (by omega); exact le_refl _
  | succ k ih => exact (ih ⟨i.val + k, by omega⟩ (by simp) rfl).trans (P.mono ⟨i.val + k, by omega⟩ j (by simp; omega))

section
variable (m : (ℓ : Loc nD τ sig) → Buf (Elt Ideal) ℓ) (hok : ok0 (tbl m)) (c : Dev nD)

abbrev PartedAt : Prop := Parted (tbl m 0) (tbl m 1) (tbl m 2) (tbl m 3) (tbl m 4) (tbl m 5)

theorem emb_0 (t : Fin grid0.N) (p : Fin 256) (y : Fin 1024) (R : Fin 8192) (h : R.val = (wd (F := Ideal) (tbl m 0) (grid0.coords t)).toNat * 256 + p.val) :
    (((cfg0 (adm m hok)).win 0).blk t).view.emb (ix2 p y) = ix2 R y := by
  funext x; apply Fin.ext
  match x with
  | ⟨0, _⟩ => show (wd (F := Ideal) (tbl m 0) (grid0.coords t)).toNat * 256 + 1 * p.val = R.val; omega
  | ⟨1, _⟩ => show 0 * 1024 + 1 * y.val = y.val; omega

theorem emb_1 (t : Fin grid0.N) (y : Fin 1024) (x : Fin 2048) (e : Fin 8) (h : e.val = (wd (F := Ideal) (tbl m 1) (grid0.coords t)).toNat) :
    (((cfg0 (adm m hok)).win 1).blk t).view.emb (ix3 0 y x) = ix3 e y x := by
  funext z; apply Fin.ext
  match z with
  | ⟨0, _⟩ => show (wd (F := Ideal) (tbl m 1) (grid0.coords t)).toNat * 1 + 1 * 0 = e.val; omega
  | ⟨1, _⟩ => show 0 * 1024 + 1 * y.val = y.val; omega
  | ⟨2, _⟩ => show 0 * 2048 + 1 * x.val = x.val; omega

theorem emb_2 (t : Fin grid0.N) (y : Fin 2048) (x : Fin 1024) (e : Fin 8) (h : e.val = (wd (F := Ideal) (tbl m 1) (grid0.coords t)).toNat) :
    (((cfg0 (adm m hok)).win 2).blk t).view.emb (ix3 0 y x) = ix3 e y x := by
  funext z; apply Fin.ext
  match z with
  | ⟨0, _⟩ => show (wd (F := Ideal) (tbl m 1) (grid0.coords t)).toNat * 1 + 1 * 0 = e.val; omega
  | ⟨1, _⟩ => show 0 * 2048 + 1 * y.val = y.val; omega
  | ⟨2, _⟩ => show 0 * 1024 + 1 * x.val = x.val; omega

theorem emb_3 (t : Fin grid0.N) (p : Fin 256) (R : Fin 8192) (h : R.val = (wd (F := Ideal) (tbl m 0) (grid0.coords t)).toNat * 256 + p.val) :
    (((cfg0 (adm m hok)).win 3).blk t).view.emb (ix2 p 0) = ix2 R 0 := by
  funext x; apply Fin.ext
  match x with
  | ⟨0, _⟩ => show (wd (F := Ideal) (tbl m 0) (grid0.coords t)).toNat * 256 + 1 * p.val = R.val; omega
  | ⟨1, _⟩ => show 0 * 1 + 1 * 0 = 0; omega

theorem emb_4 (t : Fin grid0.N) (p : Fin 256) (y : Fin 1024) (R : Fin 8192) (h : R.val = (wd (F := Ideal) (tbl m 0) (grid0.coords t)).toNat * 256 + p.val) :
    (((cfg0 (adm m hok)).win 4).blk t).view.emb (ix2 p y) = ix2 R y := by
  funext x; apply Fin.ext
  match x with
  | ⟨0, _⟩ => show (wd (F := Ideal) (tbl m 0) (grid0.coords t)).toNat * 256 + 1 * p.val = R.val; omega
  | ⟨1, _⟩ => show 0 * 1024 + 1 * y.val = y.val; omega

theorem nat_of {x y : BitVec 32} (h : x = y) (b : ℕ) (hb : b ≤ 2 ^ 31) (h0 : 0 ≤ y.toInt) (h1 : y.toInt < b) : x.toNat < b ∧ (x.toNat : ℤ) = y.toInt := by
  subst h; exact toNat_of _ b hb h0 h1

/-- A step's tile and expert, as numbers. -/
theorem tile_nat (P : PartedAt m) (t : Fin grid0.N) : (wd (F := Ideal) (tbl m 0) (grid0.coords t)).toNat < 32
    ∧ ((wd (F := Ideal) (tbl m 0) (grid0.coords t)).toNat : ℤ) = n (tbl m 0) (pt t) := by
  exact nat_of (wd_eq (F := Ideal) (tbl m 0) t) 32 (by decide) (P.range (pt t)).1 (P.range (pt t)).2.1
theorem expert_nat (P : PartedAt m) (t : Fin grid0.N) : (wd (F := Ideal) (tbl m 1) (grid0.coords t)).toNat < 8
    ∧ ((wd (F := Ideal) (tbl m 1) (grid0.coords t)).toNat : ℤ) = n (tbl m 1) (pt t) := by
  exact nat_of (wd_eq (F := Ideal) (tbl m 1) t) 8 (by decide) (P.range (pt t)).2.2.1 (P.range (pt t)).2.2.2

variable (out : FVec Ideal S8192x1024 .f32)

/-- Each row of an array is what the row's expert makes of it. -/
def Good : Prop := ∀ (R : Fin 8192) (q : Fin 1024) (i : Fin 39) (e : Fin 8), Has (tbl m 0) (tbl m 2) (tbl m 3) R i → n (tbl m 1) i = e.val →
  out (ix2 R q) = ev (m ((c.tc : Thread nD τ).loc main_arg6)) (m ((c.tc : Thread nD τ).loc main_arg7)) (m ((c.tc : Thread nD τ).loc main_arg8))
    (m ((c.tc : Thread nD τ).loc main_arg9)) e R q

/-- Before a step, the rows of the tile at hand that earlier steps had are done. -/
def Inv (t : ℕ) (a : FVec Ideal S256x1024 .f32) : Prop :=
  ∀ (j : Fin 39) (R : Fin 8192) (p : Fin 256) (q : Fin 1024), j.val < t → (∀ k : Fin 39, k.val + 1 = t → n (tbl m 0) k = n (tbl m 0) j) →
    (R.val : ℤ) = n (tbl m 0) j * 256 + p.val → Has (tbl m 0) (tbl m 2) (tbl m 3) R j → a (ix2 p q) = out (ix2 R q)

/-- What a tile's last step writes back is the array's tile. -/
def Told (t : Fin grid0.N) (X : FVec Ideal S256x1024 .bf16) : Prop :=
  (∀ j : Fin 39, t.val + 1 = j.val → n (tbl m 0) j ≠ n (tbl m 0) (pt t)) →
    ∀ (R : Fin 8192) (p : Fin 256) (q : Fin 1024), (R.val : ℤ) = n (tbl m 0) (pt t) * 256 + p.val → X (ix2 p q) = out (ix2 R q)

theorem next (P : PartedAt m) (good : Good m c out) (t : Fin grid0.N) (a : FVec Ideal S256x1024 .f32) (hI : Inv m out t.val a) :
    Inv m out (t.val + 1) (acc m hok c t a) := by
  intro j R p q hj hk hR hH
  have hs : n (tbl m 0) (pt t) = n (tbl m 0) j := hk (pt t) rfl
  have elo : (lo m t).toInt = n (tbl m 2) (pt t) := congrArg BitVec.toInt (wd_eq (F := Ideal) (tbl m 2) t)
  have ehi : (hi m t).toInt = n (tbl m 3) (pt t) := congrArg BitVec.toInt (wd_eq (F := Ideal) (tbl m 3) t)
  unfold acc accNext
  by_cases hjt : j = pt t
  · subst hjt
    have hm : (lo m t).toInt ≤ (p.val : ℤ) ∧ (p.val : ℤ) < (hi m t).toInt := by
      obtain ⟨h1, h2⟩ := hH
      rw [elo, ehi]; omega
    rw [if_pos ((live_iff _ _).2 (by omega))]
    obtain ⟨hb, he⟩ := expert_nat m P t
    obtain ⟨-, hd⟩ := tile_nat m P t
    have hR' : R.val = (wd (F := Ideal) (tbl m 0) (grid0.coords t)).toNat * 256 + p.val := by omega
    refine (step_in _ _ _ _ _ _ _ _ (m ((c.tc : Thread nD τ).loc main_arg6)) (m ((c.tc : Thread nD τ).loc main_arg7)) (m ((c.tc : Thread nD τ).loc main_arg8))
      (m ((c.tc : Thread nD τ).loc main_arg9)) ⟨_, hb⟩ R p q ?_ ?_ ?_ ?_ hm).trans (good R q (pt t) ⟨_, hb⟩ hH he.symm).symm
    · exact fun y => congrArg (m ((c.tc : Thread nD τ).loc main_arg6)) (emb_0 m hok t p y R hR')
    · exact fun y x => congrArg (m ((c.tc : Thread nD τ).loc main_arg7)) (emb_1 m hok t y x ⟨_, hb⟩ rfl)
    · exact fun y x => congrArg (m ((c.tc : Thread nD τ).loc main_arg8)) (emb_2 m hok t y x ⟨_, hb⟩ rfl)
    · exact congrArg (m ((c.tc : Thread nD τ).loc main_arg9)) (emb_3 m hok t p R hR')
  · have hlt : j.val < t.val := by
      have : j.val ≠ t.val := fun e => hjt (Fin.ext e)
      omega
    have old : a (ix2 p q) = out (ix2 R q) := hI j R p q hlt (fun k hk' => by
      have h1 := mono_le P j k (by omega)
      have h2 := P.mono k (pt t) hk'
      omega) hR hH
    by_cases hl : live (lo m t) (hi m t) = 1#1
    · rw [if_pos hl]
      refine (step_out _ _ _ _ _ _ _ _ p q ?_ ?_).trans old
      · rw [elo, ehi]
        intro hm
        exact hjt ((P.once R).unique hH ⟨by omega, by omega⟩)
      · have hk0 : (⟨t.val - 1, by have := j.isLt; have := (pt t).isLt; have e : (pt t).val = t.val := rfl; omega⟩ : Fin 39).val + 1 = (pt t).val := by
          show t.val - 1 + 1 = t.val; omega
        have h1 := mono_le P j ⟨t.val - 1, by have := (pt t).isLt; have e : (pt t).val = t.val := rfl; omega⟩ (by show j.val ≤ t.val - 1; omega)
        have h2 := P.mono _ (pt t) hk0
        have h3 := P.first _ (pt t) hk0 (by omega)
        intro e
        exact h3 ((wd_eq (F := Ideal) (tbl m 4) t).symm.trans e)
    · rw [if_neg hl]; exact old

theorem tells (P : PartedAt m) (t : Fin grid0.N) (a : FVec Ideal S256x1024 .f32) (hI : Inv m out (t.val + 1) a) :
    Told m out t (truncf .bf16 a bitsLt_bf16_f32) := by
  intro hl R p q hR
  obtain ⟨i, hi, -⟩ := P.once R
  obtain ⟨r0, r1, r2⟩ := P.rows i
  have hp := p.isLt
  have hs : n (tbl m 0) i = n (tbl m 0) (pt t) := by
    obtain ⟨h1, h2⟩ := hi
    omega
  have hle : i.val < t.val + 1 := by
    by_contra hn
    have hlt : t.val + 1 < 39 := by have := i.isLt; omega
    have h1 := mono_le P ⟨t.val + 1, hlt⟩ i (by show t.val + 1 ≤ i.val; omega)
    have h2 := P.mono (pt t) ⟨t.val + 1, hlt⟩ rfl
    exact hl ⟨t.val + 1, hlt⟩ rfl (by omega)
  exact hI i R p q hle (fun k hk => by
    obtain rfl : k = pt t := Fin.ext (by show k.val = t.val; omega)
    exact hs.symm) (by rw [hs]; exact hR) hi

theorem kept (P : PartedAt m) (good : ∀ c, Good m c out) : Kept m hok (Inv m out) (Told m out) :=
  ⟨fun a j R p q hj => absurd hj (Nat.not_lt_zero _), fun c t a h => next m hok c out P (good c) t a h, fun t a h _ => tells m out P t a h⟩

end

end Cert.Proof.MoeRun

end
-- ==== Proof.MoeCall.lean ====
/-
  The call that runs each row through its expert: each tile is written back after its last step, so the array ends as the
  reference's; and the claims about the call.
-/
module

public import proofs.«01_k».proof.Proof.MoeKeep

@[expose] public section

set_option maxRecDepth 16384

noncomputable section

open Idealize.ShloMosaic Idealize.ShloMosaic.StableHlo Idealize.ShloMosaic.TcCoe Idealize.SL.Sem
open Idealize.ShloMosaic.Pipeline (Dat RDat Cfg Window)

namespace Cert.Proof.MoeRun

open Cert.MoeIdeal Cert.MoeIdeal.Gen Cert.Proof.MoePre

section
variable (m : (ℓ : Loc nD τ sig) → Buf (Elt Ideal) ℓ) (ρ : Dev nD → PrngReg) (hok : ok0 (tbl m)) (c : Dev nD)

theorem index_4 (t : Fin grid0.N) : ((cfg0 (adm m hok)).win 4).index t = ![(wd (F := Ideal) (tbl m 0) (grid0.coords t)).toNat, 0] := rfl

/-- A write-back comes after a tile's last step, -/
theorem last_of_flush (P : PartedAt m) (t : Fin grid0.N) (h : ((cfg0 (adm m hok)).win 4).flush t = true) :
    ∀ j : Fin 39, t.val + 1 = j.val → n (tbl m 0) j ≠ n (tbl m 0) (pt t) := by
  intro j hj e
  unfold Window.flush at h
  rw [Bool.and_eq_true, Bool.or_eq_true, decide_eq_true_eq, decide_eq_true_eq] at h
  rcases h.2 with h | ⟨h', h⟩
  · have : t.val + 1 = 39 := h.trans N39
    have := j.isLt
    omega
  · apply h
    rw [index_4, index_4]
    have h1 := (tile_nat m P t).2
    have h2 := (tile_nat m P ⟨t.val + 1, h'⟩).2
    have hj' : pt ⟨t.val + 1, h'⟩ = j := Fin.ext hj
    rw [hj'] at h2
    have : (wd (F := Ideal) (tbl m 0) (grid0.coords ⟨t.val + 1, h'⟩)).toNat = (wd (F := Ideal) (tbl m 0) (grid0.coords t)).toNat := by omega
    exact congrArg (fun k : ℕ => (![k, 0] : Fin 2 → ℕ)) this

/-- and after each. -/
theorem flush_of_last (P : PartedAt m) (t : Fin grid0.N) (h : ∀ j : Fin 39, t.val + 1 = j.val → n (tbl m 0) j ≠ n (tbl m 0) (pt t)) :
    ((cfg0 (adm m hok)).win 4).flush t = true := by
  unfold Window.flush
  rw [Bool.and_eq_true, Bool.or_eq_true, decide_eq_true_eq, decide_eq_true_eq]
  refine ⟨rfl, ?_⟩
  by_cases h' : t.val + 1 < grid0.N
  · right
    refine ⟨h', fun e => ?_⟩
    rw [index_4, index_4] at e
    have e0 : (wd (F := Ideal) (tbl m 0) (grid0.coords ⟨t.val + 1, h'⟩)).toNat = (wd (F := Ideal) (tbl m 0) (grid0.coords t)).toNat := congrFun e 0
    have h1 := (tile_nat m P t).2
    have h2 := (tile_nat m P ⟨t.val + 1, h'⟩).2
    exact h (pt ⟨t.val + 1, h'⟩) rfl (by omega)
  · left
    have := t.isLt
    show t.val + 1 = grid0.N
    omega

/-- Each row's tile has a last step. -/
theorem last_step {dt de lo hi df dl : T} (P : Parted dt de lo hi df dl) (i : Fin 39) :
    ∃ j : Fin 39, n dt j = n dt i ∧ ∀ k : Fin 39, j.val + 1 = k.val → n dt k ≠ n dt j := by
  obtain ⟨d, hd⟩ : ∃ d, i.val + d = 38 := ⟨38 - i.val, by have := i.isLt; omega⟩
  induction d generalizing i with
  | zero => exact ⟨i, rfl, fun k hk => absurd k.isLt (by omega)⟩
  | succ d ih =>
    by_cases h : n dt ⟨i.val + 1, by omega⟩ = n dt i
    · obtain ⟨j, h1, h2⟩ := ih ⟨i.val + 1, by omega⟩ (by show i.val + 1 + d = 38; omega)
      exact ⟨j, h1.trans h, h2⟩
    · refine ⟨i, rfl, fun k hk e => h ?_⟩
      have hk' : (⟨i.val + 1, by omega⟩ : Fin 39) = k := Fin.ext hk
      rw [hk']; exact e

variable (out : FVec Ideal S8192x1024 .f32)

/-- The tiles written back fill the array. -/
theorem cover (P : PartedAt m) (i : S8192x1024.Idx) : ∃ t : Fin grid0.N, ((cfg0 (adm m hok)).win 4).flush t = true
    ∧ i ∈ (((cfg0 (adm m hok)).win 4).blk t).view.set := by
  have h0 : (i 0).val < 8192 := (i 0).isLt
  have h1 : (i 1).val < 1024 := (i 1).isLt
  obtain ⟨s, hs, -⟩ := P.once ⟨(i 0).val, h0⟩
  obtain ⟨r0, r1, r2⟩ := P.rows s
  obtain ⟨j, hj, hl⟩ := last_step P s
  let t : Fin grid0.N := ⟨j.val, by rw [N39]; exact j.isLt⟩
  have hpt : pt t = j := rfl
  refine ⟨t, flush_of_last m hok P t (by rw [hpt]; exact hl), ?_⟩
  have hn := (tile_nat m P t).2
  rw [hpt, hj] at hn
  obtain ⟨g1, g2⟩ := hs
  change n (tbl m 0) s * 256 + n (tbl m 2) s ≤ ((i 0).val : ℤ) at g1
  change ((i 0).val : ℤ) < n (tbl m 0) s * 256 + n (tbl m 3) s at g2
  have hi := emb_4 m hok t ⟨(i 0).val - (wd (F := Ideal) (tbl m 0) (grid0.coords t)).toNat * 256, by omega⟩ ⟨(i 1).val, h1⟩ ⟨(i 0).val, h0⟩
    (by show (i 0).val = (wd (F := Ideal) (tbl m 0) (grid0.coords t)).toNat * 256 + ((i 0).val - (wd (F := Ideal) (tbl m 0) (grid0.coords t)).toNat * 256); omega)
  have e : i = ix2 ⟨(i 0).val, h0⟩ ⟨(i 1).val, h1⟩ := funext fun x => by match x with | ⟨0, _⟩ => rfl | ⟨1, _⟩ => rfl
  rw [e, ← hi]
  exact View.emb_mem_set _ _

/-- The array ends as the one whose rows the tiles are of. -/
theorem ends (P : PartedAt m) (r : PUnit × MemSt nD τ sig (Elt Ideal))
    (h : RDat.FramePost (cfg0 (adm m hok)) (rd m hok (Inv m out) (Told m out)) (V m) r) :
    r.2.mem ((c.tc : Thread nD τ).loc main_v0) = truncf .bf16 out bitsLt_bf16_f32 := by
  obtain ⟨after, hL, hA⟩ := RDat.FramePost.exists_exact h c
  refine (hA 4).trans ?_
  refine Dat.arrAt_eq_of_cover _ 4 _ (fun t hf => ?_) (cover m hok P)
  have hlast := last_of_flush m hok P t hf
  have hd : k0_cond2 (dl m t) = 1#1 := cond_of _ ((wd_eq (F := Ideal) (tbl m 5) t).trans (P.last (pt t) hlast))
  have told : Told m out t (after 4 t) := Dat.toRRel_leaves (dat m hok (Inv m out) c) (w := 4) rfl (hL 4 t hf) hd
  show ((cfg0 (adm m hok)).win 4).cut (grid0.coords t) (after 4 t) = _
  refine funext fun j : S256x1024.Idx => ?_
  obtain ⟨a, b, rfl⟩ : ∃ (a : Fin 256) (b : Fin 1024), j = ix2 a b := ⟨j 0, j 1, funext fun x => by match x with | ⟨0, _⟩ => rfl | ⟨1, _⟩ => rfl⟩
  obtain ⟨h1, h2⟩ := tile_nat m P t
  have hR : (wd (F := Ideal) (tbl m 0) (grid0.coords t)).toNat * 256 + a.val < 8192 := by omega
  refine (told hlast ⟨_, hR⟩ a b (by show ((_ * 256 + a.val : ℕ) : ℤ) = _; push_cast; omega)).trans ?_
  exact (congrArg out (emb_4 m hok t a b ⟨_, hR⟩ rfl)).symm

end

/-! ## The claims -/

/-- The call as printed and its twin over extended reals have one table of bodies, -/
theorem bodies {F : FTy → Type} [FloatOps F] : Cert.Moe.defs₀ (F := F) = Cert.MoeIdeal.defs₀ (F := F) :=
  congrArg Defs.onTc (funext fun l => match l with | 0 => funext fun a => match a with | (t, s) => rfl)

/-- and so one table with the pipeline's. -/
theorem tables_eq {F : FTy → Type} [FloatOps F] : Cert.Moe.defs (F := F) = Cert.MoeIdeal.defs (F := F) :=
  congrArg (Pipeline.defs (Cert.MoeIdeal.pcfgs (F := F))) bodies

set_option maxRecDepth 8192 in
theorem frame_words : Cert.quiescent_Moe := fun m ρ hp => by
  rw [tables_eq]
  exact quiet (F := Bits) m ρ (ok_of m (in_range _ _ _ _ _ _ _ _ _ _ (hp 0)))

theorem frame_ideal : Cert.quiescent_MoeIdeal := fun m ρ hp =>
  quiet (F := Ideal) m ρ (ok_of m (in_range _ _ _ _ _ _ _ _ _ _ (hp 0)))

theorem frame_parted : Cert.quiescent_MoeIdeal_pre_moe_partition := fun m ρ hp =>
  quiet (F := Ideal) m ρ (ok_of m (parted _ _ _ _ _ _ _ _ _ _ (hp 0)).range)

theorem frame_ref : Cert.quiescent_MoeReferenceIdeal := fun m ρ _ =>
  (θ_run Cert.MoeReferenceIdeal.defs _ _).mono
    (fun r h => ⟨fun c => (h c).2, Idealize.ShloMosaic.sem_eq_zero_of_no_sems (by decide) r.2⟩)
    (Cert.MoeReferenceIdeal.Value.run m ρ)

theorem frame_ref_parted : Cert.quiescent_MoeReferenceIdeal_pre_moe_partition := fun m ρ _ => frame_ref m ρ trivial

/-- What the reference computes of a core's arguments. -/
def refOut (m' : (ℓ : Loc Cert.MoeReferenceIdeal.nD Cert.MoeReferenceIdeal.τ Cert.MoeReferenceIdeal.sig) → Buf (Elt Ideal) ℓ)
    (c : Dev Cert.MoeReferenceIdeal.nD) : FVec Ideal S8192x1024 .f32 :=
  Cert.MoeReferenceIdeal.Value.res_main_v156 (launchContents m' c)

/-- Kernel and reference end with equal results. -/
theorem alg : Cert.algebraic_MoeIdeal_MoeReferenceIdeal_pre_moe_partition := fun m g m' g' hp hargs => by
  have P : PartedAt m := parted _ _ _ _ _ _ _ _ _ _ (hp 0)
  have good : ∀ c, Good m c (refOut m' 0) := fun c R q i e hi he => by
    obtain rfl : c = 0 := Subsingleton.elim _ _
    obtain ⟨e0, e1, e2, e3, e4, e5, e6, e7, e8, e9⟩ := hargs 0
    have P' : Parted (a0 (launchContents m' 0)) (a1 (launchContents m' 0)) (a2 (launchContents m' 0)) (a3 (launchContents m' 0))
        (a4 (launchContents m' 0)) (a5 (launchContents m' 0)) := by
      have := P
      unfold PartedAt at this
      unfold a0 a1 a2 a3 a4 a5 launchContents
      rw [e0, e1, e2, e3, e4, e5]
      exact this
    have hi' : Has (a0 (launchContents m' 0)) (a2 (launchContents m' 0)) (a3 (launchContents m' 0)) R i := by
      unfold a0 a2 a3 launchContents
      rw [e0, e2, e3]
      exact hi
    have he' : n (a1 (launchContents m' 0)) i = e.val := by
      unfold a1 launchContents
      rw [e1]
      exact he
    refine (ref_in (launchContents m' 0) P' R q i hi' e he').trans ?_
    unfold launchContents
    rw [e6, e7, e8, e9]
  have hok : ok0 (tbl m) := ok_of m P.range
  refine ⟨fun c => truncf .bf16 (refOut m' 0) bitsLt_bf16_f32,
    (θ_run Cert.MoeIdeal.defs _ _).mono (fun r h c => ⟨ends m hok c (refOut m' 0) P r h.1, kept_of m hok r h.1 c⟩)
      (run_ends m g hok (kept m hok (refOut m' 0) P good)),
    (θ_run Cert.MoeReferenceIdeal.defs _ _).mono (fun r h c => ⟨(h c).1.trans ?_, (h c).2⟩) (Cert.MoeReferenceIdeal.Value.run m' g')⟩
  obtain rfl : c = 0 := Subsingleton.elim _ _
  rfl

end Cert.Proof.MoeRun

end
-- ==== Proof.QkvRun.lean ====
/-
  The call that projects rows to queries, keys and values, run over any float values. A row block is met at three points in
  turn, one per third of the weights; each point stores one of the three results and the last writes all three back, so the
  two stored earlier must be shown to lie untouched in their buffers until then.
-/
module

public import proofs.«01_k».proof.Proof.Gen.QkvIdeal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.QkvRun

open Cert.QkvIdeal Cert.QkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rx : Rect S256x1024 := Rect.unit (s := S256x1024) ![0, 0] S256x1024.size inb_S256x1024_S256x1024_0_0
abbrev rw' : Rect S1024x1024 := Rect.unit (s := S1024x1024) ![0, 0] S1024x1024.size inb_S1024x1024_S1024x1024_0_0
abbrev ry : Rect S16x256x64 := Rect.unit (s := S16x256x64) ![0, 0, 0] S16x256x64.size inb_S16x256x64_S16x256x64_0_0_0

/-- The product of a block of rows and a third of the weights, its columns split among the heads. -/
def heads (x : Vec F S256x1024 .bf16) (w : Vec F S1024x1024 .bf16) : FVec F S16x256x64 .bf16 :=
  transpose S16x256x64 [1, 0, 2]
    (shapeCast S256x16x64
      (truncf .bf16 (matmul dot_S256x1024_S1024x1024_S256x1024_1_0_0_1_n_n none x w (constant S256x1024 .f32 0x00000000#32)) bitsLt_bf16_f32)
      shapeCasts_S256x1024_S256x16x64)
    transposes_S256x16x64_p1_0_2_S16x256x64

/-- What a point leaves in the buffer it stores to. -/
def out (x : Vec F S256x1024 .bf16) (w : Vec F S1024x1024 .bf16) : Vec F S16x256x64 .bf16 :=
  View.canon [⟨ry, heads (View.ld x rx) (View.ld w rw')⟩]

theorem cover_ry (p : Vec F S16x256x64 .bf16) (y : S16x256x64.Idx) :
    ∃ pc ∈ ([⟨ry, p⟩] : List (View.Piece (Elt F) S16x256x64 .bf16)), y ∈ pc.1.set :=
  View.cover_of_tiled [⟨ry, p⟩] S16x256x64.size (by rfl) y

set_option maxHeartbeats 1000000 in
/-- The body at a point that stores the queries: the other two buffers are not touched. -/
theorem body_q (c : Dev nD) (E : Set ℕ) (i : grid0.Coords) (h1 : k0_cond1 i = 1#1) (h2 : ¬ k0_cond2 i = 1#1) (h3 : ¬ k0_cond3 i = 1#1)
    (arg2 : Memref sig .tc .vmem S256x1024 .bf16) (harg2 : arg2.IsWhole) (arg3 : Memref sig .tc .vmem S1024x1024 .bf16) (harg3 : arg3.IsWhole)
    (arg4 : Memref sig .tc .vmem S16x256x64 .bf16) (harg4 : arg4.IsWhole) (arg5 : Memref sig .tc .vmem S16x256x64 .bf16) (harg5 : arg5.IsWhole)
    (arg6 : Memref sig .tc .vmem S16x256x64 .bf16) (harg6 : arg6.IsWhole)
    (x : Vec F S256x1024 .bf16) (w : Vec F S1024x1024 .bf16) (K : PUnit → sProp 𝕄) :
    iprop(owns (c : Thread nD τ) arg2 fullShare x ∗ owns (c : Thread nD τ) arg3 fullShare w ∗ (∃ d, owns (c : Thread nD τ) arg4 fullShare d)
        ∗ (iprop(owns (c : Thread nD τ) arg2 fullShare x ∗ owns (c : Thread nD τ) arg3 fullShare w ∗ owns (c : Thread nD τ) arg4 fullShare (out x w)) -∗ K ⟨⟩))
      ⊢ wp frame (wpE (defs₀ (F := F)) Variants.none c none) E (cc0__qkv_body i arg2 harg2 arg3 harg3 arg4 harg4 arg5 harg5 arg6 harg6) K := by
  unfold cc0__qkv_body
  simp only [dif_pos h1, dif_neg h2, dif_neg h3]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_ry _)

set_option maxHeartbeats 1000000 in
/-- The body at a point that stores the keys: the other two buffers are not touched. -/
theorem body_k (c : Dev nD) (E : Set ℕ) (i : grid0.Coords) (h1 : ¬ k0_cond1 i = 1#1) (h2 : k0_cond2 i = 1#1) (h3 : ¬ k0_cond3 i = 1#1)
    (arg2 : Memref sig .tc .vmem S256x1024 .bf16) (harg2 : arg2.IsWhole) (arg3 : Memref sig .tc .vmem S1024x1024 .bf16) (harg3 : arg3.IsWhole)
    (arg4 : Memref sig .tc .vmem S16x256x64 .bf16) (harg4 : arg4.IsWhole) (arg5 : Memref sig .tc .vmem S16x256x64 .bf16) (harg5 : arg5.IsWhole)
    (arg6 : Memref sig .tc .vmem S16x256x64 .bf16) (harg6 : arg6.IsWhole)
    (x : Vec F S256x1024 .bf16) (w : Vec F S1024x1024 .bf16) (K : PUnit → sProp 𝕄) :
    iprop(owns (c : Thread nD τ) arg2 fullShare x ∗ owns (c : Thread nD τ) arg3 fullShare w ∗ (∃ d, owns (c : Thread nD τ) arg5 fullShare d)
        ∗ (iprop(owns (c : Thread nD τ) arg2 fullShare x ∗ owns (c : Thread nD τ) arg3 fullShare w ∗ owns (c : Thread nD τ) arg5 fullShare (out x w)) -∗ K ⟨⟩))
      ⊢ wp frame (wpE (defs₀ (F := F)) Variants.none c none) E (cc0__qkv_body i arg2 harg2 arg3 harg3 arg4 harg4 arg5 harg5 arg6 harg6) K := by
  unfold cc0__qkv_body
  simp only [dif_neg h1, dif_pos h2, dif_neg h3]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_ry _)

set_option maxHeartbeats 1000000 in
/-- The body at a point that stores the values: the other two buffers are not touched. -/
theorem body_v (c : Dev nD) (E : Set ℕ) (i : grid0.Coords) (h1 : ¬ k0_cond1 i = 1#1) (h2 : ¬ k0_cond2 i = 1#1) (h3 : k0_cond3 i = 1#1)
    (arg2 : Memref sig .tc .vmem S256x1024 .bf16) (harg2 : arg2.IsWhole) (arg3 : Memref sig .tc .vmem S1024x1024 .bf16) (harg3 : arg3.IsWhole)
    (arg4 : Memref sig .tc .vmem S16x256x64 .bf16) (harg4 : arg4.IsWhole) (arg5 : Memref sig .tc .vmem S16x256x64 .bf16) (harg5 : arg5.IsWhole)
    (arg6 : Memref sig .tc .vmem S16x256x64 .bf16) (harg6 : arg6.IsWhole)
    (x : Vec F S256x1024 .bf16) (w : Vec F S1024x1024 .bf16) (K : PUnit → sProp 𝕄) :
    iprop(owns (c : Thread nD τ) arg2 fullShare x ∗ owns (c : Thread nD τ) arg3 fullShare w ∗ (∃ d, owns (c : Thread nD τ) arg6 fullShare d)
        ∗ (iprop(owns (c : Thread nD τ) arg2 fullShare x ∗ owns (c : Thread nD τ) arg3 fullShare w ∗ owns (c : Thread nD τ) arg6 fullShare (out x w)) -∗ K ⟨⟩))
      ⊢ wp frame (wpE (defs₀ (F := F)) Variants.none c none) E (cc0__qkv_body i arg2 harg2 arg3 harg3 arg4 harg4 arg5 harg5 arg6 harg6) K := by
  unfold cc0__qkv_body
  simp only [dif_neg h1, dif_neg h2, dif_pos h3]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_ry _)

/-! ## What each buffer holds, point by point -/

theorem N48 : cfg0.N = 48 := (by decide +kernel : grid0.N = 48)

/-- The points of `t`'s row block: the first, the second. -/
def fst (t : Fin cfg0.N) : Fin cfg0.N := ⟨t.val - t.val % 3, by have := t.isLt; omega⟩
def snd (t : Fin cfg0.N) : Fin cfg0.N := ⟨t.val - t.val % 3 + 1, by have := t.isLt; have := N48; omega⟩

/-- Which of the three each point stores. -/
theorem conds : ∀ t : Fin cfg0.N, (k0_cond1 (grid0.coords t) = 1#1 ↔ t.val % 3 = 0) ∧ (k0_cond2 (grid0.coords t) = 1#1 ↔ t.val % 3 = 1)
    ∧ (k0_cond3 (grid0.coords t) = 1#1 ↔ t.val % 3 = 2) :=
  (by decide +kernel : ∀ t : Fin grid0.N, (k0_cond1 (grid0.coords t) = 1#1 ↔ t.val % 3 = 0) ∧ (k0_cond2 (grid0.coords t) = 1#1 ↔ t.val % 3 = 1)
    ∧ (k0_cond3 (grid0.coords t) = 1#1 ↔ t.val % 3 = 2))

/-- The three results of a row block, each from the point that stores it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 (fst t)) (iblk m c 1 (fst t))
    | ⟨3, _⟩ => out (iblk m c 0 (snd t)) (iblk m c 1 (snd t))
    | ⟨4, _⟩ => out (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_q (c : Dev nD) (t : Fin cfg0.N) : (dats m 0 c).after 2 t = out (iblk m c 0 (fst t)) (iblk m c 1 (fst t)) := by dsimp only [dats]
theorem after_k (c : Dev nD) (t : Fin cfg0.N) : (dats m 0 c).after 3 t = out (iblk m c 0 (snd t)) (iblk m c 1 (snd t)) := by dsimp only [dats]
theorem after_v (c : Dev nD) (t : Fin cfg0.N) : (dats m 0 c).after 4 t = out (iblk m c 0 t) (iblk m c 1 t) := by dsimp only [dats]

theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- Where a window is left alone. -/
theorem idle_q (t : Fin cfg0.N) : cfg0.idle 2 (grid0.coords t) = !decide (t.val % 3 = 0) := by
  show (!(k0_cond1 (grid0.coords t) == 1#1)) = _
  rw [Bool.not_inj_iff, Bool.eq_iff_iff, beq_iff_eq, decide_eq_true_iff]; exact (conds t).1
theorem idle_k (t : Fin cfg0.N) : cfg0.idle 3 (grid0.coords t) = !decide (t.val % 3 = 1) := by
  show (!(k0_cond2 (grid0.coords t) == 1#1)) = _
  rw [Bool.not_inj_iff, Bool.eq_iff_iff, beq_iff_eq, decide_eq_true_iff]; exact (conds t).2.1
theorem idle_v (t : Fin cfg0.N) : cfg0.idle 4 (grid0.coords t) = !decide (t.val % 3 = 2) := by
  show (!(k0_cond3 (grid0.coords t) == 1#1)) = _
  rw [Bool.not_inj_iff, Bool.eq_iff_iff, beq_iff_eq, decide_eq_true_iff]; exact (conds t).2.2

theorem flush_q (t : Fin cfg0.N) : (cfg0.win 2).flush t = decide (t.val % 3 = 2) := by
  rw [Bool.eq_iff_iff, decide_eq_true_iff]; exact flush0_2 t
theorem flush_k (t : Fin cfg0.N) : (cfg0.win 3).flush t = decide (t.val % 3 = 2) := by
  rw [Bool.eq_iff_iff, decide_eq_true_iff]; exact flush0_3 t
theorem flush_v (t : Fin cfg0.N) : (cfg0.win 4).flush t = decide (t.val % 3 = 2) := by
  rw [Bool.eq_iff_iff, decide_eq_true_iff]; exact flush0_4 t

/-- The keys stored one point earlier are in the buffer still. -/
theorem before_k (c : Dev nD) (t : Fin cfg0.N) (h : t.val % 3 = 2) (d) : (dats m 0 c).before 3 t d = (dats m 0 c).after 3 t := by
  have h0 : t.val ≠ 0 := by omega
  rw [(dats m 0 c).before_of_pos 3 t h0 ((cfg0.win 3).fetch_out rfl t), flush_k,
    if_neg (by rw [decide_eq_true_iff]; show ¬ (t.val - 1) % 3 = 2; omega)]
  unfold Dat.left
  have hi : cfg0.idle 3 (cfg0.grid.coords ⟨t.val - 1, Nat.lt_of_le_of_lt (Nat.sub_le _ _) t.isLt⟩) = false := by
    refine (idle_k _).trans ?_
    rw [Bool.not_eq_false', decide_eq_true_iff]; show (t.val - 1) % 3 = 1; omega
  rw [hi]
  show (dats m 0 c).after 3 _ = _
  rw [after_k, after_k, show snd ⟨t.val - 1, Nat.lt_of_le_of_lt (Nat.sub_le _ _) t.isLt⟩ = snd t from Fin.ext (by show t.val - 1 - (t.val - 1) % 3 + 1 = t.val - t.val % 3 + 1; omega)]

/-- The queries, one point on, -/
theorem before_q1 (c : Dev nD) (t : Fin cfg0.N) (h : t.val % 3 = 1) (d) : (dats m 0 c).before 2 t d = (dats m 0 c).after 2 t := by
  have h0 : t.val ≠ 0 := by omega
  rw [(dats m 0 c).before_of_pos 2 t h0 ((cfg0.win 2).fetch_out rfl t), flush_q,
    if_neg (by rw [decide_eq_true_iff]; show ¬ (t.val - 1) % 3 = 2; omega)]
  unfold Dat.left
  have hi : cfg0.idle 2 (cfg0.grid.coords ⟨t.val - 1, Nat.lt_of_le_of_lt (Nat.sub_le _ _) t.isLt⟩) = false := by
    refine (idle_q _).trans ?_
    rw [Bool.not_eq_false', decide_eq_true_iff]; show (t.val - 1) % 3 = 0; omega
  rw [hi]
  show (dats m 0 c).after 2 _ = _
  rw [after_q, after_q, show fst ⟨t.val - 1, Nat.lt_of_le_of_lt (Nat.sub_le _ _) t.isLt⟩ = fst t from Fin.ext (by show t.val - 1 - (t.val - 1) % 3 = t.val - t.val % 3; omega)]

/-- and two. -/
theorem before_q2 (c : Dev nD) (t : Fin cfg0.N) (h : t.val % 3 = 2) (d) : (dats m 0 c).before 2 t d = (dats m 0 c).after 2 t := by
  have h0 : t.val ≠ 0 := by omega
  rw [(dats m 0 c).before_of_pos 2 t h0 ((cfg0.win 2).fetch_out rfl t), flush_q,
    if_neg (by rw [decide_eq_true_iff]; show ¬ (t.val - 1) % 3 = 2; omega)]
  unfold Dat.left
  have hi : cfg0.idle 2 (cfg0.grid.coords ⟨t.val - 1, Nat.lt_of_le_of_lt (Nat.sub_le _ _) t.isLt⟩) = true := by
    refine (idle_q _).trans ?_
    rw [Bool.not_eq_true', decide_eq_false_iff_not]; show ¬ (t.val - 1) % 3 = 0; omega
  rw [hi]
  show (dats m 0 c).before 2 _ d = _
  rw [before_q1 m c _ (by show (t.val - 1) % 3 = 1; omega) d]
  rw [after_q, after_q, show fst ⟨t.val - 1, Nat.lt_of_le_of_lt (Nat.sub_le _ _) t.isLt⟩ = fst t from Fin.ext (by show t.val - 1 - (t.val - 1) % 3 = t.val - t.val % 3; omega)]

/-! ## What the body returns of a buffer, by case -/

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem leaves_written (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (dats m 0 c).leavesExact 2 t
    ∗ (dats m 0 c).leavesExact 3 t
    ∗ (dats m 0 c).leavesExact 4 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  obtain ⟨c1, c2, c3⟩ := conds t
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w]
  have hlt : t.val % 3 < 3 := Nat.mod_lt _ (by omega)
  rcases (by omega : t.val % 3 = 0 ∨ t.val % 3 = 1 ∨ t.val % 3 = 2) with h | h | h
  · rw [leaves_live m c 2 t ((idle_q t).trans (by rw [h]; rfl)),
      (dats m 0 c).leavesExact_idle 3 t ((idle_k t).trans (by rw [h]; rfl)) (by rw [flush_k, h]; rfl),
      (dats m 0 c).leavesExact_idle 4 t ((idle_v t).trans (by rw [h]; rfl)) (by rw [flush_v, h]; rfl),
      after_q, show fst t = t from Fin.ext (by show t.val - t.val % 3 = t.val; omega)]
    iintro ⟨HΦ, Ho, ⟨%d0, H0⟩, ⟨%d1, H1⟩, ⟨%d2, H2⟩, H3, H4⟩
    iapply (body_q c Set.univ (grid0.coords t) (c1.mpr h) (fun e => by have := c2.mp e; omega) (fun e => by have := c3.mp e; omega)
      _ _ _ _ _ _ _ _ _ _ (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    isplitl [H3]; · iexact H3
    iexact H4
  · rw [(dats m 0 c).leavesExact_idle 2 t ((idle_q t).trans (by rw [h]; rfl)) (by rw [flush_q, h]; rfl),
      leaves_live m c 3 t ((idle_k t).trans (by rw [h]; rfl)),
      (dats m 0 c).leavesExact_idle 4 t ((idle_v t).trans (by rw [h]; rfl)) (by rw [flush_v, h]; rfl),
      after_k, show snd t = t from Fin.ext (by show t.val - t.val % 3 + 1 = t.val; omega)]
    iintro ⟨HΦ, Ho, ⟨%d0, H0⟩, ⟨%d1, H1⟩, H2, ⟨%d3, H3⟩, H4⟩
    iapply (body_k c Set.univ (grid0.coords t) (fun e => by have := c1.mp e; omega) (c2.mpr h) (fun e => by have := c3.mp e; omega)
      _ _ _ _ _ _ _ _ _ _ (iblk m c 0 t) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iexact H4
  · rw [leaves_written m c 2 t ((idle_q t).trans (by rw [h]; rfl)) (by rw [flush_q, h]; rfl),
      leaves_written m c 3 t ((idle_k t).trans (by rw [h]; rfl)) (by rw [flush_k, h]; rfl),
      leaves_live m c 4 t ((idle_v t).trans (by rw [h]; rfl)), after_v]
    simp only [before_q2 m c t h, before_k m c t h]
    iintro ⟨HΦ, Ho, ⟨%d0, H0⟩, ⟨%d1, H1⟩, ⟨%d2, H2⟩, ⟨%d3, H3⟩, ⟨%d4, H4⟩⟩
    iapply (body_v c Set.univ (grid0.coords t) (fun e => by have := c1.mp e; omega) (fun e => by have := c2.mp e; omega) (c3.mpr h)
      _ _ _ _ _ _ _ _ _ _ (iblk m c 0 t) (iblk m c 1 t) _)
    isplitl [H0]; · iexact H0
    isplitl [H1]; · iexact H1
    isplitl [H4]; · iexists _; iexact H4
    iintro ⟨H0, H1, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row_at (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

/-! ## The run -/

set_option backward.isDefEq.respectTransparency.types false in
set_option maxHeartbeats 800000 in
/-- Every execution ends, each array as the points' write-backs leave it, every semaphore at zero. -/
theorem run_ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (run_ends m ρ))

/-- The arguments end as they were and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (args_kept m ρ) ((θ_run defs _ _).mono (fun _ h => h.2) (run_ends m ρ))

end Cert.Proof.QkvRun

end
-- ==== Proof.QkvCall.lean ====
/-
  The call that projects rows to queries, keys and values: each of its three results, block by block, is a third of the one
  product of the rows with the weights, split among the heads.
-/
module

public import proofs.«01_k».proof.Defs
public import proofs.«01_k».proof.Proof.QkvRun
public import proofs.«01_k».proof.Proof.Gen.QkvReferenceIdeal.Run
public import Idealize.ShloMosaic.Lib.Pointwise

@[expose] public section

noncomputable section

open Idealize.ShloMosaic Idealize.ShloMosaic.TcCoe Idealize.SL.Sem

namespace Cert.Proof.QkvCall

open Cert.QkvIdeal Cert.QkvIdeal.Gen Cert.Proof.QkvRun

variable (m : (ℓ : Loc nD τ sig) → Buf (Elt Ideal) ℓ) (ρ : Dev nD → PrngReg)

/-- What the reference computes from the columns from `off` on. -/
def ref (off : Nat) (hs : Cert.QkvReferenceIdeal.S4096x3072.Slices ![0, off] Cert.QkvReferenceIdeal.S4096x1024)
    (x : FVec Ideal S4096x1024 .bf16) (w : FVec Ideal S1024x3072 .bf16) : FVec Ideal S16x4096x64 .bf16 :=
  truncf .bf16 (transpose Cert.QkvReferenceIdeal.S16x4096x64 [1, 0, 2] (shapeCast _
    (extractStridedSlice Cert.QkvReferenceIdeal.S4096x1024 ![0, off]
      (Host.dotGeneral Cert.QkvReferenceIdeal.dot_S4096x1024_S1024x3072_S4096x3072_1_0_0_1_n_n none
        (extf .f32 x Cert.QkvReferenceIdeal.Gen.bitsLt_bf16_f32) (extf .f32 w Cert.QkvReferenceIdeal.Gen.bitsLt_bf16_f32)) hs)
    Cert.QkvReferenceIdeal.Gen.shapeCasts_S4096x1024_S4096x16x64) Cert.QkvReferenceIdeal.Gen.transposes_S4096x16x64_S16x4096x64_1_0_2)
    Cert.QkvReferenceIdeal.Gen.bitsLt_bf16_f32

theorem block (off : Nat) (hs : Cert.QkvReferenceIdeal.S4096x3072.Slices ![0, off] Cert.QkvReferenceIdeal.S4096x1024)
    (x : FVec Ideal S4096x1024 .bf16) (w : FVec Ideal S1024x3072 .bf16)
    (xb : FVec Ideal S256x1024 .bf16) (wb : FVec Ideal S1024x1024 .bf16) (r : Fin 256 → Fin 4096) (s : Fin 1024 → Fin 3072)
    (hsv : ∀ n, (s n).val = off + n.val)
    (ex : ∀ a k, xb (ix2 a k) = x (ix2 (r a) k)) (ew : ∀ k n, wb (ix2 k n) = w (ix2 k (s n))) (h : Fin 16) (a : Fin 256) (b : Fin 64) :
    heads xb wb (ix3 h a b) = ref off hs x w (ix3 h (r a) b) := by
  pointwise [heads, ref]
  simp only [ex, ew]
  exact Finset.sum_congr rfl fun k _ => congrArg (fun z => x (ix2 (r a) k) * w (ix2 k z)) (Fin.ext (hsv _))

theorem hz3 : (![0, 0, 0] : Fin 3 → Nat) = fun _ => 0 := funext fun a => by fin_cases a <;> rfl

theorem hz : (![0, 0] : Fin 2 → Nat) = fun _ => 0 := funext fun a => by fin_cases a <;> rfl

/-- Where the blocks lie, over the grid: rows move with the point's third part, columns of the weights within it. -/
theorem idx_facts : ∀ t : Fin cfg0.N, win0_0.index t (0 : Fin 2) = t.val / 3 ∧ win0_0.index t (1 : Fin 2) = 0
    ∧ win0_1.index t (0 : Fin 2) = 0 ∧ win0_1.index t (1 : Fin 2) = t.val % 3
    ∧ (win0_2.index t (0 : Fin 3) = 0 ∧ win0_2.index t (1 : Fin 3) = t.val / 3 ∧ win0_2.index t (2 : Fin 3) = 0)
    ∧ (win0_3.index t (0 : Fin 3) = 0 ∧ win0_3.index t (1 : Fin 3) = t.val / 3 ∧ win0_3.index t (2 : Fin 3) = 0)
    ∧ (win0_4.index t (0 : Fin 3) = 0 ∧ win0_4.index t (1 : Fin 3) = t.val / 3 ∧ win0_4.index t (2 : Fin 3) = 0) ∧ t.val < 48 :=
  (by decide +kernel : ∀ t : Fin grid0.N, _)

/-- Row `a` of point `t`'s block, and column `n` of its third of the weights. -/
def row (t : Fin cfg0.N) (a : Fin 256) : Fin 4096 := ⟨t.val / 3 * 256 + a.val, by have := t.isLt; have := N48; omega⟩
def col (t : Fin cfg0.N) (n : Fin 1024) : Fin 3072 := ⟨t.val % 3 * 1024 + n.val, by have := Nat.mod_lt t.val (show 0 < 3 by omega); omega⟩

theorem row_fst (t : Fin cfg0.N) (a : Fin 256) : row (fst t) a = row t a :=
  Fin.ext (by show (t.val - t.val % 3) / 3 * 256 + a.val = t.val / 3 * 256 + a.val; omega)

theorem row_snd (t : Fin cfg0.N) (a : Fin 256) : row (snd t) a = row t a :=
  Fin.ext (by show (t.val - t.val % 3 + 1) / 3 * 256 + a.val = t.val / 3 * 256 + a.val; omega)

theorem emb0 (t : Fin cfg0.N) (a : Fin 256) (k : Fin 1024) : ((cfg0.win 0).blk t).view.emb (ix2 a k) = ix2 (row t a) k := by
  obtain ⟨e0, e1, -⟩ := idx_facts t
  funext x; apply Fin.ext
  match x with
  | ⟨0, _⟩ => show win0_0.index t (0 : Fin 2) * 256 + 1 * a.val = t.val / 3 * 256 + a.val; omega
  | ⟨1, _⟩ => show win0_0.index t (1 : Fin 2) * 1024 + 1 * k.val = k.val; omega

theorem emb1 (t : Fin cfg0.N) (k n : Fin 1024) : ((cfg0.win 1).blk t).view.emb (ix2 k n) = ix2 k (col t n) := by
  obtain ⟨-, -, e0, e1, -⟩ := idx_facts t
  funext x; apply Fin.ext
  match x with
  | ⟨0, _⟩ => show win0_1.index t (0 : Fin 2) * 1024 + 1 * k.val = k.val; omega
  | ⟨1, _⟩ => show win0_1.index t (1 : Fin 2) * 1024 + 1 * n.val = t.val % 3 * 1024 + n.val; omega

/-- What a point stores is its rows of its third. -/
theorem stored (c : Dev nD) (t : Fin cfg0.N) (off : Nat) (ho : off = t.val % 3 * 1024)
    (hs : Cert.QkvReferenceIdeal.S4096x3072.Slices ![0, off] Cert.QkvReferenceIdeal.S4096x1024) (h : Fin 16) (a : Fin 256) (b : Fin 64) :
    out (iblk m c 0 t) (iblk m c 1 t) (ix3 h a b) = ref off hs (V m c main_arg0) (V m c main_arg1) (ix3 h (row t a) b) := by
  unfold out
  rw [View.canon_unit_zero hz3]
  simp only [View.ld_unit_zero (S := S256x1024) hz, View.ld_unit_zero (S := S1024x1024) hz]
  exact block off hs _ _ _ _ (row t) (col t) (fun n => by rw [ho]; rfl)
    (fun a k => congrArg (V m c main_arg0) (emb0 t a k)) (fun k n => congrArg (V m c main_arg1) (emb1 t k n)) h a b

/-! ## The queries -/

theorem emb_q (t : Fin cfg0.N) (h : Fin 16) (a : Fin 256) (b : Fin 64) : ((cfg0.win 2).blk t).view.emb (ix3 h a b) = ix3 h (row t a) b := by
  obtain ⟨e0, e1, e2⟩ := (idx_facts t).2.2.2.2.1
  funext x; apply Fin.ext
  match x with
  | ⟨0, _⟩ => show win0_2.index t (0 : Fin 3) * 16 + 1 * h.val = h.val; omega
  | ⟨1, _⟩ => show win0_2.index t (1 : Fin 3) * 256 + 1 * a.val = t.val / 3 * 256 + a.val; omega
  | ⟨2, _⟩ => show win0_2.index t (2 : Fin 3) * 64 + 1 * b.val = b.val; omega

theorem flushed_q (c : Dev nD) (t : Fin cfg0.N) (ht : t.val % 3 = 2) : (dats m 0 c).flushed 2 t
    = ((cfg0.win 2).blk t).view.read (Elt Ideal) (ref 0 Cert.QkvReferenceIdeal.Gen.slices_S4096x3072_S4096x1024_0_0 (V m c main_arg0) (V m c main_arg1)) := by
  show (cfg0.win 2).cut (grid0.coords t) ((dats m 0 c).after 2 t) = _
  rw [after_q]
  funext j
  obtain ⟨h, a, b, rfl⟩ : ∃ (h : Fin 16) (a : Fin 256) (b : Fin 64), j = ix3 h a b :=
    ⟨j 0, j 1, j 2, funext fun x => by match x with | ⟨0, _⟩ => rfl | ⟨1, _⟩ => rfl | ⟨2, _⟩ => rfl⟩
  refine (stored m c (fst t) 0 (by show 0 = (t.val - t.val % 3) % 3 * 1024; omega) Cert.QkvReferenceIdeal.Gen.slices_S4096x3072_S4096x1024_0_0 h a b).trans ?_
  rw [row_fst]; exact (congrArg (ref 0 Cert.QkvReferenceIdeal.Gen.slices_S4096x3072_S4096x1024_0_0 (V m c main_arg0) (V m c main_arg1)) (emb_q t h a b)).symm

theorem cover_q (i : S16x4096x64.Idx) : ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 64 := (i 2).isLt
  let t : Fin cfg0.N := ⟨(i 1).val / 256 * 3 + 2, by rw [N48]; omega⟩
  have hv : t.val = (i 1).val / 256 * 3 + 2 := rfl
  obtain ⟨e0, e1, e2⟩ := (idx_facts t).2.2.2.2.1
  refine ⟨t, (flush0_2 t).mpr (by omega), ?_⟩
  show i ∈ ((View.whole main_v0_0).slice (win0_2.rect t)).set
  rw [View.set_slice_whole, Rect.mem_set_unit]
  intro x
  match x with
  | ⟨0, _⟩ => show win0_2.index t (0 : Fin 3) * 16 ≤ (i 0).val ∧ (i 0).val < win0_2.index t (0 : Fin 3) * 16 + 16; omega
  | ⟨1, _⟩ => show win0_2.index t (1 : Fin 3) * 256 ≤ (i 1).val ∧ (i 1).val < win0_2.index t (1 : Fin 3) * 256 + 256; omega
  | ⟨2, _⟩ => show win0_2.index t (2 : Fin 3) * 64 ≤ (i 2).val ∧ (i 2).val < win0_2.index t (2 : Fin 3) * 64 + 64; omega

theorem final_q (c : Dev nD) : (dats m 0 c).arrAt 2 cfg0.N
    = ref 0 Cert.QkvReferenceIdeal.Gen.slices_S4096x3072_S4096x1024_0_0 (m ((c.tc : Thread nD τ).loc main_arg0)) (m ((c.tc : Thread nD τ).loc main_arg1)) :=
  (dats m 0 c).arrAt_eq_of_cover 2 _ (fun t hf => flushed_q m c t ((flush0_2 t).mp hf)) cover_q

/-! ## The keys -/

theorem emb_k (t : Fin cfg0.N) (h : Fin 16) (a : Fin 256) (b : Fin 64) : ((cfg0.win 3).blk t).view.emb (ix3 h a b) = ix3 h (row t a) b := by
  obtain ⟨e0, e1, e2⟩ := (idx_facts t).2.2.2.2.2.1
  funext x; apply Fin.ext
  match x with
  | ⟨0, _⟩ => show win0_3.index t (0 : Fin 3) * 16 + 1 * h.val = h.val; omega
  | ⟨1, _⟩ => show win0_3.index t (1 : Fin 3) * 256 + 1 * a.val = t.val / 3 * 256 + a.val; omega
  | ⟨2, _⟩ => show win0_3.index t (2 : Fin 3) * 64 + 1 * b.val = b.val; omega

theorem flushed_k (c : Dev nD) (t : Fin cfg0.N) (ht : t.val % 3 = 2) : (dats m 0 c).flushed 3 t
    = ((cfg0.win 3).blk t).view.read (Elt Ideal) (ref 1024 Cert.QkvReferenceIdeal.Gen.slices_S4096x3072_S4096x1024_0_1024 (V m c main_arg0) (V m c main_arg1)) := by
  show (cfg0.win 3).cut (grid0.coords t) ((dats m 0 c).after 3 t) = _
  rw [after_k]
  funext j
  obtain ⟨h, a, b, rfl⟩ : ∃ (h : Fin 16) (a : Fin 256) (b : Fin 64), j = ix3 h a b :=
    ⟨j 0, j 1, j 2, funext fun x => by match x with | ⟨0, _⟩ => rfl | ⟨1, _⟩ => rfl | ⟨2, _⟩ => rfl⟩
  refine (stored m c (snd t) 1024 (by show 1024 = (t.val - t.val % 3 + 1) % 3 * 1024; omega) Cert.QkvReferenceIdeal.Gen.slices_S4096x3072_S4096x1024_0_1024 h a b).trans ?_
  rw [row_snd]; exact (congrArg (ref 1024 Cert.QkvReferenceIdeal.Gen.slices_S4096x3072_S4096x1024_0_1024 (V m c main_arg0) (V m c main_arg1)) (emb_k t h a b)).symm

theorem cover_k (i : S16x4096x64.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 64 := (i 2).isLt
  let t : Fin cfg0.N := ⟨(i 1).val / 256 * 3 + 2, by rw [N48]; omega⟩
  have hv : t.val = (i 1).val / 256 * 3 + 2 := rfl
  obtain ⟨e0, e1, e2⟩ := (idx_facts t).2.2.2.2.2.1
  refine ⟨t, (flush0_3 t).mpr (by omega), ?_⟩
  show i ∈ ((View.whole main_v0_1).slice (win0_3.rect t)).set
  rw [View.set_slice_whole, Rect.mem_set_unit]
  intro x
  match x with
  | ⟨0, _⟩ => show win0_3.index t (0 : Fin 3) * 16 ≤ (i 0).val ∧ (i 0).val < win0_3.index t (0 : Fin 3) * 16 + 16; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

theorem final_k (c : Dev nD) : (dats m 0 c).arrAt 3 cfg0.N
    = ref 1024 Cert.QkvReferenceIdeal.Gen.slices_S4096x3072_S4096x1024_0_1024 (m ((c.tc : Thread nD τ).loc main_arg0)) (m ((c.tc : Thread nD τ).loc main_arg1)) :=
  (dats m 0 c).arrAt_eq_of_cover 3 _ (fun t hf => flushed_k m c t ((flush0_3 t).mp hf)) cover_k

/-! ## The values -/

theorem emb_v (t : Fin cfg0.N) (h : Fin 16) (a : Fin 256) (b : Fin 64) : ((cfg0.win 4).blk t).view.emb (ix3 h a b) = ix3 h (row t a) b := by
  obtain ⟨e0, e1, e2⟩ := (idx_facts t).2.2.2.2.2.2.1
  funext x; apply Fin.ext
  match x with
  | ⟨0, _⟩ => show win0_4.index t (0 : Fin 3) * 16 + 1 * h.val = h.val; omega
  | ⟨1, _⟩ => show win0_4.index t (1 : Fin 3) * 256 + 1 * a.val = t.val / 3 * 256 + a.val; omega
  | ⟨2, _⟩ => show win0_4.index t (2 : Fin 3) * 64 + 1 * b.val = b.val; omega

theorem flushed_v (c : Dev nD) (t : Fin cfg0.N) (ht : t.val % 3 = 2) : (dats m 0 c).flushed 4 t
    = ((cfg0.win 4).blk t).view.read (Elt Ideal) (ref 2048 Cert.QkvReferenceIdeal.Gen.slices_S4096x3072_S4096x1024_0_2048 (V m c main_arg0) (V m c main_arg1)) := by
  show (cfg0.win 4).cut (grid0.coords t) ((dats m 0 c).after 4 t) = _
  rw [after_v]
  funext j
  obtain ⟨h, a, b, rfl⟩ : ∃ (h : Fin 16) (a : Fin 256) (b : Fin 64), j = ix3 h a b :=
    ⟨j 0, j 1, j 2, funext fun x => by match x with | ⟨0, _⟩ => rfl | ⟨1, _⟩ => rfl | ⟨2, _⟩ => rfl⟩
  refine (stored m c t 2048 (by omega) Cert.QkvReferenceIdeal.Gen.slices_S4096x3072_S4096x1024_0_2048 h a b).trans ?_
  exact (congrArg (ref 2048 Cert.QkvReferenceIdeal.Gen.slices_S4096x3072_S4096x1024_0_2048 (V m c main_arg0) (V m c main_arg1)) (emb_v t h a b)).symm

theorem cover_v (i : S16x4096x64.Idx) : ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 64 := (i 2).isLt
  let t : Fin cfg0.N := ⟨(i 1).val / 256 * 3 + 2, by rw [N48]; omega⟩
  have hv : t.val = (i 1).val / 256 * 3 + 2 := rfl
  obtain ⟨e0, e1, e2⟩ := (idx_facts t).2.2.2.2.2.2.1
  refine ⟨t, (flush0_4 t).mpr (by omega), ?_⟩
  show i ∈ ((View.whole main_v0_2).slice (win0_4.rect t)).set
  rw [View.set_slice_whole, Rect.mem_set_unit]
  intro x
  match x with
  | ⟨0, _⟩ => show win0_4.index t (0 : Fin 3) * 16 ≤ (i 0).val ∧ (i 0).val < win0_4.index t (0 : Fin 3) * 16 + 16; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

theorem final_v (c : Dev nD) : (dats m 0 c).arrAt 4 cfg0.N
    = ref 2048 Cert.QkvReferenceIdeal.Gen.slices_S4096x3072_S4096x1024_0_2048 (m ((c.tc : Thread nD τ).loc main_arg0)) (m ((c.tc : Thread nD τ).loc main_arg1)) :=
  (dats m 0 c).arrAt_eq_of_cover 4 _ (fun t hf => flushed_v m c t ((flush0_4 t).mp hf)) cover_v

/-- Kernel and reference end with equal results. -/
theorem alg : Cert.algebraic_QkvIdeal_QkvReferenceIdeal := fun m g m' g' _ hargs =>
  ⟨fun c => (dats m 0 c).arrAt 2 cfg0.N, fun c => (dats m 0 c).arrAt 3 cfg0.N, fun c => (dats m 0 c).arrAt 4 cfg0.N,
    (θ_run Cert.QkvIdeal.defs _ _).mono
      (fun _ h c => ⟨(h.1 c).1 2, (h.1 c).1 3, (h.1 c).1 4,
        ((h.1 c).1 0).trans (((dats m 0 c).arrAt_in 0 rfl _).trans (A_eq m c 0)),
        ((h.1 c).1 1).trans (((dats m 0 c).arrAt_in 1 rfl _).trans (A_eq m c 1))⟩)
      (run_ends m g),
    (θ_run Cert.QkvReferenceIdeal.defs _ _).mono
      (fun _ h c => by
        obtain ⟨e0, e1⟩ := hargs c
        obtain ⟨hq, hk, hv, ha⟩ := h c
        rw [e0, e1] at hq hk hv
        exact ⟨hq.trans (final_q m c).symm, hk.trans (final_k m c).symm, hv.trans (final_v m c).symm, ha⟩)
      (Cert.QkvReferenceIdeal.Value.run m' g')⟩

end Cert.Proof.QkvCall

end
-- ==== Proof.AttnCall.lean ====
/-
  The attention call: for every half of the rows, head and quarter of that half, a block of 512 rows attends to the half's
  2048 keys; together the whole array's attention.
-/
module

public import proofs.«01_k».proof.Defs
public import proofs.«01_k».proof.Proof.Gen.Attn
public import proofs.«01_k».proof.Proof.Gen.AttnIdeal.Value
public import proofs.«01_k».proof.Proof.Gen.AttnReferenceIdeal.Run
public import Idealize.ShloMosaic.Lib.Pointwise

@[expose] public section

noncomputable section

open Idealize.ShloMosaic Idealize.ShloMosaic.TcCoe Idealize.SL.Sem

namespace Cert.Proof.AttnCall

open Cert.AttnIdeal Cert.AttnIdeal.Gen

variable (m : (ℓ : Loc nD τ sig) → Buf (Elt Ideal) ℓ) (ρ : Dev nD → PrngReg)

/-- Rows by head and half. -/
def four (x : FVec Ideal S16x4096x64 .bf16) : FVec Ideal Cert.AttnReferenceIdeal.S16x2x2048x64 .f32 :=
  shapeCast _ (extf .f32 x Cert.AttnReferenceIdeal.Gen.bitsLt_bf16_f32) Cert.AttnReferenceIdeal.Gen.shapeCasts_S16x4096x64_S16x2x2048x64

/-- The scaled scores. -/
def score (q k : FVec Ideal Cert.AttnReferenceIdeal.S16x2x2048x64 .f32) : FVec Ideal Cert.AttnReferenceIdeal.S16x2x2048x2048 .f32 :=
  Host.divf (Host.dotGeneral Cert.AttnReferenceIdeal.dot_S16x2x2048x64_S16x2x2048x64_S16x2x2048x2048_3_3_2_2_01_01 none q k)
    (broadcastInDim Cert.AttnReferenceIdeal.S16x2x2048x2048 ![] Cert.AttnReferenceIdeal.Gen.bcast_S_S16x2x2048x2048 (Host.sqrt (constant Cert.AttnReferenceIdeal.S_ .f32 0x42800000#32)))

/-- One number per row, over the row. -/
def over (x : FVec Ideal Cert.AttnReferenceIdeal.S16x2x2048 .f32) : FVec Ideal Cert.AttnReferenceIdeal.S16x2x2048x2048 .f32 :=
  broadcastInDim Cert.AttnReferenceIdeal.S16x2x2048x2048 ![0, 1, 2, 3] Cert.AttnReferenceIdeal.Gen.bcast_S16x2x2048x1_S16x2x2048x2048_0_1_2_3
    (broadcastInDim Cert.AttnReferenceIdeal.S16x2x2048x1 ![0, 1, 2] Cert.AttnReferenceIdeal.Gen.bcast_S16x2x2048_S16x2x2048x1_0_1_2 x)

/-- The exponentials of the scores less a number per row. -/
def less (s : FVec Ideal Cert.AttnReferenceIdeal.S16x2x2048x2048 .f32) (x : FVec Ideal Cert.AttnReferenceIdeal.S16x2x2048 .f32) : FVec Ideal Cert.AttnReferenceIdeal.S16x2x2048x2048 .f32 :=
  Host.exp (subf s (over x))

/-- The exponentials of the scores less their row's greatest. -/
def expo (s : FVec Ideal Cert.AttnReferenceIdeal.S16x2x2048x2048 .f32) : FVec Ideal Cert.AttnReferenceIdeal.S16x2x2048x2048 .f32 :=
  less s (maximumf (broadcastInDim Cert.AttnReferenceIdeal.S16x2x2048 ![] Cert.AttnReferenceIdeal.Gen.bcast_S_S16x2x2048 (constant Cert.AttnReferenceIdeal.S_ .f32 0xFF800000#32))
    (Host.reduce FloatOps.maximumf s (constant Cert.AttnReferenceIdeal.S_ .f32 0xFF800000#32) Cert.AttnReferenceIdeal.Gen.reducesTo_S16x2x2048x2048_S16x2x2048_d3 Cert.AttnReferenceIdeal.Gen.h_S_))

/-- The weights: each exponential over its row's sum. -/
def weight (e : FVec Ideal Cert.AttnReferenceIdeal.S16x2x2048x2048 .f32) : FVec Ideal Cert.AttnReferenceIdeal.S16x2x2048x2048 .f32 :=
  Host.divf e (over (Host.reduceAdd e (constant Cert.AttnReferenceIdeal.S_ .f32 0x00000000#32) Cert.AttnReferenceIdeal.Gen.reducesTo_S16x2x2048x2048_S16x2x2048_d3 Cert.AttnReferenceIdeal.Gen.h_S_))

/-- The weighted sums of the values. -/
def mix (w : FVec Ideal Cert.AttnReferenceIdeal.S16x2x2048x2048 .f32) (v : FVec Ideal Cert.AttnReferenceIdeal.S16x2x2048x64 .f32) : FVec Ideal Cert.AttnReferenceIdeal.S16x2x2048x64 .f32 :=
  Host.dotGeneral Cert.AttnReferenceIdeal.dot_S16x2x2048x2048_S16x2x2048x64_S16x2x2048x64_3_2_2_3_01_01 none w v

/-- What the reference computes. -/
def ref (q k v : FVec Ideal S16x4096x64 .bf16) : FVec Ideal S16x4096x64 .f32 :=
  shapeCast _ (mix (weight (expo (score (four q) (four k)))) (four v)) Cert.AttnReferenceIdeal.Gen.shapeCasts_S16x2x2048x64_S16x4096x64

/-- The block's scores. -/
def bscore (q : FVec Ideal S1x512x64 .bf16) (k : FVec Ideal S1x2048x64 .bf16) : FVec Ideal S512x2048 .f32 :=
  mulf (matmul dot_S512x64_S2048x64_S512x2048_1_1_0_0_n_n none (shapeCast S512x64 q shapeCasts_S1x512x64_S512x64) (shapeCast S2048x64 k shapeCasts_S1x2048x64_S2048x64)
    (constant S512x2048 .f32 0x00000000#32)) (broadcast S512x2048 (Scalar.ofBits .f32 0x3E000000#32))

/-- The exponentials of the block's scores less a number per row. -/
def bless (s : FVec Ideal S512x2048 .f32) (x : FVec Ideal S512 .f32) : FVec Ideal S512x2048 .f32 :=
  exp (subf s (broadcastTo S512x2048 (shapeCast S512x1 x shapeCasts_S512_S512x1) broadcasts_S512x1_S512x2048))

/-- The block's exponentials. -/
def bexpo (s : FVec Ideal S512x2048 .f32) : FVec Ideal S512x2048 .f32 :=
  bless s (multiReduction .maximumf [1] S512 s 0xFF800000#32 reduces_S512x2048_S512 (.inl rfl) rfl)

/-- The block's weights. -/
def bweight (e : FVec Ideal S512x2048 .f32) : FVec Ideal S512x2048 .f32 :=
  divf e (broadcastTo S512x2048 (shapeCast S512x1 (multiReduction .add [1] S512 e 0x00000000#32 reduces_S512x2048_S512 (.inl rfl) rfl) shapeCasts_S512_S512x1) broadcasts_S512x1_S512x2048)

/-- The block's weighted sums. -/
def bmix (w : FVec Ideal S512x2048 .f32) (v : FVec Ideal S1x2048x64 .bf16) : FVec Ideal S1x512x64 .f32 :=
  shapeCast S1x512x64 (matmul dot_S512x2048_S2048x64_S512x64_1_0_0_1_n_n none (truncf .bf16 w bitsLt_bf16_f32) (shapeCast S2048x64 v shapeCasts_S1x2048x64_S2048x64)
    (constant S512x64 .f32 0x00000000#32)) shapeCasts_S512x64_S1x512x64

theorem pay_eq (q : FVec Ideal S1x512x64 .bf16) (k v : FVec Ideal S1x2048x64 .bf16) : k0_pay1 q k v = bmix (bweight (bexpo (bscore q k))) v := rfl

/-- Row `r` of half `B`. -/
def at' (B : Fin 2) (r : Fin 2048) : Fin 4096 := ⟨B.val * 2048 + r.val, by omega⟩

theorem bmax_at (s : FVec Ideal S512x2048 .f32) (a : Fin 512) : multiReduction .maximumf [1] S512 s 0xFF800000#32 reduces_S512x2048_S512 (.inl rfl) rfl (ix1 a)
    = Finset.fold max (Ideal.ofBits FTy.f32 0xFF800000#32) (fun x : Fin 2048 => s (ix2 a x)) Finset.univ := by
  pointwise

theorem rmax_at (s : FVec Ideal Cert.AttnReferenceIdeal.S16x2x2048x2048 .f32) (H : Fin 16) (B : Fin 2) (r : Fin 2048) :
    Host.reduce FloatOps.maximumf s (constant Cert.AttnReferenceIdeal.S_ .f32 0xFF800000#32) Cert.AttnReferenceIdeal.Gen.reducesTo_S16x2x2048x2048_S16x2x2048_d3 Cert.AttnReferenceIdeal.Gen.h_S_ (ix3 H B r)
    = Finset.fold max (Ideal.ofBits FTy.f32 0xFF800000#32) (fun x : Fin 2048 => s (ix4 H B r x)) Finset.univ := by
  pointwise

/-- The square root of 64 is 8, and an eighth of a number is the number over it. -/
theorem scale_eq (x : EReal) : x * Ideal.ofBits FTy.f32 0x3E000000#32 = Ideal.div x (Ideal.sqrt (Ideal.ofBits FTy.f32 0x42800000#32)) := by
  have h1 : Ideal.ofBits FTy.f32 0x3E000000#32 = (((1 : ℝ) / 8 : ℝ) : EReal) := by
    simp [Ideal.ofBits, Ideal.ieee, -EReal.coe_mul]; norm_num
  have h2 : Ideal.ofBits FTy.f32 0x42800000#32 = ((64 : ℝ) : EReal) := by
    simp [Ideal.ofBits, Ideal.ieee, -EReal.coe_mul]; norm_num
  have h3 : Real.sqrt 64 = 8 := by rw [show (64 : ℝ) = 8 ^ 2 by norm_num]; exact Real.sqrt_sq (by norm_num)
  have h4 : Ideal.sqrt ((64 : ℝ) : EReal) = ((8 : ℝ) : EReal) := by
    show (if (64 : ℝ) < 0 then (⊥ : EReal) else ((Real.sqrt 64 : ℝ) : EReal)) = _
    rw [if_neg (by norm_num), h3]
  have h5 : ((8 : ℝ) : EReal) ≠ 0 := by exact_mod_cast (by norm_num : (8 : ℝ) ≠ 0)
  rw [h1, h2, h4, Ideal.div, if_neg h5, ← EReal.coe_inv]
  norm_num

theorem four_at (x : FVec Ideal S16x4096x64 .bf16) (H : Fin 16) (B : Fin 2) (r : Fin 2048) (d : Fin 64) : four x (ix4 H B r d) = x (ix3 H (at' B r) d) := by
  pointwise [four]
  rfl

theorem score_at (qb : FVec Ideal S1x512x64 .bf16) (kb : FVec Ideal S1x2048x64 .bf16) (q k : FVec Ideal Cert.AttnReferenceIdeal.S16x2x2048x64 .f32)
    (H : Fin 16) (B : Fin 2) (r : Fin 512 → Fin 2048) (eq : ∀ a d, qb (ix3 0 a d) = q (ix4 H B (r a) d)) (ek : ∀ a d, kb (ix3 0 a d) = k (ix4 H B a d))
    (a : Fin 512) (b : Fin 2048) : bscore qb kb (ix2 a b) = score q k (ix4 H B (r a) b) := by
  pointwise [bscore, score]
  simp only [eq, ek]
  exact scale_eq _

theorem less_at (sb : FVec Ideal S512x2048 .f32) (s : FVec Ideal Cert.AttnReferenceIdeal.S16x2x2048x2048 .f32)
    (xb : FVec Ideal S512 .f32) (x : FVec Ideal Cert.AttnReferenceIdeal.S16x2x2048 .f32)
    (H : Fin 16) (B : Fin 2) (r : Fin 512 → Fin 2048) (es : ∀ a b, sb (ix2 a b) = s (ix4 H B (r a) b)) (ex : ∀ a, xb (ix1 a) = x (ix3 H B (r a)))
    (a : Fin 512) (b : Fin 2048) : bless sb xb (ix2 a b) = less s x (ix4 H B (r a) b) := by
  pointwise [bless, less, over]
  simp only [es, ex]

theorem peak_at (y : FVec Ideal Cert.AttnReferenceIdeal.S16x2x2048 .f32) (H : Fin 16) (B : Fin 2) (r : Fin 2048) :
    maximumf (broadcastInDim Cert.AttnReferenceIdeal.S16x2x2048 ![] Cert.AttnReferenceIdeal.Gen.bcast_S_S16x2x2048 (constant Cert.AttnReferenceIdeal.S_ .f32 0xFF800000#32)) y (ix3 H B r)
      = max (Ideal.ofBits FTy.f32 0xFF800000#32) (y (ix3 H B r)) := by
  pointwise

theorem fold_max_self {n : Nat} (b : EReal) (f : Fin n → EReal) : max b (Finset.fold max b f Finset.univ) = Finset.fold max b f Finset.univ :=
  max_eq_right ((Finset.le_fold_max _).2 (Or.inl le_rfl))

theorem expo_at (sb : FVec Ideal S512x2048 .f32) (s : FVec Ideal Cert.AttnReferenceIdeal.S16x2x2048x2048 .f32)
    (H : Fin 16) (B : Fin 2) (r : Fin 512 → Fin 2048) (es : ∀ a b, sb (ix2 a b) = s (ix4 H B (r a) b))
    (a : Fin 512) (b : Fin 2048) : bexpo sb (ix2 a b) = expo s (ix4 H B (r a) b) := by
  unfold bexpo expo
  refine less_at _ _ _ _ H B r es (fun a => ?_) a b
  rw [bmax_at, peak_at, rmax_at, fold_max_self]
  simp only [es]

theorem weight_at (sb : FVec Ideal S512x2048 .f32) (s : FVec Ideal Cert.AttnReferenceIdeal.S16x2x2048x2048 .f32)
    (H : Fin 16) (B : Fin 2) (r : Fin 512 → Fin 2048) (es : ∀ a b, sb (ix2 a b) = s (ix4 H B (r a) b))
    (a : Fin 512) (b : Fin 2048) : bweight sb (ix2 a b) = weight s (ix4 H B (r a) b) := by
  pointwise [bweight, weight, over]
  simp only [es]

theorem mix_at (sb : FVec Ideal S512x2048 .f32) (vb : FVec Ideal S1x2048x64 .bf16) (s : FVec Ideal Cert.AttnReferenceIdeal.S16x2x2048x2048 .f32) (v : FVec Ideal Cert.AttnReferenceIdeal.S16x2x2048x64 .f32)
    (H : Fin 16) (B : Fin 2) (r : Fin 512 → Fin 2048) (es : ∀ a b, sb (ix2 a b) = s (ix4 H B (r a) b)) (ev : ∀ a d, vb (ix3 0 a d) = v (ix4 H B a d))
    (a : Fin 512) (d : Fin 64) : bmix sb vb (ix3 0 a d) = mix s v (ix4 H B (r a) d) := by
  pointwise [bmix, mix]
  simp only [es, ev]

theorem back_at (x : FVec Ideal Cert.AttnReferenceIdeal.S16x2x2048x64 .f32) (H : Fin 16) (B : Fin 2) (r : Fin 2048) (d : Fin 64) :
   (shapeCast S16x4096x64 x Cert.AttnReferenceIdeal.Gen.shapeCasts_S16x2x2048x64_S16x4096x64) (ix3 H (at' B r) d) = x (ix4 H B r d) := by
  have h0 : (at' B r).val / 2048 = B.val := by show (B.val * 2048 + r.val) / 2048 = _; omega
  have h1 : (at' B r).val % 2048 = r.val := by show (B.val * 2048 + r.val) % 2048 = _; omega
  pointwise
  simp only [h0, h1]

/-- One block: rows `r a` of half `B` of head `H` attend to that half's keys. -/
theorem block (q k v : FVec Ideal S16x4096x64 .bf16) (qb : FVec Ideal S1x512x64 .bf16) (kb vb : FVec Ideal S1x2048x64 .bf16)
    (H : Fin 16) (B : Fin 2) (r : Fin 512 → Fin 2048) (eq : ∀ a d, qb (ix3 0 a d) = q (ix3 H (at' B (r a)) d))
    (ek : ∀ a d, kb (ix3 0 a d) = k (ix3 H (at' B a) d)) (ev : ∀ a d, vb (ix3 0 a d) = v (ix3 H (at' B a) d))
    (a : Fin 512) (d : Fin 64) : k0_pay1 qb kb vb (ix3 0 a d) = ref q k v (ix3 H (at' B (r a)) d) := by
  rw [pay_eq]
  unfold ref
  rw [back_at]
  refine mix_at _ _ _ _ H B r (fun a b => ?_) (fun a d => (ev a d).trans (four_at v H B a d).symm) a d
  refine weight_at _ _ H B r (fun a b => ?_) a b
  refine expo_at _ _ H B r (fun a b => ?_) a b
  exact score_at _ _ _ _ H B r (fun a d => (eq a d).trans (four_at q H B (r a) d).symm) (fun a d => (ek a d).trans (four_at k H B a d).symm) a b

theorem hz : (![0, 0, 0] : Fin 3 → Nat) = fun _ => 0 := funext fun a => by fin_cases a <;> rfl

/-- Where the blocks lie, over the grid: queries with the results, keys and values at the half the results lie in. -/
theorem idx_facts : ∀ t : Fin cfg0.N, win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) / 4 ∧ win0_1.index t (2 : Fin 3) = 0
    ∧ win0_2.index t (0 : Fin 3) = win0_3.index t (0 : Fin 3) ∧ win0_2.index t (1 : Fin 3) = win0_3.index t (1 : Fin 3) / 4 ∧ win0_2.index t (2 : Fin 3) = 0
    ∧ win0_3.index t (0 : Fin 3) < 16 ∧ win0_3.index t (1 : Fin 3) < 8 ∧ win0_3.index t (2 : Fin 3) = 0 :=
  (by decide +kernel : ∀ t : Fin grid0.N, _)

/-- Every block is some point's. -/
theorem idx_onto : ∀ (h : Fin 16) (u : Fin 8), ∃ t : Fin cfg0.N, win0_3.index t = ![h.val, u.val, 0] :=
  (by decide +kernel : ∀ (h : Fin 16) (u : Fin 8), ∃ t : Fin grid0.N, win0_3.index t = ![h.val, u.val, 0])

/-- Point `t`'s head. -/
def hd (t : Fin cfg0.N) : Fin 16 := ⟨win0_3.index t (0 : Fin 3), (idx_facts t).2.2.2.2.2.2.2.2.2.1⟩

/-- Point `t`'s half. -/
def half (t : Fin cfg0.N) : Fin 2 := ⟨win0_3.index t (1 : Fin 3) / 4, by have := (idx_facts t).2.2.2.2.2.2.2.2.2.2.1; omega⟩

/-- Row `a` of point `t`'s block, in its half. -/
def row (t : Fin cfg0.N) (a : Fin 512) : Fin 2048 := ⟨win0_3.index t (1 : Fin 3) % 4 * 512 + a.val, by omega⟩

theorem row_eq (t : Fin cfg0.N) (a : Fin 512) : (at' (half t) (row t a)).val = win0_3.index t (1 : Fin 3) * 512 + a.val := by
  show win0_3.index t (1 : Fin 3) / 4 * 2048 + (win0_3.index t (1 : Fin 3) % 4 * 512 + a.val) = _
  omega

theorem emb0 (t : Fin cfg0.N) (a : Fin 512) (d : Fin 64) : ((cfg0.win 0).blk t).view.emb (ix3 (0 : Fin 1) a d) = ix3 (hd t) (at' (half t) (row t a)) d := by
  obtain ⟨e0, e1, e2, -⟩ := idx_facts t
  funext x; apply Fin.ext
  match x with
  | ⟨0, _⟩ => show win0_0.index t (0 : Fin 3) * 1 + 1 * 0 = win0_3.index t (0 : Fin 3); omega
  | ⟨1, _⟩ => show win0_0.index t (1 : Fin 3) * 512 + 1 * a.val = (at' (half t) (row t a)).val; rw [row_eq]; omega
  | ⟨2, _⟩ => show win0_0.index t (2 : Fin 3) * 64 + 1 * d.val = d.val; omega

theorem emb1 (t : Fin cfg0.N) (a : Fin 2048) (d : Fin 64) : ((cfg0.win 1).blk t).view.emb (ix3 (0 : Fin 1) a d) = ix3 (hd t) (at' (half t) a) d := by
  obtain ⟨-, -, -, e0, e1, e2, -⟩ := idx_facts t
  funext x; apply Fin.ext
  match x with
  | ⟨0, _⟩ => show win0_1.index t (0 : Fin 3) * 1 + 1 * 0 = win0_3.index t (0 : Fin 3); omega
  | ⟨1, _⟩ => show win0_1.index t (1 : Fin 3) * 2048 + 1 * a.val = win0_3.index t (1 : Fin 3) / 4 * 2048 + a.val; omega
  | ⟨2, _⟩ => show win0_1.index t (2 : Fin 3) * 64 + 1 * d.val = d.val; omega

theorem emb2 (t : Fin cfg0.N) (a : Fin 2048) (d : Fin 64) : ((cfg0.win 2).blk t).view.emb (ix3 (0 : Fin 1) a d) = ix3 (hd t) (at' (half t) a) d := by
  obtain ⟨-, -, -, -, -, -, e0, e1, e2, -⟩ := idx_facts t
  funext x; apply Fin.ext
  match x with
  | ⟨0, _⟩ => show win0_2.index t (0 : Fin 3) * 1 + 1 * 0 = win0_3.index t (0 : Fin 3); omega
  | ⟨1, _⟩ => show win0_2.index t (1 : Fin 3) * 2048 + 1 * a.val = win0_3.index t (1 : Fin 3) / 4 * 2048 + a.val; omega
  | ⟨2, _⟩ => show win0_2.index t (2 : Fin 3) * 64 + 1 * d.val = d.val; omega

theorem emb3 (t : Fin cfg0.N) (a : Fin 512) (d : Fin 64) : ((cfg0.win 3).blk t).view.emb (ix3 (0 : Fin 1) a d) = ix3 (hd t) (at' (half t) (row t a)) d := by
  obtain ⟨-, -, -, -, -, -, -, -, -, -, -, e2⟩ := idx_facts t
  funext x; apply Fin.ext
  match x with
  | ⟨0, _⟩ => show win0_3.index t (0 : Fin 3) * 1 + 1 * 0 = win0_3.index t (0 : Fin 3); omega
  | ⟨1, _⟩ => show win0_3.index t (1 : Fin 3) * 512 + 1 * a.val = (at' (half t) (row t a)).val; rw [row_eq]; omega
  | ⟨2, _⟩ => show win0_3.index t (2 : Fin 3) * 64 + 1 * d.val = d.val; omega

/-- What point `t` writes back is its block of the reference's result. -/
theorem flushed_eq (c : Dev nD) (t : Fin cfg0.N) : (dats m 0 c).flushed 3 t
    = ((cfg0.win 3).blk t).view.read (Elt Ideal) (ref (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext j
  obtain ⟨a, d, rfl⟩ : ∃ (a : Fin 512) (d : Fin 64), j = ix3 (0 : Fin 1) a d :=
    ⟨j 1, j 2, funext fun x => by match x with | ⟨0, _⟩ => exact Subsingleton.elim (α := Fin 1) _ _ | ⟨1, _⟩ => rfl | ⟨2, _⟩ => rfl⟩
  refine (block _ _ _ _ _ _ (hd t) (half t) (row t) (fun a d => congrArg (V m c main_arg0) (emb0 t a d)) (fun a d => congrArg (V m c main_arg1) (emb1 t a d))
    (fun a d => congrArg (V m c main_arg2) (emb2 t a d)) a d).trans ?_
  exact (congrArg (ref (V m c main_arg0) (V m c main_arg1) (V m c main_arg2)) (emb3 t a d)).symm

/-- The blocks tile the array. -/
theorem cover (i : S16x4096x64.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 64 := (i 2).isLt
  obtain ⟨t, ht⟩ := idx_onto ⟨(i 0).val, h0⟩ ⟨(i 1).val / 512, by omega⟩
  have e0 : win0_3.index t (0 : Fin 3) = (i 0).val := congrFun ht 0
  have e1 : win0_3.index t (1 : Fin 3) = (i 1).val / 512 := congrFun ht 1
  have e2 : win0_3.index t (2 : Fin 3) = 0 := congrFun ht 2
  refine ⟨t, flush0_3 t, ?_⟩
  show i ∈ ((View.whole main_v0).slice (win0_3.rect t)).set
  rw [View.set_slice_whole, Rect.mem_set_unit]
  intro x
  match x with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The array after the run is the reference's result of the arguments. -/
theorem final (c : Dev nD) : (dats m 0 c).arrAt 3 cfg0.N = ref (m ((c.tc : Thread nD τ).loc main_arg0)) (m ((c.tc : Thread nD τ).loc main_arg1))
    (m ((c.tc : Thread nD τ).loc main_arg2)) :=
  (dats m 0 c).arrAt_eq_of_cover 3 _ (fun t _ => flushed_eq m c t) cover

/-- Kernel and reference end with equal results. -/
theorem alg : Cert.algebraic_AttnIdeal_AttnReferenceIdeal := fun m g m' g' _ hargs =>
  ⟨fun c => (dats m 0 c).arrAt 3 cfg0.N,
    Cert.AttnIdeal.Value.run_blocks m g,
    (θ_run Cert.AttnReferenceIdeal.defs _ _).mono
      (fun _ h c => by
        obtain ⟨e0, e1, e2⟩ := hargs c
        refine ⟨(h c).1.trans ?_, (h c).2⟩
        refine Eq.trans ?_ (final m c).symm
        unfold ref mix weight expo less over score four
        rw [e0, e1, e2])
      (Cert.AttnReferenceIdeal.Value.run m' g')⟩

end Cert.Proof.AttnCall

end
-- ==== Proof.OprojCall.lean ====
/-
  The call that projects the heads' outputs: sixteen blocks of 256 rows, each the residual's block plus the product of the
  block's heads laid side by side with the weights; together the whole array's.
-/
module

public import proofs.«01_k».proof.Defs
public import proofs.«01_k».proof.Proof.Gen.Oproj
public import proofs.«01_k».proof.Proof.Gen.OprojIdeal.Value
public import proofs.«01_k».proof.Proof.Gen.OprojReferenceIdeal.Run
public import Idealize.ShloMosaic.Lib.Pointwise

@[expose] public section

noncomputable section

open Idealize.ShloMosaic Idealize.ShloMosaic.TcCoe Idealize.SL.Sem

namespace Cert.Proof.OprojCall

open Cert.OprojIdeal Cert.OprojIdeal.Gen

variable (m : (ℓ : Loc nD τ sig) → Buf (Elt Ideal) ℓ) (ρ : Dev nD → PrngReg)

/-- What the reference computes. -/
def ref (o : FVec Ideal S16x4096x64 .f32) (w : FVec Ideal S1024x1024 .bf16) (x : FVec Ideal S4096x1024 .f32) : FVec Ideal S4096x1024 .f32 :=
  addf x (Host.dotGeneral Cert.OprojReferenceIdeal.dot_S4096x1024_S1024x1024_S4096x1024_1_0_0_1_n_n none
    (shapeCast _ (transpose Cert.OprojReferenceIdeal.S4096x16x64 [1, 0, 2] o Cert.OprojReferenceIdeal.Gen.transposes_S16x4096x64_S4096x16x64_1_0_2)
      Cert.OprojReferenceIdeal.Gen.shapeCasts_S4096x16x64_S4096x1024)
    (extf .f32 w Cert.OprojReferenceIdeal.Gen.bitsLt_bf16_f32))

/-- One block: rows `256 t …` of the arrays give those rows of the result. -/
theorem block (o : FVec Ideal S16x4096x64 .f32) (w : FVec Ideal S1024x1024 .bf16) (x : FVec Ideal S4096x1024 .f32)
    (ob : FVec Ideal S16x256x64 .f32) (xb : FVec Ideal S256x1024 .f32) (r : Fin 256 → Fin 4096)
    (eo : ∀ h a b, ob (ix3 h a b) = o (ix3 h (r a) b)) (ex : ∀ a b, xb (ix2 a b) = x (ix2 (r a) b)) (a : Fin 256) (b : Fin 1024) :
    k0_pay1 ob xb w (ix2 a b) = ref o w x (ix2 (r a) b) := by
  pointwise [k0_pay1, ref]
  simp only [eo, ex]

theorem hz3 : (![0, 0, 0] : Fin 3 → Nat) = fun _ => 0 := funext fun a => by fin_cases a <;> rfl

theorem hz : (![0, 0] : Fin 2 → Nat) = fun _ => 0 := funext fun a => by fin_cases a <;> rfl

/-- Where the blocks lie, over the grid: rows move with the point, weights stay. -/
theorem idx_facts : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 16 :=
  (by decide +kernel : ∀ t : Fin grid0.N, _)

/-- Row `a` of point `t`'s block. -/
def row (t : Fin cfg0.N) (a : Fin 256) : Fin 4096 := ⟨t.val * 256 + a.val, by have := (idx_facts t).2.2.2.2.2.2.2.2.2; omega⟩

theorem emb0 (t : Fin cfg0.N) (h : Fin 16) (a : Fin 256) (b : Fin 64) : ((cfg0.win 0).blk t).view.emb (ix3 h a b) = ix3 h (row t a) b := by
  obtain ⟨e0, e1, e2, -⟩ := idx_facts t
  funext x; apply Fin.ext
  match x with
  | ⟨0, _⟩ => show win0_0.index t (0 : Fin 3) * 16 + 1 * h.val = h.val; omega
  | ⟨1, _⟩ => show win0_0.index t (1 : Fin 3) * 256 + 1 * a.val = t.val * 256 + a.val; omega
  | ⟨2, _⟩ => show win0_0.index t (2 : Fin 3) * 64 + 1 * b.val = b.val; omega

theorem emb1 (t : Fin cfg0.N) (j : S1024x1024.Idx) : ((cfg0.win 1).blk t).view.emb j = j := by
  obtain ⟨-, -, -, e0, e1, -⟩ := idx_facts t
  funext x; apply Fin.ext
  match x with
  | ⟨0, _⟩ => show win0_1.index t (0 : Fin 2) * 1024 + 1 * (j 0).val = (j 0).val; omega
  | ⟨1, _⟩ => show win0_1.index t (1 : Fin 2) * 1024 + 1 * (j 1).val = (j 1).val; omega

theorem emb2 (t : Fin cfg0.N) (a : Fin 256) (b : Fin 1024) : ((cfg0.win 2).blk t).view.emb (ix2 a b) = ix2 (row t a) b := by
  obtain ⟨-, -, -, -, -, e0, e1, -⟩ := idx_facts t
  funext x; apply Fin.ext
  match x with
  | ⟨0, _⟩ => show win0_2.index t (0 : Fin 2) * 256 + 1 * a.val = t.val * 256 + a.val; omega
  | ⟨1, _⟩ => show win0_2.index t (1 : Fin 2) * 1024 + 1 * b.val = b.val; omega

theorem emb3 (t : Fin cfg0.N) (a : Fin 256) (b : Fin 1024) : ((cfg0.win 3).blk t).view.emb (ix2 a b) = ix2 (row t a) b := by
  obtain ⟨-, -, -, -, -, -, -, e0, e1, -⟩ := idx_facts t
  funext x; apply Fin.ext
  match x with
  | ⟨0, _⟩ => show win0_3.index t (0 : Fin 2) * 256 + 1 * a.val = t.val * 256 + a.val; omega
  | ⟨1, _⟩ => show win0_3.index t (1 : Fin 2) * 1024 + 1 * b.val = b.val; omega

/-- What point `t` writes back is its block of the reference's result. -/
theorem flushed_eq (c : Dev nD) (t : Fin cfg0.N) : (dats m 0 c).flushed 3 t
    = ((cfg0.win 3).blk t).view.read (Elt Ideal) (ref (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S256x1024) hz, View.ld_unit_zero (S := S1024x1024) hz, View.ld_unit_zero (S := S16x256x64) hz3]
  have h1 : iblk m c 1 t = V m c main_arg1 := funext fun j => congrArg (V m c main_arg1) (emb1 t j)
  rw [h1]
  funext j
  obtain ⟨a, b, rfl⟩ : ∃ (a : Fin 256) (b : Fin 1024), j = ix2 a b := ⟨j 0, j 1, funext fun x => by match x with | ⟨0, _⟩ => rfl | ⟨1, _⟩ => rfl⟩
  refine (block _ _ _ _ _ (row t) (fun h a b => congrArg (V m c main_arg0) (emb0 t h a b)) (fun a b => congrArg (V m c main_arg2) (emb2 t a b)) a b).trans ?_
  exact (congrArg (ref (V m c main_arg0) (V m c main_arg1) (V m c main_arg2)) (emb3 t a b)).symm

/-- The blocks tile the array. -/
theorem cover (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 16 := (by decide +kernel : grid0.N = 16)
  let t : Fin cfg0.N := ⟨(i 0).val / 256, by rw [hN]; omega⟩
  have e0 : win0_3.index t (0 : Fin 2) = (i 0).val / 256 := (idx_facts t).2.2.2.2.2.2.2.1
  have e1 : win0_3.index t (1 : Fin 2) = 0 := (idx_facts t).2.2.2.2.2.2.2.2.1
  refine ⟨t, flush0_3 t, ?_⟩
  show i ∈ ((View.whole main_v0).slice (win0_3.rect t)).set
  rw [View.set_slice_whole, Rect.mem_set_unit]
  intro x
  match x with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The array after the run is the reference's result of the arguments. -/
theorem final (c : Dev nD) : (dats m 0 c).arrAt 3 cfg0.N = ref (m ((c.tc : Thread nD τ).loc main_arg0)) (m ((c.tc : Thread nD τ).loc main_arg1))
    (m ((c.tc : Thread nD τ).loc main_arg2)) :=
  (dats m 0 c).arrAt_eq_of_cover 3 _ (fun t _ => flushed_eq m c t) cover

/-- Kernel and reference end with equal results. -/
theorem alg : Cert.algebraic_OprojIdeal_OprojReferenceIdeal := fun m g m' g' _ hargs =>
  ⟨fun c => (dats m 0 c).arrAt 3 cfg0.N,
    Cert.OprojIdeal.Value.run_blocks m g,
    (θ_run Cert.OprojReferenceIdeal.defs _ _).mono
      (fun _ h c => by
        obtain ⟨e0, e1, e2⟩ := hargs c
        refine ⟨(h c).1.trans ?_, (h c).2⟩
        refine Eq.trans ?_ (final m c).symm
        unfold ref
        rw [e0, e1, e2])
      (Cert.OprojReferenceIdeal.Value.run m' g')⟩

end Cert.Proof.OprojCall

end
-- ==== Proof.SharedCall.lean ====
/-
  The shared expert's call: sixteen blocks of 256 rows, each the residual's block plus the block's two products with a
  cut at zero between them; together the whole array's.
-/
module

public import proofs.«01_k».proof.Defs
public import proofs.«01_k».proof.Proof.Gen.Shared
public import proofs.«01_k».proof.Proof.Gen.SharedIdeal.Value
public import proofs.«01_k».proof.Proof.Gen.SharedReferenceIdeal.Run
public import Idealize.ShloMosaic.Lib.Pointwise

@[expose] public section

noncomputable section

open Idealize.ShloMosaic Idealize.ShloMosaic.TcCoe Idealize.SL.Sem

namespace Cert.Proof.SharedCall

open Cert.SharedIdeal Cert.SharedIdeal.Gen

variable (m : (ℓ : Loc nD τ sig) → Buf (Elt Ideal) ℓ) (ρ : Dev nD → PrngReg)

/-- What the reference computes. -/
def ref (h : FVec Ideal S4096x1024 .bf16) (w : FVec Ideal S1024x2048 .bf16) (w' : FVec Ideal S2048x1024 .bf16) (x : FVec Ideal S4096x1024 .f32) :
    FVec Ideal S4096x1024 .f32 :=
  addf x (Host.dotGeneral Cert.SharedReferenceIdeal.dot_S4096x2048_S2048x1024_S4096x1024_1_0_0_1_n_n none
    (maximumf (Host.dotGeneral Cert.SharedReferenceIdeal.dot_S4096x1024_S1024x2048_S4096x2048_1_0_0_1_n_n none (extf .f32 h Cert.SharedReferenceIdeal.Gen.bitsLt_bf16_f32)
        (extf .f32 w Cert.SharedReferenceIdeal.Gen.bitsLt_bf16_f32))
      (broadcastInDim Cert.SharedReferenceIdeal.S4096x2048 ![] Cert.SharedReferenceIdeal.Gen.bcast_S_S4096x2048 (constant Cert.SharedReferenceIdeal.S_ .f32 0x00000000#32)))
    (extf .f32 w' Cert.SharedReferenceIdeal.Gen.bitsLt_bf16_f32))

/-- One block: rows `256 t …` of the arrays give those rows of the result. -/
theorem block (h : FVec Ideal S4096x1024 .bf16) (w : FVec Ideal S1024x2048 .bf16) (w' : FVec Ideal S2048x1024 .bf16) (x : FVec Ideal S4096x1024 .f32)
    (hb : FVec Ideal S256x1024 .bf16) (xb : FVec Ideal S256x1024 .f32) (r : Fin 256 → Fin 4096)
    (eh : ∀ a b, hb (ix2 a b) = h (ix2 (r a) b)) (ex : ∀ a b, xb (ix2 a b) = x (ix2 (r a) b)) (a : Fin 256) (b : Fin 1024) :
    k0_pay1 hb w xb w' (ix2 a b) = ref h w w' x (ix2 (r a) b) := by
  pointwise [k0_pay1, ref]
  simp only [eh, ex]

theorem hz : (![0, 0] : Fin 2 → Nat) = fun _ => 0 := funext fun a => by fin_cases a <;> rfl

/-- Where the blocks lie, over the grid: rows move with the point, weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 ∧ t.val < 16 :=
  (by decide +kernel : ∀ t : Fin grid0.N, _)

/-- Row `a` of point `t`'s block. -/
def row (t : Fin cfg0.N) (a : Fin 256) : Fin 4096 := ⟨t.val * 256 + a.val, by have := (idx_facts t).2.2.2.2.2.2.2.2.2.2; omega⟩

theorem emb0 (t : Fin cfg0.N) (a : Fin 256) (b : Fin 1024) : ((cfg0.win 0).blk t).view.emb (ix2 a b) = ix2 (row t a) b := by
  obtain ⟨e0, e1, -⟩ := idx_facts t
  funext x; apply Fin.ext
  match x with
  | ⟨0, _⟩ => show win0_0.index t (0 : Fin 2) * 256 + 1 * a.val = t.val * 256 + a.val; omega
  | ⟨1, _⟩ => show win0_0.index t (1 : Fin 2) * 1024 + 1 * b.val = b.val; omega

theorem emb1 (t : Fin cfg0.N) (j : S1024x2048.Idx) : ((cfg0.win 1).blk t).view.emb j = j := by
  obtain ⟨-, -, e0, e1, -⟩ := idx_facts t
  funext x; apply Fin.ext
  match x with
  | ⟨0, _⟩ => show win0_1.index t (0 : Fin 2) * 1024 + 1 * (j 0).val = (j 0).val; omega
  | ⟨1, _⟩ => show win0_1.index t (1 : Fin 2) * 2048 + 1 * (j 1).val = (j 1).val; omega

theorem emb2 (t : Fin cfg0.N) (j : S2048x1024.Idx) : ((cfg0.win 2).blk t).view.emb j = j := by
  obtain ⟨-, -, -, -, e0, e1, -⟩ := idx_facts t
  funext x; apply Fin.ext
  match x with
  | ⟨0, _⟩ => show win0_2.index t (0 : Fin 2) * 2048 + 1 * (j 0).val = (j 0).val; omega
  | ⟨1, _⟩ => show win0_2.index t (1 : Fin 2) * 1024 + 1 * (j 1).val = (j 1).val; omega

theorem emb3 (t : Fin cfg0.N) (a : Fin 256) (b : Fin 1024) : ((cfg0.win 3).blk t).view.emb (ix2 a b) = ix2 (row t a) b := by
  obtain ⟨-, -, -, -, -, -, e0, e1, -⟩ := idx_facts t
  funext x; apply Fin.ext
  match x with
  | ⟨0, _⟩ => show win0_3.index t (0 : Fin 2) * 256 + 1 * a.val = t.val * 256 + a.val; omega
  | ⟨1, _⟩ => show win0_3.index t (1 : Fin 2) * 1024 + 1 * b.val = b.val; omega

theorem emb4 (t : Fin cfg0.N) (a : Fin 256) (b : Fin 1024) : ((cfg0.win 4).blk t).view.emb (ix2 a b) = ix2 (row t a) b := by
  obtain ⟨-, -, -, -, -, -, -, -, e0, e1, -⟩ := idx_facts t
  funext x; apply Fin.ext
  match x with
  | ⟨0, _⟩ => show win0_4.index t (0 : Fin 2) * 256 + 1 * a.val = t.val * 256 + a.val; omega
  | ⟨1, _⟩ => show win0_4.index t (1 : Fin 2) * 1024 + 1 * b.val = b.val; omega

/-- What point `t` writes back is its block of the reference's result. -/
theorem flushed_eq (c : Dev nD) (t : Fin cfg0.N) : (dats m 0 c).flushed 4 t
    = ((cfg0.win 4).blk t).view.read (Elt Ideal) (ref (V m c main_arg0) (V m c main_arg1) (V m c main_arg2) (V m c main_arg3)) := by
  show (cfg0.win 4).cut (grid0.coords t) ((dats m 0 c).after 4 t) = _
  rw [after0_4]
  unfold out0_4
  rw [View.canon_unit_zero hz]
  simp only [View.ld_unit_zero (S := S256x1024) hz, View.ld_unit_zero (S := S1024x2048) hz, View.ld_unit_zero (S := S2048x1024) hz]
  have h1 : iblk m c 1 t = V m c main_arg1 := funext fun j => congrArg (V m c main_arg1) (emb1 t j)
  have h2 : iblk m c 2 t = V m c main_arg2 := funext fun j => congrArg (V m c main_arg2) (emb2 t j)
  rw [h1, h2]
  funext j
  obtain ⟨a, b, rfl⟩ : ∃ (a : Fin 256) (b : Fin 1024), j = ix2 a b := ⟨j 0, j 1, funext fun x => by match x with | ⟨0, _⟩ => rfl | ⟨1, _⟩ => rfl⟩
  refine (block _ _ _ _ _ _ (row t) (fun a b => congrArg (V m c main_arg0) (emb0 t a b)) (fun a b => congrArg (V m c main_arg3) (emb3 t a b)) a b).trans ?_
  exact (congrArg (ref (V m c main_arg0) (V m c main_arg1) (V m c main_arg2) (V m c main_arg3)) (emb4 t a b)).symm

/-- The blocks tile the array. -/
theorem cover (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hN : cfg0.N = 16 := (by decide +kernel : grid0.N = 16)
  let t : Fin cfg0.N := ⟨(i 0).val / 256, by rw [hN]; omega⟩
  have e0 : win0_4.index t (0 : Fin 2) = (i 0).val / 256 := (idx_facts t).2.2.2.2.2.2.2.2.1
  have e1 : win0_4.index t (1 : Fin 2) = 0 := (idx_facts t).2.2.2.2.2.2.2.2.2.1
  refine ⟨t, flush0_4 t, ?_⟩
  show i ∈ ((View.whole main_v0).slice (win0_4.rect t)).set
  rw [View.set_slice_whole, Rect.mem_set_unit]
  intro x
  match x with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- The array after the run is the reference's result of the arguments. -/
theorem final (c : Dev nD) : (dats m 0 c).arrAt 4 cfg0.N = ref (m ((c.tc : Thread nD τ).loc main_arg0)) (m ((c.tc : Thread nD τ).loc main_arg1))
    (m ((c.tc : Thread nD τ).loc main_arg2)) (m ((c.tc : Thread nD τ).loc main_arg3)) :=
  (dats m 0 c).arrAt_eq_of_cover 4 _ (fun t _ => flushed_eq m c t) cover

/-- Kernel and reference end with equal results. -/
theorem alg : Cert.algebraic_SharedIdeal_SharedReferenceIdeal := fun m g m' g' _ hargs =>
  ⟨fun c => (dats m 0 c).arrAt 4 cfg0.N,
    Cert.SharedIdeal.Value.run_blocks m g,
    (θ_run Cert.SharedReferenceIdeal.defs _ _).mono
      (fun _ h c => by
        obtain ⟨e0, e1, e2, e3⟩ := hargs c
        refine ⟨(h c).1.trans ?_, (h c).2⟩
        refine Eq.trans ?_ (final m c).symm
        unfold ref
        rw [e0, e1, e2, e3])
      (Cert.SharedReferenceIdeal.Value.run m' g')⟩

end Cert.Proof.SharedCall

end
-- ==== Proof.FinalCall.lean ====
/-
  The call that adds the two chosen experts' rows to the rest: the reference's sum at every index.
-/
module

public import proofs.«01_k».proof.Defs
public import proofs.«01_k».proof.Proof.Gen.Final
public import proofs.«01_k».proof.Proof.Gen.FinalIdeal.Value
public import proofs.«01_k».proof.Proof.Gen.FinalReferenceIdeal.Run
public import Idealize.ShloMosaic.Lib.Pointwise

@[expose] public section

noncomputable section

open Idealize.ShloMosaic Idealize.ShloMosaic.TcCoe Idealize.SL.Sem

namespace Cert.Proof.FinalCall

open Cert.FinalIdeal Cert.FinalIdeal.Gen

/-- What the reference computes. -/
def ref (x : FVec Ideal S4096x1024 .f32) (y : FVec Ideal S8192x1024 .bf16) : FVec Ideal S4096x1024 .f32 :=
  addf (addf x (extractStridedSlice S4096x1024 ![0, 0] (extf .f32 y Cert.FinalReferenceIdeal.Gen.bitsLt_bf16_f32) Cert.FinalReferenceIdeal.Gen.slices_S8192x1024_S4096x1024_0_0))
    (extractStridedSlice S4096x1024 ![4096, 0] (extf .f32 y Cert.FinalReferenceIdeal.Gen.bitsLt_bf16_f32) Cert.FinalReferenceIdeal.Gen.slices_S8192x1024_S4096x1024_4096_0)

/-- It is what the kernel's array ends at. -/
theorem ref_eq (x : FVec Ideal S4096x1024 .f32) (y : FVec Ideal S8192x1024 .bf16) : ref x y = Cert.FinalIdeal.Value.G3 (F := Ideal) x y y := by
  funext j
  have h1 : ∀ i : S4096x1024.Idx, Cert.FinalIdeal.Value.inIdx3_1 i = ix2 ⟨(i 0).val, lt_trans (i 0).isLt (by decide)⟩ (i 1) := fun i =>
    funext fun x => by match x with | ⟨0, _⟩ => rfl | ⟨1, _⟩ => rfl
  have h2 : ∀ i : S4096x1024.Idx, Cert.FinalIdeal.Value.inIdx3_2 i
      = ix2 ⟨(i 0).val + 4096, Nat.add_lt_of_lt_sub (lt_of_lt_of_le (i 0).isLt (by decide))⟩ (i 1) := fun i =>
    funext fun x => by match x with | ⟨0, _⟩ => rfl | ⟨1, _⟩ => rfl
  show _ = FloatOps.addf (FloatOps.addf (x j) (FloatOps.extf .f32 bitsLt_bf16_f32 (y (Cert.FinalIdeal.Value.inIdx3_1 j)))) (FloatOps.extf .f32 bitsLt_bf16_f32 (y (Cert.FinalIdeal.Value.inIdx3_2 j)))
  rw [h1, h2]
  idx_vars j
  pointwise [ref]
  simp only [Nat.add_comm 4096]

/-- Kernel and reference end with equal results. -/
theorem alg : Cert.algebraic_FinalIdeal_FinalReferenceIdeal := fun m g m' g' _ hargs =>
  ⟨fun c => ref (m ((c.tc : Thread nD τ).loc main_arg0)) (m ((c.tc : Thread nD τ).loc main_arg1)),
    (θ_run Cert.FinalIdeal.defs _ _).mono (fun _ h c => ⟨(h c).1.trans (ref_eq _ _).symm, (h c).2⟩) (Cert.FinalIdeal.Value.run m g),
    (θ_run Cert.FinalReferenceIdeal.defs _ _).mono
      (fun _ h c => by
        obtain ⟨e0, e1⟩ := hargs c
        refine ⟨(h c).1.trans ?_, (h c).2⟩
        unfold ref
        rw [e0, e1])
      (Cert.FinalReferenceIdeal.Value.run m' g')⟩

end Cert.Proof.FinalCall

end
-- ==== Proof.Steps.lean ====
/-
  The transfers a tile of the row gather makes, one lemma each, over the windows written at plain numbers: the fetch of
  a block of 128 row numbers into one of the two slots of the index scratch, the indirect gather of those rows of the
  table into one of the two slots of the row scratch, and the copy of that slot out to a block of the result, which is
  in write mode (the tiles of both SparseCores write it, each the same words). The program's own offsets are variables
  here, with an equation to the plain ones.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.WriteMode
public import Idealize.ShloMosaic.Lib.Pointwise
public import proofs.«01_k».proof.Proof.Gen.KernelIdeal

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, write mode, the transfers' counters -/

abbrev UH : Type := URounds (GSem nD τ sig) ℕ
abbrev UU (F : FTy → Type) : Type := UH × (WmRA nD τ sig (Elt F) × Counters)

local notation "𝕄" => MT nD τ sig (HIx 2) (Elt F) ℕ (UU F) ℕ

abbrev EH : Emb UH (MT nD τ sig (HIx 2) (Elt F) ℕ (UU F) ℕ) := embL
/-- Write mode's component. -/
abbrev EW : UEmb (WmRA nD τ sig (Elt F)) (UU F) := (UEmb.inl (M := Counters)).trans UEmb.inr
abbrev EC : UEmb Counters (MT nD τ sig (HIx 2) (Elt F) ℕ (UU F) ℕ) := countersEmb

/-! ## The windows -/

theorem inbI (p : Fin 2) : ∀ a, (![p.val, 0, 0] : Fin 3 → ℕ) a + S1x1x128.size a ≤ S2x1x128.size a := by
  intro a; match a with
  | 0 => show p.val + 1 ≤ 2; omega
  | 1 => show 0 + 1 ≤ 1; omega
  | 2 => show 0 + 128 ≤ 128; omega
theorem inbR (p : Fin 2) : ∀ a, (![p.val, 0, 0] : Fin 3 → ℕ) a + S1x128x128.size a ≤ S2x128x128.size a := by
  intro a; match a with
  | 0 => show p.val + 1 ≤ 2; omega
  | 1 => show 0 + 128 ≤ 128; omega
  | 2 => show 0 + 128 ≤ 128; omega
theorem inbS (p : Fin 2) : ∀ a, (![p.val] : Fin 1 → ℕ) a + S1.size a ≤ S2.size a := by
  intro a; match a with
  | 0 => show p.val + 1 ≤ 2; omega
theorem inbL (b : Fin 256) : ∀ a, (![0, 128 * b.val] : Fin 2 → ℕ) a + S1x128.size a ≤ S1x32768.size a := by
  intro a; match a with
  | 0 => show 0 + 1 ≤ 1; omega
  | 1 => show 128 * b.val + 128 ≤ 32768; omega
theorem inbO (b : Fin 256) : ∀ a, (![128 * b.val, 0] : Fin 2 → ℕ) a + S128x128.size a ≤ S32768x128.size a := by
  intro a; match a with
  | 0 => show 128 * b.val + 128 ≤ 32768; omega
  | 1 => show 0 + 128 ≤ 128; omega

/-- Slot `p` of the index scratch. -/
abbrev slI (aI : Memref sig .scVector .vmem S2x1x128 .i32) (p : Fin 2) : Memref sig .scVector .vmem S1x128 .i32 :=
  (aI.slice (Rect.unit (s := S2x1x128) ![p.val, 0, 0] S1x1x128.size (inbI p)) (fun _ => rfl)).squeeze S1x128 squeezes_S1x1x128_S1x128
/-- Slot `p` of the row scratch. -/
abbrev slR (aR : Memref sig .scVector .vmem S2x128x128 .i32) (p : Fin 2) : Memref sig .scVector .vmem S128x128 .i32 :=
  (aR.slice (Rect.unit (s := S2x128x128) ![p.val, 0, 0] S1x128x128.size (inbR p)) (fun _ => rfl)).squeeze S128x128 squeezes_S1x128x128_S128x128
/-- Semaphore `p` of an array of two. -/
abbrev sm2 (v : DmaSems sig S2) (p : Fin 2) : DmaSem sig :=
  ((v.slice (Rect.unit (s := S2) ![p.val] S1.size (inbS p))).squeeze S_ squeezes_S1_S_).sem
/-- Block `b` of the list of row numbers. -/
abbrev blkL (aL : Memref sig .scVector .hbm S1x32768 .i32) (b : Fin 256) : Memref sig .scVector .hbm S1x128 .i32 :=
  aL.slice (Rect.unit (s := S1x32768) ![0, 128 * b.val] S1x128.size (inbL b)) (fun _ => rfl)
/-- Block `b` of the result's rows. -/
abbrev blkO (aO : Memref sig .scVector .hbm S32768x128 .i32) (b : Fin 256) : Memref sig .scVector .hbm S128x128 .i32 :=
  aO.slice (Rect.unit (s := S32768x128) ![128 * b.val, 0] S128x128.size (inbO b)) (fun _ => rfl)

/-! ## The steps -/

section Steps

variable {Λ : Labels} {defs : Defs nD τ sig (Elt F) Λ} {𝒱 : Variants} {bd : Option 𝒱.V}
variable {d : Dev nD} {c : Fin τ.nSC} {w : Fin τ.nSub}
variable {α : Type} {Q : α → sProp (MT nD τ sig (HIx 2) (Elt F) ℕ (UU F) ℕ)}

local notation "thr" => (V d c w : Thread nD τ)

variable (d c w) in
/-- What the fetch of list block `b` into slot `p` delivers: the slot, reading as the block does, and the block's share. -/
def DI (aL : Memref sig .scVector .hbm S1x32768 .i32) (aI : Memref sig .scVector .vmem S2x1x128 .i32) (p : Fin 2) (b : Fin 256)
    (q : PosShare TreeShare) (L : Buf (Elt F) (aL.view.loc thr)) : sProp 𝕄 :=
  iprop((∃ f, ⌜(slI aI p).view.read (Elt F) f = (blkL aL b).view.read (Elt F) L⌝ ∗ ((slI aI p).view.loc thr ↦[(slI aI p).view.set]{fullShare} f))
    ∗ (blkL aL b).view.loc thr ↦[(blkL aL b).view.set]{q} L)

/-- The fetch of a list block is issued. -/
theorem wp_issueI (aL : Memref sig .scVector .hbm S1x32768 .i32) (aI : Memref sig .scVector .vmem S2x1x128 .i32) (sI : DmaSems sig S2)
    (p : Fin 2) (b : Fin 256) (hN : 0 < (slI aI p).view.dmaCredit)
    {o4 : Fin 3 → ℕ} {o5 : Fin 2 → ℕ} {o6 : Fin 1 → ℕ} (h4 : o4 = ![p.val, 0, 0]) (h5 : o5 = ![0, 128 * b.val]) (h6 : o6 = ![p.val])
    {i4 : ∀ a, o4 a + S1x1x128.size a ≤ S2x1x128.size a} {i5 : ∀ a, o5 a + S1x128.size a ≤ S1x32768.size a}
    {i6 : ∀ a, o6 a + S1.size a ≤ S2.size a} {s4 s5 w1 w2 w3} {k : PUnit → Prog (TpuEff nD τ sig (Elt F) Λ (.scVector c w)) α}
    {q : PosShare TreeShare} {L : Buf (Elt F) (aL.view.loc thr)} {f : Buf (Elt F) ((slI aI p).view.loc thr)} :
    iprop(((blkL aL b).view.loc thr ↦[(blkL aL b).view.set]{q} L) ∗ ((slI aI p).view.loc thr ↦[(slI aI p).view.set]{fullShare} f)
        ∗ semVal (thr, SemLoc.dma (sm2 sI p)) 0)
      ⊢ iprop((Transfers.Flight EC thr (.dma (sm2 sI p)) (default : HIx 2) (slI aI p).view.dmaCredit (DI d c w aL aI p b q L)
              -∗ wp frame (wpE defs 𝒱 thr bd) Set.univ (k ⟨⟩) Q)
          -∗ wp frame (wpE defs 𝒱 thr bd) Set.univ
            (.op (.enqueueDma (aL.slice (Rect.unit (s := S1x32768) o5 S1x128.size i5) s5)
              (.here ((aI.slice (Rect.unit (s := S2x1x128) o4 S1x1x128.size i4) s4).squeeze S1x128 squeezes_S1x1x128_S1x128))
              (.dma ((sI.slice (Rect.unit (s := S2) o6 S1.size i6)).squeeze S_ squeezes_S1_S_).sem) w1 w2 w3) k) Q) := by
  subst h4 h5 h6
  iintro H Hk
  iapply (Transfers.wp_dmaLocal EC 𝒱 thr bd (src := blkL aL b) (dst := slI aI p) (default : HIx 2) (slI aI p).view.dmaCredit rfl hN (Sd := (slI aI p).view.set) subset_rfl) $$ H
  iintro Hf
  iapply Hk
  iapply (Transfers.Flight_mono EC thr (by
    unfold DI
    iintro ⟨Hd, Hs⟩
    isplitl [Hd]
    · iexists _
      isplitr
      swap; · iexact Hd
      ipureintro; exact View.read_write_univ _ _
    iexact Hs)) $$ Hf

/-- A fetched block is waited for. -/
theorem wp_waitI (aL : Memref sig .scVector .hbm S1x32768 .i32) (aI : Memref sig .scVector .vmem S2x1x128 .i32) (sI : DmaSems sig S2)
    (p : Fin 2) {D : sProp 𝕄}
    {o7 : Fin 3 → ℕ} {o8 : Fin 2 → ℕ} {o9 : Fin 1 → ℕ} (h7 : o7 = ![p.val, 0, 0]) (h9 : o9 = ![p.val])
    {i7 : ∀ a, o7 a + S1x1x128.size a ≤ S2x1x128.size a} {i8 : ∀ a, o8 a + S1x128.size a ≤ S1x32768.size a}
    {i9 : ∀ a, o9 a + S1.size a ≤ S2.size a} {s7 s8 w1 w2} {k : PUnit → Prog (TpuEff nD τ sig (Elt F) Λ (.scVector c w)) α}
    {O : CellTallies nD τ sig (HIx 2)} {W : Waits sig (HIx 2)} :
    iprop(Transfers.MayWaits thr (default : HIx 2) O
        ∗ Transfers.Flight EC thr (.dma (sm2 sI p)) (default : HIx 2) (slI aI p).view.dmaCredit D ∗ owes thr O W)
      ⊢ iprop((iprop(D ∗ semVal (thr, SemLoc.dma (sm2 sI p)) 0 ∗ owes thr O (insert (SemLoc.dma (sm2 sI p), default) W))
              -∗ wp frame (wpE defs 𝒱 thr bd) Set.univ (k ⟨⟩) Q)
          -∗ wp frame (wpE defs 𝒱 thr bd) Set.univ
            (.op (.waitDma2 ((sI.slice (Rect.unit (s := S2) o9 S1.size i9)).squeeze S_ squeezes_S1_S_).sem
              (aL.slice (Rect.unit (s := S1x32768) o8 S1x128.size i8) s8)
              ((aI.slice (Rect.unit (s := S2x1x128) o7 S1x1x128.size i7) s7).squeeze S1x128 squeezes_S1x1x128_S1x128) w1 w2) k) Q) := by
  subst h7 h9
  iintro ⟨#Hmw, Hf, HO⟩
  iapply (Transfers.wp_waitLocalO EC 𝒱 thr bd (default : HIx 2) (N := (slI aI p).view.dmaCredit) rfl (D := D) (O := O) (W := W))
  isplitl [Hf]; · iexact Hf
  isplitl [HO]; · iexact HO
  iapply (Transfers.MayWaits.elim (SemLoc.dma (sm2 sI p))) $$ Hmw

/-- The row numbers as the gather reads them: slot `p` of the index scratch as a list of 128. -/
abbrev offI (aI : Memref sig .scVector .vmem S2x1x128 .i32) (p : Fin 2) : Memref sig .scVector .vmem S128 .i32 :=
  ((slI aI p).slice (Rect.unit (s := S1x128) ![0, 0] S1x128.size inb_S1x128_S1x128_0_0) (fun _ => rfl)).squeeze S128 squeezes_S1x128_S128

theorem set_offI (aI : Memref sig .scVector .vmem S2x1x128 .i32) (p : Fin 2) : (offI aI p).view.set = (slI aI p).view.set := by
  show ((((slI aI p).view).slice _).reshape S128 _).set = _
  rw [View.set_reshape, View.set_slice, Rect.set_eq_univ_of_whole]
  · rfl
  · intro a; match a with
    | 0 => exact ⟨rfl, rfl, rfl⟩
    | 1 => exact ⟨rfl, rfl, rfl⟩

/-- Word `x` of the slot as the gather reads it. -/
theorem read_offI (aI : Memref sig .scVector .vmem S2x1x128 .i32) (p : Fin 2) (f : aI.view.ty.Contents (Elt F)) (x : S128.Idx) :
    (offI aI p).view.read (Elt F) f x = (slI aI p).view.read (Elt F) f (ix2 (0 : Fin 1) (x 0)) := by
  rw [View.read_apply, View.read_apply]
  refine congrArg _ (congrArg f (congrArg (slI aI p).view.emb ?_))
  refine (congrArg (Rect.emb _) (show Shape.reshapeEquiv squeezes_S1x128_S128.numel_eq x = ix2 (0 : Fin 1) (x 0) from
    Shape.reshapeEquiv_eq_of_rowMajor _ ?_)).trans ?_
  · exact (rowMajor_val2 (d := ![1, 128]) (ix2 (0 : Fin 1) (x 0)) 128 rfl).trans ((Nat.zero_add _).trans (rowMajor_val1 x).symm)
  · funext a; match a with
    | 0 => rfl
    | 1 => exact Fin.ext (by simp [Rect.emb, Rect.unit])

variable (d c w) in
/-- What the gather into slot `p` delivers: the slot reading `G`, the share of the table and the list's slot. -/
def DG {sT : Shape} (tb : Memref sig .scVector .hbm sT .i32) (aI : Memref sig .scVector .vmem S2x1x128 .i32)
    (aR : Memref sig .scVector .vmem S2x128x128 .i32) (p : Fin 2) (q : PosShare TreeShare) (tv : Buf (Elt F) (tb.view.loc thr))
    (fo : Buf (Elt F) ((slI aI p).view.loc thr)) (G : S128x128.Idx → Elt F .i32) : sProp 𝕄 :=
  iprop((∃ f, ⌜(slR aR p).view.read (Elt F) f = G⌝ ∗ ((slR aR p).view.loc thr ↦[(slR aR p).view.set]{fullShare} f))
    ∗ (tb.view.loc thr ↦[tb.view.set]{q} tv) ∗ ((slI aI p).view.loc thr ↦[(slI aI p).view.set]{fullShare} fo))

/-- The indirect gather into slot `p` is issued. -/
theorem wp_issueG {sT : Shape} (hg : sT.Gathers 0 S128x128) (tb : Memref sig .scVector .hbm sT .i32) (aI : Memref sig .scVector .vmem S2x1x128 .i32)
    (aR : Memref sig .scVector .vmem S2x128x128 .i32) (sG : DmaSems sig S_) (p : Fin 2)
    (hN : ∑ j, ((slR aR p).slice (S128x128.rowRect hg.axis' j) (S128x128.stride_rowRect hg.axis' j)).view.dmaCredit = (slR aR p).view.dmaCredit)
    (hn : S128.numel = S128x128.size hg.axis')
    {o10 o11 : Fin 3 → ℕ} (h10 : o10 = ![p.val, 0, 0]) (h11 : o11 = ![p.val, 0, 0])
    {i10 : ∀ a, o10 a + S1x128x128.size a ≤ S2x128x128.size a} {i11 : ∀ a, o11 a + S1x1x128.size a ≤ S2x1x128.size a}
    {s10 s11 s12 w1 w2 w3 w4 w5} {k : PUnit → Prog (TpuEff nD τ sig (Elt F) Λ (.scVector c w)) α}
    {q : PosShare TreeShare} {tv : Buf (Elt F) (tb.view.loc thr)} {fo : Buf (Elt F) ((slI aI p).view.loc thr)} {fd : Buf (Elt F) ((slR aR p).view.loc thr)}
    (G : S128x128.Idx → Elt F .i32)
    (hin : ∀ x, ((offI aI p).view.read (Elt F) fo x).toNat < sT.size hg.axis)
    (hG : SparseCore.gatherPayload hg (tb.view.read (Elt F) tv) (SparseCore.rows ((offI aI p).view.read (Elt F) fo) hn hin) = G) :
    iprop((tb.view.loc thr ↦[tb.view.set]{q} tv) ∗ ((slR aR p).view.loc thr ↦[(slR aR p).view.set]{fullShare} fd)
        ∗ ((slI aI p).view.loc thr ↦[(slI aI p).view.set]{fullShare} fo) ∗ semVal (thr, SemLoc.dma sG.sem) 0)
      ⊢ iprop((Transfers.Flight EC thr (.dma sG.sem) (default : HIx 2) (slR aR p).view.dmaCredit (DG d c w tb aI aR p q tv fo G)
              -∗ wp frame (wpE defs 𝒱 thr bd) Set.univ (k ⟨⟩) Q)
          -∗ wp frame (wpE defs 𝒱 thr bd) Set.univ
            (SparseCore.enqueueIndirectGather w1 tb
              ((aR.slice (Rect.unit (s := S2x128x128) o10 S1x128x128.size i10) s10).squeeze S128x128 squeezes_S1x128x128_S128x128) hg
              ((((aI.slice (Rect.unit (s := S2x1x128) o11 S1x1x128.size i11) s11).squeeze S1x128 squeezes_S1x1x128_S1x128).slice
                (Rect.unit (s := S1x128) ![0, 0] S1x128.size inb_S1x128_S1x128_0_0) s12).squeeze S128 squeezes_S1x128_S128)
              hn sG.sem w2 w3 w4 w5 >>= k) Q) := by
  subst h10 h11
  iintro ⟨Ht, Hd, Hi, Hs⟩ Hk
  iapply (SparseCore.wp_indirectGatherLocal EC 𝒱 thr bd (src := tb) (dst := slR aR p) (offs := offI aI p) (hg := hg) (hn := hn)
    (q := q) (qo := fullShare) (fs := tv) (fd := fd) (fo := fo) (default : HIx 2) (slR aR p).view.dmaCredit hN (by decide) hin) $$ [Ht Hd Hi Hs]
  · isplitl [Ht]; · iexact Ht
    isplitl [Hd]; · iexact Hd
    isplitl [Hi]
    · rw [set_offI]; iexact Hi
    iexact Hs
  iintro Hf
  iapply Hk
  iapply (Transfers.Flight_mono EC thr (by
    unfold DG
    rw [set_offI]
    iintro ⟨Hd, Ht, Hi⟩
    isplitl [Hd]
    · iexists _
      isplitr
      swap; · iexact Hd
      ipureintro; exact (View.read_write_univ _ _).trans hG
    isplitl [Ht]; · iexact Ht
    iexact Hi)) $$ Hf

/-- The gather is waited for. -/
theorem wp_waitG {sT : Shape} (tb : Memref sig .scVector .hbm sT .i32) (aR : Memref sig .scVector .vmem S2x128x128 .i32) (sG : DmaSems sig S_) (p : Fin 2)
    {D : sProp 𝕄} {o10 : Fin 3 → ℕ} (h10 : o10 = ![p.val, 0, 0])
    {i10 : ∀ a, o10 a + S1x128x128.size a ≤ S2x128x128.size a} {s10 w1 w2} {k : PUnit → Prog (TpuEff nD τ sig (Elt F) Λ (.scVector c w)) α}
    {O : CellTallies nD τ sig (HIx 2)} {W : Waits sig (HIx 2)} :
    iprop(Transfers.MayWaits thr (default : HIx 2) O
        ∗ Transfers.Flight EC thr (.dma sG.sem) (default : HIx 2) (slR aR p).view.dmaCredit D ∗ owes thr O W)
      ⊢ iprop((iprop(D ∗ semVal (thr, SemLoc.dma sG.sem) 0 ∗ owes thr O (insert (SemLoc.dma sG.sem, default) W))
              -∗ wp frame (wpE defs 𝒱 thr bd) Set.univ (k ⟨⟩) Q)
          -∗ wp frame (wpE defs 𝒱 thr bd) Set.univ
            (.op (.waitDma2 sG.sem tb
              ((aR.slice (Rect.unit (s := S2x128x128) o10 S1x128x128.size i10) s10).squeeze S128x128 squeezes_S1x128x128_S128x128) w1 w2) k) Q) := by
  subst h10
  iintro ⟨#Hmw, Hf, HO⟩
  iapply (Transfers.wp_waitLocalO EC 𝒱 thr bd (default : HIx 2) (N := (slR aR p).view.dmaCredit) rfl (D := D) (O := O) (W := W))
  isplitl [Hf]; · iexact Hf
  isplitl [HO]; · iexact HO
  iapply (Transfers.MayWaits.elim (SemLoc.dma sG.sem)) $$ Hmw

variable (d c w) in
/-- Block `b` of the result in write mode, before (`W` empty) or after this holder's write. -/
abbrev wO (aO : Memref sig .scVector .hbm S32768x128 .i32) (b : Fin 256) (q : PosShare TreeShare)
    (f g : Buf (Elt F) (aO.view.loc thr)) (W : Finset (Idx (aO.view.loc thr))) : sProp 𝕄 :=
  willBeTo EW (aO.view.loc thr) (blkO aO b).view.set q f (fun i => some (g i)) W

variable (d c w) in
/-- What the copy of row slot `p` out to block `b` delivers: the block marked written, the slot back. -/
def DO (aO : Memref sig .scVector .hbm S32768x128 .i32) (aR : Memref sig .scVector .vmem S2x128x128 .i32) (p : Fin 2) (b : Fin 256)
    (q : PosShare TreeShare) (f g : Buf (Elt F) (aO.view.loc thr)) : sProp 𝕄 :=
  iprop(wO d c w aO b q f g Finset.univ ∗ ∃ f, (slR aR p).view.loc thr ↦[(slR aR p).view.set]{fullShare} f)

/-- The copy of row slot `p` out to block `b` is issued: what the slot reads is what the block is to hold. -/
theorem wp_issueO (aO : Memref sig .scVector .hbm S32768x128 .i32) (aR : Memref sig .scVector .vmem S2x128x128 .i32) (sR : DmaSems sig S2)
    (p : Fin 2) (b : Fin 256) (hN : 0 < (blkO aO b).view.dmaCredit) {ιwm : ℕ}
    {o12 : Fin 3 → ℕ} {o13 : Fin 2 → ℕ} {o14 : Fin 1 → ℕ} (h12 : o12 = ![p.val, 0, 0]) (h13 : o13 = ![128 * b.val, 0]) (h14 : o14 = ![p.val])
    {i12 : ∀ a, o12 a + S1x128x128.size a ≤ S2x128x128.size a} {i13 : ∀ a, o13 a + S128x128.size a ≤ S32768x128.size a}
    {i14 : ∀ a, o14 a + S1.size a ≤ S2.size a} {s12 s13 w1 w2 w3} {k : PUnit → Prog (TpuEff nD τ sig (Elt F) Λ (.scVector c w)) α}
    {q : PosShare TreeShare} {f0 g : Buf (Elt F) (aO.view.loc thr)} {f : Buf (Elt F) ((slR aR p).view.loc thr)}
    (hG : (slR aR p).view.read (Elt F) f = (blkO aO b).view.read (Elt F) g) :
    iprop(wmInv EW ιwm ∗ wO d c w aO b q f0 g ∅ ∗ ((slR aR p).view.loc thr ↦[(slR aR p).view.set]{fullShare} f)
        ∗ semVal (thr, SemLoc.dma (sm2 sR p)) 0)
      ⊢ iprop((Transfers.Flight EC thr (.dma (sm2 sR p)) (default : HIx 2) (blkO aO b).view.dmaCredit (DO d c w aO aR p b q f0 g)
              -∗ wp frame (wpE defs 𝒱 thr bd) Set.univ (k ⟨⟩) Q)
          -∗ wp frame (wpE defs 𝒱 thr bd) Set.univ
            (.op (.enqueueDma ((aR.slice (Rect.unit (s := S2x128x128) o12 S1x128x128.size i12) s12).squeeze S128x128 squeezes_S1x128x128_S128x128)
              (.here (aO.slice (Rect.unit (s := S32768x128) o13 S128x128.size i13) s13))
              (.dma ((sR.slice (Rect.unit (s := S2) o14 S1.size i14)).squeeze S_ squeezes_S1_S_).sem) w1 w2 w3) k) Q) := by
  subst h12 h13 h14
  iintro ⟨#Hwm, Ho, Hr, Hs⟩ Hk
  imod (Transfers.flight_alloc EC hN iprop((willBeTo EW (aO.view.loc thr) (blkO aO b).view.set q f0 (fun i => some (g i)) (∅ ∪ (blkO aO b).view.set))
      ∗ ((slR aR p).view.loc thr ↦[(slR aR p).view.set]{fullShare} f)) (g := (thr, SemLoc.dma (sm2 sR p)))) $$ Hs with ⟨%γ, %δ, %κ, #Hinv, Hγ, Hδ⟩
  iapply (wp_enqueueDma_willBeTo (emb := EW) (ιwm := ιwm) 𝒱 thr bd Set.univ (src := slR aR p) (dst := blkO aO b) (fs := f) (q := fullShare)
    (qd := q) (fd := f0) (g := fun i => some (g i)) (W := ∅) (default : HIx 2) (blkO aO b).view.dmaCredit rfl
    ((View.admitted_some_iff ..).mpr fun x _ => congrFun hG x)) $$ [Ho Hr] [Hγ]
  · isplitl [Hr]; · iexact Hr
    isplitr; · iexact Hwm
    iexact Ho
  · iapply (Transfers.flight_creditUpdate EC (δ := δ) (ι := κ))
    isplitr; · iexact Hinv
    iexact Hγ
  iintro Hcred
  iapply Hk
  ihave Hf := (Transfers.flight_intro EC thr (sm := .dma (sm2 sR p)) (ι := (default : HIx 2)) (κ := κ) (γ := γ) (δ := δ)) $$ [Hδ Hcred]
  · isplitr; · iexact Hinv
    isplitl [Hδ] <;> iassumption
  iapply (Transfers.Flight_mono EC thr (by
    unfold DO
    iintro ⟨Hd, Hs⟩
    isplitl [Hd]
    · iapply (Entails.of_eq (BI.Region.willBe_congr (fun _ _ => rfl) (fun _ _ => rfl) fun i hi => by
        rw [Finset.empty_union]; exact ⟨fun _ => Finset.mem_univ i, fun _ => hi⟩)) $$ Hd
    iexists _; iexact Hs)) $$ Hf

/-- A copy out is waited for. -/
theorem wp_waitO (aO : Memref sig .scVector .hbm S32768x128 .i32) (aR : Memref sig .scVector .vmem S2x128x128 .i32) (sR : DmaSems sig S2)
    (p : Fin 2) (b : Fin 256) {D : sProp 𝕄}
    {o15 : Fin 3 → ℕ} {o16 : Fin 2 → ℕ} {o17 : Fin 1 → ℕ} (h16 : o16 = ![128 * b.val, 0]) (h17 : o17 = ![p.val])
    {i15 : ∀ a, o15 a + S1x128x128.size a ≤ S2x128x128.size a} {i16 : ∀ a, o16 a + S128x128.size a ≤ S32768x128.size a}
    {i17 : ∀ a, o17 a + S1.size a ≤ S2.size a} {s15 s16 w1 w2} {k : PUnit → Prog (TpuEff nD τ sig (Elt F) Λ (.scVector c w)) α}
    {O : CellTallies nD τ sig (HIx 2)} {W : Waits sig (HIx 2)} :
    iprop(Transfers.MayWaits thr (default : HIx 2) O
        ∗ Transfers.Flight EC thr (.dma (sm2 sR p)) (default : HIx 2) (blkO aO b).view.dmaCredit D ∗ owes thr O W)
      ⊢ iprop((iprop(D ∗ semVal (thr, SemLoc.dma (sm2 sR p)) 0 ∗ owes thr O (insert (SemLoc.dma (sm2 sR p), default) W))
              -∗ wp frame (wpE defs 𝒱 thr bd) Set.univ (k ⟨⟩) Q)
          -∗ wp frame (wpE defs 𝒱 thr bd) Set.univ
            (.op (.waitDma2 ((sR.slice (Rect.unit (s := S2) o17 S1.size i17)).squeeze S_ squeezes_S1_S_).sem
              ((aR.slice (Rect.unit (s := S2x128x128) o15 S1x128x128.size i15) s15).squeeze S128x128 squeezes_S1x128x128_S128x128)
              (aO.slice (Rect.unit (s := S32768x128) o16 S128x128.size i16) s16) w1 w2) k) Q) := by
  subst h16 h17
  iintro ⟨#Hmw, Hf, HO⟩
  iapply (Transfers.wp_waitLocalO EC 𝒱 thr bd (default : HIx 2) (N := (blkO aO b).view.dmaCredit) rfl (D := D) (O := O) (W := W))
  isplitl [Hf]; · iexact Hf
  isplitl [HO]; · iexact HO
  iapply (Transfers.MayWaits.elim (SemLoc.dma (sm2 sR p))) $$ Hmw

end Steps

end Cert.Proof.Rows

end
-- ==== Proof.Facts0.lean ====
/-
  What the pipeline's carried words are at each trip, and what the kernel's offsets and conditions come to there: the
  slot alternates between 0 and 1, the block is the trip's, the fetch of the next block is issued except at the last trip,
  the copy of the block before is waited for except at the first.
-/
module

public import proofs.«01_k».proof.Proof.Steps

@[expose] public section

noncomputable section

namespace Cert.Proof.Rows

open Cert.KernelIdeal Cert.KernelIdeal.Gen
open Idealize.ShloMosaic

/-- The slot of trip `n`. -/
def par (n : ℕ) : Fin 2 := ⟨n % 2, Nat.mod_lt _ (by decide)⟩
theorem par_add_two (n : ℕ) : par (n + 1 + 1) = par n := by simp [par, Nat.add_mod_right, Nat.add_assoc]

/-- Block `j` of tile `w`. -/
def blk (w j : Fin 16) : Fin 256 := ⟨16 * w.val + j.val, by omega⟩

/-- The words carried into trip `n`: the fetches issued, waited for, the row slots filled, waited for, the block. -/
def acc (n : ℕ) : BitVec 32 × BitVec 32 × BitVec 32 × BitVec 32 × BitVec 32 :=
  (BitVec.ofNat 32 (min (n + 1) 16), BitVec.ofNat 32 n, BitVec.ofNat 32 n, BitVec.ofNat 32 (n - 1), BitVec.ofNat 32 (n % 16))

theorem k0_trips : k0_t1_loop.trips = 16 := by decide

/-- The tile's number among the 16 subcores. -/
abbrev wOf0 (i : grid0.Coords) : Fin 16 := i 1

section
variable (i : grid0.Coords) (t : Fin k0_t1_loop.trips)

theorem k0_off1_at : k0_off1 = ![(par 0).val, 0, 0] := by decide +kernel
theorem k0_off3_at : k0_off3 = ![(par 0).val] := by decide +kernel
theorem k0_off2_at : k0_off2 i = ![0, 128 * (blk (wOf0 i) 0).val] := by
  unfold k0_off2 wOf0; generalize (i 1) = w; revert w; decide +kernel
theorem k0_cond1_at : k0_cond1 i t (acc t.val).2.2.2.2 = 1#1 ↔ t.val + 1 < 16 := by
  unfold k0_cond1; generalize (i 1) = w; revert t w; decide +kernel
theorem k0_cond2_at : k0_cond2 i t (acc t.val).2.2.2.2 = 1#1 := by
  unfold k0_cond2; generalize (i 1) = w; revert t w; decide +kernel
theorem k0_cond5_at : k0_cond5 i t (acc t.val).2.2.2.2 = 1#1 := by
  unfold k0_cond5; generalize (i 1) = w; revert t w; decide +kernel
theorem k0_cond7_at : k0_cond7 i t (acc t.val).2.2.2.2 = 1#1 ↔ 0 < t.val := by
  unfold k0_cond7; generalize (i 1) = w; revert t w; decide +kernel
theorem k0_off4_at (h : t.val + 1 < 16) : k0_off4 (acc t.val).1 = ![(par (t.val + 1)).val, 0, 0] := by
  revert t; decide +kernel
theorem k0_off5_at (h : t.val + 1 < 16) : k0_off5 i (acc t.val).2.2.2.2 = ![0, 128 * (blk (wOf0 i) ⟨t.val + 1, h⟩).val] := by
  unfold k0_off5 wOf0; generalize (i 1) = w; revert t w; decide +kernel
theorem k0_off6_at (h : t.val + 1 < 16) : k0_off6 (acc t.val).1 = ![(par (t.val + 1)).val] := by
  revert t; decide +kernel
theorem k0_off7_at : k0_off7 (acc t.val).2.1 = ![(par t.val).val, 0, 0] := by revert t; decide +kernel
theorem k0_off9_at : k0_off9 (acc t.val).2.1 = ![(par t.val).val] := by revert t; decide +kernel
theorem k0_off10_at : k0_off10 (acc t.val).2.2.1 = ![(par t.val).val, 0, 0] := by revert t; decide +kernel
theorem k0_off11_at : k0_off11 (acc t.val).2.1 = ![(par t.val).val, 0, 0] := by revert t; decide +kernel
theorem k0_off12_at : k0_off12 (acc t.val).2.2.1 = ![(par t.val).val, 0, 0] := by revert t; decide +kernel
theorem k0_off13_at : k0_off13 i (acc t.val).2.2.2.2 = ![128 * (blk (wOf0 i) (t.cast k0_trips)).val, 0] := by
  unfold k0_off13 wOf0; generalize (i 1) = w; revert t w; decide +kernel
theorem k0_off14_at : k0_off14 (acc t.val).2.2.1 = ![(par t.val).val] := by revert t; decide +kernel
theorem k0_off15_at (h : 0 < t.val) : k0_off15 (acc t.val).2.2.2.1 = ![(par (t.val - 1)).val, 0, 0] := by revert t; decide +kernel
theorem k0_off16_at (h : 0 < t.val) :
    k0_off16 i (acc t.val).2.2.2.2 = ![128 * (blk (wOf0 i) ⟨t.val - 1, (Nat.sub_le _ _).trans_lt (t.isLt.trans_eq k0_trips)⟩).val, 0] := by
  unfold k0_off16 wOf0; generalize (i 1) = w; revert t w; decide +kernel
theorem k0_off17_at (h : 0 < t.val) : k0_off17 (acc t.val).2.2.2.1 = ![(par (t.val - 1)).val] := by revert t; decide +kernel
theorem k0_off8_at : k0_off8 i (acc t.val).2.2.2.2 = ![0, 128 * (blk (wOf0 i) (t.cast k0_trips)).val] := by
  unfold k0_off8 wOf0; generalize (i 1) = w; revert t w; decide +kernel
theorem k0_off19_at : k0_off19 i (acc 16).2.2.2.2 = ![128 * (blk (wOf0 i) 15).val, 0] := by
  unfold k0_off19 wOf0; generalize (i 1) = w; revert w; decide +kernel
theorem k0_off18_at : k0_off18 (acc 16).2.2.2.1 = ![(par 15).val, 0, 0] := by decide +kernel
theorem k0_off20_at : k0_off20 (acc 16).2.2.2.1 = ![(par 15).val] := by decide +kernel
theorem k0_off21_at : k0_off21 (acc 16).2.2.2.1 = ![(par 15).val, 0, 0] := by decide +kernel

/-- The side conditions the body assumes hold at every trip. -/
theorem k0_chk3_at : k0_chk3 (acc t.val).2.1 := by unfold k0_chk3; rw [k0_off11_at]; exact inbI _
theorem k0_chk2_at : k0_chk2 (acc t.val).2.2.1 := by unfold k0_chk2; rw [k0_off10_at]; exact inbR _
theorem k0_chk1_at : k0_chk1 i t (acc t.val).1 (acc t.val).2.1 (acc t.val).2.2.1 (acc t.val).2.2.2.1 (acc t.val).2.2.2.2 := by
  unfold k0_chk1
  refine ⟨fun h => ?_, fun h => ?_, fun h => ?_, fun h => ?_, fun h => ?_, fun h => ?_, fun h => ?_, fun h => ?_, fun h => ?_, fun h => ?_,
    fun h => ?_, fun h => ?_⟩
  · rw [k0_off4_at t ((k0_cond1_at i t).mp h)]; exact inbI _
  · rw [k0_off5_at i t ((k0_cond1_at i t).mp h)]; exact inbL _
  · rw [k0_off6_at t ((k0_cond1_at i t).mp h)]; exact inbS _
  · rw [k0_off7_at]; exact inbI _
  · rw [k0_off8_at]; exact inbL _
  · rw [k0_off9_at]; exact inbS _
  · rw [k0_off12_at]; exact inbR _
  · rw [k0_off13_at]; exact inbO _
  · rw [k0_off14_at]; exact inbS _
  · rw [k0_off15_at t ((k0_cond7_at i t).mp h)]; exact inbR _
  · rw [k0_off16_at i t ((k0_cond7_at i t).mp h)]; exact inbO _
  · rw [k0_off17_at t ((k0_cond7_at i t).mp h)]; exact inbS _
theorem k0_chk5_at : k0_chk5 i (acc 16).2.2.2.2 := by unfold k0_chk5; rw [k0_off19_at]; exact inbO _
theorem k0_chk4_at : k0_chk4 (acc 16).2.2.2.1 := by
  unfold k0_chk4; rw [k0_off18_at, k0_off20_at, k0_off21_at]; exact ⟨inbR _, inbS _, inbR _⟩

/-- The tile's first block, as the body computes it. -/
def v0_0 (i : grid0.Coords) : BitVec 32 := Scalar.muli (BitVec.ofNat 32 (i 1).val) 16#32
/-- Whether this is the first trip. -/
def v60_0 (t : Fin k0_t1_loop.trips) : BitVec 1 := Scalar.cmpi .eq (Scf.iv 0#32 1#32 t) 0#32
/-- Whether this is the last trip. -/
def v61_0 (t : Fin k0_t1_loop.trips) : BitVec 1 := Scalar.cmpi .eq (Scf.iv 0#32 1#32 t) 15#32
/-- This trip's block. -/
def v62_0 (i : grid0.Coords) (a10 : BitVec 32) : BitVec 32 := Scalar.addi a10 (v0_0 i)
/-- The block of the trip before. -/
def v67_0 (i : grid0.Coords) (a10 : BitVec 32) : BitVec 32 :=
  Scalar.addi (Scalar.select (Scalar.cmpi .eq (Scalar.select 1#1 (Scalar.subi a10 1#32) a10) 4294967295#32) 15#32 (Scalar.select 1#1 (Scalar.subi a10 1#32) a10)) (v0_0 i)
/-- The block of the trip after. -/
def v72_0 (i : grid0.Coords) (a10 : BitVec 32) : BitVec 32 :=
  Scalar.addi (Scalar.select (Scalar.cmpi .eq (Scalar.select 1#1 (Scalar.addi a10 1#32) a10) 16#32) 0#32 (Scalar.select 1#1 (Scalar.addi a10 1#32) a10)) (v0_0 i)
/-- The fetches issued, after the trip. -/
def v87_0 (i : grid0.Coords) (t : Fin k0_t1_loop.trips) (a6 a10 : BitVec 32) : BitVec 32 :=
  Scalar.select (Scalar.andi (Scalar.andi (Scalar.cmpi .ne (v62_0 i a10) (v72_0 i a10)) (Scalar.xori (Scalar.cmpi .sge (Scf.iv 0#32 1#32 t) 15#32) 1#1)) 1#1)
    (Scalar.addi a6 1#32) a6

/-- The words carried out of a trip, as the body computes them from those carried in. -/
def nextAcc0 (i : grid0.Coords) (t : Fin k0_t1_loop.trips) (a6 a7 a8 a9 a10 : BitVec 32) :
    BitVec 32 × BitVec 32 × BitVec 32 × BitVec 32 × BitVec 32 :=
  (v87_0 i t a6 a10,
   Scalar.select (Scalar.ori (Scalar.cmpi .ne (v62_0 i a10) (v72_0 i a10)) (v61_0 t)) (Scalar.addi a7 1#32) a7,
   Scalar.select (Scalar.andi (Scalar.ori (Scalar.cmpi .ne (v62_0 i a10) (v72_0 i a10)) (v61_0 t)) 1#1) (Scalar.addi a8 1#32) a8,
   Scalar.select (Scalar.andi (Scalar.andi (Scalar.cmpi .ne (v62_0 i a10) (v67_0 i a10)) (Scalar.xori (v60_0 t) 1#1)) 1#1) (Scalar.addi a9 1#32) a9,
   Scalar.select (Scalar.cmpi .eq (Scalar.select 1#1 (Scalar.addi a10 1#32) a10) 16#32) 0#32 (Scalar.select 1#1 (Scalar.addi a10 1#32) a10))
theorem nextAcc0_at : nextAcc0 i t (acc t.val).1 (acc t.val).2.1 (acc t.val).2.2.1 (acc t.val).2.2.2.1 (acc t.val).2.2.2.2 = acc (t.val + 1) := by
  unfold nextAcc0 v87_0 v72_0 v67_0 v62_0 v0_0; generalize (i 1) = w; revert t w; decide +kernel
end

end Cert.Proof.Rows

end
-- ==== Proof.Inv.lean ====
/-
  What a tile of the row gather holds between the trips of its pipelined loop: before trip `n` the fetch of block `n` is
  in flight and so is the copy out of block `n - 1`; the blocks copied out earlier are marked written, those from `n` on
  are not yet.
-/
module

public import proofs.«01_k».proof.Proof.Facts0

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

/-! ## Sets of blocks -/

/-- The blocks whose share of the list is at hand before trip `n`: all but the one being fetched. -/
def lstS (n : ℕ) : Finset (Fin 16) := Finset.univ.filter fun j => j.val ≠ n
/-- The blocks not yet copied out before trip `n`. -/
def freshS (n : ℕ) : Finset (Fin 16) := Finset.univ.filter fun j => n ≤ j.val
/-- The blocks whose copy out has been waited for before trip `n`. -/
def doneS (n : ℕ) : Finset (Fin 16) := Finset.univ.filter fun j => j.val + 1 < n

/-- The blocks whose share is at hand while those of trips `n` and `n + 1` are being fetched. -/
def lst2S (n : ℕ) : Finset (Fin 16) := Finset.univ.filter fun j => j.val ≠ n ∧ j.val ≠ n + 1

theorem lstS_next (n : ℕ) (h' : n + 1 < 16) : lstS n = insert ⟨n + 1, h'⟩ (lst2S n) := by
  ext j; simp [lstS, lst2S, Fin.ext_iff]; omega
theorem lstS_back (n : ℕ) (h : n < 16) : lstS (n + 1) = insert ⟨n, h⟩ (lst2S n) := by
  ext j; simp [lstS, lst2S, Fin.ext_iff]; omega
theorem lstS_over (n : ℕ) (h' : ¬ n + 1 < 16) : lstS n = lst2S n := by
  ext j; simp [lstS, lst2S]; omega
theorem notin_lst2S (n : ℕ) (h : n < 16) : (⟨n, h⟩ : Fin 16) ∉ lst2S n := by simp [lst2S]
theorem notin_lst2S' (n : ℕ) (h : n + 1 < 16) : (⟨n + 1, h⟩ : Fin 16) ∉ lst2S n := by simp [lst2S]
theorem notin_freshS (n : ℕ) (h : n < 16) : (⟨n, h⟩ : Fin 16) ∉ freshS (n + 1) := by simp [freshS]
theorem notin_doneS (n : ℕ) (h : n < 16) : (⟨n, h⟩ : Fin 16) ∉ doneS (n + 1) := by simp [doneS]
theorem notin_lstS0 : (0 : Fin 16) ∉ lstS 0 := by decide
theorem lstS_16 : lstS 16 = Finset.univ := by decide
theorem lstS_0 : insert 0 (lstS 0) = Finset.univ := by decide
theorem freshS_next (n : ℕ) (h : n < 16) : freshS n = insert ⟨n, h⟩ (freshS (n + 1)) := by
  ext j; simp [freshS, Fin.ext_iff]; omega
theorem freshS_0 : freshS 0 = Finset.univ := by decide
theorem freshS_16 : freshS 16 = ∅ := by decide
theorem doneS_next (n : ℕ) (h : n < 16) : doneS (n + 1 + 1) = insert ⟨n, h⟩ (doneS (n + 1)) := by
  ext j; simp [doneS, Fin.ext_iff]; omega
theorem doneS_0 : doneS 0 = ∅ := by decide
theorem doneS_1 : doneS 1 = ∅ := by decide
theorem doneS_17 : doneS 17 = Finset.univ := by decide

section
variable {M : Type} [URA M]
theorem bigSep_ins {I : Type} [DecidableEq I] {s : Finset I} {i : I} (hi : i ∉ s) (Φ : I → sProp M) :
    bigSep (insert i s) Φ = iprop(Φ i ∗ bigSep s Φ) := Idealize.SL.BI.bigSep_insert hi
end

/-! ## The slots -/

section Slots
variable (d : Dev nD) (c : Fin τ.nSC) (w : Fin τ.nSub)
variable (aL : Memref sig .scVector .hbm S1x32768 .i32) (aO : Memref sig .scVector .hbm S32768x128 .i32)
variable (aI : Memref sig .scVector .vmem S2x1x128 .i32) (aR : Memref sig .scVector .vmem S2x128x128 .i32)
variable (sI sR : DmaSems sig S2) (B : Fin 16 → Fin 256)

local notation "thr" => (V d c w : Thread nD τ)

/-- Slot `p` of the index scratch, at rest. -/
def idxFree (p : Fin 2) : sProp (MT nD τ sig (HIx 2) (Elt F) ℕ (UU F) ℕ) :=
  iprop((∃ f, (slI aI p).view.loc thr ↦[(slI aI p).view.set]{fullShare} f) ∗ semVal (thr, SemLoc.dma (sm2 sI p)) 0)
/-- Slot `p` of the row scratch, at rest. -/
def rowFree (p : Fin 2) : sProp (MT nD τ sig (HIx 2) (Elt F) ℕ (UU F) ℕ) :=
  iprop((∃ f, (slR aR p).view.loc thr ↦[(slR aR p).view.set]{fullShare} f) ∗ semVal (thr, SemLoc.dma (sm2 sR p)) 0)

variable (q : PosShare TreeShare) (L : Buf (Elt F) (aL.view.loc (V d c w))) (f0 g : Buf (Elt F) (aO.view.loc (V d c w)))

/-- Trip `n`'s slot of the index scratch before the trip: its block's fetch in flight. -/
def FlI (n : ℕ) : sProp (MT nD τ sig (HIx 2) (Elt F) ℕ (UU F) ℕ) :=
  if h : n < 16 then Transfers.Flight EC thr (.dma (sm2 sI (par n))) (default : HIx 2) (slI aI (par n)).view.dmaCredit
    (DI d c w aL aI (par n) (B ⟨n, h⟩) q L)
  else idxFree d c w aI sI (par n)

/-- The row slot of the trip before `n`: that trip's copy out in flight. -/
def FlO : ℕ → sProp (MT nD τ sig (HIx 2) (Elt F) ℕ (UU F) ℕ)
  | 0 => rowFree d c w aR sR 1
  | n + 1 => if h : n < 16 then Transfers.Flight EC thr (.dma (sm2 sR (par n))) (default : HIx 2) (blkO aO (B ⟨n, h⟩)).view.dmaCredit
      (DO d c w aO aR (par n) (B ⟨n, h⟩) q f0 g)
    else rowFree d c w aR sR (par n)

theorem FlI_lt {n : ℕ} (h : n < 16) : FlI d c w aL aI sI B q L n
    = Transfers.Flight EC thr (.dma (sm2 sI (par n))) (default : HIx 2) (slI aI (par n)).view.dmaCredit
        (DI d c w aL aI (par n) (B ⟨n, h⟩) q L) := dif_pos h
theorem FlI_over {n : ℕ} (h : ¬ n < 16) : FlI d c w aL aI sI B q L n = idxFree d c w aI sI (par n) := dif_neg h
theorem FlI_16 : FlI d c w aL aI sI B q L 16 = idxFree d c w aI sI 0 := rfl
theorem FlO_succ {n : ℕ} (h : n < 16) : FlO d c w aO aR sR B q f0 g (n + 1)
    = Transfers.Flight EC thr (.dma (sm2 sR (par n))) (default : HIx 2) (blkO aO (B ⟨n, h⟩)).view.dmaCredit
        (DO d c w aO aR (par n) (B ⟨n, h⟩) q f0 g) := dif_pos h

/-- The list's share of the blocks `s`. -/
def lsts (s : Finset (Fin 16)) : sProp (MT nD τ sig (HIx 2) (Elt F) ℕ (UU F) ℕ) :=
  bigSep s fun j => iprop((blkL aL (B j)).view.loc thr ↦[(blkL aL (B j)).view.set]{q} L)
/-- The blocks `s` of the result in write mode, marked `W`. -/
def outs (W : Finset (Idx (aO.view.loc thr))) (s : Finset (Fin 16)) : sProp (MT nD τ sig (HIx 2) (Elt F) ℕ (UU F) ℕ) :=
  bigSep s fun j => wO d c w aO (B j) q f0 g W

theorem lsts_ins {s : Finset (Fin 16)} {j : Fin 16} (h : j ∉ s) : lsts d c w aL B q L (insert j s)
    = iprop(((blkL aL (B j)).view.loc thr ↦[(blkL aL (B j)).view.set]{q} L) ∗ lsts d c w aL B q L s) := bigSep_ins h _
theorem outs_ins {W : Finset (Idx (aO.view.loc thr))} {s : Finset (Fin 16)} {j : Fin 16} (h : j ∉ s) : outs d c w aO B q f0 g W (insert j s)
    = iprop(wO d c w aO (B j) q f0 g W ∗ outs d c w aO B q f0 g W s) := bigSep_ins h _

variable {sT : Shape} (tb : Memref sig .scVector .hbm sT .i32) (qT : PosShare TreeShare) (tv : Buf (Elt F) (tb.view.loc (V d c w))) (sG : DmaSems sig S_) (ιwm : ℕ)
variable (O : CellTallies nD τ sig (HIx 2)) (W : Waits sig (HIx 2))

/-- The waits recorded: those given, and some of the tile's own. -/
def owesN : sProp (MT nD τ sig (HIx 2) (Elt F) ℕ (UU F) ℕ) :=
  iprop(∃ W', ⌜∀ p ∈ W', p ∈ W ∨ p.2 = none⌝ ∗ owes thr O W')

theorem owesN_def : owesN (F := F) d c w O W = iprop(∃ W', ⌜∀ p ∈ W', p ∈ W ∨ p.2 = none⌝ ∗ owes thr O W') := rfl
theorem owesN_intro {W' : Waits sig (HIx 2)} (h : ∀ p ∈ W', p ∈ W ∨ p.2 = none) : owes thr O W' ⊢ owesN (F := F) d c w O W := by
  unfold owesN; iintro H; iexists W'; isplitr
  · ipureintro; exact h
  iexact H

omit q in
theorem owing_insert {W' : Waits sig (HIx 2)} (s : SemLoc sig) (h : ∀ p ∈ W', p ∈ W ∨ p.2 = none) :
    ∀ p ∈ insert (s, (default : HIx 2)) W', p ∈ W ∨ p.2 = none := fun p hp =>
  (Finset.mem_insert.mp hp).elim (fun e => .inr (e ▸ rfl)) (h p)

/-- Before trip `n`, with the carried words `a`. -/
def IL (n : ℕ) (a : BitVec 32 × BitVec 32 × BitVec 32 × BitVec 32 × BitVec 32) : sProp (MT nD τ sig (HIx 2) (Elt F) ℕ (UU F) ℕ) :=
  iprop(⌜a = acc n⌝ ∗ wmInv EW ιwm ∗ Transfers.MayWaits thr (default : HIx 2) O ∗ owesN d c w O W
    ∗ FlI d c w aL aI sI B q L n ∗ idxFree d c w aI sI (par (n + 1)) ∗ rowFree d c w aR sR (par n) ∗ FlO d c w aO aR sR B q f0 g n
    ∗ lsts d c w aL B q L (lstS n) ∗ outs d c w aO B q f0 g ∅ (freshS n) ∗ outs d c w aO B q f0 g Finset.univ (doneS n)
    ∗ (tb.view.loc thr ↦[tb.view.set]{qT} tv) ∗ semVal (thr, SemLoc.dma sG.sem) 0)

end Slots

end Cert.Proof.Rows

end
-- ==== Proof.Body0.lean ====
/-
  The first row gather on one tile: sixteen blocks of 128 rows, each fetched, gathered and copied out, the transfers of
  neighbouring blocks overlapping.
-/
module

public import proofs.«01_k».proof.Proof.Inv
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The kernel has no recursion: its one variant. -/
abbrev 𝒱₀ : Variants := Variants.none

section Body
variable (d : Dev nD) (i : grid0.Coords)
variable (aT : Memref sig .scVector .hbm S16384x128 .i32) (hT : aT.IsWhole) (aL : Memref sig .scVector .hbm S1x32768 .i32) (hL : aL.IsWhole)
variable (aO : Memref sig .scVector .hbm S32768x128 .i32) (hO' : aO.IsWhole)
variable (aI : Memref sig .scVector .vmem S2x1x128 .i32) (hI : aI.IsWhole) (aR : Memref sig .scVector .vmem S2x128x128 .i32) (hR : aR.IsWhole)
variable (sI sR : DmaSems sig S2) (sG : DmaSems sig S_)

/-- The tile's SparseCore. -/
abbrev c0 (i : grid0.Coords) : Fin τ.nSC := (i 0).castLE hcore0
/-- The tile's subcore. -/
abbrev w0 (i : grid0.Coords) : Fin τ.nSub := (i 1).castLE hsub0
/-- The tile's blocks. -/
abbrev B0 (i : grid0.Coords) (j : Fin 16) : Fin 256 := blk (wOf0 i) j
/-- The table as the gather reads it. -/
abbrev tb0 (aT : Memref sig .scVector .hbm S16384x128 .i32) : Memref sig .scVector .hbm S16384x128 .i32 :=
  aT.slice (Rect.unit (s := S16384x128) ![0, 0] S16384x128.size inb_S16384x128_S16384x128_0_0) (fun _ => rfl)

local notation "thr" => (V d (c0 i) (w0 i) : Thread nD τ)

variable (q qT : PosShare TreeShare) (L : Buf (Elt F) (aL.view.loc (V d (c0 i) (w0 i)))) (f0 g : Buf (Elt F) (aO.view.loc (V d (c0 i) (w0 i))))
variable (tv : Buf (Elt F) ((tb0 aT).view.loc (V d (c0 i) (w0 i)))) (ιwm : ℕ)
variable (O : CellTallies nD τ sig (HIx 2)) (W : Waits sig (HIx 2))

/-- What the tile's blocks are to hold: with block `b` of the list in slot `p`, the rows gathered are block `b` of `g`. -/
def Vals0 : Prop := ∀ (j : Fin 16) (p : Fin 2) (fo : Buf (Elt F) ((slI aI p).view.loc (V d (c0 i) (w0 i)))),
  (slI aI p).view.read (Elt F) fo = (blkL aL (B0 i j)).view.read (Elt F) L →
  ∃ hin : ∀ x, ((offI aI p).view.read (Elt F) fo x).toNat < S16384x128.size gathers_S16384x128_S128x128.axis,
    SparseCore.gatherPayload gathers_S16384x128_S128x128 ((tb0 aT).view.read (Elt F) tv)
      (SparseCore.rows ((offI aI p).view.read (Elt F) fo) rfl hin) = (blkO aO (B0 i j)).view.read (Elt F) g

/-- One trip. -/
theorem trip0 (hNI : ∀ p, 0 < (slI aI p).view.dmaCredit) (hNO : ∀ b, 0 < (blkO aO b).view.dmaCredit)
    (hNG : ∀ p, ∑ j, ((slR aR p).slice (S128x128.rowRect gathers_S16384x128_S128x128.axis' j)
      (S128x128.stride_rowRect gathers_S16384x128_S128x128.axis' j)).view.dmaCredit = (slR aR p).view.dmaCredit)
    (hval : Vals0 d i aT aL aO aI L g tv) (t : Fin k0_t1_loop.trips)
    (a : BitVec 32 × BitVec 32 × BitVec 32 × BitVec 32 × BitVec 32) :
    IL d (c0 i) (w0 i) aL aO aI aR sI sR (B0 i) q L f0 g (tb0 aT) qT tv sG ιwm O W t.val a
      ⊢ wp frame (wpE (defs₀ (F := F)) 𝒱₀ thr none) Set.univ
        (k0_t1_body i aT hT aL hL aO hO' aI hI sI aR hR sR sG (v0_0 i) 1#32 0#32 0#32 0#32 0#32 t a)
        (IL d (c0 i) (w0 i) aL aO aI aR sI sR (B0 i) q L f0 g (tb0 aT) qT tv sG ιwm O W (t.val + 1)) := by
  obtain ⟨a6, a7, a8, a9, a10⟩ := a
  unfold IL
  iintro ⟨%ha, #Hwm, #Hmw, HO, HFI, HI, HR, HFO, HL, Hf, Hd, Ht, HG⟩
  obtain ⟨rfl, rfl, rfl, rfl, rfl⟩ : a6 = (acc t.val).1 ∧ a7 = (acc t.val).2.1 ∧ a8 = (acc t.val).2.2.1 ∧ a9 = (acc t.val).2.2.2.1
    ∧ a10 = (acc t.val).2.2.2.2 := by rw [← ha]; exact ⟨rfl, rfl, rfl, rfl, rfl⟩
  have ht : t.val < 16 := k0_trips ▸ t.isLt
  unfold k0_t1_body
  dsimp only
  rw [wp_bind]
  -- the fetch of the next block
  iapply (wp_wand frame _ _ (Q := fun r => iprop(⌜r.2.2.2.2.1 = v60_0 t ∧ r.2.2.2.2.2.1 = v61_0 t ∧ r.2.2.2.2.2.2.1 = v62_0 i (acc t.val).2.2.2.2
      ∧ r.2.2.2.2.2.2.2.1 = v67_0 i (acc t.val).2.2.2.2 ∧ r.2.2.2.2.2.2.2.2.1 = v72_0 i (acc t.val).2.2.2.2
      ∧ r.2.2.2.2.2.2.2.2.2.1 = v87_0 i t (acc t.val).1 (acc t.val).2.2.2.2⌝
    ∗ FlI d (c0 i) (w0 i) aL aI sI (B0 i) q L (t.val + 1) ∗ lsts d (c0 i) (w0 i) aL (B0 i) q L (lst2S t.val)))) $$ [HI HL]
  · simp only [k0_part1_eq_skeleton]; unfold k0_part1_skel
    simp only [Prog.lift, Prog.bind_op, Prog.bind_ret, Prog.pure_eq_ret, Prog.bind_assoc]
    iapply (wp_assume _ _ _ _ (k0_chk3_at t))
    iapply (wp_assume _ _ _ _ (k0_chk2_at t))
    iapply (wp_assume _ _ _ _ (k0_chk1_at i t))
    by_cases h1 : k0_cond1 i t (acc t.val).2.2.2.2 = 1#1
    · have h : t.val + 1 < 16 := (k0_cond1_at i t).mp h1
      rw [dif_pos h1]
      unfold idxFree
      ihave HL := (Entails.of_eq ((congrArg _ (lstS_next t.val h)).trans (lsts_ins d (c0 i) (w0 i) aL (B0 i) q L (notin_lst2S' t.val h)))) $$ HL
      icases HI with ⟨⟨%f, HI⟩, Hs⟩
      icases HL with ⟨Hb, HL⟩
      iapply (wp_issueI aL aI sI (par (t.val + 1)) (B0 i ⟨t.val + 1, h⟩) (hNI _) (k0_off4_at t h) (k0_off5_at i t h) (k0_off6_at t h)) $$ [Hb HI Hs]
      · isplitl [Hb]; · iexact Hb
        isplitl [HI]; · iexact HI
        iexact Hs
      iintro Hf
      rw [wp_ret]; imodintro
      isplitr; · ipureintro; exact ⟨rfl, rfl, rfl, rfl, rfl, rfl⟩
      isplitl [Hf]
      · iapply (Entails.of_eq (FlI_lt d (c0 i) (w0 i) aL aI sI (B0 i) q L h).symm) $$ Hf
      iexact HL
    · have h : ¬ t.val + 1 < 16 := fun h => h1 ((k0_cond1_at i t).mpr h)
      rw [dif_neg h1, wp_ret]; imodintro
      isplitr; · ipureintro; exact ⟨rfl, rfl, rfl, rfl, rfl, rfl⟩
      isplitl [HI]
      · iapply (Entails.of_eq (FlI_over d (c0 i) (w0 i) aL aI sI (B0 i) q L h).symm) $$ HI
      rw [lstS_over t.val h]; iexact HL
  iintro %r ⟨%hr, HI', HL⟩
  obtain ⟨hw3, hw2, hw1, v5, v60, v61, v62, v67, v72, v87, v92⟩ := r
  obtain ⟨h60, h61, h62, h67, h72, h87⟩ := hr
  dsimp only at h60 h61 h62 h67 h72 h87
  subst h60 h61 h62 h67 h72 h87
  dsimp only
  rw [wp_bind]
  -- this trip's block is there; its rows are gathered
  ihave HO := (Entails.of_eq (owesN_def d (c0 i) (w0 i) O W)) $$ HO
  icases HO with ⟨%W', %hW', HO⟩
  iapply (wp_wand frame _ _ (Q := fun _ => iprop((∃ f, ⌜(slR aR (par t.val)).view.read (Elt F) f = (blkO aO (B0 i ⟨t.val, ht⟩)).view.read (Elt F) g⌝
      ∗ ((slR aR (par t.val)).view.loc thr ↦[(slR aR (par t.val)).view.set]{fullShare} f))
    ∗ semVal (thr, SemLoc.dma (sm2 sR (par t.val))) 0 ∗ idxFree d (c0 i) (w0 i) aI sI (par t.val)
    ∗ lsts d (c0 i) (w0 i) aL (B0 i) q L (lstS (t.val + 1)) ∗ ((tb0 aT).view.loc thr ↦[(tb0 aT).view.set]{qT} tv)
    ∗ semVal (thr, SemLoc.dma sG.sem) 0 ∗ owesN d (c0 i) (w0 i) O W))) $$ [HFI HR HL Ht HG HO]
  · simp only [k0_part2_eq_skeleton]; unfold k0_part2_skel
    rw [dif_pos (k0_cond2_at i t)]
    simp only [Prog.lift, Prog.bind_op, Prog.bind_ret, Prog.pure_eq_ret, Prog.bind_assoc, ite_self]
    ihave HFI := (Entails.of_eq (FlI_lt d (c0 i) (w0 i) aL aI sI (B0 i) q L ht)) $$ HFI
    iapply (wp_waitI aL aI sI (par t.val) (k0_off7_at t) (k0_off9_at t)) $$ [HFI HO]
    · isplitr; · iexact Hmw
      isplitl [HFI]; · iexact HFI
      iexact HO
    unfold DI
    iintro ⟨⟨⟨%fo, %hfo, HI⟩, Hb⟩, Hs, HO⟩
    obtain ⟨hin, hG⟩ := hval ⟨t.val, ht⟩ (par t.val) fo hfo
    unfold rowFree
    icases HR with ⟨⟨%fr, HR⟩, HsR⟩
    iapply (wp_issueG gathers_S16384x128_S128x128 (tb0 aT) aI aR sG (par t.val) (hNG _) rfl (k0_off10_at t) (k0_off11_at t) _ hin hG) $$ [Ht HR HI HG]
    · isplitl [Ht]; · iexact Ht
      isplitl [HR]; · iexact HR
      isplitl [HI]; · iexact HI
      iexact HG
    iintro HF
    unfold SparseCore.waitIndirectGather
    simp only [Prog.lift, Prog.bind_op, Prog.bind_ret, Prog.pure_eq_ret, Prog.bind_assoc, ite_self]
    iapply (wp_waitG (tb0 aT) aR sG (par t.val) (k0_off10_at t)) $$ [HF HO]
    · isplitr; · iexact Hmw
      isplitl [HF]; · iexact HF
      iexact HO
    unfold DG
    iintro ⟨⟨HR, Ht, HI⟩, HG, HO⟩
    rw [wp_ret]; imodintro
    isplitl [HR]; · iexact HR
    isplitl [HsR]; · iexact HsR
    isplitl [HI Hs]
    · unfold idxFree
      isplitl [HI]; · iexists _; iexact HI
      iexact Hs
    isplitl [Hb HL]
    · rw [lstS_back t.val ht, lsts_ins d (c0 i) (w0 i) aL (B0 i) q L (notin_lst2S t.val ht)]
      isplitl [Hb] <;> iassumption
    isplitl [Ht]; · iexact Ht
    isplitl [HG]; · iexact HG
    iapply (owesN_intro d (c0 i) (w0 i) O W (owing_insert W _ (owing_insert W _ hW'))) $$ HO
  iintro %u ⟨⟨%fr, %hfr, HR⟩, HsR, HI, HL, Ht, HG, HO⟩
  -- the copy out of this block, and the wait for that of the block before
  rw [dif_pos (k0_cond5_at i t)]
  simp only [Prog.lift, Prog.bind_op, Prog.bind_ret, Prog.pure_eq_ret, Prog.bind_assoc, ite_self]
  ihave Hf := (Entails.of_eq ((congrArg _ (freshS_next t.val ht)).trans (outs_ins d (c0 i) (w0 i) aO (B0 i) q f0 g (notin_freshS t.val ht)))) $$ Hf
  icases Hf with ⟨Hb, Hf⟩
  iapply (wp_issueO aO aR sR (par t.val) (B0 i ⟨t.val, ht⟩) (hNO _) (k0_off12_at t) (k0_off13_at i t) (k0_off14_at t) hfr) $$ [Hb HR HsR]
  · isplitr; · iexact Hwm
    isplitl [Hb]; · iexact Hb
    isplitl [HR]; · iexact HR
    iexact HsR
  iintro HF
  ihave HF := (Entails.of_eq (FlO_succ d (c0 i) (w0 i) aO aR sR (B0 i) q f0 g ht).symm) $$ HF
  have hnext := nextAcc0_at i t
  by_cases h7 : k0_cond7 i t (acc t.val).2.2.2.2 = 1#1
  · have h : 0 < t.val := (k0_cond7_at i t).mp h7
    obtain ⟨n, hn⟩ : ∃ n, t.val = n + 1 := ⟨t.val - 1, by omega⟩
    have hn16 : n < 16 := by omega
    rw [dif_pos h7]
    simp only [Prog.bind_op, Prog.bind_ret]
    have e16 := k0_off16_at i t h
    have e17 := k0_off17_at t h
    have hp : par (t.val - 1) = par n := by rw [hn]; rfl
    have hb : (⟨t.val - 1, (Nat.sub_le _ _).trans_lt (t.isLt.trans_eq k0_trips)⟩ : Fin 16) = ⟨n, hn16⟩ := Fin.ext (by show t.val - 1 = n; omega)
    rw [hp] at e17
    rw [hb] at e16
    ihave HFO' := (Entails.of_eq ((congrArg (FlO d (c0 i) (w0 i) aO aR sR (B0 i) q f0 g) hn).trans (FlO_succ d (c0 i) (w0 i) aO aR sR (B0 i) q f0 g hn16))) $$ HFO
    ihave HO := (Entails.of_eq (owesN_def d (c0 i) (w0 i) O W)) $$ HO
    icases HO with ⟨%W'', %hW'', HO⟩
    iapply (wp_waitO aO aR sR (par n) (B0 i ⟨n, hn16⟩) e16 e17) $$ [HFO' HO]
    · isplitr; · iexact Hmw
      isplitl [HFO']; · iexact HFO'
      iexact HO
    unfold DO
    iintro ⟨⟨Hw, HR⟩, HsR, HO⟩
    rw [wp_ret]; imodintro
    isplitr; · ipureintro; exact hnext
    isplitr; · iexact Hwm
    isplitr; · iexact Hmw
    isplitl [HO]; · iapply (owesN_intro d (c0 i) (w0 i) O W (owing_insert W _ hW'')) $$ HO
    isplitl [HI']; · iexact HI'
    isplitl [HI]; · rw [par_add_two]; iexact HI
    isplitl [HR HsR]
    · unfold rowFree
      rw [show par (t.val + 1) = par n by rw [hn]; exact par_add_two n]
      isplitl [HR] <;> iassumption
    isplitl [HF]; · iexact HF
    isplitl [HL]; · iexact HL
    isplitl [Hf]; · iexact Hf
    isplitl [Hw Hd]
    · rw [hn, doneS_next n hn16, outs_ins d (c0 i) (w0 i) aO (B0 i) q f0 g (notin_doneS n hn16)]
      isplitl [Hw] <;> iassumption
    isplitl [Ht]; · iexact Ht
    iexact HG
  · have h : t.val = 0 := Nat.eq_zero_of_not_pos fun h => h7 ((k0_cond7_at i t).mpr h)
    rw [dif_neg h7]
    rw [wp_ret]; imodintro
    isplitr; · ipureintro; exact hnext
    isplitr; · iexact Hwm
    isplitr; · iexact Hmw
    isplitl [HO]; · iexact HO
    isplitl [HI']; · iexact HI'
    isplitl [HI]; · rw [par_add_two]; iexact HI
    isplitl [HFO]
    · iapply (Entails.of_eq (show FlO d (c0 i) (w0 i) aO aR sR (B0 i) q f0 g t.val = rowFree d (c0 i) (w0 i) aR sR (par (t.val + 1)) by rw [h]; rfl)) $$ HFO
    isplitl [HF]; · iexact HF
    isplitl [HL]; · iexact HL
    isplitl [Hf]; · iexact Hf
    isplitl [Hd]; · rw [h, doneS_1, ← doneS_0]; iexact Hd
    isplitl [Ht]; · iexact Ht
    iexact HG

/-- What the body holds at the start, apart from its blocks of the result, and holds again at the end. -/
def Res0 : sProp (MT nD τ sig (HIx 2) (Elt F) ℕ (UU F) ℕ) :=
  iprop(owesN d (c0 i) (w0 i) O W ∗ idxFree d (c0 i) (w0 i) aI sI 0 ∗ idxFree d (c0 i) (w0 i) aI sI 1
    ∗ rowFree d (c0 i) (w0 i) aR sR 0 ∗ rowFree d (c0 i) (w0 i) aR sR 1 ∗ lsts d (c0 i) (w0 i) aL (B0 i) q L Finset.univ
    ∗ ((tb0 aT).view.loc thr ↦[(tb0 aT).view.set]{qT} tv) ∗ semVal (thr, SemLoc.dma sG.sem) 0)

/-- The body: the tile's blocks of the result are marked written, everything else is given back. -/
theorem body0 (hNI : ∀ p, 0 < (slI aI p).view.dmaCredit) (hNO : ∀ b, 0 < (blkO aO b).view.dmaCredit)
    (hNG : ∀ p, ∑ j, ((slR aR p).slice (S128x128.rowRect gathers_S16384x128_S128x128.axis' j)
      (S128x128.stride_rowRect gathers_S16384x128_S128x128.axis' j)).view.dmaCredit = (slR aR p).view.dmaCredit)
    (hval : Vals0 d i aT aL aO aI L g tv) :
    iprop(wmInv EW ιwm ∗ Transfers.MayWaits thr (default : HIx 2) O ∗ outs d (c0 i) (w0 i) aO (B0 i) q f0 g ∅ Finset.univ
        ∗ Res0 d i aT aL aI aR sI sR sG q qT L tv O W)
      ⊢ wp frame (wpE (defs₀ (F := F)) 𝒱₀ thr none) Set.univ
        (cc0_k i aT hT aL hL aO hO' aI hI sI aR hR sR sG)
        (fun _ => iprop(outs d (c0 i) (w0 i) aO (B0 i) q f0 g Finset.univ Finset.univ
          ∗ Res0 d i aT aL aI aR sI sR sG q qT L tv O W)) := by
  unfold Res0
  simp only [cc0_k_eq_skeleton]; unfold cc0_k_skel
  simp only [k0_part3_eq_skeleton, k0_part4_eq_skeleton]; unfold k0_part3_skel k0_part4_skel
  simp only [Prog.lift, Prog.bind_op, Prog.bind_ret, Prog.pure_eq_ret, Prog.bind_assoc]
  iintro ⟨#Hwm, #Hmw, Ho, HO, HI, HI1, HR, HR1, HL, Ht, HG⟩
  ihave HI := (Entails.of_eq (show idxFree d (c0 i) (w0 i) aI sI 0 = iprop((∃ f, (slI aI 0).view.loc thr ↦[(slI aI 0).view.set]{fullShare} f)
    ∗ semVal (thr, SemLoc.dma (sm2 sI 0)) 0) from rfl)) $$ HI
  icases HI with ⟨⟨%f, HI⟩, Hs⟩
  ihave HL := (Entails.of_eq ((congrArg _ lstS_0.symm).trans (lsts_ins d (c0 i) (w0 i) aL (B0 i) q L notin_lstS0))) $$ HL
  icases HL with ⟨Hb, HL⟩
  iapply (wp_issueI aL aI sI 0 (B0 i 0) (hNI _) k0_off1_at (k0_off2_at i) k0_off3_at) $$ [Hb HI Hs]
  · isplitl [Hb]; · iexact Hb
    isplitl [HI]; · iexact HI
    iexact Hs
  iintro HF
  iapply (Scf.wp_for_bind frame (wpE (defs₀ (F := F)) 𝒱₀ thr none) Set.univ k0_t1_loop.lb k0_t1_loop.ub k0_t1_loop.st k0_t1_ok _ _
    (IL d (c0 i) (w0 i) aL aO aI aR sI sR (B0 i) q L f0 g (tb0 aT) qT tv sG ιwm O W)
    (fun t a => trip0 d i aT hT aL hL aO hO' aI hI aR hR sI sR sG q qT L f0 g tv ιwm O W hNI hNO hNG hval t a)) $$ [HF HO HI1 HR HR1 HL Ho Ht HG]
  · unfold IL
    isplitr; · ipureintro; decide
    isplitr; · iexact Hwm
    isplitr; · iexact Hmw
    isplitl [HO]; · iexact HO
    isplitl [HF]
    · iapply (Entails.of_eq (show Transfers.Flight EC thr (SemLoc.dma (sm2 sI 0)) default (slI aI 0).view.dmaCredit
          (DI d (c0 i) (w0 i) aL aI 0 (B0 i 0) q L) = FlI d (c0 i) (w0 i) aL aI sI (B0 i) q L 0 from rfl)) $$ HF
    isplitl [HI1]; · iexact HI1
    isplitl [HR]; · iexact HR
    isplitl [HR1]
    · iapply (Entails.of_eq (show rowFree d (c0 i) (w0 i) aR sR 1 = FlO d (c0 i) (w0 i) aO aR sR (B0 i) q f0 g 0 from rfl)) $$ HR1
    isplitl [HL]; · iexact HL
    isplitl [Ho]; · rw [freshS_0]; iexact Ho
    isplitr; · rw [doneS_0]; unfold outs; rw [bigSep_empty]; iempintro
    isplitl [Ht]; · iexact Ht
    iexact HG
  iintro %a HA
  ihave HA := (Entails.of_eq (show IL d (c0 i) (w0 i) aL aO aI aR sI sR (B0 i) q L f0 g (tb0 aT) qT tv sG ιwm O W k0_t1_loop.trips a = _ from
    congrArg (fun n => IL d (c0 i) (w0 i) aL aO aI aR sI sR (B0 i) q L f0 g (tb0 aT) qT tv sG ιwm O W n a) k0_trips)) $$ HA
  unfold IL
  icases HA with ⟨%ha, -, -, HO, HFI, HI, HR, HFO, HL, -, Hd, Ht, HG⟩
  obtain ⟨a6, a7, a8, a9, a10⟩ := a
  obtain ⟨rfl, rfl, rfl, rfl, rfl⟩ : a6 = (acc 16).1 ∧ a7 = (acc 16).2.1 ∧ a8 = (acc 16).2.2.1 ∧ a9 = (acc 16).2.2.2.1
    ∧ a10 = (acc 16).2.2.2.2 := by rw [← ha]; exact ⟨rfl, rfl, rfl, rfl, rfl⟩
  dsimp only
  iapply (wp_assume _ _ _ _ (k0_chk5_at i))
  iapply (wp_assume _ _ _ _ k0_chk4_at)
  ihave HFO := (Entails.of_eq (FlO_succ d (c0 i) (w0 i) aO aR sR (B0 i) q f0 g (n := 15) (by decide))) $$ HFO
  ihave HO := (Entails.of_eq (owesN_def d (c0 i) (w0 i) O W)) $$ HO
  icases HO with ⟨%W'', %hW'', HO⟩
  iapply (wp_waitO aO aR sR (par 15) (B0 i 15) (k0_off19_at i) k0_off20_at) $$ [HFO HO]
  · isplitr; · iexact Hmw
    isplitl [HFO]; · iexact HFO
    iexact HO
  unfold DO
  iintro ⟨⟨Hw, HR1⟩, HsR, HO⟩
  rw [wp_ret]; imodintro
  isplitl [Hw Hd]
  · rw [← doneS_17, doneS_next 15 (by decide), outs_ins d (c0 i) (w0 i) aO (B0 i) q f0 g (notin_doneS 15 (by decide))]
    isplitl [Hw] <;> iassumption
  isplitl [HO]; · iapply (owesN_intro d (c0 i) (w0 i) O W (owing_insert W _ hW'')) $$ HO
  isplitl [HFI]
  · iapply (Entails.of_eq (show FlI d (c0 i) (w0 i) aL aI sI (B0 i) q L 16 = idxFree d (c0 i) (w0 i) aI sI 0 from rfl)) $$ HFI
  isplitl [HI]; · iexact HI
  isplitl [HR]; · iexact HR
  isplitl [HR1 HsR]
  · iapply (Entails.of_eq (show iprop((∃ f, (slR aR (par 15)).view.loc thr ↦[(slR aR (par 15)).view.set]{fullShare} f)
      ∗ semVal (thr, SemLoc.dma (sm2 sR (par 15))) 0) = rowFree d (c0 i) (w0 i) aR sR 1 from rfl))
    isplitl [HR1]; · iexact HR1
    iexact HsR
  isplitl [HL]; · rw [← lstS_16]; iexact HL
  isplitl [Ht]; · iexact Ht
  iexact HG

end Body

end Cert.Proof.Rows

end
-- ==== Proof.Facts1.lean ====
/-
  The second gather's offsets and conditions at each trip: as the first's (Facts0), for the second kernel's own names.
-/
module

public import proofs.«01_k».proof.Proof.Facts0

@[expose] public section

noncomputable section

namespace Cert.Proof.Rows

open Cert.KernelIdeal Cert.KernelIdeal.Gen
open Idealize.ShloMosaic

theorem k1_trips : k1_t1_loop.trips = 16 := by decide

/-- The tile's number among the 16 subcores. -/
abbrev wOf1 (i : grid1.Coords) : Fin 16 := i 1

section
variable (i : grid1.Coords) (t : Fin k1_t1_loop.trips)

theorem k1_off1_at : k1_off1 = ![(par 0).val, 0, 0] := by decide +kernel
theorem k1_off3_at : k1_off3 = ![(par 0).val] := by decide +kernel
theorem k1_off2_at : k1_off2 i = ![0, 128 * (blk (wOf1 i) 0).val] := by
  unfold k1_off2 wOf1; generalize (i 1) = w; revert w; decide +kernel
theorem k1_cond1_at : k1_cond1 i t (acc t.val).2.2.2.2 = 1#1 ↔ t.val + 1 < 16 := by
  unfold k1_cond1; generalize (i 1) = w; revert t w; decide +kernel
theorem k1_cond2_at : k1_cond2 i t (acc t.val).2.2.2.2 = 1#1 := by
  unfold k1_cond2; generalize (i 1) = w; revert t w; decide +kernel
theorem k1_cond5_at : k1_cond5 i t (acc t.val).2.2.2.2 = 1#1 := by
  unfold k1_cond5; generalize (i 1) = w; revert t w; decide +kernel
theorem k1_cond7_at : k1_cond7 i t (acc t.val).2.2.2.2 = 1#1 ↔ 0 < t.val := by
  unfold k1_cond7; generalize (i 1) = w; revert t w; decide +kernel
theorem k1_off4_at (h : t.val + 1 < 16) : k1_off4 (acc t.val).1 = ![(par (t.val + 1)).val, 0, 0] := by
  revert t; decide +kernel
theorem k1_off5_at (h : t.val + 1 < 16) : k1_off5 i (acc t.val).2.2.2.2 = ![0, 128 * (blk (wOf1 i) ⟨t.val + 1, h⟩).val] := by
  unfold k1_off5 wOf1; generalize (i 1) = w; revert t w; decide +kernel
theorem k1_off6_at (h : t.val + 1 < 16) : k1_off6 (acc t.val).1 = ![(par (t.val + 1)).val] := by
  revert t; decide +kernel
theorem k1_off7_at : k1_off7 (acc t.val).2.1 = ![(par t.val).val, 0, 0] := by revert t; decide +kernel
theorem k1_off9_at : k1_off9 (acc t.val).2.1 = ![(par t.val).val] := by revert t; decide +kernel
theorem k1_off10_at : k1_off10 (acc t.val).2.2.1 = ![(par t.val).val, 0, 0] := by revert t; decide +kernel
theorem k1_off11_at : k1_off11 (acc t.val).2.1 = ![(par t.val).val, 0, 0] := by revert t; decide +kernel
theorem k1_off12_at : k1_off12 (acc t.val).2.2.1 = ![(par t.val).val, 0, 0] := by revert t; decide +kernel
theorem k1_off13_at : k1_off13 i (acc t.val).2.2.2.2 = ![128 * (blk (wOf1 i) (t.cast k1_trips)).val, 0] := by
  unfold k1_off13 wOf1; generalize (i 1) = w; revert t w; decide +kernel
theorem k1_off14_at : k1_off14 (acc t.val).2.2.1 = ![(par t.val).val] := by revert t; decide +kernel
theorem k1_off15_at (h : 0 < t.val) : k1_off15 (acc t.val).2.2.2.1 = ![(par (t.val - 1)).val, 0, 0] := by revert t; decide +kernel
theorem k1_off16_at (h : 0 < t.val) :
    k1_off16 i (acc t.val).2.2.2.2 = ![128 * (blk (wOf1 i) ⟨t.val - 1, (Nat.sub_le _ _).trans_lt (t.isLt.trans_eq k1_trips)⟩).val, 0] := by
  unfold k1_off16 wOf1; generalize (i 1) = w; revert t w; decide +kernel
theorem k1_off17_at (h : 0 < t.val) : k1_off17 (acc t.val).2.2.2.1 = ![(par (t.val - 1)).val] := by revert t; decide +kernel
theorem k1_off8_at : k1_off8 i (acc t.val).2.2.2.2 = ![0, 128 * (blk (wOf1 i) (t.cast k1_trips)).val] := by
  unfold k1_off8 wOf1; generalize (i 1) = w; revert t w; decide +kernel
theorem k1_off19_at : k1_off19 i (acc 16).2.2.2.2 = ![128 * (blk (wOf1 i) 15).val, 0] := by
  unfold k1_off19 wOf1; generalize (i 1) = w; revert w; decide +kernel
theorem k1_off18_at : k1_off18 (acc 16).2.2.2.1 = ![(par 15).val, 0, 0] := by decide +kernel
theorem k1_off20_at : k1_off20 (acc 16).2.2.2.1 = ![(par 15).val] := by decide +kernel
theorem k1_off21_at : k1_off21 (acc 16).2.2.2.1 = ![(par 15).val, 0, 0] := by decide +kernel

/-- The side conditions the body assumes hold at every trip. -/
theorem k1_chk3_at : k1_chk3 (acc t.val).2.1 := by unfold k1_chk3; rw [k1_off11_at]; exact inbI _
theorem k1_chk2_at : k1_chk2 (acc t.val).2.2.1 := by unfold k1_chk2; rw [k1_off10_at]; exact inbR _
theorem k1_chk1_at : k1_chk1 i t (acc t.val).1 (acc t.val).2.1 (acc t.val).2.2.1 (acc t.val).2.2.2.1 (acc t.val).2.2.2.2 := by
  unfold k1_chk1
  refine ⟨fun h => ?_, fun h => ?_, fun h => ?_, fun h => ?_, fun h => ?_, fun h => ?_, fun h => ?_, fun h => ?_, fun h => ?_, fun h => ?_,
    fun h => ?_, fun h => ?_⟩
  · rw [k1_off4_at t ((k1_cond1_at i t).mp h)]; exact inbI _
  · rw [k1_off5_at i t ((k1_cond1_at i t).mp h)]; exact inbL _
  · rw [k1_off6_at t ((k1_cond1_at i t).mp h)]; exact inbS _
  · rw [k1_off7_at]; exact inbI _
  · rw [k1_off8_at]; exact inbL _
  · rw [k1_off9_at]; exact inbS _
  · rw [k1_off12_at]; exact inbR _
  · rw [k1_off13_at]; exact inbO _
  · rw [k1_off14_at]; exact inbS _
  · rw [k1_off15_at t ((k1_cond7_at i t).mp h)]; exact inbR _
  · rw [k1_off16_at i t ((k1_cond7_at i t).mp h)]; exact inbO _
  · rw [k1_off17_at t ((k1_cond7_at i t).mp h)]; exact inbS _
theorem k1_chk5_at : k1_chk5 i (acc 16).2.2.2.2 := by unfold k1_chk5; rw [k1_off19_at]; exact inbO _
theorem k1_chk4_at : k1_chk4 (acc 16).2.2.2.1 := by
  unfold k1_chk4; rw [k1_off18_at, k1_off20_at, k1_off21_at]; exact ⟨inbR _, inbS _, inbR _⟩

/-- The tile's first block, as the body computes it. -/
def v0_1 (i : grid1.Coords) : BitVec 32 := Scalar.muli (BitVec.ofNat 32 (i 1).val) 16#32
/-- Whether this is the first trip. -/
def v60_1 (t : Fin k1_t1_loop.trips) : BitVec 1 := Scalar.cmpi .eq (Scf.iv 0#32 1#32 t) 0#32
/-- Whether this is the last trip. -/
def v61_1 (t : Fin k1_t1_loop.trips) : BitVec 1 := Scalar.cmpi .eq (Scf.iv 0#32 1#32 t) 15#32
/-- This trip's block. -/
def v62_1 (i : grid1.Coords) (a10 : BitVec 32) : BitVec 32 := Scalar.addi a10 (v0_1 i)
/-- The block of the trip before. -/
def v67_1 (i : grid1.Coords) (a10 : BitVec 32) : BitVec 32 :=
  Scalar.addi (Scalar.select (Scalar.cmpi .eq (Scalar.select 1#1 (Scalar.subi a10 1#32) a10) 4294967295#32) 15#32 (Scalar.select 1#1 (Scalar.subi a10 1#32) a10)) (v0_1 i)
/-- The block of the trip after. -/
def v72_1 (i : grid1.Coords) (a10 : BitVec 32) : BitVec 32 :=
  Scalar.addi (Scalar.select (Scalar.cmpi .eq (Scalar.select 1#1 (Scalar.addi a10 1#32) a10) 16#32) 0#32 (Scalar.select 1#1 (Scalar.addi a10 1#32) a10)) (v0_1 i)
/-- The fetches issued, after the trip. -/
def v87_1 (i : grid1.Coords) (t : Fin k1_t1_loop.trips) (a6 a10 : BitVec 32) : BitVec 32 :=
  Scalar.select (Scalar.andi (Scalar.andi (Scalar.cmpi .ne (v62_1 i a10) (v72_1 i a10)) (Scalar.xori (Scalar.cmpi .sge (Scf.iv 0#32 1#32 t) 15#32) 1#1)) 1#1)
    (Scalar.addi a6 1#32) a6

/-- The words carried out of a trip, as the body computes them from those carried in. -/
def nextAcc1 (i : grid1.Coords) (t : Fin k1_t1_loop.trips) (a6 a7 a8 a9 a10 : BitVec 32) :
    BitVec 32 × BitVec 32 × BitVec 32 × BitVec 32 × BitVec 32 :=
  (v87_1 i t a6 a10,
   Scalar.select (Scalar.ori (Scalar.cmpi .ne (v62_1 i a10) (v72_1 i a10)) (v61_1 t)) (Scalar.addi a7 1#32) a7,
   Scalar.select (Scalar.andi (Scalar.ori (Scalar.cmpi .ne (v62_1 i a10) (v72_1 i a10)) (v61_1 t)) 1#1) (Scalar.addi a8 1#32) a8,
   Scalar.select (Scalar.andi (Scalar.andi (Scalar.cmpi .ne (v62_1 i a10) (v67_1 i a10)) (Scalar.xori (v60_1 t) 1#1)) 1#1) (Scalar.addi a9 1#32) a9,
   Scalar.select (Scalar.cmpi .eq (Scalar.select 1#1 (Scalar.addi a10 1#32) a10) 16#32) 0#32 (Scalar.select 1#1 (Scalar.addi a10 1#32) a10))
theorem nextAcc1_at : nextAcc1 i t (acc t.val).1 (acc t.val).2.1 (acc t.val).2.2.1 (acc t.val).2.2.2.1 (acc t.val).2.2.2.2 = acc (t.val + 1) := by
  unfold nextAcc1 v87_1 v72_1 v67_1 v62_1 v0_1; generalize (i 1) = w; revert t w; decide +kernel
end

end Cert.Proof.Rows

end
-- ==== Proof.Body1.lean ====
/-
  The second row gather on one tile: sixteen blocks of 128 rows, each fetched, gathered and copied out, the transfers of
  neighbouring blocks overlapping.
-/
module

public import proofs.«01_k».proof.Proof.Body0
public import proofs.«01_k».proof.Proof.Facts1
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Body
variable (d : Dev nD) (i : grid1.Coords)
variable (aT : Memref sig .scVector .hbm S32768x128 .i32) (hT : aT.IsWhole) (aL : Memref sig .scVector .hbm S1x32768 .i32) (hL : aL.IsWhole)
variable (aO : Memref sig .scVector .hbm S32768x128 .i32) (hO' : aO.IsWhole)
variable (aI : Memref sig .scVector .vmem S2x1x128 .i32) (hI : aI.IsWhole) (aR : Memref sig .scVector .vmem S2x128x128 .i32) (hR : aR.IsWhole)
variable (sI sR : DmaSems sig S2) (sG : DmaSems sig S_)

/-- The tile's SparseCore. -/
abbrev c1 (i : grid1.Coords) : Fin τ.nSC := (i 0).castLE hcore1
/-- The tile's subcore. -/
abbrev w1 (i : grid1.Coords) : Fin τ.nSub := (i 1).castLE hsub1
/-- The tile's blocks. -/
abbrev B1 (i : grid1.Coords) (j : Fin 16) : Fin 256 := blk (wOf1 i) j
/-- The table as the gather reads it. -/
abbrev tb1 (aT : Memref sig .scVector .hbm S32768x128 .i32) : Memref sig .scVector .hbm S32768x128 .i32 :=
  aT.slice (Rect.unit (s := S32768x128) ![0, 0] S32768x128.size inb_S32768x128_S32768x128_0_0) (fun _ => rfl)

local notation "thr" => (V d (c1 i) (w1 i) : Thread nD τ)

variable (q qT : PosShare TreeShare) (L : Buf (Elt F) (aL.view.loc (V d (c1 i) (w1 i)))) (f0 g : Buf (Elt F) (aO.view.loc (V d (c1 i) (w1 i))))
variable (tv : Buf (Elt F) ((tb1 aT).view.loc (V d (c1 i) (w1 i)))) (ιwm : ℕ)
variable (O : CellTallies nD τ sig (HIx 2)) (W : Waits sig (HIx 2))

/-- What the tile's blocks are to hold: with block `b` of the list in slot `p`, the rows gathered are block `b` of `g`. -/
def Vals1 : Prop := ∀ (j : Fin 16) (p : Fin 2) (fo : Buf (Elt F) ((slI aI p).view.loc (V d (c1 i) (w1 i)))),
  (slI aI p).view.read (Elt F) fo = (blkL aL (B1 i j)).view.read (Elt F) L →
  ∃ hin : ∀ x, ((offI aI p).view.read (Elt F) fo x).toNat < S32768x128.size gathers_S32768x128_S128x128.axis,
    SparseCore.gatherPayload gathers_S32768x128_S128x128 ((tb1 aT).view.read (Elt F) tv)
      (SparseCore.rows ((offI aI p).view.read (Elt F) fo) rfl hin) = (blkO aO (B1 i j)).view.read (Elt F) g

/-- One trip. -/
theorem trip1 (hNI : ∀ p, 0 < (slI aI p).view.dmaCredit) (hNO : ∀ b, 0 < (blkO aO b).view.dmaCredit)
    (hNG : ∀ p, ∑ j, ((slR aR p).slice (S128x128.rowRect gathers_S32768x128_S128x128.axis' j)
      (S128x128.stride_rowRect gathers_S32768x128_S128x128.axis' j)).view.dmaCredit = (slR aR p).view.dmaCredit)
    (hval : Vals1 d i aT aL aO aI L g tv) (t : Fin k1_t1_loop.trips)
    (a : BitVec 32 × BitVec 32 × BitVec 32 × BitVec 32 × BitVec 32) :
    IL d (c1 i) (w1 i) aL aO aI aR sI sR (B1 i) q L f0 g (tb1 aT) qT tv sG ιwm O W t.val a
      ⊢ wp frame (wpE (defs₀ (F := F)) 𝒱₀ thr none) Set.univ
        (k1_t1_body i aT hT aL hL aO hO' aI hI sI aR hR sR sG (v0_1 i) 1#32 0#32 0#32 0#32 0#32 t a)
        (IL d (c1 i) (w1 i) aL aO aI aR sI sR (B1 i) q L f0 g (tb1 aT) qT tv sG ιwm O W (t.val + 1)) := by
  obtain ⟨a6, a7, a8, a9, a10⟩ := a
  unfold IL
  iintro ⟨%ha, #Hwm, #Hmw, HO, HFI, HI, HR, HFO, HL, Hf, Hd, Ht, HG⟩
  obtain ⟨rfl, rfl, rfl, rfl, rfl⟩ : a6 = (acc t.val).1 ∧ a7 = (acc t.val).2.1 ∧ a8 = (acc t.val).2.2.1 ∧ a9 = (acc t.val).2.2.2.1
    ∧ a10 = (acc t.val).2.2.2.2 := by rw [← ha]; exact ⟨rfl, rfl, rfl, rfl, rfl⟩
  have ht : t.val < 16 := k1_trips ▸ t.isLt
  unfold k1_t1_body
  dsimp only
  rw [wp_bind]
  -- the fetch of the next block
  iapply (wp_wand frame _ _ (Q := fun r => iprop(⌜r.2.2.2.2.1 = v60_1 t ∧ r.2.2.2.2.2.1 = v61_1 t ∧ r.2.2.2.2.2.2.1 = v62_1 i (acc t.val).2.2.2.2
      ∧ r.2.2.2.2.2.2.2.1 = v67_1 i (acc t.val).2.2.2.2 ∧ r.2.2.2.2.2.2.2.2.1 = v72_1 i (acc t.val).2.2.2.2
      ∧ r.2.2.2.2.2.2.2.2.2.1 = v87_1 i t (acc t.val).1 (acc t.val).2.2.2.2⌝
    ∗ FlI d (c1 i) (w1 i) aL aI sI (B1 i) q L (t.val + 1) ∗ lsts d (c1 i) (w1 i) aL (B1 i) q L (lst2S t.val)))) $$ [HI HL]
  · simp only [k1_part1_eq_skeleton]; unfold k1_part1_skel
    simp only [Prog.lift, Prog.bind_op, Prog.bind_ret, Prog.pure_eq_ret, Prog.bind_assoc]
    iapply (wp_assume _ _ _ _ (k1_chk3_at t))
    iapply (wp_assume _ _ _ _ (k1_chk2_at t))
    iapply (wp_assume _ _ _ _ (k1_chk1_at i t))
    by_cases h1 : k1_cond1 i t (acc t.val).2.2.2.2 = 1#1
    · have h : t.val + 1 < 16 := (k1_cond1_at i t).mp h1
      rw [dif_pos h1]
      unfold idxFree
      ihave HL := (Entails.of_eq ((congrArg _ (lstS_next t.val h)).trans (lsts_ins d (c1 i) (w1 i) aL (B1 i) q L (notin_lst2S' t.val h)))) $$ HL
      icases HI with ⟨⟨%f, HI⟩, Hs⟩
      icases HL with ⟨Hb, HL⟩
      iapply (wp_issueI aL aI sI (par (t.val + 1)) (B1 i ⟨t.val + 1, h⟩) (hNI _) (k1_off4_at t h) (k1_off5_at i t h) (k1_off6_at t h)) $$ [Hb HI Hs]
      · isplitl [Hb]; · iexact Hb
        isplitl [HI]; · iexact HI
        iexact Hs
      iintro Hf
      rw [wp_ret]; imodintro
      isplitr; · ipureintro; exact ⟨rfl, rfl, rfl, rfl, rfl, rfl⟩
      isplitl [Hf]
      · iapply (Entails.of_eq (FlI_lt d (c1 i) (w1 i) aL aI sI (B1 i) q L h).symm) $$ Hf
      iexact HL
    · have h : ¬ t.val + 1 < 16 := fun h => h1 ((k1_cond1_at i t).mpr h)
      rw [dif_neg h1, wp_ret]; imodintro
      isplitr; · ipureintro; exact ⟨rfl, rfl, rfl, rfl, rfl, rfl⟩
      isplitl [HI]
      · iapply (Entails.of_eq (FlI_over d (c1 i) (w1 i) aL aI sI (B1 i) q L h).symm) $$ HI
      rw [lstS_over t.val h]; iexact HL
  iintro %r ⟨%hr, HI', HL⟩
  obtain ⟨hw3, hw2, hw1, v5, v60, v61, v62, v67, v72, v87, v92⟩ := r
  obtain ⟨h60, h61, h62, h67, h72, h87⟩ := hr
  dsimp only at h60 h61 h62 h67 h72 h87
  subst h60 h61 h62 h67 h72 h87
  dsimp only
  rw [wp_bind]
  -- this trip's block is there; its rows are gathered
  ihave HO := (Entails.of_eq (owesN_def d (c1 i) (w1 i) O W)) $$ HO
  icases HO with ⟨%W', %hW', HO⟩
  iapply (wp_wand frame _ _ (Q := fun _ => iprop((∃ f, ⌜(slR aR (par t.val)).view.read (Elt F) f = (blkO aO (B1 i ⟨t.val, ht⟩)).view.read (Elt F) g⌝
      ∗ ((slR aR (par t.val)).view.loc thr ↦[(slR aR (par t.val)).view.set]{fullShare} f))
    ∗ semVal (thr, SemLoc.dma (sm2 sR (par t.val))) 0 ∗ idxFree d (c1 i) (w1 i) aI sI (par t.val)
    ∗ lsts d (c1 i) (w1 i) aL (B1 i) q L (lstS (t.val + 1)) ∗ ((tb1 aT).view.loc thr ↦[(tb1 aT).view.set]{qT} tv)
    ∗ semVal (thr, SemLoc.dma sG.sem) 0 ∗ owesN d (c1 i) (w1 i) O W))) $$ [HFI HR HL Ht HG HO]
  · simp only [k1_part2_eq_skeleton]; unfold k1_part2_skel
    rw [dif_pos (k1_cond2_at i t)]
    simp only [Prog.lift, Prog.bind_op, Prog.bind_ret, Prog.pure_eq_ret, Prog.bind_assoc, ite_self]
    ihave HFI := (Entails.of_eq (FlI_lt d (c1 i) (w1 i) aL aI sI (B1 i) q L ht)) $$ HFI
    iapply (wp_waitI aL aI sI (par t.val) (k1_off7_at t) (k1_off9_at t)) $$ [HFI HO]
    · isplitr; · iexact Hmw
      isplitl [HFI]; · iexact HFI
      iexact HO
    unfold DI
    iintro ⟨⟨⟨%fo, %hfo, HI⟩, Hb⟩, Hs, HO⟩
    obtain ⟨hin, hG⟩ := hval ⟨t.val, ht⟩ (par t.val) fo hfo
    unfold rowFree
    icases HR with ⟨⟨%fr, HR⟩, HsR⟩
    iapply (wp_issueG gathers_S32768x128_S128x128 (tb1 aT) aI aR sG (par t.val) (hNG _) rfl (k1_off10_at t) (k1_off11_at t) _ hin hG) $$ [Ht HR HI HG]
    · isplitl [Ht]; · iexact Ht
      isplitl [HR]; · iexact HR
      isplitl [HI]; · iexact HI
      iexact HG
    iintro HF
    unfold SparseCore.waitIndirectGather
    simp only [Prog.lift, Prog.bind_op, Prog.bind_ret, Prog.pure_eq_ret, Prog.bind_assoc, ite_self]
    iapply (wp_waitG (tb1 aT) aR sG (par t.val) (k1_off10_at t)) $$ [HF HO]
    · isplitr; · iexact Hmw
      isplitl [HF]; · iexact HF
      iexact HO
    unfold DG
    iintro ⟨⟨HR, Ht, HI⟩, HG, HO⟩
    rw [wp_ret]; imodintro
    isplitl [HR]; · iexact HR
    isplitl [HsR]; · iexact HsR
    isplitl [HI Hs]
    · unfold idxFree
      isplitl [HI]; · iexists _; iexact HI
      iexact Hs
    isplitl [Hb HL]
    · rw [lstS_back t.val ht, lsts_ins d (c1 i) (w1 i) aL (B1 i) q L (notin_lst2S t.val ht)]
      isplitl [Hb] <;> iassumption
    isplitl [Ht]; · iexact Ht
    isplitl [HG]; · iexact HG
    iapply (owesN_intro d (c1 i) (w1 i) O W (owing_insert W _ (owing_insert W _ hW'))) $$ HO
  iintro %u ⟨⟨%fr, %hfr, HR⟩, HsR, HI, HL, Ht, HG, HO⟩
  -- the copy out of this block, and the wait for that of the block before
  rw [dif_pos (k1_cond5_at i t)]
  simp only [Prog.lift, Prog.bind_op, Prog.bind_ret, Prog.pure_eq_ret, Prog.bind_assoc, ite_self]
  ihave Hf := (Entails.of_eq ((congrArg _ (freshS_next t.val ht)).trans (outs_ins d (c1 i) (w1 i) aO (B1 i) q f0 g (notin_freshS t.val ht)))) $$ Hf
  icases Hf with ⟨Hb, Hf⟩
  iapply (wp_issueO aO aR sR (par t.val) (B1 i ⟨t.val, ht⟩) (hNO _) (k1_off12_at t) (k1_off13_at i t) (k1_off14_at t) hfr) $$ [Hb HR HsR]
  · isplitr; · iexact Hwm
    isplitl [Hb]; · iexact Hb
    isplitl [HR]; · iexact HR
    iexact HsR
  iintro HF
  ihave HF := (Entails.of_eq (FlO_succ d (c1 i) (w1 i) aO aR sR (B1 i) q f0 g ht).symm) $$ HF
  have hnext := nextAcc1_at i t
  by_cases h7 : k1_cond7 i t (acc t.val).2.2.2.2 = 1#1
  · have h : 0 < t.val := (k1_cond7_at i t).mp h7
    obtain ⟨n, hn⟩ : ∃ n, t.val = n + 1 := ⟨t.val - 1, by omega⟩
    have hn16 : n < 16 := by omega
    rw [dif_pos h7]
    simp only [Prog.bind_op, Prog.bind_ret]
    have e16 := k1_off16_at i t h
    have e17 := k1_off17_at t h
    have hp : par (t.val - 1) = par n := by rw [hn]; rfl
    have hb : (⟨t.val - 1, (Nat.sub_le _ _).trans_lt (t.isLt.trans_eq k1_trips)⟩ : Fin 16) = ⟨n, hn16⟩ := Fin.ext (by show t.val - 1 = n; omega)
    rw [hp] at e17
    rw [hb] at e16
    ihave HFO' := (Entails.of_eq ((congrArg (FlO d (c1 i) (w1 i) aO aR sR (B1 i) q f0 g) hn).trans (FlO_succ d (c1 i) (w1 i) aO aR sR (B1 i) q f0 g hn16))) $$ HFO
    ihave HO := (Entails.of_eq (owesN_def d (c1 i) (w1 i) O W)) $$ HO
    icases HO with ⟨%W'', %hW'', HO⟩
    iapply (wp_waitO aO aR sR (par n) (B1 i ⟨n, hn16⟩) e16 e17) $$ [HFO' HO]
    · isplitr; · iexact Hmw
      isplitl [HFO']; · iexact HFO'
      iexact HO
    unfold DO
    iintro ⟨⟨Hw, HR⟩, HsR, HO⟩
    rw [wp_ret]; imodintro
    isplitr; · ipureintro; exact hnext
    isplitr; · iexact Hwm
    isplitr; · iexact Hmw
    isplitl [HO]; · iapply (owesN_intro d (c1 i) (w1 i) O W (owing_insert W _ hW'')) $$ HO
    isplitl [HI']; · iexact HI'
    isplitl [HI]; · rw [par_add_two]; iexact HI
    isplitl [HR HsR]
    · unfold rowFree
      rw [show par (t.val + 1) = par n by rw [hn]; exact par_add_two n]
      isplitl [HR] <;> iassumption
    isplitl [HF]; · iexact HF
    isplitl [HL]; · iexact HL
    isplitl [Hf]; · iexact Hf
    isplitl [Hw Hd]
    · rw [hn, doneS_next n hn16, outs_ins d (c1 i) (w1 i) aO (B1 i) q f0 g (notin_doneS n hn16)]
      isplitl [Hw] <;> iassumption
    isplitl [Ht]; · iexact Ht
    iexact HG
  · have h : t.val = 0 := Nat.eq_zero_of_not_pos fun h => h7 ((k1_cond7_at i t).mpr h)
    rw [dif_neg h7]
    rw [wp_ret]; imodintro
    isplitr; · ipureintro; exact hnext
    isplitr; · iexact Hwm
    isplitr; · iexact Hmw
    isplitl [HO]; · iexact HO
    isplitl [HI']; · iexact HI'
    isplitl [HI]; · rw [par_add_two]; iexact HI
    isplitl [HFO]
    · iapply (Entails.of_eq (show FlO d (c1 i) (w1 i) aO aR sR (B1 i) q f0 g t.val = rowFree d (c1 i) (w1 i) aR sR (par (t.val + 1)) by rw [h]; rfl)) $$ HFO
    isplitl [HF]; · iexact HF
    isplitl [HL]; · iexact HL
    isplitl [Hf]; · iexact Hf
    isplitl [Hd]; · rw [h, doneS_1, ← doneS_0]; iexact Hd
    isplitl [Ht]; · iexact Ht
    iexact HG

/-- What the body holds at the start, apart from its blocks of the result, and holds again at the end. -/
def Res1 : sProp (MT nD τ sig (HIx 2) (Elt F) ℕ (UU F) ℕ) :=
  iprop(owesN d (c1 i) (w1 i) O W ∗ idxFree d (c1 i) (w1 i) aI sI 0 ∗ idxFree d (c1 i) (w1 i) aI sI 1
    ∗ rowFree d (c1 i) (w1 i) aR sR 0 ∗ rowFree d (c1 i) (w1 i) aR sR 1 ∗ lsts d (c1 i) (w1 i) aL (B1 i) q L Finset.univ
    ∗ ((tb1 aT).view.loc thr ↦[(tb1 aT).view.set]{qT} tv) ∗ semVal (thr, SemLoc.dma sG.sem) 0)

/-- The body: the tile's blocks of the result are marked written, everything else is given back. -/
theorem body1 (hNI : ∀ p, 0 < (slI aI p).view.dmaCredit) (hNO : ∀ b, 0 < (blkO aO b).view.dmaCredit)
    (hNG : ∀ p, ∑ j, ((slR aR p).slice (S128x128.rowRect gathers_S32768x128_S128x128.axis' j)
      (S128x128.stride_rowRect gathers_S32768x128_S128x128.axis' j)).view.dmaCredit = (slR aR p).view.dmaCredit)
    (hval : Vals1 d i aT aL aO aI L g tv) :
    iprop(wmInv EW ιwm ∗ Transfers.MayWaits thr (default : HIx 2) O ∗ outs d (c1 i) (w1 i) aO (B1 i) q f0 g ∅ Finset.univ
        ∗ Res1 d i aT aL aI aR sI sR sG q qT L tv O W)
      ⊢ wp frame (wpE (defs₀ (F := F)) 𝒱₀ thr none) Set.univ
        (cc1_k i aT hT aL hL aO hO' aI hI sI aR hR sR sG)
        (fun _ => iprop(outs d (c1 i) (w1 i) aO (B1 i) q f0 g Finset.univ Finset.univ
          ∗ Res1 d i aT aL aI aR sI sR sG q qT L tv O W)) := by
  unfold Res1
  simp only [cc1_k_eq_skeleton]; unfold cc1_k_skel
  simp only [k1_part3_eq_skeleton, k1_part4_eq_skeleton]; unfold k1_part3_skel k1_part4_skel
  simp only [Prog.lift, Prog.bind_op, Prog.bind_ret, Prog.pure_eq_ret, Prog.bind_assoc]
  iintro ⟨#Hwm, #Hmw, Ho, HO, HI, HI1, HR, HR1, HL, Ht, HG⟩
  ihave HI := (Entails.of_eq (show idxFree d (c1 i) (w1 i) aI sI 0 = iprop((∃ f, (slI aI 0).view.loc thr ↦[(slI aI 0).view.set]{fullShare} f)
    ∗ semVal (thr, SemLoc.dma (sm2 sI 0)) 0) from rfl)) $$ HI
  icases HI with ⟨⟨%f, HI⟩, Hs⟩
  ihave HL := (Entails.of_eq ((congrArg _ lstS_0.symm).trans (lsts_ins d (c1 i) (w1 i) aL (B1 i) q L notin_lstS0))) $$ HL
  icases HL with ⟨Hb, HL⟩
  iapply (wp_issueI aL aI sI 0 (B1 i 0) (hNI _) k1_off1_at (k1_off2_at i) k1_off3_at) $$ [Hb HI Hs]
  · isplitl [Hb]; · iexact Hb
    isplitl [HI]; · iexact HI
    iexact Hs
  iintro HF
  iapply (Scf.wp_for_bind frame (wpE (defs₀ (F := F)) 𝒱₀ thr none) Set.univ k1_t1_loop.lb k1_t1_loop.ub k1_t1_loop.st k1_t1_ok _ _
    (IL d (c1 i) (w1 i) aL aO aI aR sI sR (B1 i) q L f0 g (tb1 aT) qT tv sG ιwm O W)
    (fun t a => trip1 d i aT hT aL hL aO hO' aI hI aR hR sI sR sG q qT L f0 g tv ιwm O W hNI hNO hNG hval t a)) $$ [HF HO HI1 HR HR1 HL Ho Ht HG]
  · unfold IL
    isplitr; · ipureintro; decide
    isplitr; · iexact Hwm
    isplitr; · iexact Hmw
    isplitl [HO]; · iexact HO
    isplitl [HF]
    · iapply (Entails.of_eq (show Transfers.Flight EC thr (SemLoc.dma (sm2 sI 0)) default (slI aI 0).view.dmaCredit
          (DI d (c1 i) (w1 i) aL aI 0 (B1 i 0) q L) = FlI d (c1 i) (w1 i) aL aI sI (B1 i) q L 0 from rfl)) $$ HF
    isplitl [HI1]; · iexact HI1
    isplitl [HR]; · iexact HR
    isplitl [HR1]
    · iapply (Entails.of_eq (show rowFree d (c1 i) (w1 i) aR sR 1 = FlO d (c1 i) (w1 i) aO aR sR (B1 i) q f0 g 0 from rfl)) $$ HR1
    isplitl [HL]; · iexact HL
    isplitl [Ho]; · rw [freshS_0]; iexact Ho
    isplitr; · rw [doneS_0]; unfold outs; rw [bigSep_empty]; iempintro
    isplitl [Ht]; · iexact Ht
    iexact HG
  iintro %a HA
  ihave HA := (Entails.of_eq (show IL d (c1 i) (w1 i) aL aO aI aR sI sR (B1 i) q L f0 g (tb1 aT) qT tv sG ιwm O W k1_t1_loop.trips a = _ from
    congrArg (fun n => IL d (c1 i) (w1 i) aL aO aI aR sI sR (B1 i) q L f0 g (tb1 aT) qT tv sG ιwm O W n a) k1_trips)) $$ HA
  unfold IL
  icases HA with ⟨%ha, -, -, HO, HFI, HI, HR, HFO, HL, -, Hd, Ht, HG⟩
  obtain ⟨a6, a7, a8, a9, a10⟩ := a
  obtain ⟨rfl, rfl, rfl, rfl, rfl⟩ : a6 = (acc 16).1 ∧ a7 = (acc 16).2.1 ∧ a8 = (acc 16).2.2.1 ∧ a9 = (acc 16).2.2.2.1
    ∧ a10 = (acc 16).2.2.2.2 := by rw [← ha]; exact ⟨rfl, rfl, rfl, rfl, rfl⟩
  dsimp only
  iapply (wp_assume _ _ _ _ (k1_chk5_at i))
  iapply (wp_assume _ _ _ _ k1_chk4_at)
  ihave HFO := (Entails.of_eq (FlO_succ d (c1 i) (w1 i) aO aR sR (B1 i) q f0 g (n := 15) (by decide))) $$ HFO
  ihave HO := (Entails.of_eq (owesN_def d (c1 i) (w1 i) O W)) $$ HO
  icases HO with ⟨%W'', %hW'', HO⟩
  iapply (wp_waitO aO aR sR (par 15) (B1 i 15) (k1_off19_at i) k1_off20_at) $$ [HFO HO]
  · isplitr; · iexact Hmw
    isplitl [HFO]; · iexact HFO
    iexact HO
  unfold DO
  iintro ⟨⟨Hw, HR1⟩, HsR, HO⟩
  rw [wp_ret]; imodintro
  isplitl [Hw Hd]
  · rw [← doneS_17, doneS_next 15 (by decide), outs_ins d (c1 i) (w1 i) aO (B1 i) q f0 g (notin_doneS 15 (by decide))]
    isplitl [Hw] <;> iassumption
  isplitl [HO]; · iapply (owesN_intro d (c1 i) (w1 i) O W (owing_insert W _ hW'')) $$ HO
  isplitl [HFI]
  · iapply (Entails.of_eq (show FlI d (c1 i) (w1 i) aL aI sI (B1 i) q L 16 = idxFree d (c1 i) (w1 i) aI sI 0 from rfl)) $$ HFI
  isplitl [HI]; · iexact HI
  isplitl [HR]; · iexact HR
  isplitl [HR1 HsR]
  · iapply (Entails.of_eq (show iprop((∃ f, (slR aR (par 15)).view.loc thr ↦[(slR aR (par 15)).view.set]{fullShare} f)
      ∗ semVal (thr, SemLoc.dma (sm2 sR (par 15))) 0) = rowFree d (c1 i) (w1 i) aR sR 1 from rfl))
    isplitl [HR1]; · iexact HR1
    iexact HsR
  isplitl [HL]; · rw [← lstS_16]; iexact HL
  isplitl [Ht]; · iexact Ht
  iexact HG

end Body

end Cert.Proof.Rows

end
-- ==== Proof.Deal.lean ====
/-
  How the gathers' operands and results are dealt: the table by share to every tile, the list of row numbers and the
  result's rows by blocks of 128, sixteen to a tile; a tile's scratch by slots. And how the deals are gathered again.
-/
module

public import proofs.«01_k».proof.Proof.Body0
public import proofs.«01_k».proof.Proof.Body1

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

/-! ## A share halved again and again -/

/-- The share at the end of a path of `n` halvings, the path being the digits of `i`. -/
def piece : (n : ℕ) → PosShare TreeShare → Fin (2 ^ n) → PosShare TreeShare
  | 0, q, _ => q
  | n + 1, q, i => if i.val % 2 = 0 then piece n q.left ⟨i.val / 2, by omega⟩ else piece n q.right ⟨i.val / 2, by omega⟩

/-- A path of `n + 1` halvings is the first and a path of `n`. -/
def pathEquiv (n : ℕ) : Fin 2 × Fin (2 ^ n) ≃ Fin (2 ^ (n + 1)) where
  toFun p := ⟨2 * p.2.val + p.1.val, by have := p.1.isLt; have := p.2.isLt; omega⟩
  invFun i := (⟨i.val % 2, Nat.mod_lt _ (by decide)⟩, ⟨i.val / 2, by omega⟩)
  left_inv p := by
    have := p.1.isLt
    refine Prod.ext (Fin.ext ?_) (Fin.ext ?_)
    · show (2 * p.2.val + p.1.val) % 2 = p.1.val; omega
    · show (2 * p.2.val + p.1.val) / 2 = p.2.val; omega
  right_inv i := Fin.ext (by show 2 * (i.val / 2) + i.val % 2 = i.val; omega)

theorem piece_left (n : ℕ) (q : PosShare TreeShare) (i : Fin (2 ^ n)) : piece (n + 1) q (pathEquiv n (0, i)) = piece n q.left i := by
  have h : (pathEquiv n (0, i)).val = 2 * i.val := rfl
  rw [piece, if_pos (by omega)]
  exact congrArg _ (Fin.ext (by show (pathEquiv n (0, i)).val / 2 = i.val; omega))
theorem piece_right (n : ℕ) (q : PosShare TreeShare) (i : Fin (2 ^ n)) : piece (n + 1) q (pathEquiv n (1, i)) = piece n q.right i := by
  have h : (pathEquiv n (1, i)).val = 2 * i.val + 1 := rfl
  rw [piece, if_neg (by omega)]
  exact congrArg _ (Fin.ext (by show (pathEquiv n (1, i)).val / 2 = i.val; omega))

/-- A points-to at a share is, all at once, its points-tos at the ends of the `n`-step paths. -/
theorem pointsTo_pieces {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{piece n q i} f
  | 0, q => (bigSep_univ_of_subsingleton (0 : Fin 1) (Φ := fun i : Fin (2 ^ 0) => (ℓ ↦[I]{piece 0 q i} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    rw [bigSep_univ_equiv (pathEquiv n) (fun i : Fin (2 ^ (n + 1)) => (ℓ ↦[I]{piece (n + 1) q i} f : sProp 𝕄)), bigSep_univ_prod, bigSep_univ_two, hs,
      pointsTo_pieces I f n q.left, pointsTo_pieces I f n q.right]
    congr 1 <;> refine bigSep_congr fun i _ => ?_
    · rw [piece_left]
    · rw [piece_right]

/-! ## Blocks of 128, sixteen to a tile -/

/-- A set of 256 blocks an element's number tells apart. -/
theorem blocks_disjoint {α : Type} (t : Fin 256 → Finset α) (k : α → Fin 256) (ht : ∀ b y, y ∈ t b ↔ k y = b)
    (p p' : Fin 16 × Fin 16) (h : p ≠ p') : Disjoint (t (blk p.1 p.2)) (t (blk p'.1 p'.2)) := by
  refine Finset.disjoint_left.mpr fun y hy hy' => h ?_
  have e := ((ht _ y).mp hy).symm.trans ((ht _ y).mp hy')
  have e' : 16 * p.1.val + p.2.val = 16 * p'.1.val + p'.2.val := congrArg Fin.val e
  have := p.2.isLt; have := p'.2.isLt
  exact Prod.ext (Fin.ext (by omega)) (Fin.ext (by omega))
theorem blocks_cover {α : Type} [Fintype α] [DecidableEq α] (t : Fin 256 → Finset α) (k : α → Fin 256) (ht : ∀ b y, y ∈ t b ↔ k y = b) :
    ((Finset.univ : Finset (Fin 16 × Fin 16)).biUnion fun p => t (blk p.1 p.2)) = Finset.univ := by
  refine Finset.eq_univ_of_forall fun y => Finset.mem_biUnion.mpr
    ⟨(⟨(k y).val / 16, by have := (k y).isLt; omega⟩, ⟨(k y).val % 16, by omega⟩), Finset.mem_univ _, (ht _ y).mpr (Fin.ext ?_)⟩
  show (k y).val = 16 * ((k y).val / 16) + (k y).val % 16
  omega

/-- A buffer by its blocks. -/
theorem pointsTo_blocks {ℓ : Loc nD τ sig} (t : Fin 256 → Finset (Idx ℓ)) (k : Idx ℓ → Fin 256) (ht : ∀ b y, y ∈ t b ↔ k y = b)
    (q : PosShare TreeShare) (f : Buf (Elt F) ℓ) :
    (ℓ ↦{q} f : sProp 𝕄) = bigSep Finset.univ fun i : Fin 16 => bigSep Finset.univ fun j : Fin 16 => ℓ ↦[t (blk i j)]{q} f := by
  rw [← bigSep_univ_prod fun p : Fin 16 × Fin 16 => (ℓ ↦[t (blk p.1 p.2)]{q} f : sProp 𝕄),
    ← pointsTo_biUnion Finset.univ (fun p : Fin 16 × Fin 16 => t (blk p.1 p.2)) fun p _ p' _ h => blocks_disjoint t k ht p p' h,
    blocks_cover t k ht]

/-- Elements in write mode, by disjoint sets of them. -/
theorem willBe_sets {ℓ : Loc nD τ sig} {J : Type} (s : Finset J) (t : J → Finset (Idx ℓ)) (hd : ∀ j ∈ s, ∀ j' ∈ s, j ≠ j' → Disjoint (t j) (t j'))
    {q : PosShare TreeShare} {f : Buf (Elt F) ℓ} {g : Tgt (Elt F) ℓ} {W : Finset (Idx ℓ)} :
    (willBeTo EW ℓ (s.biUnion t) q f g W : sProp 𝕄) = bigSep s fun j => willBeTo EW ℓ (t j) q f g W := by
  classical
  revert hd
  refine Finset.induction_on s (fun _ => ?_) (fun j s hj ih hd => ?_)
  · exact (BI.Region.held_empty _).trans bigSep_empty.symm
  · have hdj : Disjoint (t j) (s.biUnion t) := (Finset.disjoint_biUnion_right _ _ _).mpr fun j' h' =>
      hd j (Finset.mem_insert_self _ _) j' (Finset.mem_insert_of_mem h') fun e => hj (e ▸ h')
    have hu := BI.Region.held_union (ι := (wmEmb (HIx 2) (EW (F := F)) : UEmb _ 𝕄).toEmb) (k := ℓ) (q := q)
      (x := fun i => Region.WB.mk (f i) (g i) (decide (i ∈ W))) hdj
    rw [Finset.biUnion_insert, bigSep_ins hj, ← ih fun a ha b hb => hd a (Finset.mem_insert_of_mem ha) b (Finset.mem_insert_of_mem hb)]
    exact BI.Entails.antisymm hu.1 hu.2

/-- A buffer in write mode by its blocks. -/
theorem willBe_blocks {ℓ : Loc nD τ sig} (t : Fin 256 → Finset (Idx ℓ)) (k : Idx ℓ → Fin 256) (ht : ∀ b y, y ∈ t b ↔ k y = b)
    (q : PosShare TreeShare) (f : Buf (Elt F) ℓ) (g : Tgt (Elt F) ℓ) (W : Finset (Idx ℓ)) :
    (willBeTo EW ℓ Finset.univ q f g W : sProp 𝕄)
      = bigSep Finset.univ fun i : Fin 16 => bigSep Finset.univ fun j : Fin 16 => willBeTo EW ℓ (t (blk i j)) q f g W := by
  rw [← bigSep_univ_prod fun p : Fin 16 × Fin 16 => (willBeTo EW ℓ (t (blk p.1 p.2)) q f g W : sProp 𝕄)]
  rw [← willBe_sets Finset.univ (fun p : Fin 16 × Fin 16 => t (blk p.1 p.2)) (fun p _ p' _ h => blocks_disjoint t k ht p p' h), blocks_cover t k ht]

/-- A buffer in write mode at a share is it at the two halves. -/
theorem willBe_halves {ℓ : Loc nD τ sig} (I : Finset (Idx ℓ)) (q : PosShare TreeShare) (f : Buf (Elt F) ℓ) (g : Tgt (Elt F) ℓ) (W : Finset (Idx ℓ)) :
    (willBeTo EW ℓ I q f g W : sProp 𝕄) = iprop(willBeTo EW ℓ I q.left f g W ∗ willBeTo EW ℓ I q.right f g W) := by
  have h := BI.Region.held_share (ι := (wmEmb (HIx 2) (EW (F := F)) : UEmb _ 𝕄).toEmb) (k := ℓ) (I := I) (PosShare.mem_left_op_right q)
    (z := fun i => Region.WB.mk (f i) (g i) (decide (i ∈ W))) (x := fun i => Region.WB.mk (f i) (g i) (decide (i ∈ W))) (y := fun i => Region.WB.mk (f i) (g i) (decide (i ∈ W)))
    (fun i _ => by
      have := Region.WB.mem_mk_op_mk (f i) (g i) (decide (i ∈ W)) (decide (i ∈ W))
      simpa only [Bool.or_self] using this)
  exact BI.Entails.antisymm h.1 h.2

/-- A buffer at a share is it at the two halves. -/
theorem pointsTo_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-! ## Two slots -/

/-- A buffer at some contents is its two slots, each at some contents. -/
theorem two_slots {ℓ : Loc nD τ sig} (t : Fin 2 → Finset (Idx ℓ)) (k : Idx ℓ → Fin 2) (ht : ∀ p y, y ∈ t p ↔ k y = p) :
    (iprop(∃ f, ℓ ↦{fullShare} f) : sProp 𝕄) = iprop((∃ f, ℓ ↦[t 0]{fullShare} f) ∗ ∃ f, ℓ ↦[t 1]{fullShare} f) := by
  have hd : ∀ p ∈ (Finset.univ : Finset (Fin 2)), ∀ p' ∈ (Finset.univ : Finset (Fin 2)), p ≠ p' → Disjoint (t p) (t p') :=
    fun p _ p' _ h => Finset.disjoint_left.mpr fun y hy hy' => h (((ht p y).mp hy).symm.trans ((ht p' y).mp hy'))
  have hc : (Finset.univ : Finset (Fin 2)).biUnion t = Finset.univ :=
    Finset.eq_univ_of_forall fun y => Finset.mem_biUnion.mpr ⟨k y, Finset.mem_univ _, (ht _ y).mpr rfl⟩
  refine BI.Entails.antisymm ?_ ?_
  · show iprop(∃ f, ℓ ↦{fullShare} f) ⊢ iprop((∃ f, ℓ ↦[t 0]{fullShare} f) ∗ ∃ f, ℓ ↦[t 1]{fullShare} f)
    iintro ⟨%f, H⟩
    ihave H := (Entails.of_eq (show (ℓ ↦{fullShare} f : sProp 𝕄) = iprop((ℓ ↦[t 0]{fullShare} f) ∗ ℓ ↦[t 1]{fullShare} f) by
      rw [← bigSep_univ_two fun p : Fin 2 => (ℓ ↦[t p]{fullShare} f : sProp 𝕄), ← pointsTo_biUnion Finset.univ t hd, hc])) $$ H
    icases H with ⟨H0, H1⟩
    isplitl [H0]
    · iexists f; iexact H0
    · iexists f; iexact H1
  · show iprop((∃ f, ℓ ↦[t 0]{fullShare} f) ∗ ∃ f, ℓ ↦[t 1]{fullShare} f) ⊢ iprop(∃ f, ℓ ↦{fullShare} f)
    iintro ⟨⟨%f0, H0⟩, ⟨%f1, H1⟩⟩
    ihave H := (pointsTo_biUnion_join (q := fullShare) (Val := Elt F) Finset.univ t (fun | 0 => f0 | 1 => f1) f0 hd) $$ [H0 H1]
    · iapply (Entails.of_eq (bigSep_univ_two fun p : Fin 2 => (ℓ ↦[t p]{fullShare} (match p with | 0 => f0 | 1 => f1) : sProp 𝕄)).symm)
      isplitl [H0]
      · iexact H0
      · iexact H1
    icases H with ⟨%g, -, H⟩
    iexists g
    iapply (Entails.of_eq (congrArg (fun I => (ℓ ↦[I]{fullShare} g : sProp 𝕄)) hc)) $$ H

/-! ## Some summands first -/

section
variable {M : Type} [URA M]

/-- Five summands of a separating conjunction, and the others. -/
theorem bigSep_five {I : Type} [DecidableEq I] (s : Finset I) (Φ : I → sProp M) (a : Fin 5 → I) (ha : ∀ k, a k ∈ s) (hi : Function.Injective a) :
    ∃ R : sProp M, bigSep s Φ = iprop(Φ (a 0) ∗ Φ (a 1) ∗ Φ (a 2) ∗ Φ (a 3) ∗ Φ (a 4) ∗ R) := by
  have ne : ∀ k k' : Fin 5, k ≠ k' → a k ≠ a k' := fun k k' h e => h (hi e)
  refine ⟨bigSep (((((s.erase (a 0)).erase (a 1)).erase (a 2)).erase (a 3)).erase (a 4)) Φ, ?_⟩
  rw [SparseCore.bigSep_erase' (ha 0), SparseCore.bigSep_erase' (i := a 1) (s := s.erase (a 0)) (by simp [ha, ne]),
    SparseCore.bigSep_erase' (i := a 2) (s := (s.erase (a 0)).erase (a 1)) (by simp [ha, ne]),
    SparseCore.bigSep_erase' (i := a 3) (s := ((s.erase (a 0)).erase (a 1)).erase (a 2)) (by simp [ha, ne]),
    SparseCore.bigSep_erase' (i := a 4) (s := (((s.erase (a 0)).erase (a 1)).erase (a 2)).erase (a 3)) (by simp [ha, ne])]

/-- Two summands of a separating conjunction, and the others. -/
theorem bigSep_two {I : Type} [DecidableEq I] (s : Finset I) (Φ : I → sProp M) (a b : I) (ha : a ∈ s) (hb : b ∈ s) (h : b ≠ a) :
    ∃ R : sProp M, bigSep s Φ = iprop(Φ a ∗ Φ b ∗ R) :=
  ⟨bigSep ((s.erase a).erase b) Φ, by rw [SparseCore.bigSep_erase' ha, SparseCore.bigSep_erase' (Finset.mem_erase.mpr ⟨h, hb⟩)]⟩
end

/-! ## The windows' elements -/

/-- Which block of the list an element is in. -/
def keyL (y : S1x32768.Idx) : Fin 256 := ⟨(y 1).val / 128, by have := (y 1).isLt; change (y 1).val < 32768 at this; omega⟩
/-- Which block of the result an element is in. -/
def keyO (y : S32768x128.Idx) : Fin 256 := ⟨(y 0).val / 128, by have := (y 0).isLt; change (y 0).val < 32768 at this; omega⟩
/-- Which slot of the index scratch an element is in. -/
def keyI (y : S2x1x128.Idx) : Fin 2 := y 0
/-- Which slot of the row scratch an element is in. -/
def keyR (y : S2x128x128.Idx) : Fin 2 := y 0

theorem mem_rectL (b : Fin 256) (y : S1x32768.Idx) :
    y ∈ (Rect.unit (s := S1x32768) ![0, 128 * b.val] S1x128.size (inbL b)).set ↔ keyL y = b := by
  rw [Rect.mem_set_unit]
  have h0 := (y 0).isLt; have h1 := (y 1).isLt
  change (y 0).val < 1 at h0; change (y 1).val < 32768 at h1
  constructor
  · intro h
    have := h 1
    change 128 * b.val ≤ (y 1).val ∧ (y 1).val < 128 * b.val + 128 at this
    exact Fin.ext (by show (y 1).val / 128 = b.val; omega)
  · intro h a
    have h : (y 1).val / 128 = b.val := congrArg Fin.val h
    match a with
    | 0 => show 0 ≤ (y 0).val ∧ (y 0).val < 0 + 1; omega
    | 1 => show 128 * b.val ≤ (y 1).val ∧ (y 1).val < 128 * b.val + 128; omega

theorem mem_rectO (b : Fin 256) (y : S32768x128.Idx) :
    y ∈ (Rect.unit (s := S32768x128) ![128 * b.val, 0] S128x128.size (inbO b)).set ↔ keyO y = b := by
  rw [Rect.mem_set_unit]
  have h0 := (y 0).isLt; have h1 := (y 1).isLt
  change (y 0).val < 32768 at h0; change (y 1).val < 128 at h1
  constructor
  · intro h
    have := h 0
    change 128 * b.val ≤ (y 0).val ∧ (y 0).val < 128 * b.val + 128 at this
    exact Fin.ext (by show (y 0).val / 128 = b.val; omega)
  · intro h a
    have h : (y 0).val / 128 = b.val := congrArg Fin.val h
    match a with
    | 0 => show 128 * b.val ≤ (y 0).val ∧ (y 0).val < 128 * b.val + 128; omega
    | 1 => show 0 ≤ (y 1).val ∧ (y 1).val < 0 + 128; omega

theorem mem_rectI (p : Fin 2) (y : S2x1x128.Idx) :
    y ∈ (Rect.unit (s := S2x1x128) ![p.val, 0, 0] S1x1x128.size (inbI p)).set ↔ keyI y = p := by
  rw [Rect.mem_set_unit]
  have h1 := (y 1).isLt; have h2 := (y 2).isLt
  change (y 1).val < 1 at h1; change (y 2).val < 128 at h2
  constructor
  · intro h
    have := h 0
    change p.val ≤ (y 0).val ∧ (y 0).val < p.val + 1 at this
    exact Fin.ext (by show (y 0).val = p.val; omega)
  · intro h a
    have h : (y 0).val = p.val := congrArg Fin.val h
    match a with
    | 0 => show p.val ≤ (y 0).val ∧ (y 0).val < p.val + 1; omega
    | 1 => show 0 ≤ (y 1).val ∧ (y 1).val < 0 + 1; omega
    | 2 => show 0 ≤ (y 2).val ∧ (y 2).val < 0 + 128; omega

theorem mem_rectR (p : Fin 2) (y : S2x128x128.Idx) :
    y ∈ (Rect.unit (s := S2x128x128) ![p.val, 0, 0] S1x128x128.size (inbR p)).set ↔ keyR y = p := by
  rw [Rect.mem_set_unit]
  have h1 := (y 1).isLt; have h2 := (y 2).isLt
  change (y 1).val < 128 at h1; change (y 2).val < 128 at h2
  constructor
  · intro h
    have := h 0
    change p.val ≤ (y 0).val ∧ (y 0).val < p.val + 1 at this
    exact Fin.ext (by show (y 0).val = p.val; omega)
  · intro h a
    have h : (y 0).val = p.val := congrArg Fin.val h
    match a with
    | 0 => show p.val ≤ (y 0).val ∧ (y 0).val < p.val + 1; omega
    | 1 => show 0 ≤ (y 1).val ∧ (y 1).val < 0 + 128; omega
    | 2 => show 0 ≤ (y 2).val ∧ (y 2).val < 0 + 128; omega

theorem mem_blkL0 (b : Fin 256) (y : S1x32768.Idx) : y ∈ (blkL (Memref.whole main_v104_scv) b).view.set ↔ keyL y = b := by
  rw [show (blkL (Memref.whole main_v104_scv) b).view.set = (Rect.unit (s := S1x32768) ![0, 128 * b.val] S1x128.size (inbL b)).set from
    (View.set_slice _ _).trans Finset.map_refl]
  exact mem_rectL b y
theorem mem_blkL1 (b : Fin 256) (y : S1x32768.Idx) : y ∈ (blkL (Memref.whole main_v122_scv) b).view.set ↔ keyL y = b := by
  rw [show (blkL (Memref.whole main_v122_scv) b).view.set = (Rect.unit (s := S1x32768) ![0, 128 * b.val] S1x128.size (inbL b)).set from
    (View.set_slice _ _).trans Finset.map_refl]
  exact mem_rectL b y
theorem mem_blkO0 (b : Fin 256) (y : S32768x128.Idx) : y ∈ (blkO (Memref.whole main_v105_scv) b).view.set ↔ keyO y = b := by
  rw [show (blkO (Memref.whole main_v105_scv) b).view.set = (Rect.unit (s := S32768x128) ![128 * b.val, 0] S128x128.size (inbO b)).set from
    (View.set_slice _ _).trans Finset.map_refl]
  exact mem_rectO b y
theorem mem_blkO1 (b : Fin 256) (y : S32768x128.Idx) : y ∈ (blkO (Memref.whole main_v123_scv) b).view.set ↔ keyO y = b := by
  rw [show (blkO (Memref.whole main_v123_scv) b).view.set = (Rect.unit (s := S32768x128) ![128 * b.val, 0] S128x128.size (inbO b)).set from
    (View.set_slice _ _).trans Finset.map_refl]
  exact mem_rectO b y
theorem mem_slI0 (p : Fin 2) (y : S2x1x128.Idx) : y ∈ (slI (Memref.whole cc0_scoped0) p).view.set ↔ keyI y = p := by
  rw [show (slI (Memref.whole cc0_scoped0) p).view.set = (Rect.unit (s := S2x1x128) ![p.val, 0, 0] S1x1x128.size (inbI p)).set from
    (View.set_reshape _ _).trans ((View.set_slice _ _).trans Finset.map_refl)]
  exact mem_rectI p y
theorem mem_slI1 (p : Fin 2) (y : S2x1x128.Idx) : y ∈ (slI (Memref.whole cc1_scoped0) p).view.set ↔ keyI y = p := by
  rw [show (slI (Memref.whole cc1_scoped0) p).view.set = (Rect.unit (s := S2x1x128) ![p.val, 0, 0] S1x1x128.size (inbI p)).set from
    (View.set_reshape _ _).trans ((View.set_slice _ _).trans Finset.map_refl)]
  exact mem_rectI p y
theorem mem_slR0 (p : Fin 2) (y : S2x128x128.Idx) : y ∈ (slR (Memref.whole cc0_scoped2) p).view.set ↔ keyR y = p := by
  rw [show (slR (Memref.whole cc0_scoped2) p).view.set = (Rect.unit (s := S2x128x128) ![p.val, 0, 0] S1x128x128.size (inbR p)).set from
    (View.set_reshape _ _).trans ((View.set_slice _ _).trans Finset.map_refl)]
  exact mem_rectR p y
theorem mem_slR1 (p : Fin 2) (y : S2x128x128.Idx) : y ∈ (slR (Memref.whole cc1_scoped2) p).view.set ↔ keyR y = p := by
  rw [show (slR (Memref.whole cc1_scoped2) p).view.set = (Rect.unit (s := S2x128x128) ![p.val, 0, 0] S1x128x128.size (inbR p)).set from
    (View.set_reshape _ _).trans ((View.set_slice _ _).trans Finset.map_refl)]
  exact mem_rectR p y

/-- The table's window is all of it. -/
theorem set_tb0 : (tb0 (Memref.whole main_v95_scv)).view.set = Finset.univ := by
  refine (View.set_slice _ _).trans (Finset.map_refl.trans (Finset.eq_univ_of_forall fun y => (Rect.mem_set_unit).mpr fun a => ?_))
  have h0 := (y 0).isLt; have h1 := (y 1).isLt
  change (y 0).val < 16384 at h0; change (y 1).val < 128 at h1
  match a with
  | 0 => show 0 ≤ (y 0).val ∧ (y 0).val < 0 + 16384; omega
  | 1 => show 0 ≤ (y 1).val ∧ (y 1).val < 0 + 128; omega
theorem set_tb1 : (tb1 (Memref.whole main_v113_scv)).view.set = Finset.univ := by
  refine (View.set_slice _ _).trans (Finset.map_refl.trans (Finset.eq_univ_of_forall fun y => (Rect.mem_set_unit).mpr fun a => ?_))
  have h0 := (y 0).isLt; have h1 := (y 1).isLt
  change (y 0).val < 32768 at h0; change (y 1).val < 128 at h1
  match a with
  | 0 => show 0 ≤ (y 0).val ∧ (y 0).val < 0 + 32768; omega
  | 1 => show 0 ≤ (y 1).val ∧ (y 1).val < 0 + 128; omega

end Cert.Proof.Rows

end
-- ==== Proof.Router.lean ====
/-
  The router: the layer norms, the attention, the logits and each token's two experts, as functions of the arguments; the
  host operations that compute them; and @main as its lists of operations with the gathers between.
-/
module

public import proofs.«01_k».proof.Proof.Gen.KernelIdeal
public import Idealize.ShloMosaic.Lib.StableHlo.Run

@[expose] public section

noncomputable section

namespace Cert.Proof.Rows

open Cert.KernelIdeal Cert.KernelIdeal.Gen

open Idealize.ShloMosaic Idealize.ShloMosaic.TcCoe Idealize.SL.Sem Idealize.ShloMosaic.StableHlo

variable {F : FTy → Type} [FloatOps F]

/-! ## The values -/

/-- A float array of the shape. -/
abbrev Arr (F : FTy → Type) (s : Shape) : Type := (⟨s, .f32⟩ : BufTy).Contents (Elt F)

/-- The mean of each row. -/
def rowMean (x : Arr F S2x2048x1024) : Arr F S2x2048x1 :=
  Host.divf (broadcastInDim S2x2048x1 ![0, 1] bcast_S2x2048_S2x2048x1_0_1 (Host.reduceAdd x (constant S_ .f32 0x00000000#32) reducesTo_S2x2048x1024_S2x2048_d2 h_S_))
    (broadcastInDim S2x2048x1 ![] bcast_S_S2x2048x1 (constant S_ .f32 0x44800000#32))
/-- `x` less its rows' means. -/
def centred (x : Arr F S2x2048x1024) : Arr F S2x2048x1024 :=
  subf x (broadcastInDim S2x2048x1024 ![0, 1, 2] bcast_S2x2048x1_S2x2048x1024_0_1_2 (rowMean x))
/-- A vector along every row. -/
def along (g : Arr F S1024) : Arr F S2x2048x1024 :=
  broadcastInDim S2x2048x1024 ![0, 1, 2] bcast_S1x1x1024_S2x2048x1024_0_1_2 (broadcastInDim S1x1x1024 ![2] bcast_S1024_S1x1x1024_2 g)
/-- The layer norm with gain `g` and offset `b`. -/
def layerNorm (x : Arr F S2x2048x1024) (g b : Arr F S1024) : Arr F S2x2048x1024 :=
  addf (mulf (Host.divf (centred x) (broadcastInDim S2x2048x1024 ![0, 1, 2] bcast_S2x2048x1_S2x2048x1024_0_1_2
    (Host.sqrt (addf (rowMean (mulf (centred x) (centred x))) (broadcastInDim S2x2048x1 ![] bcast_S_S2x2048x1 (constant S_ .f32 0x3727C5AC#32)))))) (along g)) (along b)
/-- `h` times `w`. -/
def proj (h : Arr F S2x2048x1024) (w : Arr F S1024x1024) : Arr F S2x2048x1024 :=
  Host.dotGeneral dot_S2x2048x1024_S1024x1024_S2x2048x1024_2_0_01_1_n_n none h w
/-- `h` times `w`, cut into heads. -/
def heads (h : Arr F S2x2048x1024) (w : Arr F S1024x1024) : Arr F S2x16x2048x64 :=
  transpose S2x16x2048x64 [0, 2, 1, 3] (shapeCast S2x2048x16x64 (proj h w) shapeCasts_S2x2048x1024_S2x2048x16x64) transposes_S2x2048x16x64_S2x16x2048x64_0_2_1_3
/-- The masked scores. -/
def scores (q k : Arr F S2x16x2048x64) (msk : S2x2048.Idx → BitVec 1) : Arr F S2x16x2048x2048 :=
  select (broadcastInDim S2x16x2048x2048 ![0, 1, 2, 3] bcast_S2x1x1x2048_S2x16x2048x2048_0_1_2_3 (broadcastInDim S2x1x1x2048 ![0, 3] bcast_S2x2048_S2x1x1x2048_0_3 msk))
    (broadcastInDim S2x16x2048x2048 ![] bcast_S_S2x16x2048x2048 (id (constant S_ .f32 0xCE6E6B28#32)))
    (Host.divf (Host.dotGeneral dot_S2x16x2048x64_S2x16x2048x64_S2x16x2048x2048_3_3_2_2_01_01 none q k)
      (broadcastInDim S2x16x2048x2048 ![] bcast_S_S2x16x2048x2048 (Host.sqrt (constant S_ .f32 0x42800000#32))))
/-- A number for each row of scores, along the row. -/
def rowOfS (x : Arr F S2x16x2048) : Arr F S2x16x2048x2048 :=
  broadcastInDim S2x16x2048x2048 ![0, 1, 2, 3] bcast_S2x16x2048x1_S2x16x2048x2048_0_1_2_3 (broadcastInDim S2x16x2048x1 ![0, 1, 2] bcast_S2x16x2048_S2x16x2048x1_0_1_2 x)
/-- The exponentials of the scores less their row's greatest. -/
def expS (s : Arr F S2x16x2048x2048) : Arr F S2x16x2048x2048 :=
  Host.exp (subf s (rowOfS (maximumf (broadcastInDim S2x16x2048 ![] bcast_S_S2x16x2048 (constant S_ .f32 0xFF800000#32))
    (Host.reduce FloatOps.maximumf s (constant S_ .f32 0xFF800000#32) reducesTo_S2x16x2048x2048_S2x16x2048_d3 h_S_))))
/-- The softmax of each row of scores. -/
def softS (s : Arr F S2x16x2048x2048) : Arr F S2x16x2048x2048 :=
  Host.divf (expS s) (rowOfS (Host.reduceAdd (expS s) (constant S_ .f32 0x00000000#32) reducesTo_S2x16x2048x2048_S2x16x2048_d3 h_S_))
/-- The attention block on normed rows `h`, with the residual `x`. -/
def attend (x h : Arr F S2x2048x1024) (wq wk wv wo : Arr F S1024x1024) (msk : S2x2048.Idx → BitVec 1) : Arr F S2x2048x1024 :=
  addf x (proj (shapeCast S2x2048x1024 (transpose S2x2048x16x64 [0, 2, 1, 3]
    (Host.dotGeneral dot_S2x16x2048x2048_S2x16x2048x64_S2x16x2048x64_3_2_2_3_01_01 none (softS (scores (heads h wq) (heads h wk) msk)) (heads h wv))
    transposes_S2x16x2048x64_S2x2048x16x64_0_2_1_3) shapeCasts_S2x2048x16x64_S2x2048x1024) wo)
/-- The router's logits. -/
def logits (h : Arr F S2x2048x1024) (wr : Arr F S1024x8) : Arr F S2x2048x8 :=
  Host.dotGeneral dot_S2x2048x1024_S1024x8_S2x2048x8_2_0_01_1_n_n none h wr
/-- A number for each token, for every expert. -/
def forAll (x : Arr F S2x2048) : Arr F S2x2048x8 :=
  broadcastInDim S2x2048x8 ![0, 1, 2] bcast_S2x2048x1_S2x2048x8_0_1_2 (broadcastInDim S2x2048x1 ![0, 1] bcast_S2x2048_S2x2048x1_0_1 x)
/-- The exponentials of the logits less the token's greatest. -/
def expL (l : Arr F S2x2048x8) : Arr F S2x2048x8 :=
  Host.exp (subf l (forAll (maximumf (broadcastInDim S2x2048 ![] bcast_S_S2x2048 (constant S_ .f32 0xFF800000#32))
    (Host.reduce FloatOps.maximumf l (constant S_ .f32 0xFF800000#32) reducesTo_S2x2048x8_S2x2048_d2 h_S_))))
/-- The experts' probabilities. -/
def softL (l : Arr F S2x2048x8) : Arr F S2x2048x8 :=
  Host.divf (expL l) (forAll (Host.reduceAdd (expL l) (constant S_ .f32 0x00000000#32) reducesTo_S2x2048x8_S2x2048_d2 h_S_))
/-- Each token's two most probable experts. -/
def choice (l : Arr F S2x2048x8) : S2x2048x2.Idx → BitVec 32 :=
  (Host.topK S2x2048x2 2 (FloatOps.cmpfTotal .gt) (softL l) sliceFits_S2x2048x8_S2x2048x2).2
/-- The router's logits, from all the arguments. -/
def lgt (x : Arr F S2x2048x1024) (g b : Arr F S1024) (wq wk wv wo : Arr F S1024x1024) (g' b' : Arr F S1024) (wr : Arr F S1024x8)
    (msk : S2x2048.Idx → BitVec 1) : Arr F S2x2048x8 :=
  logits (layerNorm (attend x (layerNorm x g b) wq wk wv wo msk) g' b') wr

/-! ## The operations -/

/-- The first layer norm. -/
abbrev opsR1 : List (HloOp τ sig (Elt F)) :=
  [ nullary main_cst (constant S_ .f32 0x00000000#32),
    binary main_arg0 main_cst main_v0 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v0 main_v1 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x44800000#32),
    unary main_cst_0 main_v2 (broadcastInDim S2x2048x1 ![] bcast_S_S2x2048x1 : (⟨S_, .f32⟩ : BufTy).Contents (Elt F) → (⟨S2x2048x1, .f32⟩ : BufTy).Contents (Elt F)),
    binary main_v1 main_v2 main_v3 (Host.divf : (⟨S2x2048x1, .f32⟩ : BufTy).Contents (Elt F) → (⟨S2x2048x1, .f32⟩ : BufTy).Contents (Elt F) → (⟨S2x2048x1, .f32⟩ : BufTy).Contents (Elt F)),
    unary main_v3 main_v4 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_arg0 main_v4 main_v5 (subf : (⟨S2x2048x1024, .f32⟩ : BufTy).Contents (Elt F) → (⟨S2x2048x1024, .f32⟩ : BufTy).Contents (Elt F) → (⟨S2x2048x1024, .f32⟩ : BufTy).Contents (Elt F)),
    binary main_v5 main_v5 main_v6 (mulf : (⟨S2x2048x1024, .f32⟩ : BufTy).Contents (Elt F) → (⟨S2x2048x1024, .f32⟩ : BufTy).Contents (Elt F) → (⟨S2x2048x1024, .f32⟩ : BufTy).Contents (Elt F)),
    nullary main_cst_1 (constant S_ .f32 0x00000000#32),
    binary main_v6 main_cst_1 main_v7 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v7 main_v8 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_2 (constant S_ .f32 0x44800000#32),
    unary main_cst_2 main_v9 (broadcastInDim S2x2048x1 ![] bcast_S_S2x2048x1 : (⟨S_, .f32⟩ : BufTy).Contents (Elt F) → (⟨S2x2048x1, .f32⟩ : BufTy).Contents (Elt F)),
    binary main_v8 main_v9 main_v10 (Host.divf : (⟨S2x2048x1, .f32⟩ : BufTy).Contents (Elt F) → (⟨S2x2048x1, .f32⟩ : BufTy).Contents (Elt F) → (⟨S2x2048x1, .f32⟩ : BufTy).Contents (Elt F)),
    unary main_v3 main_v11 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_arg0 main_v11 main_v12 (subf : (⟨S2x2048x1024, .f32⟩ : BufTy).Contents (Elt F) → (⟨S2x2048x1024, .f32⟩ : BufTy).Contents (Elt F) → (⟨S2x2048x1024, .f32⟩ : BufTy).Contents (Elt F)),
    nullary main_cst_3 (constant S_ .f32 0x3727C5AC#32),
    unary main_cst_3 main_v13 (broadcastInDim S2x2048x1 ![] bcast_S_S2x2048x1 : (⟨S_, .f32⟩ : BufTy).Contents (Elt F) → (⟨S2x2048x1, .f32⟩ : BufTy).Contents (Elt F)),
    binary main_v10 main_v13 main_v14 (addf : (⟨S2x2048x1, .f32⟩ : BufTy).Contents (Elt F) → (⟨S2x2048x1, .f32⟩ : BufTy).Contents (Elt F) → (⟨S2x2048x1, .f32⟩ : BufTy).Contents (Elt F)),
    unary main_v14 main_v15 (Host.sqrt : (⟨S2x2048x1, .f32⟩ : BufTy).Contents (Elt F) → (⟨S2x2048x1, .f32⟩ : BufTy).Contents (Elt F)),
    unary main_v15 main_v16 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v12 main_v16 main_v17 (Host.divf : (⟨S2x2048x1024, .f32⟩ : BufTy).Contents (Elt F) → (⟨S2x2048x1024, .f32⟩ : BufTy).Contents (Elt F) → (⟨S2x2048x1024, .f32⟩ : BufTy).Contents (Elt F)),
    unary main_arg1 main_v18 (broadcastInDim S1x1x1024 ![2] bcast_S1024_S1x1x1024_2 : (⟨S1024, .f32⟩ : BufTy).Contents (Elt F) → (⟨S1x1x1024, .f32⟩ : BufTy).Contents (Elt F)),
    unary main_v18 main_v19 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v17 main_v19 main_v20 (mulf : (⟨S2x2048x1024, .f32⟩ : BufTy).Contents (Elt F) → (⟨S2x2048x1024, .f32⟩ : BufTy).Contents (Elt F) → (⟨S2x2048x1024, .f32⟩ : BufTy).Contents (Elt F)),
    unary main_arg2 main_v21 (broadcastInDim S1x1x1024 ![2] bcast_S1024_S1x1x1024_2 : (⟨S1024, .f32⟩ : BufTy).Contents (Elt F) → (⟨S1x1x1024, .f32⟩ : BufTy).Contents (Elt F)),
    unary main_v21 main_v22 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v20 main_v22 main_v23 (addf : (⟨S2x2048x1024, .f32⟩ : BufTy).Contents (Elt F) → (⟨S2x2048x1024, .f32⟩ : BufTy).Contents (Elt F) → (⟨S2x2048x1024, .f32⟩ : BufTy).Contents (Elt F)) ]

set_option maxRecDepth 8192 in
theorem opsR1_sub : (opsR1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- The buffers they write. -/
abbrev wrtR1 : List (Ref sig .tc) := [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23]
set_option maxRecDepth 8192 in
/-- Every other buffer they keep. -/
theorem keepR1 (W : Valuation τ sig (Elt F)) (r : Ref sig .tc) (h : r ∉ wrtR1) : after opsR1 W (Proc.devRef .tc r) = W (Proc.devRef .tc r) :=
  after_of_writes_sub opsR1 W (by
    simp only [List.Forall]
    repeat' apply And.intro
    all_goals simp only [nullary_writes, unary_writes, binary_writes, ternary_writes, reshape_writes, Finset.singleton_subset_iff, List.mem_toFinset]; exact List.mem_map_of_mem (by decide)) h

/-- The attention and its residual. -/
abbrev opsR2 : List (HloOp τ sig (Elt F)) :=
  [ binary main_v23 main_arg3 main_v24 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    reshape main_v24 main_v25 (rfl : (.f32 : EltTy) = .f32) shapeCasts_S2x2048x1024_S2x2048x16x64,
    unary main_v25 main_v26 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    binary main_v23 main_arg4 main_v27 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    reshape main_v27 main_v28 (rfl : (.f32 : EltTy) = .f32) shapeCasts_S2x2048x1024_S2x2048x16x64,
    unary main_v28 main_v29 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    binary main_v23 main_arg5 main_v30 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    reshape main_v30 main_v31 (rfl : (.f32 : EltTy) = .f32) shapeCasts_S2x2048x1024_S2x2048x16x64,
    unary main_v31 main_v32 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    binary main_v26 main_v29 main_v33 ((fun l r => Host.dotGeneral dot_S2x16x2048x64_S2x16x2048x64_S2x16x2048x2048_3_3_2_2_01_01 none l r) : (⟨S2x16x2048x64, .f32⟩ : BufTy).Contents (Elt F) → (⟨S2x16x2048x64, .f32⟩ : BufTy).Contents (Elt F) → (⟨S2x16x2048x2048, .f32⟩ : BufTy).Contents (Elt F)),
    nullary main_cst_4 (constant S_ .f32 0x42800000#32),
    unary main_cst_4 main_v34 (Host.sqrt : (⟨S_, .f32⟩ : BufTy).Contents (Elt F) → (⟨S_, .f32⟩ : BufTy).Contents (Elt F)),
    unary main_v34 main_v35 (broadcastInDim S2x16x2048x2048 ![] bcast_S_S2x16x2048x2048 : (⟨S_, .f32⟩ : BufTy).Contents (Elt F) → (⟨S2x16x2048x2048, .f32⟩ : BufTy).Contents (Elt F)),
    binary main_v33 main_v35 main_v36 (Host.divf : (⟨S2x16x2048x2048, .f32⟩ : BufTy).Contents (Elt F) → (⟨S2x16x2048x2048, .f32⟩ : BufTy).Contents (Elt F) → (⟨S2x16x2048x2048, .f32⟩ : BufTy).Contents (Elt F)),
    unary main_arg10 main_v37 (broadcastInDim S2x1x1x2048 ![0, 3] bcast_S2x2048_S2x1x1x2048_0_3 : (⟨S2x2048, .i1⟩ : BufTy).Contents (Elt F) → (⟨S2x1x1x2048, .i1⟩ : BufTy).Contents (Elt F)),
    nullary main_cst_5 (constant S_ .f32 0xCE6E6B28#32),
    TRef.unary (TRef.of (T := ⟨S_, .f32⟩) main_cst_5) (TRef.of (T := ⟨S_, .f32⟩) main_call0_v0) id,
    TRef.unary (TRef.of (T := ⟨S2x1x1x2048, .i1⟩) main_v37) (TRef.of (T := ⟨S2x16x2048x2048, .i1⟩) main_call0_v1) (broadcastInDim S2x16x2048x2048 ![0, 1, 2, 3] bcast_S2x1x1x2048_S2x16x2048x2048_0_1_2_3),
    TRef.unary (TRef.of (T := ⟨S_, .f32⟩) main_call0_v0) (TRef.of (T := ⟨S2x16x2048x2048, .f32⟩) main_call0_v2) (broadcastInDim S2x16x2048x2048 ![] bcast_S_S2x16x2048x2048),
    TRef.ternary (TRef.of (T := ⟨S2x16x2048x2048, .i1⟩) main_call0_v1) (TRef.of (T := ⟨S2x16x2048x2048, .f32⟩) main_call0_v2) (TRef.of (T := ⟨S2x16x2048x2048, .f32⟩) main_v36) (TRef.of (T := ⟨S2x16x2048x2048, .f32⟩) main_v38) select,
    nullary main_cst_6 (constant S_ .f32 0xFF800000#32),
    binary main_v38 main_cst_6 main_v39 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    nullary main_cst_7 (constant S_ .f32 0xFF800000#32),
    unary main_cst_7 main_v40 (broadcastInDim S2x16x2048 ![] bcast_S_S2x16x2048 : (⟨S_, .f32⟩ : BufTy).Contents (Elt F) → (⟨S2x16x2048, .f32⟩ : BufTy).Contents (Elt F)),
    binary main_v40 main_v39 main_v41 (maximumf : (⟨S2x16x2048, .f32⟩ : BufTy).Contents (Elt F) → (⟨S2x16x2048, .f32⟩ : BufTy).Contents (Elt F) → (⟨S2x16x2048, .f32⟩ : BufTy).Contents (Elt F)),
    unary main_v41 main_v42 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v42 main_v43 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v38 main_v43 main_v44 (subf : (⟨S2x16x2048x2048, .f32⟩ : BufTy).Contents (Elt F) → (⟨S2x16x2048x2048, .f32⟩ : BufTy).Contents (Elt F) → (⟨S2x16x2048x2048, .f32⟩ : BufTy).Contents (Elt F)),
    unary main_v44 main_v45 (Host.exp : (⟨S2x16x2048x2048, .f32⟩ : BufTy).Contents (Elt F) → (⟨S2x16x2048x2048, .f32⟩ : BufTy).Contents (Elt F)),
    nullary main_cst_8 (constant S_ .f32 0x00000000#32),
    binary main_v45 main_cst_8 main_v46 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    unary main_v46 main_v47 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v47 main_v48 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v45 main_v48 main_v49 (Host.divf : (⟨S2x16x2048x2048, .f32⟩ : BufTy).Contents (Elt F) → (⟨S2x16x2048x2048, .f32⟩ : BufTy).Contents (Elt F) → (⟨S2x16x2048x2048, .f32⟩ : BufTy).Contents (Elt F)),
    binary main_v49 main_v32 main_v50 ((fun l r => Host.dotGeneral dot_S2x16x2048x2048_S2x16x2048x64_S2x16x2048x64_3_2_2_3_01_01 none l r) : (⟨S2x16x2048x2048, .f32⟩ : BufTy).Contents (Elt F) → (⟨S2x16x2048x64, .f32⟩ : BufTy).Contents (Elt F) → (⟨S2x16x2048x64, .f32⟩ : BufTy).Contents (Elt F)),
    unary main_v50 main_v51 ((transpose S2x2048x16x64 [0, 2, 1, 3] · transposes_S2x16x2048x64_S2x2048x16x64_0_2_1_3) : (⟨S2x16x2048x64, .f32⟩ : BufTy).Contents (Elt F) → (⟨S2x2048x16x64, .f32⟩ : BufTy).Contents (Elt F)),
    reshape main_v51 main_v52 (rfl : (.f32 : EltTy) = .f32) shapeCasts_S2x2048x16x64_S2x2048x1024,
    binary main_v52 main_arg6 main_v53 ((fun l r => Host.dotGeneral dot_S2x2048x1024_S1024x1024_S2x2048x1024_2_0_01_1_n_n none l r) : (⟨S2x2048x1024, .f32⟩ : BufTy).Contents (Elt F) → (⟨S1024x1024, .f32⟩ : BufTy).Contents (Elt F) → (⟨S2x2048x1024, .f32⟩ : BufTy).Contents (Elt F)),
    binary main_arg0 main_v53 main_v54 (addf : (⟨S2x2048x1024, .f32⟩ : BufTy).Contents (Elt F) → (⟨S2x2048x1024, .f32⟩ : BufTy).Contents (Elt F) → (⟨S2x2048x1024, .f32⟩ : BufTy).Contents (Elt F)) ]

set_option maxRecDepth 8192 in
theorem opsR2_sub : (opsR2 : List (HloOp τ sig (Elt F))).Forall fun op => op.bufs ⊆ tcRefs τ sig :=
  ⟨binary_bufs_sub .., reshape_bufs_sub .., unary_bufs_sub .., binary_bufs_sub .., reshape_bufs_sub .., unary_bufs_sub .., binary_bufs_sub .., reshape_bufs_sub .., unary_bufs_sub .., binary_bufs_sub .., nullary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., binary_bufs_sub ..⟩
/-- The buffers they write. -/
abbrev wrtR2 : List (Ref sig .tc) := [main_v24, main_v25, main_v26, main_v27, main_v28, main_v29, main_v30, main_v31, main_v32, main_v33, main_cst_4, main_v34, main_v35, main_v36, main_v37, main_cst_5, main_call0_v0, main_call0_v1, main_call0_v2, main_v38, main_cst_6, main_v39, main_cst_7, main_v40, main_v41, main_v42, main_v43, main_v44, main_v45, main_cst_8, main_v46, main_v47, main_v48, main_v49, main_v50, main_v51, main_v52, main_v53, main_v54]
set_option maxRecDepth 8192 in
/-- Every other buffer they keep. -/
theorem keepR2 (W : Valuation τ sig (Elt F)) (r : Ref sig .tc) (h : r ∉ wrtR2) : after opsR2 W (Proc.devRef .tc r) = W (Proc.devRef .tc r) :=
  after_of_writes_sub opsR2 W (by
    simp only [List.Forall]
    repeat' apply And.intro
    all_goals simp only [nullary_writes, unary_writes, binary_writes, ternary_writes, reshape_writes, Finset.singleton_subset_iff, List.mem_toFinset]; exact List.mem_map_of_mem (by decide)) h

/-- The second layer norm. -/
abbrev opsR3 : List (HloOp τ sig (Elt F)) :=
  [ nullary main_cst_9 (constant S_ .f32 0x00000000#32),
    binary main_v54 main_cst_9 main_v55 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v55 main_v56 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_10 (constant S_ .f32 0x44800000#32),
    unary main_cst_10 main_v57 (broadcastInDim S2x2048x1 ![] bcast_S_S2x2048x1 : (⟨S_, .f32⟩ : BufTy).Contents (Elt F) → (⟨S2x2048x1, .f32⟩ : BufTy).Contents (Elt F)),
    binary main_v56 main_v57 main_v58 (Host.divf : (⟨S2x2048x1, .f32⟩ : BufTy).Contents (Elt F) → (⟨S2x2048x1, .f32⟩ : BufTy).Contents (Elt F) → (⟨S2x2048x1, .f32⟩ : BufTy).Contents (Elt F)),
    unary main_v58 main_v59 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v54 main_v59 main_v60 (subf : (⟨S2x2048x1024, .f32⟩ : BufTy).Contents (Elt F) → (⟨S2x2048x1024, .f32⟩ : BufTy).Contents (Elt F) → (⟨S2x2048x1024, .f32⟩ : BufTy).Contents (Elt F)),
    binary main_v60 main_v60 main_v61 (mulf : (⟨S2x2048x1024, .f32⟩ : BufTy).Contents (Elt F) → (⟨S2x2048x1024, .f32⟩ : BufTy).Contents (Elt F) → (⟨S2x2048x1024, .f32⟩ : BufTy).Contents (Elt F)),
    nullary main_cst_11 (constant S_ .f32 0x00000000#32),
    binary main_v61 main_cst_11 main_v62 ((fun x v => Host.reduceAdd x v reducesTo_S2x2048x1024_S2x2048_d2 h_S_) : (⟨S2x2048x1024, .f32⟩ : BufTy).Contents (Elt F) → (⟨S_, .f32⟩ : BufTy).Contents (Elt F) → (⟨S2x2048, .f32⟩ : BufTy).Contents (Elt F)),
    unary main_v62 main_v63 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_12 (constant S_ .f32 0x44800000#32),
    unary main_cst_12 main_v64 (broadcastInDim S2x2048x1 ![] bcast_S_S2x2048x1 : (⟨S_, .f32⟩ : BufTy).Contents (Elt F) → (⟨S2x2048x1, .f32⟩ : BufTy).Contents (Elt F)),
    binary main_v63 main_v64 main_v65 (Host.divf : (⟨S2x2048x1, .f32⟩ : BufTy).Contents (Elt F) → (⟨S2x2048x1, .f32⟩ : BufTy).Contents (Elt F) → (⟨S2x2048x1, .f32⟩ : BufTy).Contents (Elt F)),
    unary main_v58 main_v66 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v54 main_v66 main_v67 (subf : (⟨S2x2048x1024, .f32⟩ : BufTy).Contents (Elt F) → (⟨S2x2048x1024, .f32⟩ : BufTy).Contents (Elt F) → (⟨S2x2048x1024, .f32⟩ : BufTy).Contents (Elt F)),
    nullary main_cst_13 (constant S_ .f32 0x3727C5AC#32),
    unary main_cst_13 main_v68 (broadcastInDim S2x2048x1 ![] bcast_S_S2x2048x1 : (⟨S_, .f32⟩ : BufTy).Contents (Elt F) → (⟨S2x2048x1, .f32⟩ : BufTy).Contents (Elt F)),
    binary main_v65 main_v68 main_v69 (addf : (⟨S2x2048x1, .f32⟩ : BufTy).Contents (Elt F) → (⟨S2x2048x1, .f32⟩ : BufTy).Contents (Elt F) → (⟨S2x2048x1, .f32⟩ : BufTy).Contents (Elt F)),
    unary main_v69 main_v70 (Host.sqrt : (⟨S2x2048x1, .f32⟩ : BufTy).Contents (Elt F) → (⟨S2x2048x1, .f32⟩ : BufTy).Contents (Elt F)),
    unary main_v70 main_v71 (broadcastInDim S2x2048x1024 ![0, 1, 2] bcast_S2x2048x1_S2x2048x1024_0_1_2 : (⟨S2x2048x1, .f32⟩ : BufTy).Contents (Elt F) → (⟨S2x2048x1024, .f32⟩ : BufTy).Contents (Elt F)),
    binary main_v67 main_v71 main_v72 (Host.divf : (⟨S2x2048x1024, .f32⟩ : BufTy).Contents (Elt F) → (⟨S2x2048x1024, .f32⟩ : BufTy).Contents (Elt F) → (⟨S2x2048x1024, .f32⟩ : BufTy).Contents (Elt F)),
    unary main_arg7 main_v73 (broadcastInDim S1x1x1024 ![2] bcast_S1024_S1x1x1024_2 : (⟨S1024, .f32⟩ : BufTy).Contents (Elt F) → (⟨S1x1x1024, .f32⟩ : BufTy).Contents (Elt F)),
    unary main_v73 main_v74 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v72 main_v74 main_v75 (mulf : (⟨S2x2048x1024, .f32⟩ : BufTy).Contents (Elt F) → (⟨S2x2048x1024, .f32⟩ : BufTy).Contents (Elt F) → (⟨S2x2048x1024, .f32⟩ : BufTy).Contents (Elt F)),
    unary main_arg8 main_v76 (broadcastInDim S1x1x1024 ![2] bcast_S1024_S1x1x1024_2 : (⟨S1024, .f32⟩ : BufTy).Contents (Elt F) → (⟨S1x1x1024, .f32⟩ : BufTy).Contents (Elt F)),
    unary main_v76 main_v77 (broadcastInDim S2x2048x1024 ![0, 1, 2] bcast_S1x1x1024_S2x2048x1024_0_1_2 : (⟨S1x1x1024, .f32⟩ : BufTy).Contents (Elt F) → (⟨S2x2048x1024, .f32⟩ : BufTy).Contents (Elt F)),
    binary main_v75 main_v77 main_v78 (addf : (⟨S2x2048x1024, .f32⟩ : BufTy).Contents (Elt F) → (⟨S2x2048x1024, .f32⟩ : BufTy).Contents (Elt F) → (⟨S2x2048x1024, .f32⟩ : BufTy).Contents (Elt F)) ]

set_option maxRecDepth 8192 in
theorem opsR3_sub : (opsR3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
/-- The buffers they write. -/
abbrev wrtR3 : List (Ref sig .tc) := [main_cst_9, main_v55, main_v56, main_cst_10, main_v57, main_v58, main_v59, main_v60, main_v61, main_cst_11, main_v62, main_v63, main_cst_12, main_v64, main_v65, main_v66, main_v67, main_cst_13, main_v68, main_v69, main_v70, main_v71, main_v72, main_v73, main_v74, main_v75, main_v76, main_v77, main_v78]
set_option maxRecDepth 8192 in
/-- Every other buffer they keep. -/
theorem keepR3 (W : Valuation τ sig (Elt F)) (r : Ref sig .tc) (h : r ∉ wrtR3) : after opsR3 W (Proc.devRef .tc r) = W (Proc.devRef .tc r) :=
  after_of_writes_sub opsR3 W (by
    simp only [List.Forall]
    repeat' apply And.intro
    all_goals simp only [nullary_writes, unary_writes, binary_writes, ternary_writes, reshape_writes, Finset.singleton_subset_iff, List.mem_toFinset]; exact List.mem_map_of_mem (by decide)) h

/-- The router's logits and the two experts of each token. -/
abbrev opsR4 : List (HloOp τ sig (Elt F)) :=
  [ binary main_v78 main_arg9 main_v79 ((fun l r => Host.dotGeneral dot_S2x2048x1024_S1024x8_S2x2048x8_2_0_01_1_n_n none l r) : (⟨S2x2048x1024, .f32⟩ : BufTy).Contents (Elt F) → (⟨S1024x8, .f32⟩ : BufTy).Contents (Elt F) → (⟨S2x2048x8, .f32⟩ : BufTy).Contents (Elt F)),
    nullary main_cst_14 (constant S_ .f32 0xFF800000#32),
    binary main_v79 main_cst_14 main_v80 ((fun x v => Host.reduce FloatOps.maximumf x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    nullary main_cst_15 (constant S_ .f32 0xFF800000#32),
    unary main_cst_15 main_v81 (broadcastInDim S2x2048 ![] bcast_S_S2x2048 : (⟨S_, .f32⟩ : BufTy).Contents (Elt F) → (⟨S2x2048, .f32⟩ : BufTy).Contents (Elt F)),
    binary main_v81 main_v80 main_v82 (maximumf : (⟨S2x2048, .f32⟩ : BufTy).Contents (Elt F) → (⟨S2x2048, .f32⟩ : BufTy).Contents (Elt F) → (⟨S2x2048, .f32⟩ : BufTy).Contents (Elt F)),
    unary main_v82 main_v83 (broadcastInDim S2x2048x1 ![0, 1] bcast_S2x2048_S2x2048x1_0_1 : (⟨S2x2048, .f32⟩ : BufTy).Contents (Elt F) → (⟨S2x2048x1, .f32⟩ : BufTy).Contents (Elt F)),
    unary main_v83 main_v84 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v79 main_v84 main_v85 (subf : (⟨S2x2048x8, .f32⟩ : BufTy).Contents (Elt F) → (⟨S2x2048x8, .f32⟩ : BufTy).Contents (Elt F) → (⟨S2x2048x8, .f32⟩ : BufTy).Contents (Elt F)),
    unary main_v85 main_v86 (Host.exp : (⟨S2x2048x8, .f32⟩ : BufTy).Contents (Elt F) → (⟨S2x2048x8, .f32⟩ : BufTy).Contents (Elt F)),
    nullary main_cst_16 (constant S_ .f32 0x00000000#32),
    binary main_v86 main_cst_16 main_v87 ((fun x v => Host.reduceAdd x v reducesTo_S2x2048x8_S2x2048_d2 h_S_) : (⟨S2x2048x8, .f32⟩ : BufTy).Contents (Elt F) → (⟨S_, .f32⟩ : BufTy).Contents (Elt F) → (⟨S2x2048, .f32⟩ : BufTy).Contents (Elt F)),
    unary main_v87 main_v88 (broadcastInDim S2x2048x1 ![0, 1] bcast_S2x2048_S2x2048x1_0_1 : (⟨S2x2048, .f32⟩ : BufTy).Contents (Elt F) → (⟨S2x2048x1, .f32⟩ : BufTy).Contents (Elt F)),
    unary main_v88 main_v89 (broadcastInDim S2x2048x8 ![0, 1, 2] bcast_S2x2048x1_S2x2048x8_0_1_2 : (⟨S2x2048x1, .f32⟩ : BufTy).Contents (Elt F) → (⟨S2x2048x8, .f32⟩ : BufTy).Contents (Elt F)),
    binary main_v86 main_v89 main_v90 (Host.divf : (⟨S2x2048x8, .f32⟩ : BufTy).Contents (Elt F) → (⟨S2x2048x8, .f32⟩ : BufTy).Contents (Elt F) → (⟨S2x2048x8, .f32⟩ : BufTy).Contents (Elt F)),
    unary main_v90 main_values ((fun x => (Host.topK S2x2048x2 2 (FloatOps.cmpfTotal .gt) x sliceFits_S2x2048x8_S2x2048x2).1) : (⟨S2x2048x8, .f32⟩ : BufTy).Contents (Elt F) → (⟨S2x2048x2, .f32⟩ : BufTy).Contents (Elt F)),
    unary main_v90 main_indices ((fun x => (Host.topK S2x2048x2 2 (FloatOps.cmpfTotal .gt) x sliceFits_S2x2048x8_S2x2048x2).2) : (⟨S2x2048x8, .f32⟩ : BufTy).Contents (Elt F) → (⟨S2x2048x2, .i32⟩ : BufTy).Contents (Elt F)) ]

set_option maxRecDepth 8192 in
theorem opsR4_sub : (opsR4 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub ..⟩
/-- The buffers they write. -/
abbrev wrtR4 : List (Ref sig .tc) := [main_v79, main_cst_14, main_v80, main_cst_15, main_v81, main_v82, main_v83, main_v84, main_v85, main_v86, main_cst_16, main_v87, main_v88, main_v89, main_v90, main_values, main_indices]
set_option maxRecDepth 8192 in
/-- Every other buffer they keep. -/
theorem keepR4 (W : Valuation τ sig (Elt F)) (r : Ref sig .tc) (h : r ∉ wrtR4) : after opsR4 W (Proc.devRef .tc r) = W (Proc.devRef .tc r) :=
  after_of_writes_sub opsR4 W (by
    simp only [List.Forall]
    repeat' apply And.intro
    all_goals simp only [nullary_writes, unary_writes, binary_writes, ternary_writes, reshape_writes, Finset.singleton_subset_iff, List.mem_toFinset]; exact List.mem_map_of_mem (by decide)) h

/-! ## What they leave -/

variable (W : Valuation τ sig (Elt F))

set_option maxRecDepth 8192 in
set_option maxHeartbeats 2000000 in
theorem afterR1_v23 : after opsR1 W (Proc.devRef .tc main_v23) = layerNorm (W (Proc.devRef .tc main_arg0)) (W (Proc.devRef .tc main_arg1)) (W (Proc.devRef .tc main_arg2)) := by
  simp only [opsR1, TRef.binary, TRef.nullary, TRef.ternary, TRef.unary, TRef.toBuf, TRef.ofBuf, cast_eq]; after_results_simp <;> rfl

set_option maxRecDepth 8192 in
set_option maxHeartbeats 2000000 in
theorem afterR2_v54 : after opsR2 W (Proc.devRef .tc main_v54) = attend (W (Proc.devRef .tc main_arg0)) (W (Proc.devRef .tc main_v23)) (W (Proc.devRef .tc main_arg3)) (W (Proc.devRef .tc main_arg4)) (W (Proc.devRef .tc main_arg5)) (W (Proc.devRef .tc main_arg6)) (W (Proc.devRef .tc main_arg10)) := by
  simp only [opsR2, TRef.binary, TRef.nullary, TRef.ternary, TRef.unary, TRef.toBuf, TRef.ofBuf, cast_eq]; after_results_simp <;> rfl

set_option maxRecDepth 8192 in
set_option maxHeartbeats 2000000 in
theorem afterR3_v78 : after opsR3 W (Proc.devRef .tc main_v78) = layerNorm (W (Proc.devRef .tc main_v54)) (W (Proc.devRef .tc main_arg7)) (W (Proc.devRef .tc main_arg8)) := by
  simp only [opsR3, TRef.binary, TRef.nullary, TRef.ternary, TRef.unary, TRef.toBuf, TRef.ofBuf, cast_eq]; after_results_simp <;> rfl

set_option maxRecDepth 8192 in
set_option maxHeartbeats 2000000 in
theorem afterR4_v79 : after opsR4 W (Proc.devRef .tc main_v79) = logits (W (Proc.devRef .tc main_v78)) (W (Proc.devRef .tc main_arg9)) := by
  simp only [opsR4, TRef.binary, TRef.nullary, TRef.ternary, TRef.unary, TRef.toBuf, TRef.ofBuf, cast_eq]; after_results_simp <;> rfl

set_option maxRecDepth 8192 in
set_option maxHeartbeats 2000000 in
theorem afterR4_indices : after opsR4 W (Proc.devRef .tc main_indices) = choice (logits (W (Proc.devRef .tc main_v78)) (W (Proc.devRef .tc main_arg9))) := by
  simp only [opsR4, TRef.binary, TRef.nullary, TRef.ternary, TRef.unary, TRef.toBuf, TRef.ofBuf, cast_eq]; after_results_simp <;> rfl

end Cert.Proof.Rows

end
-- ==== Proof.Ops.lean ====
/-
  The host operations around the two gathers, as lists in program order, and what they leave in the buffers the gathers
  read: the tables reshaped to rows of 128 words, and for each the list of the rows to take.
-/
module

public import proofs.«01_k».proof.Proof.Router
public import Idealize.ShloMosaic.Lib.StableHlo.Run

@[expose] public section

noncomputable section

namespace Cert.Proof.Rows

open Cert.KernelIdeal Cert.KernelIdeal.Gen

open Idealize.ShloMosaic Idealize.ShloMosaic.TcCoe Idealize.SL.Sem Idealize.ShloMosaic.StableHlo

variable {F : FTy → Type}

/-! ## The values -/

/-- The positions of `x` in its stable ascending order. -/
def argS (x : IVec S8192 32) : IVec S8192 32 := (Host.sort2 S8192 0 comparator_i32_i32_d0 x (iotaInDim S8192 32 0)).2
/-- `x` divided by two, rounded down. -/
def half (x : IVec S8192 32) : IVec S8192 32 :=
  select (andi (cmpi .ne (signi x) (broadcastInDim S8192 ![] bcast_S_S8192 (signi (id (constantI S_ 32 2#32)))))
      (cmpi .ne (Host.remsi x (broadcastInDim S8192 ![] bcast_S_S8192 (id (constantI S_ 32 2#32))))
        (broadcastInDim S8192 ![] bcast_S_S8192 (constantI S_ 32 0#32))))
    (subi (Host.divsi x (broadcastInDim S8192 ![] bcast_S_S8192 (id (constantI S_ 32 2#32))))
      (broadcastInDim S8192 ![] bcast_S_S8192 (constantI S_ 32 1#32)))
    (Host.divsi x (broadcastInDim S8192 ![] bcast_S_S8192 (id (constantI S_ 32 2#32))))
/-- Row `r` of 512 words is rows `4 r` to `4 r + 3` of 128: the list of those, for each row of `x`. -/
def lstOf (x : IVec S8192 32) : IVec S1x32768 32 :=
  shapeCast S1x32768 (addi
    (broadcastInDim S8192x4 ![0, 1] bcast_S8192x1_S8192x4_0_1
      (muli (broadcastInDim S8192x1 ![0] bcast_S8192_S8192x1_0 x) (broadcastInDim S8192x1 ![] bcast_S_S8192x1 (constantI S_ 32 4#32))))
    (broadcastInDim S8192x4 ![0, 1] bcast_S1x4_S8192x4_0_1 (broadcastInDim S1x4 ![1] bcast_S4_S1x4_1 (iotaInDim S4 32 0))))
    shapeCasts_S8192x4_S1x32768
/-- Two vectors one after the other. -/
def cat2 (a b : IVec S4096 32) : IVec S8192 32 := concatenate S8192 0 [⟨S4096, a⟩, ⟨S4096, b⟩] concatenates_S4096_S4096_S8192_d0
/-- The even positions of `x`, then the odd ones. -/
def evOdd (x : IVec S8192 32) : IVec S8192 32 :=
  cat2 (shapeCast S4096 (extractStridedSlice S4096x1 ![0, 0] (shapeCast S4096x2 x shapeCasts_S8192_S4096x2) slices_S4096x2_S4096x1_0_0) shapeCasts_S4096x1_S4096)
    (shapeCast S4096 (extractStridedSlice S4096x1 ![0, 1] (shapeCast S4096x2 x shapeCasts_S8192_S4096x2) slices_S4096x2_S4096x1_0_1) shapeCasts_S4096x1_S4096)

variable [FloatOps F]

/-! ## The operations -/

/-- The operations between the router and the first gather. -/
abbrev ops0 : List (HloOp τ sig (Elt F)) :=
  [ reshape main_indices main_v91 (rfl : (.i32 : EltTy) = .i32) shapeCasts_S2x2048x2_S8192,
    TRef.nullary (TRef.of (T := ⟨S8192, .i32⟩) main_call1_v0) (iotaInDim S8192 32 0),
    TRef.binary (TRef.of (T := ⟨S8192, .i32⟩) main_v91) (TRef.of (T := ⟨S8192, .i32⟩) main_call1_v0) (TRef.of (T := ⟨S8192, .i32⟩) main_call1_v1_0) (fun x y => (Host.sort2 S8192 0 comparator_i32_i32_d0 x y).1),
    TRef.binary (TRef.of (T := ⟨S8192, .i32⟩) main_v91) (TRef.of (T := ⟨S8192, .i32⟩) main_call1_v0) (TRef.of (T := ⟨S8192, .i32⟩) main_v92) (fun x y => (Host.sort2 S8192 0 comparator_i32_i32_d0 x y).2),
    TRef.nullary (TRef.of (T := ⟨S8192, .i32⟩) main_call2_v0) (iotaInDim S8192 32 0),
    TRef.binary (TRef.of (T := ⟨S8192, .i32⟩) main_v92) (TRef.of (T := ⟨S8192, .i32⟩) main_call2_v0) (TRef.of (T := ⟨S8192, .i32⟩) main_call2_v1_0) (fun x y => (Host.sort2 S8192 0 comparator_i32_i32_d0 x y).1),
    TRef.binary (TRef.of (T := ⟨S8192, .i32⟩) main_v92) (TRef.of (T := ⟨S8192, .i32⟩) main_call2_v0) (TRef.of (T := ⟨S8192, .i32⟩) main_v93) (fun x y => (Host.sort2 S8192 0 comparator_i32_i32_d0 x y).2),
    nullary main_c (constantI S_ 32 2#32),
    TRef.unary (TRef.of (T := ⟨S_, .i32⟩) main_c) (TRef.of (T := ⟨S_, .i32⟩) main_call3_v0) id,
    TRef.unary (TRef.of (T := ⟨S_, .i32⟩) main_call3_v0) (TRef.of (T := ⟨S8192, .i32⟩) main_call3_v1) (broadcastInDim S8192 ![] bcast_S_S8192),
    TRef.binary (TRef.of (T := ⟨S8192, .i32⟩) main_v92) (TRef.of (T := ⟨S8192, .i32⟩) main_call3_v1) (TRef.of (T := ⟨S8192, .i32⟩) main_call3_v2) Host.divsi,
    TRef.unary (TRef.of (T := ⟨S8192, .i32⟩) main_v92) (TRef.of (T := ⟨S8192, .i32⟩) main_call3_v3) signi,
    TRef.unary (TRef.of (T := ⟨S_, .i32⟩) main_call3_v0) (TRef.of (T := ⟨S_, .i32⟩) main_call3_v4) signi,
    TRef.unary (TRef.of (T := ⟨S_, .i32⟩) main_call3_v4) (TRef.of (T := ⟨S8192, .i32⟩) main_call3_v5) (broadcastInDim S8192 ![] bcast_S_S8192),
    TRef.binary (TRef.of (T := ⟨S8192, .i32⟩) main_call3_v3) (TRef.of (T := ⟨S8192, .i32⟩) main_call3_v5) (TRef.of (T := ⟨S8192, .i1⟩) main_call3_v6) (cmpi .ne),
    TRef.unary (TRef.of (T := ⟨S_, .i32⟩) main_call3_v0) (TRef.of (T := ⟨S8192, .i32⟩) main_call3_v7) (broadcastInDim S8192 ![] bcast_S_S8192),
    TRef.binary (TRef.of (T := ⟨S8192, .i32⟩) main_v92) (TRef.of (T := ⟨S8192, .i32⟩) main_call3_v7) (TRef.of (T := ⟨S8192, .i32⟩) main_call3_v8) Host.remsi,
    TRef.nullary (TRef.of (T := ⟨S_, .i32⟩) main_call3_c) (constantI S_ 32 0#32),
    TRef.unary (TRef.of (T := ⟨S_, .i32⟩) main_call3_c) (TRef.of (T := ⟨S8192, .i32⟩) main_call3_v9) (broadcastInDim S8192 ![] bcast_S_S8192),
    TRef.binary (TRef.of (T := ⟨S8192, .i32⟩) main_call3_v8) (TRef.of (T := ⟨S8192, .i32⟩) main_call3_v9) (TRef.of (T := ⟨S8192, .i1⟩) main_call3_v10) (cmpi .ne),
    TRef.binary (TRef.of (T := ⟨S8192, .i1⟩) main_call3_v6) (TRef.of (T := ⟨S8192, .i1⟩) main_call3_v10) (TRef.of (T := ⟨S8192, .i1⟩) main_call3_v11) andi,
    TRef.nullary (TRef.of (T := ⟨S_, .i32⟩) main_call3_c_0) (constantI S_ 32 1#32),
    TRef.unary (TRef.of (T := ⟨S_, .i32⟩) main_call3_c_0) (TRef.of (T := ⟨S8192, .i32⟩) main_call3_v12) (broadcastInDim S8192 ![] bcast_S_S8192),
    TRef.binary (TRef.of (T := ⟨S8192, .i32⟩) main_call3_v2) (TRef.of (T := ⟨S8192, .i32⟩) main_call3_v12) (TRef.of (T := ⟨S8192, .i32⟩) main_call3_v13) subi,
    TRef.ternary (TRef.of (T := ⟨S8192, .i1⟩) main_call3_v11) (TRef.of (T := ⟨S8192, .i32⟩) main_call3_v13) (TRef.of (T := ⟨S8192, .i32⟩) main_call3_v2) (TRef.of (T := ⟨S8192, .i32⟩) main_v94) select,
    reshape main_arg11 main_v95 (rfl : (.i32 : EltTy) = .i32) shapeCasts_S4096x512_S16384x128,
    unary main_v94 main_v96 (broadcastInDim S8192x1 ![0] bcast_S8192_S8192x1_0 : (⟨S8192, .i32⟩ : BufTy).Contents (Elt F) → (⟨S8192x1, .i32⟩ : BufTy).Contents (Elt F)),
    nullary main_c_17 (constantI S_ 32 4#32),
    unary main_c_17 main_v97 (broadcastInDim S8192x1 ![] bcast_S_S8192x1 : (⟨S_, .i32⟩ : BufTy).Contents (Elt F) → (⟨S8192x1, .i32⟩ : BufTy).Contents (Elt F)),
    binary main_v96 main_v97 main_v98 (muli : (⟨S8192x1, .i32⟩ : BufTy).Contents (Elt F) → (⟨S8192x1, .i32⟩ : BufTy).Contents (Elt F) → (⟨S8192x1, .i32⟩ : BufTy).Contents (Elt F)),
    nullary main_v99 (iotaInDim S4 32 0),
    unary main_v99 main_v100 (broadcastInDim S1x4 ![1] bcast_S4_S1x4_1 : (⟨S4, .i32⟩ : BufTy).Contents (Elt F) → (⟨S1x4, .i32⟩ : BufTy).Contents (Elt F)),
    unary main_v98 main_v101 (broadcastInDim S8192x4 ![0, 1] bcast_S8192x1_S8192x4_0_1 : (⟨S8192x1, .i32⟩ : BufTy).Contents (Elt F) → (⟨S8192x4, .i32⟩ : BufTy).Contents (Elt F)),
    unary main_v100 main_v102 (broadcastInDim S8192x4 ![0, 1] bcast_S1x4_S8192x4_0_1 : (⟨S1x4, .i32⟩ : BufTy).Contents (Elt F) → (⟨S8192x4, .i32⟩ : BufTy).Contents (Elt F)),
    binary main_v101 main_v102 main_v103 (addi : (⟨S8192x4, .i32⟩ : BufTy).Contents (Elt F) → (⟨S8192x4, .i32⟩ : BufTy).Contents (Elt F) → (⟨S8192x4, .i32⟩ : BufTy).Contents (Elt F)),
    reshape main_v103 main_v104 (rfl : (.i32 : EltTy) = .i32) shapeCasts_S8192x4_S1x32768 ]

set_option maxRecDepth 8192 in
theorem ops0_sub : (ops0 : List (HloOp τ sig (Elt F))).Forall fun op => op.bufs ⊆ tcRefs τ sig :=
  ⟨reshape_bufs_sub .., nullary_bufs_sub .., binary_bufs_sub .., binary_bufs_sub .., nullary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩
/-- The buffers they write. -/
abbrev wrt0 : List (Ref sig .tc) := [main_v91, main_call1_v0, main_call1_v1_0, main_v92, main_call2_v0, main_call2_v1_0, main_v93, main_c, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v94, main_v95, main_v96, main_c_17, main_v97, main_v98, main_v99, main_v100, main_v101, main_v102, main_v103, main_v104]
set_option maxRecDepth 8192 in
/-- Every other buffer they keep. -/
theorem keep0 (W : Valuation τ sig (Elt F)) (r : Ref sig .tc) (h : r ∉ wrt0) : after ops0 W (Proc.devRef .tc r) = W (Proc.devRef .tc r) :=
  after_of_writes_sub ops0 W (by
    simp only [List.Forall]
    repeat' apply And.intro
    all_goals simp only [nullary_writes, unary_writes, binary_writes, ternary_writes, reshape_writes, Finset.singleton_subset_iff, List.mem_toFinset]; exact List.mem_map_of_mem (by decide)) h

/-- The operations between the gathers. -/
abbrev ops1 : List (HloOp τ sig (Elt F)) :=
  [ reshape main_v105 main_v106 (rfl : (.i32 : EltTy) = .i32) shapeCasts_S32768x128_S8192x512,
    reshape main_v93 main_v107 (rfl : (.i32 : EltTy) = .i32) shapeCasts_S8192_S4096x2,
    unary main_v107 main_v108 ((extractStridedSlice S4096x1 ![0, 0] · slices_S4096x2_S4096x1_0_0) : (⟨S4096x2, .i32⟩ : BufTy).Contents (Elt F) → (⟨S4096x1, .i32⟩ : BufTy).Contents (Elt F)),
    reshape main_v108 main_v109 (rfl : (.i32 : EltTy) = .i32) shapeCasts_S4096x1_S4096,
    unary main_v107 main_v110 ((extractStridedSlice S4096x1 ![0, 1] · slices_S4096x2_S4096x1_0_1) : (⟨S4096x2, .i32⟩ : BufTy).Contents (Elt F) → (⟨S4096x1, .i32⟩ : BufTy).Contents (Elt F)),
    reshape main_v110 main_v111 (rfl : (.i32 : EltTy) = .i32) shapeCasts_S4096x1_S4096,
    binary main_v109 main_v111 main_v112 (cat2 : (⟨S4096, .i32⟩ : BufTy).Contents (Elt F) → (⟨S4096, .i32⟩ : BufTy).Contents (Elt F) → (⟨S8192, .i32⟩ : BufTy).Contents (Elt F)),
    reshape main_arg12 main_v113 (rfl : (.i32 : EltTy) = .i32) shapeCasts_S8192x512_S32768x128,
    unary main_v112 main_v114 (broadcastInDim S8192x1 ![0] bcast_S8192_S8192x1_0 : (⟨S8192, .i32⟩ : BufTy).Contents (Elt F) → (⟨S8192x1, .i32⟩ : BufTy).Contents (Elt F)),
    nullary main_c_18 (constantI S_ 32 4#32),
    unary main_c_18 main_v115 (broadcastInDim S8192x1 ![] bcast_S_S8192x1 : (⟨S_, .i32⟩ : BufTy).Contents (Elt F) → (⟨S8192x1, .i32⟩ : BufTy).Contents (Elt F)),
    binary main_v114 main_v115 main_v116 (muli : (⟨S8192x1, .i32⟩ : BufTy).Contents (Elt F) → (⟨S8192x1, .i32⟩ : BufTy).Contents (Elt F) → (⟨S8192x1, .i32⟩ : BufTy).Contents (Elt F)),
    nullary main_v117 (iotaInDim S4 32 0),
    unary main_v117 main_v118 (broadcastInDim S1x4 ![1] bcast_S4_S1x4_1 : (⟨S4, .i32⟩ : BufTy).Contents (Elt F) → (⟨S1x4, .i32⟩ : BufTy).Contents (Elt F)),
    unary main_v116 main_v119 (broadcastInDim S8192x4 ![0, 1] bcast_S8192x1_S8192x4_0_1 : (⟨S8192x1, .i32⟩ : BufTy).Contents (Elt F) → (⟨S8192x4, .i32⟩ : BufTy).Contents (Elt F)),
    unary main_v118 main_v120 (broadcastInDim S8192x4 ![0, 1] bcast_S1x4_S8192x4_0_1 : (⟨S1x4, .i32⟩ : BufTy).Contents (Elt F) → (⟨S8192x4, .i32⟩ : BufTy).Contents (Elt F)),
    binary main_v119 main_v120 main_v121 (addi : (⟨S8192x4, .i32⟩ : BufTy).Contents (Elt F) → (⟨S8192x4, .i32⟩ : BufTy).Contents (Elt F) → (⟨S8192x4, .i32⟩ : BufTy).Contents (Elt F)),
    reshape main_v121 main_v122 (rfl : (.i32 : EltTy) = .i32) shapeCasts_S8192x4_S1x32768 ]

set_option maxRecDepth 8192 in
theorem ops1_sub : (ops1 : List (HloOp τ sig (Elt F))).Forall fun op => op.bufs ⊆ tcRefs τ sig :=
  ⟨reshape_bufs_sub .., reshape_bufs_sub .., unary_bufs_sub .., reshape_bufs_sub .., unary_bufs_sub .., reshape_bufs_sub .., binary_bufs_sub .., reshape_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩
/-- The buffers they write. -/
abbrev wrt1 : List (Ref sig .tc) := [main_v106, main_v107, main_v108, main_v109, main_v110, main_v111, main_v112, main_v113, main_v114, main_c_18, main_v115, main_v116, main_v117, main_v118, main_v119, main_v120, main_v121, main_v122]
set_option maxRecDepth 8192 in
/-- Every other buffer they keep. -/
theorem keep1 (W : Valuation τ sig (Elt F)) (r : Ref sig .tc) (h : r ∉ wrt1) : after ops1 W (Proc.devRef .tc r) = W (Proc.devRef .tc r) :=
  after_of_writes_sub ops1 W (by
    simp only [List.Forall]
    repeat' apply And.intro
    all_goals simp only [nullary_writes, unary_writes, binary_writes, ternary_writes, reshape_writes, Finset.singleton_subset_iff, List.mem_toFinset]; exact List.mem_map_of_mem (by decide)) h

/-- The operation after the second gather. -/
abbrev ops2 : List (HloOp τ sig (Elt F)) :=
  [ reshape main_v123 main_v124 (rfl : (.i32 : EltTy) = .i32) shapeCasts_S32768x128_S8192x512 ]

set_option maxRecDepth 8192 in
theorem ops2_sub : (ops2 : List (HloOp τ sig (Elt F))).Forall fun op => op.bufs ⊆ tcRefs τ sig :=
  reshape_bufs_sub ..
/-- The buffers they write. -/
abbrev wrt2 : List (Ref sig .tc) := [main_v124]
set_option maxRecDepth 8192 in
/-- Every other buffer they keep. -/
theorem keep2 (W : Valuation τ sig (Elt F)) (r : Ref sig .tc) (h : r ∉ wrt2) : after ops2 W (Proc.devRef .tc r) = W (Proc.devRef .tc r) :=
  after_of_writes_sub ops2 W (by
    simp only [List.Forall]
    repeat' apply And.intro
    all_goals simp only [nullary_writes, unary_writes, binary_writes, ternary_writes, reshape_writes, Finset.singleton_subset_iff, List.mem_toFinset]; exact List.mem_map_of_mem (by decide)) h

set_option maxRecDepth 8192 in
set_option maxHeartbeats 4000000 in
/-- @main is the seven lists with the gathers between. -/
theorem main_eq (d : Dev nD) : main (F := F) d
    = (seq opsR1 >>= fun _ => seq opsR2 >>= fun _ => seq opsR3 >>= fun _ => seq opsR4 >>= fun _ =>
        seq ops0 >>= fun _ => sc.run d 0 >>= fun _ => seq ops1 >>= fun _ => sc.run d 1 >>= fun _ => seq ops2 >>= fun _ => pure ⟨⟩) := rfl

/-! ## What they leave -/

variable (W : Valuation τ sig (Elt F))

set_option maxRecDepth 8192 in
set_option maxHeartbeats 2000000 in
theorem after0_v93 : after ops0 W (Proc.devRef .tc main_v93) = argS (argS (shapeCast S8192 (W (Proc.devRef .tc main_indices) : S2x2048x2.Idx → BitVec 32) shapeCasts_S2x2048x2_S8192)) := by
  simp only [ops0, TRef.binary, TRef.nullary, TRef.ternary, TRef.unary, TRef.toBuf, TRef.ofBuf, cast_eq]; after_results_simp <;> rfl

set_option maxRecDepth 8192 in
set_option maxHeartbeats 2000000 in
theorem after0_v95 : after ops0 W (Proc.devRef .tc main_v95) = shapeCast S16384x128 (W (Proc.devRef .tc main_arg11) : S4096x512.Idx → BitVec 32) shapeCasts_S4096x512_S16384x128 := by
  simp only [ops0, TRef.binary, TRef.nullary, TRef.ternary, TRef.unary, TRef.toBuf, TRef.ofBuf, cast_eq]; after_results_simp <;> rfl

set_option maxRecDepth 8192 in
set_option maxHeartbeats 2000000 in
theorem after0_v104 : after ops0 W (Proc.devRef .tc main_v104) = lstOf (half (argS (shapeCast S8192 (W (Proc.devRef .tc main_indices) : S2x2048x2.Idx → BitVec 32) shapeCasts_S2x2048x2_S8192))) := by
  simp only [ops0, TRef.binary, TRef.nullary, TRef.ternary, TRef.unary, TRef.toBuf, TRef.ofBuf, cast_eq]; after_results_simp <;> rfl

set_option maxRecDepth 8192 in
set_option maxHeartbeats 2000000 in
theorem after1_v106 : after ops1 W (Proc.devRef .tc main_v106) = shapeCast S8192x512 (W (Proc.devRef .tc main_v105) : S32768x128.Idx → BitVec 32) shapeCasts_S32768x128_S8192x512 := by
  simp only [ops1, TRef.binary, TRef.nullary, TRef.ternary, TRef.unary, TRef.toBuf, TRef.ofBuf, cast_eq]; after_results_simp <;> rfl

set_option maxRecDepth 8192 in
set_option maxHeartbeats 2000000 in
theorem after1_v113 : after ops1 W (Proc.devRef .tc main_v113) = shapeCast S32768x128 (W (Proc.devRef .tc main_arg12) : S8192x512.Idx → BitVec 32) shapeCasts_S8192x512_S32768x128 := by
  simp only [ops1, TRef.binary, TRef.nullary, TRef.ternary, TRef.unary, TRef.toBuf, TRef.ofBuf, cast_eq]; after_results_simp <;> rfl

set_option maxRecDepth 8192 in
set_option maxHeartbeats 2000000 in
theorem after1_v122 : after ops1 W (Proc.devRef .tc main_v122) = lstOf (evOdd (W (Proc.devRef .tc main_v93) : S8192.Idx → BitVec 32)) := by
  simp only [ops1, TRef.binary, TRef.nullary, TRef.ternary, TRef.unary, TRef.toBuf, TRef.ofBuf, cast_eq]; after_results_simp <;> rfl

set_option maxRecDepth 8192 in
set_option maxHeartbeats 2000000 in
theorem after2_v124 : after ops2 W (Proc.devRef .tc main_v124) = shapeCast S8192x512 (W (Proc.devRef .tc main_v123) : S32768x128.Idx → BitVec 32) shapeCasts_S32768x128_S8192x512 := by
  simp only [ops2, TRef.binary, TRef.nullary, TRef.ternary, TRef.unary, TRef.toBuf, TRef.ofBuf, cast_eq]; after_results_simp <;> rfl

end Cert.Proof.Rows

end
-- ==== Proof.Vals.lean ====
/-
  The words of the row lists and what rows they name: a position in a sorted order is below 8192, its half below 4096,
  and the list entries are four times that and the quarter.
-/
module

public import proofs.«01_k».proof.Proof.Ops
public import Idealize.ShloMosaic.Lib.SortFacts
public import Idealize.ShloMosaic.Lib.Pointwise
public import Idealize.ShloMosaic.Lib.ValueIdxCore

@[expose] public section

noncomputable section

namespace Cert.Proof.Rows

open Cert.KernelIdeal Cert.KernelIdeal.Gen

open Idealize.ShloMosaic

/-- A sorted order's entry is a position. -/
theorem argS_lt (x : IVec S8192 32) (i : S8192.Idx) : (argS x i).toNat < 8192 := by
  have h : ∀ k : Fin 8192, (BitVec.ofNat 32 k.val).toNat < 8192 := fun k => by
    rw [BitVec.toNat_ofNat]; omega
  exact h _

/-- Division by two is no corner case. -/
theorem two_not_corner (v : BitVec 32) : ¬ IntOp.SDivCorner v 2#32 := fun h => by
  rcases h with h | h
  · exact absurd h (by decide)
  · exact absurd h.2 (by decide)

/-- The floor division by two, on one word. -/
theorem half_word (v : BitVec 32) (h : v.toNat < 8192) :
    (if IntOp.andi (IntOp.cmpi .ne (if v = 0 then 0 else if v.msb then -1 else (1 : BitVec 32)) (if (2#32) = 0 then 0 else if (2#32).msb then -1 else (1 : BitVec 32)))
        (IntOp.cmpi .ne (IntOp.remsi .host v 2#32) 0#32) = 1#1 then IntOp.divsi .host v 2#32 - 1#32 else IntOp.divsi .host v 2#32).toNat = v.toNat / 2 := by
  have hm : v.msb = false := by rw [BitVec.msb_eq_decide]; simp; omega
  have hd : IntOp.divsi .host v 2#32 = v / 2#32 := by
    unfold IntOp.divsi
    rw [if_neg (two_not_corner v), BitVec.sdiv_eq, hm]; rfl
  have hr : IntOp.remsi .host 0#32 2#32 = 0#32 := by
    unfold IntOp.remsi
    rw [if_neg (two_not_corner 0#32)]; rfl
  have hc : ¬ (IntOp.andi (IntOp.cmpi .ne (if v = 0 then 0 else if v.msb then -1 else (1 : BitVec 32)) (if (2#32) = 0 then 0 else if (2#32).msb then -1 else (1 : BitVec 32)))
        (IntOp.cmpi .ne (IntOp.remsi .host v 2#32) 0#32) = 1#1) := by
    by_cases h0 : v = 0
    · subst h0; rw [show (0 : BitVec 32) = 0#32 from rfl, hr]; decide
    · rw [if_neg h0, hm]
      generalize IntOp.cmpi .ne (IntOp.remsi .host v 2#32) 0#32 = w
      revert w; decide
  rw [if_neg hc, hd, BitVec.toNat_udiv]; rfl

theorem half_toNat (x : IVec S8192 32) (i : S8192.Idx) (h : (x i).toNat < 8192) : (half x i).toNat = (x i).toNat / 2 := by
  rw [← half_word (x i) h]
  rfl

/-- The row of the matrix whose part is entry `n` of a list. -/
abbrev rowOf (n : Fin 32768) : S8192.Idx := ix1 (⟨n.val / 4, by omega⟩ : Fin 8192)

theorem lstOf_word (x : IVec S8192 32) (n : Fin 32768) :
    lstOf x (ix2 (0 : Fin 1) n) = x (rowOf n) * 4#32 + BitVec.ofNat 32 (n.val % 4) := by
  have hn := n.isLt
  have e : Shape.reshapeEquiv shapeCasts_S8192x4_S1x32768 (ix2 (0 : Fin 1) n)
      = ix2 (⟨n.val / 4, by omega⟩ : Fin 8192) (⟨n.val % 4, by omega⟩ : Fin 4) :=
    Shape.reshapeEquiv_eq_of_vals _ _ _ (n.val / 4 * 4 + n.val % 4) (0 * 32768 + n.val)
      (rowMajor_val2 _ 4 rfl) (rowMajor_val2 _ 32768 rfl) (by omega)
  unfold lstOf
  show addi _ _ (Shape.reshapeEquiv shapeCasts_S8192x4_S1x32768 (ix2 (0 : Fin 1) n)) = _
  rw [e]
  refine congrArg₂ (fun a b : BitVec 32 => a * 4#32 + b) (congrArg x (funext fun a => ?_)) rfl
  match a with
  | ⟨0, _⟩ => rfl

theorem lstOf_toNat (x : IVec S8192 32) (hx : ∀ i, (x i).toNat < 8192) (n : Fin 32768) :
    (lstOf x (ix2 (0 : Fin 1) n)).toNat = (x (rowOf n)).toNat * 4 + n.val % 4 := by
  have h := hx (rowOf n)
  rw [lstOf_word, BitVec.toNat_add, BitVec.toNat_mul, BitVec.toNat_ofNat, BitVec.toNat_ofNat]
  omega

/-- Column `k` of a vector laid out in two columns. -/
theorem col_apply (x : IVec S8192 32) (k : Fin 2) (hs : S4096x2.Slices ![0, k.val] S4096x1) (a : Fin 4096) :
    shapeCast S4096 (extractStridedSlice S4096x1 ![0, k.val] (shapeCast S4096x2 x shapeCasts_S8192_S4096x2) hs) shapeCasts_S4096x1_S4096 (ix1 a)
      = x (ix1 (⟨2 * a.val + k.val, by omega⟩ : Fin 8192)) := by
  have ha := a.isLt
  have e : Shape.reshapeEquiv shapeCasts_S4096x1_S4096 (ix1 a) = ix2 a (0 : Fin 1) :=
    Shape.reshapeEquiv_eq_of_vals _ _ _ (a.val * 1 + 0) a.val (rowMajor_val2 _ 1 rfl) (rowMajor_val1 _) (by omega)
  show extractStridedSlice _ _ _ _ (Shape.reshapeEquiv shapeCasts_S4096x1_S4096 (ix1 a)) = _
  rw [e]
  refine congrArg x (Shape.reshapeEquiv_eq_of_vals _ _ _ (2 * a.val + k.val) ((0 + a.val) * 2 + (k.val + 0)) (rowMajor_val1 _) (rowMajor_val2 _ 2 rfl) (by omega))

theorem evOdd_apply (x : IVec S8192 32) (n : Fin 8192) :
    evOdd x (ix1 n) = if h : n.val < 4096 then x (ix1 (⟨2 * n.val, by omega⟩ : Fin 8192)) else x (ix1 (⟨2 * (n.val - 4096) + 1, by omega⟩ : Fin 8192)) := by
  unfold evOdd cat2
  rw [concatenate_pair_apply]
  by_cases h : n.val < 4096
  · rw [dif_pos h]
    refine (dif_pos h).trans ?_
    exact (congrArg _ (funext fun a => by match a with | ⟨0, _⟩ => rfl)).trans (col_apply x 0 slices_S4096x2_S4096x1_0_0 ⟨n.val, h⟩)
  · rw [dif_neg h]
    refine (dif_neg h).trans ?_
    exact (congrArg _ (funext fun a => by match a with | ⟨0, _⟩ => rfl)).trans (col_apply x 1 slices_S4096x2_S4096x1_0_1 ⟨n.val - 4096, by omega⟩)

theorem evOdd_lt (x : IVec S8192 32) (hx : ∀ i, (x i).toNat < 8192) (i : S8192.Idx) : (evOdd x i).toNat < 8192 := by
  obtain ⟨n, rfl⟩ : ∃ n : Fin 8192, i = ix1 n := ⟨i 0, funext fun a => by match a with | ⟨0, _⟩ => rfl⟩
  rw [evOdd_apply]
  split <;> exact hx _

/-! ## What the gathers leave -/

/-- The rows of a table of 16384 that a list names. -/
def G0 (tab : S16384x128.Idx → BitVec 32) (lst : S1x32768.Idx → BitVec 32) : S32768x128.Idx → BitVec 32 :=
  fun y => tab (ix2 (⟨(lst (ix2 (0 : Fin 1) (y 0 : Fin 32768))).toNat % 16384, Nat.mod_lt _ (by decide)⟩ : Fin 16384) (y 1 : Fin 128))
/-- The rows of a table of 32768 that a list names. -/
def G1 (tab : S32768x128.Idx → BitVec 32) (lst : S1x32768.Idx → BitVec 32) : S32768x128.Idx → BitVec 32 :=
  fun y => tab (ix2 (⟨(lst (ix2 (0 : Fin 1) (y 0 : Fin 32768))).toNat % 32768, Nat.mod_lt _ (by decide)⟩ : Fin 32768) (y 1 : Fin 128))

theorem res0_apply (T : S4096x512.Idx → BitVec 32) (r : IVec S8192 32) (hr : ∀ i, (r i).toNat < 4096) (a : Fin 8192) (b : Fin 512) :
    shapeCast S8192x512 (G0 (shapeCast S16384x128 T shapeCasts_S4096x512_S16384x128) (lstOf r)) shapeCasts_S32768x128_S8192x512 (ix2 a b)
      = T (ix2 (⟨(r (ix1 a)).toNat, hr _⟩ : Fin 4096) b) := by
  have ha := a.isLt
  have hb := b.isLt
  have e : Shape.reshapeEquiv shapeCasts_S32768x128_S8192x512 (ix2 a b)
      = ix2 (⟨a.val * 4 + b.val / 128, by omega⟩ : Fin 32768) (⟨b.val % 128, by omega⟩ : Fin 128) :=
    Shape.reshapeEquiv_eq_of_vals _ _ _ ((a.val * 4 + b.val / 128) * 128 + b.val % 128) (a.val * 512 + b.val)
      (rowMajor_val2 _ 128 rfl) (rowMajor_val2 _ 512 rfl) (by omega)
  show G0 _ _ (Shape.reshapeEquiv shapeCasts_S32768x128_S8192x512 (ix2 a b)) = _
  rw [e]
  have hrow : rowOf ⟨a.val * 4 + b.val / 128, by omega⟩ = ix1 a := congrArg ix1 (Fin.ext (by show (a.val * 4 + b.val / 128) / 4 = a.val; omega))
  have hl := lstOf_toNat r (fun i => lt_trans (hr i) (by decide)) ⟨a.val * 4 + b.val / 128, by omega⟩
  have hq := hr (ix1 a)
  rw [hrow] at hl
  refine congrArg T (Shape.reshapeEquiv_eq_of_vals _ _ _ ((r (ix1 a)).toNat * 512 + b.val)
    ((lstOf r (ix2 (0 : Fin 1) (⟨a.val * 4 + b.val / 128, by omega⟩ : Fin 32768))).toNat % 16384 * 128 + b.val % 128)
    (rowMajor_val2 _ 512 rfl) (rowMajor_val2 _ 128 rfl) ?_)
  rw [hl]
  show _ = ((r (ix1 a)).toNat * 4 + (a.val * 4 + b.val / 128) % 4) % 16384 * 128 + b.val % 128
  omega

theorem res1_apply (T : S8192x512.Idx → BitVec 32) (r : IVec S8192 32) (hr : ∀ i, (r i).toNat < 8192) (a : Fin 8192) (b : Fin 512) :
    shapeCast S8192x512 (G1 (shapeCast S32768x128 T shapeCasts_S8192x512_S32768x128) (lstOf r)) shapeCasts_S32768x128_S8192x512 (ix2 a b)
      = T (ix2 (⟨(r (ix1 a)).toNat, hr _⟩ : Fin 8192) b) := by
  have ha := a.isLt
  have hb := b.isLt
  have e : Shape.reshapeEquiv shapeCasts_S32768x128_S8192x512 (ix2 a b)
      = ix2 (⟨a.val * 4 + b.val / 128, by omega⟩ : Fin 32768) (⟨b.val % 128, by omega⟩ : Fin 128) :=
    Shape.reshapeEquiv_eq_of_vals _ _ _ ((a.val * 4 + b.val / 128) * 128 + b.val % 128) (a.val * 512 + b.val)
      (rowMajor_val2 _ 128 rfl) (rowMajor_val2 _ 512 rfl) (by omega)
  show G1 _ _ (Shape.reshapeEquiv shapeCasts_S32768x128_S8192x512 (ix2 a b)) = _
  rw [e]
  have hrow : rowOf ⟨a.val * 4 + b.val / 128, by omega⟩ = ix1 a := congrArg ix1 (Fin.ext (by show (a.val * 4 + b.val / 128) / 4 = a.val; omega))
  have hl := lstOf_toNat r hr ⟨a.val * 4 + b.val / 128, by omega⟩
  have hq := hr (ix1 a)
  rw [hrow] at hl
  refine congrArg T (Shape.reshapeEquiv_eq_of_vals _ _ _ ((r (ix1 a)).toNat * 512 + b.val)
    ((lstOf r (ix2 (0 : Fin 1) (⟨a.val * 4 + b.val / 128, by omega⟩ : Fin 32768))).toNat % 32768 * 128 + b.val % 128)
    (rowMajor_val2 _ 512 rfl) (rowMajor_val2 _ 128 rfl) ?_)
  rw [hl]
  show _ = ((r (ix1 a)).toNat * 4 + (a.val * 4 + b.val / 128) % 4) % 32768 * 128 + b.val % 128
  omega

end Cert.Proof.Rows

end
-- ==== Proof.Reads.lean ====
/-
  What the windows of the gathers read: a block of the list, a block of the result, the table; so the rows gathered by
  a block of the list are the block of the rows the list names.
-/
module

public import proofs.«01_k».proof.Proof.Body0
public import proofs.«01_k».proof.Proof.Body1
public import proofs.«01_k».proof.Proof.Vals
public import Idealize.ShloMosaic.Lib.Pipeline.ValueKit.Geometry

@[expose] public section

noncomputable section

namespace Cert.Proof.Rows

open Cert.KernelIdeal Cert.KernelIdeal.Gen

open Idealize.ShloMosaic
open Idealize.ShloMosaic.SparseCore (S V T)
open Idealize.SL Idealize.SL.BI

variable {F : FTy → Type} [FloatOps F]

variable (d : Dev nD)

theorem read_blkL0 (b : Fin 256) (L : S1x32768.Idx → BitVec 32) (k : Fin 128) :
    (blkL (Memref.whole main_v104_scv) b).view.read (Elt F) L (ix2 (0 : Fin 1) k) = L (ix2 (0 : Fin 1) (⟨128 * b.val + k.val, by omega⟩ : Fin 32768)) := by
  rw [View.read_apply]
  refine congrArg L (funext fun a => Fin.ext ?_)
  match a with
  | 0 => rfl
  | 1 => exact (Idealize.ShloMosaic.ValueKit.rect_emb_unit_val _ _ _ _ _).trans rfl

theorem read_blkO0 (b : Fin 256) (g : S32768x128.Idx → BitVec 32) (k : Fin 128) (l : Fin 128) :
    (blkO (Memref.whole main_v105_scv) b).view.read (Elt F) g (ix2 k l) = g (ix2 (⟨128 * b.val + k.val, by omega⟩ : Fin 32768) l) := by
  rw [View.read_apply]
  refine congrArg g (funext fun a => Fin.ext ?_)
  match a with
  | 0 => exact (Idealize.ShloMosaic.ValueKit.rect_emb_unit_val _ _ _ _ _).trans rfl
  | 1 => exact (Idealize.ShloMosaic.ValueKit.rect_emb_unit_val _ _ _ _ _).trans (Nat.zero_add _)

theorem read_tb0 (tv : S16384x128.Idx → BitVec 32) (z : S16384x128.Idx) :
    (tb0 (Memref.whole main_v95_scv)).view.read (Elt F) tv z = tv z := by
  rw [View.read_apply]
  refine congrArg tv (funext fun a => Fin.ext ?_)
  exact (Idealize.ShloMosaic.ValueKit.rect_emb_unit_val _ _ _ _ _).trans (by match a with | 0 => exact Nat.zero_add _ | 1 => exact Nat.zero_add _)

theorem vals0 (i : grid0.Coords) (aI : Memref sig .scVector .vmem S2x1x128 .i32) (L : S1x32768.Idx → BitVec 32) (tv : S16384x128.Idx → BitVec 32)
    (hL : ∀ n : Fin 32768, (L (ix2 (0 : Fin 1) n)).toNat < 16384) :
    Vals0 (F := F) d i (Memref.whole main_v95_scv) (Memref.whole main_v104_scv) (Memref.whole main_v105_scv) aI L (G0 tv L) tv := by
  intro j p fo hfo
  have hread : ∀ x : S128.Idx, (offI aI p).view.read (Elt F) fo x
      = L (ix2 (0 : Fin 1) (⟨128 * (B0 i j).val + (x 0).val, by have := (B0 i j).isLt; have := (x 0).isLt; change (x 0).val < 128 at this; omega⟩ : Fin 32768)) := fun x =>
    (read_offI aI p fo x).trans ((congrFun hfo _).trans (read_blkL0 (B0 i j) L (x 0)))
  have hin : ∀ x, ((offI aI p).view.read (Elt F) fo x).toNat < S16384x128.size gathers_S16384x128_S128x128.axis := fun x =>
    (congrArg BitVec.toNat (hread x)).trans_lt (hL _)
  refine ⟨hin, funext fun y => ?_⟩
  obtain ⟨k, l, rfl⟩ : ∃ (k l : Fin 128), y = ix2 k l := ⟨y 0, y 1, funext fun c => by match c with | ⟨0, _⟩ => rfl | ⟨1, _⟩ => rfl⟩
  refine Eq.trans ?_ (read_blkO0 (B0 i j) (G0 tv L) k l).symm
  unfold SparseCore.gatherPayload
  refine (read_tb0 tv _).trans (congrArg tv (funext fun a => Fin.ext ?_))
  have e1 : S128.rowMajor.symm ((ix2 k l 0 : Fin 128).cast rfl) = ix1 k := by
    rw [Equiv.symm_apply_eq]; exact Fin.ext (show k.val = (S128.rowMajor (ix1 k)).val from (rowMajor_val1 (d := ![128]) (ix1 k)).symm)
  match a with
  | 0 =>
    refine Eq.trans ?_ (Nat.mod_eq_of_lt (hL _)).symm
    change BitVec.toNat ((offI aI p).view.read (Elt F) fo (S128.rowMajor.symm ((ix2 k l 0 : Fin 128).cast rfl))) = _
    rw [e1]
    exact congrArg BitVec.toNat (hread (ix1 k))
  | 1 => rfl

/-! ## The same for the second gather -/

theorem read_blkL1 (b : Fin 256) (L : S1x32768.Idx → BitVec 32) (k : Fin 128) :
    (blkL (Memref.whole main_v122_scv) b).view.read (Elt F) L (ix2 (0 : Fin 1) k) = L (ix2 (0 : Fin 1) (⟨128 * b.val + k.val, by omega⟩ : Fin 32768)) := by
  rw [View.read_apply]
  refine congrArg L (funext fun a => Fin.ext ?_)
  match a with
  | 0 => rfl
  | 1 => exact (Idealize.ShloMosaic.ValueKit.rect_emb_unit_val _ _ _ _ _).trans rfl

theorem read_blkO1 (b : Fin 256) (g : S32768x128.Idx → BitVec 32) (k : Fin 128) (l : Fin 128) :
    (blkO (Memref.whole main_v123_scv) b).view.read (Elt F) g (ix2 k l) = g (ix2 (⟨128 * b.val + k.val, by omega⟩ : Fin 32768) l) := by
  rw [View.read_apply]
  refine congrArg g (funext fun a => Fin.ext ?_)
  match a with
  | 0 => exact (Idealize.ShloMosaic.ValueKit.rect_emb_unit_val _ _ _ _ _).trans rfl
  | 1 => exact (Idealize.ShloMosaic.ValueKit.rect_emb_unit_val _ _ _ _ _).trans (Nat.zero_add _)

theorem read_tb1 (tv : S32768x128.Idx → BitVec 32) (z : S32768x128.Idx) :
    (tb1 (Memref.whole main_v113_scv)).view.read (Elt F) tv z = tv z := by
  rw [View.read_apply]
  refine congrArg tv (funext fun a => Fin.ext ?_)
  exact (Idealize.ShloMosaic.ValueKit.rect_emb_unit_val _ _ _ _ _).trans (by match a with | 0 => exact Nat.zero_add _ | 1 => exact Nat.zero_add _)

theorem vals1 (i : grid1.Coords) (aI : Memref sig .scVector .vmem S2x1x128 .i32) (L : S1x32768.Idx → BitVec 32) (tv : S32768x128.Idx → BitVec 32)
    (hL : ∀ n : Fin 32768, (L (ix2 (0 : Fin 1) n)).toNat < 32768) :
    Vals1 (F := F) d i (Memref.whole main_v113_scv) (Memref.whole main_v122_scv) (Memref.whole main_v123_scv) aI L (G1 tv L) tv := by
  intro j p fo hfo
  have hread : ∀ x : S128.Idx, (offI aI p).view.read (Elt F) fo x
      = L (ix2 (0 : Fin 1) (⟨128 * (B1 i j).val + (x 0).val, by have := (B1 i j).isLt; have := (x 0).isLt; change (x 0).val < 128 at this; omega⟩ : Fin 32768)) := fun x =>
    (read_offI aI p fo x).trans ((congrFun hfo _).trans (read_blkL1 (B1 i j) L (x 0)))
  have hin : ∀ x, ((offI aI p).view.read (Elt F) fo x).toNat < S32768x128.size gathers_S32768x128_S128x128.axis := fun x =>
    (congrArg BitVec.toNat (hread x)).trans_lt (hL _)
  refine ⟨hin, funext fun y => ?_⟩
  obtain ⟨k, l, rfl⟩ : ∃ (k l : Fin 128), y = ix2 k l := ⟨y 0, y 1, funext fun c => by match c with | ⟨0, _⟩ => rfl | ⟨1, _⟩ => rfl⟩
  refine Eq.trans ?_ (read_blkO1 (B1 i j) (G1 tv L) k l).symm
  unfold SparseCore.gatherPayload
  refine (read_tb1 tv _).trans (congrArg tv (funext fun a => Fin.ext ?_))
  have e1 : S128.rowMajor.symm ((ix2 k l 0 : Fin 128).cast rfl) = ix1 k := by
    rw [Equiv.symm_apply_eq]; exact Fin.ext (show k.val = (S128.rowMajor (ix1 k)).val from (rowMajor_val1 (d := ![128]) (ix1 k)).symm)
  match a with
  | 0 =>
    refine Eq.trans ?_ (Nat.mod_eq_of_lt (hL _)).symm
    change BitVec.toNat ((offI aI p).view.read (Elt F) fo (S128.rowMajor.symm ((ix2 k l 0 : Fin 128).cast rfl))) = _
    rw [e1]
    exact congrArg BitVec.toNat (hread (ix1 k))
  | 1 => rfl

end Cert.Proof.Rows

end
-- ==== Proof.Tile0.lean ====
/-
  Gather 0 as a task of a tile: from the tile's own scratch and semaphores, its share of the table, its blocks of the
  list and of the result, to the same with the result's blocks marked written.
-/
module

public import proofs.«01_k».proof.Proof.Deal
public import proofs.«01_k».proof.Proof.Reads
public import Idealize.ShloMosaic.Lib.SparseCore.Quiescent

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-- The semaphores of gather 0 on a tile: two for the fetches, two for the copies out, one for the gather. -/
def sem0 : Fin 5 → SemLoc sig
  | 0 => .dma (sm2 cc0_scoped1 0)
  | 1 => .dma (sm2 cc0_scoped1 1)
  | 2 => .dma (sm2 cc0_scoped3 0)
  | 3 => .dma (sm2 cc0_scoped3 1)
  | 4 => .dma cc0_scoped4.sem

theorem sem0_inj : Function.Injective sem0 := by
  intro k k' h
  have : ∀ k k' : Fin 5, sem0 k = sem0 k' → k = k' := by decide
  exact this k k' h
theorem sem0_scoped : ∀ k, (sem0 k).isScoped .scVector = true := by decide

/-- A tile's semaphores at zero are those five and others. -/
theorem own_sems0 (d : Dev nD) (c : Fin τ.nSC) (w : Fin τ.nSub) :
    ∃ R : sProp 𝕄, ownSems0 (V d c w) = iprop(semVal (V d c w, SemLoc.dma (sm2 cc0_scoped1 0)) 0 ∗ semVal (V d c w, SemLoc.dma (sm2 cc0_scoped1 1)) 0
      ∗ semVal (V d c w, SemLoc.dma (sm2 cc0_scoped3 0)) 0 ∗ semVal (V d c w, SemLoc.dma (sm2 cc0_scoped3 1)) 0
      ∗ semVal (V d c w, SemLoc.dma cc0_scoped4.sem) 0 ∗ R) := by
  unfold SparseCore.Cfg.ownSems0
  exact bigSep_five _ (fun g => (semVal g 0 : sProp 𝕄)) (fun k => ((V d c w, sem0 k) : GSem nD τ sig))
    (fun k => mem_ownCells.mpr ⟨rfl, sem0_scoped k⟩) fun k k' h => sem0_inj (congrArg Prod.snd h)

/-- A tile's buffers are the two slots of the index scratch, those of the row scratch, and others. -/
theorem own_bufs0 (d : Dev nD) (c : Fin τ.nSC) (w : Fin τ.nSub) :
    ∃ R : sProp 𝕄, ownBufs (V d c w) = iprop(
      ((∃ f, (slI (Memref.whole cc0_scoped0) 0).view.loc (V d c w) ↦[(slI (Memref.whole cc0_scoped0) 0).view.set]{fullShare} f)
        ∗ ∃ f, (slI (Memref.whole cc0_scoped0) 1).view.loc (V d c w) ↦[(slI (Memref.whole cc0_scoped0) 1).view.set]{fullShare} f)
      ∗ ((∃ f, (slR (Memref.whole cc0_scoped2) 0).view.loc (V d c w) ↦[(slR (Memref.whole cc0_scoped2) 0).view.set]{fullShare} f)
        ∗ ∃ f, (slR (Memref.whole cc0_scoped2) 1).view.loc (V d c w) ↦[(slR (Memref.whole cc0_scoped2) 1).view.set]{fullShare} f) ∗ R) := by
  obtain ⟨R, hR⟩ := bigSep_two (ownRefs (τ := τ) (.scVector c w)) (fun b => (iprop(∃ f, ((d, b) : Loc nD τ sig) ↦{fullShare} f) : sProp 𝕄))
    ((Proc.scVector c w).devRef cc0_scoped0) ((Proc.scVector c w).devRef cc0_scoped2)
    (SparseCore.Cfg.mem_ownRefs_of_owner (p := Proc.scVector c w) (b := (Proc.scVector c w).devRef cc0_scoped0) rfl)
    (SparseCore.Cfg.mem_ownRefs_of_owner (p := Proc.scVector c w) (b := (Proc.scVector c w).devRef cc0_scoped2) rfl)
    (fun e => absurd (Proc.devRef_injective _ e) (show (cc0_scoped2 : Ref sig .scVector) ≠ cc0_scoped0 by decide))
  have h0 := two_slots (F := F) (ℓ := (V d c w).loc cc0_scoped0) (fun p => (slI (Memref.whole cc0_scoped0) p).view.set) keyI mem_slI0
  have h2 := two_slots (F := F) (ℓ := (V d c w).loc cc0_scoped2) (fun p => (slR (Memref.whole cc0_scoped2) p).view.set) keyR mem_slR0
  refine ⟨R, (show ownBufs (V d c w) = _ from hR).trans ?_⟩
  exact congrArg₂ (fun A B : sProp 𝕄 => iprop(A ∗ B)) h0 (congrArg (fun A : sProp 𝕄 => iprop(A ∗ R)) h2)

theorem credI0 : ∀ p, 0 < (slI (Memref.whole cc0_scoped0) p).view.dmaCredit := by decide
theorem credO0 : ∀ b, 0 < (blkO (Memref.whole main_v105_scv) b).view.dmaCredit := fun b => by
  show 0 < (S128x128.numel * _ : ℕ)
  decide
theorem credG0 : ∀ p, ∑ j, ((slR (Memref.whole cc0_scoped2) p).slice (S128x128.rowRect gathers_S16384x128_S128x128.axis' j)
      (S128x128.stride_rowRect gathers_S16384x128_S128x128.axis' j)).view.dmaCredit = (slR (Memref.whole cc0_scoped2) p).view.dmaCredit := by
  decide

section Tile
variable (d : Dev nD) (i : grid0.Coords)
variable (q qT : PosShare TreeShare) (tv : S16384x128.Idx → BitVec 32) (L : S1x32768.Idx → BitVec 32) (f0 : S32768x128.Idx → BitVec 32)

/-- The table's share and the list's blocks of a tile. -/
def src0 : sProp (MT nD τ sig (HIx 2) (Elt F) ℕ (UU F) ℕ) :=
  iprop(((V d (c0 i) (w0 i)).loc main_v95_scv ↦{qT} tv) ∗ lsts (F := F) d (c0 i) (w0 i) (Memref.whole main_v104_scv) (B0 i) q L Finset.univ)

/-- The task: the tile's blocks of the result are marked written with the rows the list names. -/
theorem tile_body0 (Kc : SparseCore.Cfg τ sig (Pipeline.Sig Λ₀ (Fin 0) fun p => (pcfgs (F := F) p).Adm) 2) (hF : Kc.Facts)
    (hL : ∀ n : Fin 32768, (L (ix2 (0 : Fin 1) n)).toNat < 16384) (O : CellTallies nD τ sig (HIx 2)) (W : Waits sig (HIx 2)) (hO : ∀ g, O g none = 0) :
    iprop(levAts Kc.L Kc.lev ∗ (∃ ι, wmInv (EW (F := F)) ι)
        ∗ (src0 (F := F) d i q qT tv L ∗ outs (F := F) d (c0 i) (w0 i) (Memref.whole main_v105_scv) (B0 i) q f0 (G0 tv L) ∅ Finset.univ)
        ∗ scopedBufs (V d (c0 i) (w0 i)) ∗ scopedSems0 (V d (c0 i) (w0 i)) ∗ owes (V d (c0 i) (w0 i)) O W)
      ⊢ (wp frame (wpE (defs₀ (F := F)) 𝒱₀ (V d (c0 i) (w0 i)) none) Set.univ
          (cc0_k i (Memref.whole main_v95_scv) (Memref.isWhole_whole _) (Memref.whole main_v104_scv) (Memref.isWhole_whole _) (Memref.whole main_v105_scv)
            (Memref.isWhole_whole _) (Memref.whole cc0_scoped0) (Memref.isWhole_whole _) cc0_scoped1 (Memref.whole cc0_scoped2)
            (Memref.isWhole_whole _) cc0_scoped3 cc0_scoped4)
          fun _ => iprop((src0 (F := F) d i q qT tv L
              ∗ outs (F := F) d (c0 i) (w0 i) (Memref.whole main_v105_scv) (B0 i) q f0 (G0 tv L) Finset.univ Finset.univ)
            ∗ scopedBufs (V d (c0 i) (w0 i)) ∗ scopedSems0 (V d (c0 i) (w0 i))
            ∗ ∃ W', ⌜∀ p ∈ W', p ∈ W ∨ p.2 = none⌝ ∗ owes (V d (c0 i) (w0 i)) O W') : sProp 𝕄) := by
  obtain ⟨RS, hS⟩ := own_sems0 (F := F) d (c0 i) (w0 i)
  obtain ⟨RB, hB⟩ := own_bufs0 (F := F) d (c0 i) (w0 i)
  have ht : ((tb0 (Memref.whole main_v95_scv)).view.loc (V d (c0 i) (w0 i)) ↦[(tb0 (Memref.whole main_v95_scv)).view.set]{qT} tv : sProp 𝕄)
      = ((V d (c0 i) (w0 i)).loc main_v95_scv ↦{qT} tv) :=
    congrArg (fun I => ((V d (c0 i) (w0 i)).loc main_v95_scv ↦[I]{qT} tv : sProp 𝕄)) set_tb0
  rw [Kc.scopedBufs_V hF d (c0 i) (w0 i), SparseCore.Cfg.scopedSems0_V (Val := Elt F) d (c0 i) (w0 i), hS, hB]
  unfold src0
  iintro ⟨#Hlv, ⟨%ι, #Hwm⟩, ⟨⟨Ht, Hl⟩, Ho⟩, ⟨⟨HI0, HI1⟩, ⟨HR0, HR1⟩, HB⟩, ⟨SI0, SI1, SR0, SR1, SG, HS⟩, HO⟩
  ihave Hmw := (show levAts Kc.L Kc.lev ⊢ Transfers.MayWaits (V d (c0 i) (w0 i)) (default : HIx 2) O from
    Kc.mayWaits_none (thr := V d (c0 i) (w0 i)) hO) $$ Hlv
  ihave Ht := (Entails.of_eq ht.symm) $$ Ht
  iapply (wp_wand frame (wpE (defs₀ (F := F)) 𝒱₀ (V d (c0 i) (w0 i)) none) Set.univ) $$ [Hmw Ht Hl Ho HI0 HI1 HR0 HR1 SI0 SI1 SR0 SR1 SG HO]
  · iapply (body0 d i (Memref.whole main_v95_scv) (Memref.isWhole_whole _) (Memref.whole main_v104_scv) (Memref.isWhole_whole _) (Memref.whole main_v105_scv)
      (Memref.isWhole_whole _) (Memref.whole cc0_scoped0) (Memref.isWhole_whole _) (Memref.whole cc0_scoped2)
      (Memref.isWhole_whole _) cc0_scoped1 cc0_scoped3 cc0_scoped4 q qT L f0 (G0 tv L) tv ι O W credI0 credO0 credG0
      (vals0 d i (Memref.whole cc0_scoped0) L tv hL))
    isplitr; · iexact Hwm
    isplitl [Hmw]; · iexact Hmw
    isplitl [Ho]; · iexact Ho
    unfold Res0
    isplitl [HO]
    · iapply (owesN_intro d (c0 i) (w0 i) O W (W' := W) (fun p hp => Or.inl hp)) $$ HO
    isplitl [HI0 SI0]
    · unfold idxFree; isplitl [HI0]; · iexact HI0
      iexact SI0
    isplitl [HI1 SI1]
    · unfold idxFree; isplitl [HI1]; · iexact HI1
      iexact SI1
    isplitl [HR0 SR0]
    · unfold rowFree; isplitl [HR0]; · iexact HR0
      iexact SR0
    isplitl [HR1 SR1]
    · unfold rowFree; isplitl [HR1]; · iexact HR1
      iexact SR1
    isplitl [Hl]; · iexact Hl
    isplitl [Ht]; · iexact Ht
    iexact SG
  unfold Res0 idxFree rowFree
  iintro %_ ⟨Ho, HO, ⟨HI0, SI0⟩, ⟨HI1, SI1⟩, ⟨HR0, SR0⟩, ⟨HR1, SR1⟩, Hl, Ht, SG⟩
  ihave HO := (Entails.of_eq (owesN_def d (c0 i) (w0 i) O W)) $$ HO
  ihave Ht := (Entails.of_eq ht) $$ Ht
  isplitl [Ht Hl Ho]
  · isplitl [Ht Hl]
    · isplitl [Ht]; · iexact Ht
      iexact Hl
    iexact Ho
  isplitl [HI0 HI1 HR0 HR1 HB]
  · isplitl [HI0 HI1]
    · isplitl [HI0]; · iexact HI0
      iexact HI1
    isplitl [HR0 HR1]
    · isplitl [HR0]; · iexact HR0
      iexact HR1
    iexact HB
  isplitl [SI0 SI1 SR0 SR1 SG HS]
  · isplitl [SI0]; · iexact SI0
    isplitl [SI1]; · iexact SI1
    isplitl [SR0]; · iexact SR0
    isplitl [SR1]; · iexact SR1
    isplitl [SG]; · iexact SG
    iexact HS
  iexact HO

end Tile

end Cert.Proof.Rows

end
-- ==== Proof.Tile1.lean ====
/-
  Gather 1 as a task of a tile: from the tile's own scratch and semaphores, its share of the table, its blocks of the
  list and of the result, to the same with the result's blocks marked written.
-/
module

public import proofs.«01_k».proof.Proof.Deal
public import proofs.«01_k».proof.Proof.Reads
public import Idealize.ShloMosaic.Lib.SparseCore.Quiescent

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-- The semaphores of gather 1 on a tile: two for the fetches, two for the copies out, one for the gather. -/
def sem1 : Fin 5 → SemLoc sig
  | 0 => .dma (sm2 cc1_scoped1 0)
  | 1 => .dma (sm2 cc1_scoped1 1)
  | 2 => .dma (sm2 cc1_scoped3 0)
  | 3 => .dma (sm2 cc1_scoped3 1)
  | 4 => .dma cc1_scoped4.sem

theorem sem1_inj : Function.Injective sem1 := by
  intro k k' h
  have : ∀ k k' : Fin 5, sem1 k = sem1 k' → k = k' := by decide
  exact this k k' h
theorem sem1_scoped : ∀ k, (sem1 k).isScoped .scVector = true := by decide

/-- A tile's semaphores at zero are those five and others. -/
theorem own_sems1 (d : Dev nD) (c : Fin τ.nSC) (w : Fin τ.nSub) :
    ∃ R : sProp 𝕄, ownSems0 (V d c w) = iprop(semVal (V d c w, SemLoc.dma (sm2 cc1_scoped1 0)) 0 ∗ semVal (V d c w, SemLoc.dma (sm2 cc1_scoped1 1)) 0
      ∗ semVal (V d c w, SemLoc.dma (sm2 cc1_scoped3 0)) 0 ∗ semVal (V d c w, SemLoc.dma (sm2 cc1_scoped3 1)) 0
      ∗ semVal (V d c w, SemLoc.dma cc1_scoped4.sem) 0 ∗ R) := by
  unfold SparseCore.Cfg.ownSems0
  exact bigSep_five _ (fun g => (semVal g 0 : sProp 𝕄)) (fun k => ((V d c w, sem1 k) : GSem nD τ sig))
    (fun k => mem_ownCells.mpr ⟨rfl, sem1_scoped k⟩) fun k k' h => sem1_inj (congrArg Prod.snd h)

/-- A tile's buffers are the two slots of the index scratch, those of the row scratch, and others. -/
theorem own_bufs1 (d : Dev nD) (c : Fin τ.nSC) (w : Fin τ.nSub) :
    ∃ R : sProp 𝕄, ownBufs (V d c w) = iprop(
      ((∃ f, (slI (Memref.whole cc1_scoped0) 0).view.loc (V d c w) ↦[(slI (Memref.whole cc1_scoped0) 0).view.set]{fullShare} f)
        ∗ ∃ f, (slI (Memref.whole cc1_scoped0) 1).view.loc (V d c w) ↦[(slI (Memref.whole cc1_scoped0) 1).view.set]{fullShare} f)
      ∗ ((∃ f, (slR (Memref.whole cc1_scoped2) 0).view.loc (V d c w) ↦[(slR (Memref.whole cc1_scoped2) 0).view.set]{fullShare} f)
        ∗ ∃ f, (slR (Memref.whole cc1_scoped2) 1).view.loc (V d c w) ↦[(slR (Memref.whole cc1_scoped2) 1).view.set]{fullShare} f) ∗ R) := by
  obtain ⟨R, hR⟩ := bigSep_two (ownRefs (τ := τ) (.scVector c w)) (fun b => (iprop(∃ f, ((d, b) : Loc nD τ sig) ↦{fullShare} f) : sProp 𝕄))
    ((Proc.scVector c w).devRef cc1_scoped0) ((Proc.scVector c w).devRef cc1_scoped2)
    (SparseCore.Cfg.mem_ownRefs_of_owner (p := Proc.scVector c w) (b := (Proc.scVector c w).devRef cc1_scoped0) rfl)
    (SparseCore.Cfg.mem_ownRefs_of_owner (p := Proc.scVector c w) (b := (Proc.scVector c w).devRef cc1_scoped2) rfl)
    (fun e => absurd (Proc.devRef_injective _ e) (show (cc1_scoped2 : Ref sig .scVector) ≠ cc1_scoped0 by decide))
  have h0 := two_slots (F := F) (ℓ := (V d c w).loc cc1_scoped0) (fun p => (slI (Memref.whole cc1_scoped0) p).view.set) keyI mem_slI1
  have h2 := two_slots (F := F) (ℓ := (V d c w).loc cc1_scoped2) (fun p => (slR (Memref.whole cc1_scoped2) p).view.set) keyR mem_slR1
  refine ⟨R, (show ownBufs (V d c w) = _ from hR).trans ?_⟩
  exact congrArg₂ (fun A B : sProp 𝕄 => iprop(A ∗ B)) h0 (congrArg (fun A : sProp 𝕄 => iprop(A ∗ R)) h2)

theorem credI1 : ∀ p, 0 < (slI (Memref.whole cc1_scoped0) p).view.dmaCredit := by decide
theorem credO1 : ∀ b, 0 < (blkO (Memref.whole main_v123_scv) b).view.dmaCredit := fun b => by
  show 0 < (S128x128.numel * _ : ℕ)
  decide
theorem credG1 : ∀ p, ∑ j, ((slR (Memref.whole cc1_scoped2) p).slice (S128x128.rowRect gathers_S32768x128_S128x128.axis' j)
      (S128x128.stride_rowRect gathers_S32768x128_S128x128.axis' j)).view.dmaCredit = (slR (Memref.whole cc1_scoped2) p).view.dmaCredit := by
  decide

section Tile
variable (d : Dev nD) (i : grid1.Coords)
variable (q qT : PosShare TreeShare) (tv : S32768x128.Idx → BitVec 32) (L : S1x32768.Idx → BitVec 32) (f0 : S32768x128.Idx → BitVec 32)

/-- The table's share and the list's blocks of a tile. -/
def src1 : sProp (MT nD τ sig (HIx 2) (Elt F) ℕ (UU F) ℕ) :=
  iprop(((V d (c1 i) (w1 i)).loc main_v113_scv ↦{qT} tv) ∗ lsts (F := F) d (c1 i) (w1 i) (Memref.whole main_v122_scv) (B1 i) q L Finset.univ)

/-- The task: the tile's blocks of the result are marked written with the rows the list names. -/
theorem tile_body1 (Kc : SparseCore.Cfg τ sig (Pipeline.Sig Λ₀ (Fin 0) fun p => (pcfgs (F := F) p).Adm) 2) (hF : Kc.Facts)
    (hL : ∀ n : Fin 32768, (L (ix2 (0 : Fin 1) n)).toNat < 32768) (O : CellTallies nD τ sig (HIx 2)) (W : Waits sig (HIx 2)) (hO : ∀ g, O g none = 0) :
    iprop(levAts Kc.L Kc.lev ∗ (∃ ι, wmInv (EW (F := F)) ι)
        ∗ (src1 (F := F) d i q qT tv L ∗ outs (F := F) d (c1 i) (w1 i) (Memref.whole main_v123_scv) (B1 i) q f0 (G1 tv L) ∅ Finset.univ)
        ∗ scopedBufs (V d (c1 i) (w1 i)) ∗ scopedSems0 (V d (c1 i) (w1 i)) ∗ owes (V d (c1 i) (w1 i)) O W)
      ⊢ (wp frame (wpE (defs₀ (F := F)) 𝒱₀ (V d (c1 i) (w1 i)) none) Set.univ
          (cc1_k i (Memref.whole main_v113_scv) (Memref.isWhole_whole _) (Memref.whole main_v122_scv) (Memref.isWhole_whole _) (Memref.whole main_v123_scv)
            (Memref.isWhole_whole _) (Memref.whole cc1_scoped0) (Memref.isWhole_whole _) cc1_scoped1 (Memref.whole cc1_scoped2)
            (Memref.isWhole_whole _) cc1_scoped3 cc1_scoped4)
          fun _ => iprop((src1 (F := F) d i q qT tv L
              ∗ outs (F := F) d (c1 i) (w1 i) (Memref.whole main_v123_scv) (B1 i) q f0 (G1 tv L) Finset.univ Finset.univ)
            ∗ scopedBufs (V d (c1 i) (w1 i)) ∗ scopedSems0 (V d (c1 i) (w1 i))
            ∗ ∃ W', ⌜∀ p ∈ W', p ∈ W ∨ p.2 = none⌝ ∗ owes (V d (c1 i) (w1 i)) O W') : sProp 𝕄) := by
  obtain ⟨RS, hS⟩ := own_sems1 (F := F) d (c1 i) (w1 i)
  obtain ⟨RB, hB⟩ := own_bufs1 (F := F) d (c1 i) (w1 i)
  have ht : ((tb1 (Memref.whole main_v113_scv)).view.loc (V d (c1 i) (w1 i)) ↦[(tb1 (Memref.whole main_v113_scv)).view.set]{qT} tv : sProp 𝕄)
      = ((V d (c1 i) (w1 i)).loc main_v113_scv ↦{qT} tv) :=
    congrArg (fun I => ((V d (c1 i) (w1 i)).loc main_v113_scv ↦[I]{qT} tv : sProp 𝕄)) set_tb1
  rw [Kc.scopedBufs_V hF d (c1 i) (w1 i), SparseCore.Cfg.scopedSems0_V (Val := Elt F) d (c1 i) (w1 i), hS, hB]
  unfold src1
  iintro ⟨#Hlv, ⟨%ι, #Hwm⟩, ⟨⟨Ht, Hl⟩, Ho⟩, ⟨⟨HI0, HI1⟩, ⟨HR0, HR1⟩, HB⟩, ⟨SI0, SI1, SR0, SR1, SG, HS⟩, HO⟩
  ihave Hmw := (show levAts Kc.L Kc.lev ⊢ Transfers.MayWaits (V d (c1 i) (w1 i)) (default : HIx 2) O from
    Kc.mayWaits_none (thr := V d (c1 i) (w1 i)) hO) $$ Hlv
  ihave Ht := (Entails.of_eq ht.symm) $$ Ht
  iapply (wp_wand frame (wpE (defs₀ (F := F)) 𝒱₀ (V d (c1 i) (w1 i)) none) Set.univ) $$ [Hmw Ht Hl Ho HI0 HI1 HR0 HR1 SI0 SI1 SR0 SR1 SG HO]
  · iapply (body1 d i (Memref.whole main_v113_scv) (Memref.isWhole_whole _) (Memref.whole main_v122_scv) (Memref.isWhole_whole _) (Memref.whole main_v123_scv)
      (Memref.isWhole_whole _) (Memref.whole cc1_scoped0) (Memref.isWhole_whole _) (Memref.whole cc1_scoped2)
      (Memref.isWhole_whole _) cc1_scoped1 cc1_scoped3 cc1_scoped4 q qT L f0 (G1 tv L) tv ι O W credI1 credO1 credG1
      (vals1 d i (Memref.whole cc1_scoped0) L tv hL))
    isplitr; · iexact Hwm
    isplitl [Hmw]; · iexact Hmw
    isplitl [Ho]; · iexact Ho
    unfold Res1
    isplitl [HO]
    · iapply (owesN_intro d (c1 i) (w1 i) O W (W' := W) (fun p hp => Or.inl hp)) $$ HO
    isplitl [HI0 SI0]
    · unfold idxFree; isplitl [HI0]; · iexact HI0
      iexact SI0
    isplitl [HI1 SI1]
    · unfold idxFree; isplitl [HI1]; · iexact HI1
      iexact SI1
    isplitl [HR0 SR0]
    · unfold rowFree; isplitl [HR0]; · iexact HR0
      iexact SR0
    isplitl [HR1 SR1]
    · unfold rowFree; isplitl [HR1]; · iexact HR1
      iexact SR1
    isplitl [Hl]; · iexact Hl
    isplitl [Ht]; · iexact Ht
    iexact SG
  unfold Res1 idxFree rowFree
  iintro %_ ⟨Ho, HO, ⟨HI0, SI0⟩, ⟨HI1, SI1⟩, ⟨HR0, SR0⟩, ⟨HR1, SR1⟩, Hl, Ht, SG⟩
  ihave HO := (Entails.of_eq (owesN_def d (c1 i) (w1 i) O W)) $$ HO
  ihave Ht := (Entails.of_eq ht) $$ Ht
  isplitl [Ht Hl Ho]
  · isplitl [Ht Hl]
    · isplitl [Ht]; · iexact Ht
      iexact Hl
    iexact Ho
  isplitl [HI0 HI1 HR0 HR1 HB]
  · isplitl [HI0 HI1]
    · isplitl [HI0]; · iexact HI0
      iexact HI1
    isplitl [HR0 HR1]
    · isplitl [HR0]; · iexact HR0
      iexact HR1
    iexact HB
  isplitl [SI0 SI1 SR0 SR1 SG HS]
  · isplitl [SI0]; · iexact SI0
    isplitl [SI1]; · iexact SI1
    isplitl [SR0]; · iexact SR0
    isplitl [SR1]; · iexact SR1
    isplitl [SG]; · iexact SG
    iexact HS
  iexact HO

end Tile

end Cert.Proof.Rows

end
-- ==== Proof.Pay.lean ====
/-
  What the two gathers hand over: each SparseCore half a share of the table, of the list and of the result in write
  mode; each of its tiles a part of the table's half, its own blocks of the list's and of the result's. Both SparseCores
  run the same blocks, so the result is in write mode: each marks them written, with the same rows.
-/
module

public import proofs.«01_k».proof.Proof.Tile0
public import proofs.«01_k».proof.Proof.Tile1
public import proofs.«01_k».proof.Proof.Ops
public import Idealize.ShloMosaic.Lib.SparseCore.Ops
public import Idealize.ShloMosaic.Lib.Pipeline.Kit

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ (UU F) ℕ

/-! ## The program -/

abbrev ΛP : Labels := Pipeline.Sig Λ₀ (Fin 0) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The values -/

/-- The contents the two gathers meet: their tables, their lists of rows, and the results' buffers before. -/
structure Vls where
  t0 : Dev nD → S16384x128.Idx → BitVec 32
  l0 : Dev nD → S1x32768.Idx → BitVec 32
  o0 : Dev nD → S32768x128.Idx → BitVec 32
  t1 : Dev nD → S32768x128.Idx → BitVec 32
  l1 : Dev nD → S1x32768.Idx → BitVec 32
  o1 : Dev nD → S32768x128.Idx → BitVec 32
  h0 : ∀ d (n : Fin 32768), (l0 d (ix2 (0 : Fin 1) n)).toNat < 16384
  h1 : ∀ d (n : Fin 32768), (l1 d (ix2 (0 : Fin 1) n)).toNat < 32768

/-- SparseCore `n`'s share of what both read or write: the first has the left half, the second the right. -/
def qc (n : ℕ) : PosShare TreeShare := if n = 0 then fullShare.left else fullShare.right

/-- Three assertions, grouped the other way. -/
theorem three_assoc (A B C : sProp 𝕄) : iprop(A ∗ B ∗ C) = iprop((A ∗ B) ∗ C) := by
  refine BI.Entails.antisymm (show iprop(A ∗ B ∗ C) ⊢ iprop((A ∗ B) ∗ C) from ?_) (show iprop((A ∗ B) ∗ C) ⊢ iprop(A ∗ B ∗ C) from ?_)
  · iintro ⟨HA, HB, HC⟩
    isplitl [HA HB]
    · isplitl [HA]; · iexact HA
      iexact HB
    iexact HC
  · iintro ⟨⟨HA, HB⟩, HC⟩
    isplitl [HA]; · iexact HA
    isplitl [HB]; · iexact HB
    iexact HC

/-! ## The payloads -/

section Pieces
variable (v : Vls) (d : Dev nD)

abbrev tLoc0 (d : Dev nD) : Loc nD τ sig := (SparseCore.T d).loc main_v95
abbrev lLoc0 (d : Dev nD) : Loc nD τ sig := (SparseCore.T d).loc main_v104
abbrev oLoc0 (d : Dev nD) : Loc nD τ sig := (SparseCore.T d).loc main_v105
abbrev lSet0 (b : Fin 256) : Finset S1x32768.Idx := (blkL (Memref.whole main_v104_scv) b).view.set
abbrev oSet0 (b : Fin 256) : Finset S32768x128.Idx := (blkO (Memref.whole main_v105_scv) b).view.set
/-- What gather 0 is to leave. -/
abbrev tgt0 : S32768x128.Idx → Option (BitVec 32) := fun x => some (G0 (v.t0 d) (v.l0 d) x)
/-- A share of the table, of the list and of the result, in write mode with marks `W`. -/
abbrev core0 (q : PosShare TreeShare) (W : Finset S32768x128.Idx) : sProp (MT nD τ sig (HIx 2) (Elt F) ℕ (UU F) ℕ) :=
  iprop((tLoc0 d ↦{q} v.t0 d) ∗ (lLoc0 d ↦{q} v.l0 d) ∗ willBeTo EW (oLoc0 d) Finset.univ q (v.o0 d) (tgt0 v d) W)
/-- Tile `i`'s piece of the table's share, blocks of the list's and of the result's. -/
abbrev part0 (q : PosShare TreeShare) (i : Fin 16) (W : Finset S32768x128.Idx) : sProp (MT nD τ sig (HIx 2) (Elt F) ℕ (UU F) ℕ) :=
  iprop(((tLoc0 d ↦{piece 4 q i} v.t0 d) ∗ bigSep Finset.univ fun j : Fin 16 => lLoc0 d ↦[lSet0 (blk i j)]{q} v.l0 d)
    ∗ bigSep Finset.univ fun j : Fin 16 => willBeTo EW (oLoc0 d) (oSet0 (blk i j)) q (v.o0 d) (tgt0 v d) W)

/-- A SparseCore's share is its tiles' parts. -/
theorem core_parts0 (q : PosShare TreeShare) (W : Finset S32768x128.Idx) :
    (core0 (F := F) v d q W : sProp 𝕄) = bigSep Finset.univ fun i : Fin 16 => part0 v d q i W := by
  rw [bigSep_sep', bigSep_sep']
  have ht := pointsTo_pieces (F := F) (ℓ := tLoc0 d) Finset.univ (v.t0 d) 4 q
  have hl := pointsTo_blocks (F := F) (ℓ := lLoc0 d) lSet0 keyL mem_blkL0 q (v.l0 d)
  have ho := willBe_blocks (F := F) (ℓ := oLoc0 d) oSet0 keyO mem_blkO0 q (v.o0 d) (tgt0 v d) W
  rw [show (core0 (F := F) v d q W : sProp 𝕄) = _ from congrArg₂ (fun A B : sProp 𝕄 => iprop(A ∗ B)) ht (congrArg₂ (fun A B : sProp 𝕄 => iprop(A ∗ B)) hl ho)]
  exact three_assoc _ _ _

abbrev tLoc1 (d : Dev nD) : Loc nD τ sig := (SparseCore.T d).loc main_v113
abbrev lLoc1 (d : Dev nD) : Loc nD τ sig := (SparseCore.T d).loc main_v122
abbrev oLoc1 (d : Dev nD) : Loc nD τ sig := (SparseCore.T d).loc main_v123
abbrev lSet1 (b : Fin 256) : Finset S1x32768.Idx := (blkL (Memref.whole main_v122_scv) b).view.set
abbrev oSet1 (b : Fin 256) : Finset S32768x128.Idx := (blkO (Memref.whole main_v123_scv) b).view.set
/-- What gather 1 is to leave. -/
abbrev tgt1 : S32768x128.Idx → Option (BitVec 32) := fun x => some (G1 (v.t1 d) (v.l1 d) x)
/-- A share of the table, of the list and of the result, in write mode with marks `W`. -/
abbrev core1 (q : PosShare TreeShare) (W : Finset S32768x128.Idx) : sProp (MT nD τ sig (HIx 2) (Elt F) ℕ (UU F) ℕ) :=
  iprop((tLoc1 d ↦{q} v.t1 d) ∗ (lLoc1 d ↦{q} v.l1 d) ∗ willBeTo EW (oLoc1 d) Finset.univ q (v.o1 d) (tgt1 v d) W)
/-- Tile `i`'s piece of the table's share, blocks of the list's and of the result's. -/
abbrev part1 (q : PosShare TreeShare) (i : Fin 16) (W : Finset S32768x128.Idx) : sProp (MT nD τ sig (HIx 2) (Elt F) ℕ (UU F) ℕ) :=
  iprop(((tLoc1 d ↦{piece 4 q i} v.t1 d) ∗ bigSep Finset.univ fun j : Fin 16 => lLoc1 d ↦[lSet1 (blk i j)]{q} v.l1 d)
    ∗ bigSep Finset.univ fun j : Fin 16 => willBeTo EW (oLoc1 d) (oSet1 (blk i j)) q (v.o1 d) (tgt1 v d) W)

/-- A SparseCore's share is its tiles' parts. -/
theorem core_parts1 (q : PosShare TreeShare) (W : Finset S32768x128.Idx) :
    (core1 (F := F) v d q W : sProp 𝕄) = bigSep Finset.univ fun i : Fin 16 => part1 v d q i W := by
  rw [bigSep_sep', bigSep_sep']
  have ht := pointsTo_pieces (F := F) (ℓ := tLoc1 d) Finset.univ (v.t1 d) 4 q
  have hl := pointsTo_blocks (F := F) (ℓ := lLoc1 d) lSet1 keyL mem_blkL1 q (v.l1 d)
  have ho := willBe_blocks (F := F) (ℓ := oLoc1 d) oSet1 keyO mem_blkO1 q (v.o1 d) (tgt1 v d) W
  rw [show (core1 (F := F) v d q W : sProp 𝕄) = _ from congrArg₂ (fun A B : sProp 𝕄 => iprop(A ∗ B)) ht (congrArg₂ (fun A B : sProp 𝕄 => iprop(A ∗ B)) hl ho)]
  exact three_assoc _ _ _

end Pieces

variable (v : Vls)

/-- What the calls hand over and get back. -/
def P : (K (F := F)).Pay (nD := nD) (Val := Elt F) (Name := ℕ) (U := UU F) where
  st := fun q d c => match q with
    | 0 => core0 v d (qc c.val) ∅
    | 1 => core1 v d (qc c.val) ∅
  dn := fun q d c => match q with
    | 0 => core0 v d (qc c.val) Finset.univ
    | 1 => core1 v d (qc c.val) Finset.univ
  go := fun q d c i => match q with
    | 0 => part0 v d (qc c.val) (Fin.cast nSub_zero i) ∅
    | 1 => part1 v d (qc c.val) (Fin.cast nSub_one i) ∅
  td := fun q d c i => match q with
    | 0 => part0 v d (qc c.val) (Fin.cast nSub_zero i) Finset.univ
    | 1 => part1 v d (qc c.val) (Fin.cast nSub_one i) Finset.univ
  x := fun _ _ => iprop(∃ ι, wmInv (EW (F := F)) ι)

instance P_storable : (P (F := F) v).IsStorable where
  st q d c := match q with
    | 0 => (inferInstance : BI.Storable (upEmb : UEmb _ 𝕄) (core0 v d (qc c.val) ∅))
    | 1 => (inferInstance : BI.Storable (upEmb : UEmb _ 𝕄) (core1 v d (qc c.val) ∅))
  dn q d c := match q with
    | 0 => (inferInstance : BI.Storable (upEmb : UEmb _ 𝕄) (core0 v d (qc c.val) Finset.univ))
    | 1 => (inferInstance : BI.Storable (upEmb : UEmb _ 𝕄) (core1 v d (qc c.val) Finset.univ))
  go q d c i := match q with
    | 0 => (inferInstance : BI.Storable (upEmb : UEmb _ 𝕄) (part0 v d (qc c.val) (Fin.cast nSub_zero i) ∅))
    | 1 => (inferInstance : BI.Storable (upEmb : UEmb _ 𝕄) (part1 v d (qc c.val) (Fin.cast nSub_one i) ∅))
  td q d c i := match q with
    | 0 => (inferInstance : BI.Storable (upEmb : UEmb _ 𝕄) (part0 v d (qc c.val) (Fin.cast nSub_zero i) Finset.univ))
    | 1 => (inferInstance : BI.Storable (upEmb : UEmb _ 𝕄) (part1 v d (qc c.val) (Fin.cast nSub_one i) Finset.univ))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0 -/

/-- The tile a task of gather 0 runs on. -/
def coords0 (c : Fin (grid0.bound 0)) (s : Fin (grid0.bound 1)) : grid0.Coords :=
  fun | 0 => c | 1 => s | ⟨_ + 2, h⟩ => absurd h (Nat.not_lt.2 (Nat.le_add_left _ _))

theorem defs₀_tile0 [FloatOps F] (c : Fin τ.nSC) (s : Fin τ.nSub) :
    defs₀ (F := F) (.scVector c s) 0 ()
      = SparseCore.onTile hcore0 hsub0 (fun c s => cc0_k (coords0 c s) (Memref.whole main_v95_scv) (Memref.isWhole_whole _) (Memref.whole main_v104_scv)
          (Memref.isWhole_whole _) (Memref.whole main_v105_scv) (Memref.isWhole_whole _) (Memref.whole cc0_scoped0) (Memref.isWhole_whole _) cc0_scoped1
          (Memref.whole cc0_scoped2) (Memref.isWhole_whole _) cc0_scoped3 cc0_scoped4) ⟨⟩ c s := rfl

set_option maxRecDepth 16384 in
/-- Every task of gather 0 does its part. -/
theorem tileObl0 [FloatOps F] (hF : (K (F := F)).Facts) : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile0]; simp only [SparseCore.onTile, hci, and_self, ↓reduceDIte]
  exact (tile_body0 d (coords0 ⟨_, hci.1⟩ ⟨_, hci.2⟩) (qc c.val) (piece 4 (qc c.val) (Fin.cast nSub_zero i)) (v.t0 d) (v.l0 d) (v.o0 d)
    (K (F := F)) hF (v.h0 d) O W hO).trans (wp_mono frame _ _ fun _ => obl_post)

theorem bigSep_tasks0 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share is dealt to its tiles and gathered from them. -/
theorem vecSplit0 : (K (F := F)).VecSplit' (P v) 0 := by
  intro d c
  show core0 v d (qc c.val) ∅ ⊢ |={Set.univ}=> iprop(
      (bigSep Finset.univ fun i : Fin ((K (F := F)).nSub 0) => part0 v d (qc c.val) (Fin.cast nSub_zero i) ∅)
      ∗ ((bigSep Finset.univ fun i : Fin ((K (F := F)).nSub 0) => part0 v d (qc c.val) (Fin.cast nSub_zero i) Finset.univ) -∗ core0 v d (qc c.val) Finset.univ))
  rw [bigSep_tasks0 (F := F) (fun i => part0 v d (qc c.val) i ∅), bigSep_tasks0 (F := F) (fun i => part0 v d (qc c.val) i Finset.univ),
    ← core_parts0, ← core_parts0]
  iintro H; imodintro
  isplitl [H]; · iexact H
  iintro H; iexact H

/-! ## Call 1 -/

/-- The tile a task of gather 1 runs on. -/
def coords1 (c : Fin (grid1.bound 0)) (s : Fin (grid1.bound 1)) : grid1.Coords :=
  fun | 0 => c | 1 => s | ⟨_ + 2, h⟩ => absurd h (Nat.not_lt.2 (Nat.le_add_left _ _))

theorem defs₀_tile1 [FloatOps F] (c : Fin τ.nSC) (s : Fin τ.nSub) :
    defs₀ (F := F) (.scVector c s) 1 ()
      = SparseCore.onTile hcore1 hsub1 (fun c s => cc1_k (coords1 c s) (Memref.whole main_v113_scv) (Memref.isWhole_whole _) (Memref.whole main_v122_scv)
          (Memref.isWhole_whole _) (Memref.whole main_v123_scv) (Memref.isWhole_whole _) (Memref.whole cc1_scoped0) (Memref.isWhole_whole _) cc1_scoped1
          (Memref.whole cc1_scoped2) (Memref.isWhole_whole _) cc1_scoped3 cc1_scoped4) ⟨⟩ c s := rfl

set_option maxRecDepth 16384 in
/-- Every task of gather 1 does its part. -/
theorem tileObl1 [FloatOps F] (hF : (K (F := F)).Facts) : (K (F := F)).TileObl (D (F := F)) 𝒱 (P v) v₀ 1 := by
  intro d c i O W hO _ _
  simp only [show (P v).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_tile1]; simp only [SparseCore.onTile, hci, and_self, ↓reduceDIte]
  exact (tile_body1 d (coords1 ⟨_, hci.1⟩ ⟨_, hci.2⟩) (qc c.val) (piece 4 (qc c.val) (Fin.cast nSub_one i)) (v.t1 d) (v.l1 d) (v.o1 d)
    (K (F := F)) hF (v.h1 d) O W hO).trans (wp_mono frame _ _ fun _ => obl_post)

theorem bigSep_tasks1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)

/-- A SparseCore's share is dealt to its tiles and gathered from them. -/
theorem vecSplit1 : (K (F := F)).VecSplit' (P v) 1 := by
  intro d c
  show core1 v d (qc c.val) ∅ ⊢ |={Set.univ}=> iprop(
      (bigSep Finset.univ fun i : Fin ((K (F := F)).nSub 1) => part1 v d (qc c.val) (Fin.cast nSub_one i) ∅)
      ∗ ((bigSep Finset.univ fun i : Fin ((K (F := F)).nSub 1) => part1 v d (qc c.val) (Fin.cast nSub_one i) Finset.univ) -∗ core1 v d (qc c.val) Finset.univ))
  rw [bigSep_tasks1 (F := F) (fun i => part1 v d (qc c.val) i ∅), bigSep_tasks1 (F := F) (fun i => part1 v d (qc c.val) i Finset.univ),
    ← core_parts1, ← core_parts1]
  iintro H; imodintro
  isplitl [H]; · iexact H
  iintro H; iexact H

end Cert.Proof.Rows

end
-- ==== Proof.Ref.lean ====
/-
  The reference's results are the gathers' results: an index in range is no negative one and is not clamped.
-/
module

public import proofs.«01_k».proof.Proof.Vals
public import proofs.«01_k».proof.Proof.Gen.ReferenceIdeal.Run
public import Idealize.ShloMosaic.Lib.Routing.Ops

@[expose] public section

noncomputable section

namespace Cert.Proof.Rows

open Cert.KernelIdeal Cert.KernelIdeal.Gen

open Idealize.ShloMosaic

/-- A word below `2 ^ 31` is not negative. -/
theorem not_slt (v : BitVec 32) (h : v.toNat < 8192) : ¬ IntOp.cmpi .slt v 0#32 = 1#1 := by
  have e : IntOp.cmpi .slt v 0#32 = BitVec.ofBool (v.slt 0#32) := rfl
  have hs : v.slt 0#32 = false := by
    rw [BitVec.slt_zero_eq_msb, BitVec.msb_eq_decide]; simp; omega
  rw [e, hs]; decide

theorem ref0_apply (T : S4096x512.Idx → BitVec 32) (r : IVec S8192 32) (hr : ∀ i, (r i).toNat < 4096) (a : Fin 8192) (b : Fin 512) :
    Host.gather Cert.ReferenceIdeal.gather_S4096x512_S8192x1_S8192x512_1_0_n_n_0_1_1512 T
      (broadcastInDim S8192x1 ![0] bcast_S8192_S8192x1_0 (select (cmpi .slt r (broadcastInDim S8192 ![] bcast_S_S8192 (constantI S_ 32 0#32)))
        (addi r (broadcastInDim S8192 ![] bcast_S_S8192 (constantI S_ 32 4096#32))) r)) (ix2 a b)
      = T (ix2 (⟨(r (ix1 a)).toNat, hr _⟩ : Fin 4096) b) := by
  refine Idealize.ShloMosaic.Routing.gather_row (nb := 4096) (B := 512) (n := 8192) _ rfl rfl rfl rfl rfl T _ a b ⟨(r (ix1 a)).toNat, hr _⟩ ?_ (by decide)
  have e : ∀ j : S8192.Idx, select (cmpi .slt r (broadcastInDim S8192 ![] bcast_S_S8192 (constantI S_ 32 0#32)))
        (addi r (broadcastInDim S8192 ![] bcast_S_S8192 (constantI S_ 32 4096#32))) r j = r j := fun j =>
    if_neg (not_slt (r j) (lt_trans (hr j) (by decide)))
  refine (e _).trans ?_
  refine (congrArg r (funext fun c => ?_)).trans (BitVec.eq_of_toNat_eq ((Nat.mod_eq_of_lt (BitVec.isLt _)).symm.trans (BitVec.toNat_ofNat _ _).symm))
  match c with
  | ⟨0, _⟩ => rfl

theorem ref1_apply (T : S8192x512.Idx → BitVec 32) (r : IVec S4096 32) (hr : ∀ i, (r i).toNat < 8192) (a : Fin 4096) (b : Fin 512) :
    Host.gather Cert.ReferenceIdeal.gather_S8192x512_S4096x1_S4096x512_1_0_n_n_0_1_1512 T
      (broadcastInDim Cert.ReferenceIdeal.S4096x1 ![0] Cert.ReferenceIdeal.Gen.bcast_S4096_S4096x1_0 (select (cmpi .slt r (broadcastInDim S4096 ![] Cert.ReferenceIdeal.Gen.bcast_S_S4096 (constantI S_ 32 0#32)))
        (addi r (broadcastInDim S4096 ![] Cert.ReferenceIdeal.Gen.bcast_S_S4096 (constantI S_ 32 8192#32))) r)) (ix2 a b)
      = T (ix2 (⟨(r (ix1 a)).toNat, hr _⟩ : Fin 8192) b) := by
  refine Idealize.ShloMosaic.Routing.gather_row (nb := 8192) (B := 512) (n := 4096) _ rfl rfl rfl rfl rfl T _ a b ⟨(r (ix1 a)).toNat, hr _⟩ ?_ (by decide)
  have e : ∀ j : S4096.Idx, select (cmpi .slt r (broadcastInDim S4096 ![] Cert.ReferenceIdeal.Gen.bcast_S_S4096 (constantI S_ 32 0#32)))
        (addi r (broadcastInDim S4096 ![] Cert.ReferenceIdeal.Gen.bcast_S_S4096 (constantI S_ 32 8192#32))) r j = r j := fun j =>
    if_neg (not_slt (r j) (hr j))
  refine (e _).trans ?_
  refine (congrArg r (funext fun c => ?_)).trans (BitVec.eq_of_toNat_eq ((Nat.mod_eq_of_lt (BitVec.isLt _)).symm.trans (BitVec.toNat_ofNat _ _).symm))
  match c with
  | ⟨0, _⟩ => rfl

theorem half_lt (x : IVec S8192 32) (i : S8192.Idx) : (half (argS x) i).toNat < 4096 := by
  rw [half_toNat _ _ (argS_lt x i)]
  have := argS_lt x i
  omega

/-- The first result. -/
theorem val0 (T : S4096x512.Idx → BitVec 32) (x : IVec S8192 32) :
    shapeCast S8192x512 (G0 (shapeCast S16384x128 T shapeCasts_S4096x512_S16384x128) (lstOf (half (argS x)))) shapeCasts_S32768x128_S8192x512
      = Host.gather Cert.ReferenceIdeal.gather_S4096x512_S8192x1_S8192x512_1_0_n_n_0_1_1512 T
          (broadcastInDim S8192x1 ![0] bcast_S8192_S8192x1_0 (select (cmpi .slt (half (argS x)) (broadcastInDim S8192 ![] bcast_S_S8192 (constantI S_ 32 0#32)))
            (addi (half (argS x)) (broadcastInDim S8192 ![] bcast_S_S8192 (constantI S_ 32 4096#32))) (half (argS x)))) := by
  funext y
  obtain ⟨a, b, rfl⟩ : ∃ (a : Fin 8192) (b : Fin 512), y = ix2 a b := ⟨y 0, y 1, funext fun c => by match c with | ⟨0, _⟩ => rfl | ⟨1, _⟩ => rfl⟩
  exact (res0_apply T _ (half_lt x) a b).trans (ref0_apply T _ (half_lt x) a b).symm

/-- One of the two columns of the inverse order. -/
abbrev col (x : IVec S8192 32) (k : Fin 2) (hs : S4096x2.Slices ![0, k.val] S4096x1) : IVec S4096 32 :=
  shapeCast S4096 (extractStridedSlice S4096x1 ![0, k.val] (shapeCast S4096x2 x shapeCasts_S8192_S4096x2) hs) shapeCasts_S4096x1_S4096

theorem col_lt (x : IVec S8192 32) (k : Fin 2) (hs : S4096x2.Slices ![0, k.val] S4096x1) (i : S4096.Idx) : (col (argS x) k hs i).toNat < 8192 := by
  obtain ⟨n, rfl⟩ : ∃ n : Fin 4096, i = ix1 n := ⟨i 0, funext fun a => by match a with | ⟨0, _⟩ => rfl⟩
  exact (congrArg BitVec.toNat (col_apply (argS x) k hs n)).trans_lt (argS_lt x _)

/-- The reference's gather of one column. -/
abbrev refCol (T : S8192x512.Idx → BitVec 32) (x : IVec S8192 32) (k : Fin 2) (hs : S4096x2.Slices ![0, k.val] S4096x1) : Cert.ReferenceIdeal.S4096x512.Idx → BitVec 32 :=
  Host.gather Cert.ReferenceIdeal.gather_S8192x512_S4096x1_S4096x512_1_0_n_n_0_1_1512 T
      (broadcastInDim Cert.ReferenceIdeal.S4096x1 ![0] Cert.ReferenceIdeal.Gen.bcast_S4096_S4096x1_0 (select (cmpi .slt (col x k hs) (broadcastInDim S4096 ![] Cert.ReferenceIdeal.Gen.bcast_S_S4096 (constantI S_ 32 0#32)))
        (addi (col x k hs) (broadcastInDim S4096 ![] Cert.ReferenceIdeal.Gen.bcast_S_S4096 (constantI S_ 32 8192#32))) (col x k hs)))

/-- A matrix read at an index given by its two coordinates. -/
theorem at_ix2 (f : Cert.ReferenceIdeal.S4096x512.Idx → BitVec 32) (y : Cert.ReferenceIdeal.S4096x512.Idx) (a : Fin 4096) (b : Fin 512)
    (h0 : (y 0).val = a.val) (h1 : (y 1).val = b.val) : f y = f (ix2 a b) :=
  congrArg f (funext fun c => by match c with | ⟨0, _⟩ => exact Fin.ext h0 | ⟨1, _⟩ => exact Fin.ext h1)

/-- The second result. -/
theorem val1 (T : S8192x512.Idx → BitVec 32) (x : IVec S8192 32) :
    shapeCast S8192x512 (G1 (shapeCast S32768x128 T shapeCasts_S8192x512_S32768x128) (lstOf (evOdd (argS x)))) shapeCasts_S32768x128_S8192x512
      = concatenate Cert.ReferenceIdeal.S8192x512 0 [⟨Cert.ReferenceIdeal.S4096x512, refCol T (argS x) 0 slices_S4096x2_S4096x1_0_0⟩, ⟨Cert.ReferenceIdeal.S4096x512, refCol T (argS x) 1 slices_S4096x2_S4096x1_0_1⟩]
          Cert.ReferenceIdeal.Gen.concatenates_S4096x512_S4096x512_S8192x512_d0 := by
  funext y
  obtain ⟨a, b, rfl⟩ : ∃ (a : Fin 8192) (b : Fin 512), y = ix2 a b := ⟨y 0, y 1, funext fun c => by match c with | ⟨0, _⟩ => rfl | ⟨1, _⟩ => rfl⟩
  refine (res1_apply T _ (evOdd_lt _ (argS_lt x)) a b).trans ?_
  have h2 : a.val - 4096 < 4096 := by have := a.isLt; omega
  have r0 := fun n => ref1_apply T _ (col_lt x 0 slices_S4096x2_S4096x1_0_0) n b
  have r1 := fun n => ref1_apply T _ (col_lt x 1 slices_S4096x2_S4096x1_0_1) n b
  change ∀ n, refCol T (argS x) 0 slices_S4096x2_S4096x1_0_0 (ix2 n b) = _ at r0
  change ∀ n, refCol T (argS x) 1 slices_S4096x2_S4096x1_0_1 (ix2 n b) = _ at r1
  generalize refCol T (argS x) 0 slices_S4096x2_S4096x1_0_0 = f0 at r0 ⊢
  generalize refCol T (argS x) 1 slices_S4096x2_S4096x1_0_1 = f1 at r1 ⊢
  refine Eq.trans ?_ (concatenate_pair_apply (s₁ := Cert.ReferenceIdeal.S4096x512) (s₂ := Cert.ReferenceIdeal.S4096x512) 0 f0 f1 _ (ix2 a b)).symm
  have hev := evOdd_apply (argS x) a
  by_cases h : a.val < 4096
  · rw [dif_pos h] at hev
    refine Eq.trans ?_ (dif_pos h).symm
    refine Eq.trans ?_ (at_ix2 f0 _ ⟨a.val, h⟩ b rfl rfl).symm
    refine Eq.trans ?_ (r0 _).symm
    refine congrArg (fun r : Fin 8192 => T (ix2 r b)) (Fin.ext (congrArg BitVec.toNat ?_))
    exact hev.trans (col_apply (argS x) 0 slices_S4096x2_S4096x1_0_0 ⟨a.val, h⟩).symm
  · rw [dif_neg h] at hev
    refine Eq.trans ?_ (dif_neg h).symm
    refine Eq.trans ?_ (at_ix2 f1 _ ⟨a.val - 4096, h2⟩ b ?_ ?_).symm
    rotate_left
    · simp only [Shape.Idx.norm_def]; rw [if_pos trivial]; rfl
    · simp only [Shape.Idx.norm_def]; exact if_neg Nat.one_ne_zero
    refine Eq.trans ?_ (r1 _).symm
    refine congrArg (fun r : Fin 8192 => T (ix2 r b)) (Fin.ext (congrArg BitVec.toNat ?_))
    exact hev.trans (col_apply (argS x) 1 slices_S4096x2_S4096x1_0_1 ⟨a.val - 4096, h2⟩).symm

end Cert.Proof.Rows

end
-- ==== Proof.Launch.lean ====
/-
  The whole run: the host operations before, between and after the two gathers, each gather from its table, its list and
  the buffer of its result to the rows gathered; at the end every buffer holds what the operations compute from the
  arguments.
-/
module

public import proofs.«01_k».proof.Proof.Pay
public import proofs.«01_k».proof.Proof.Ref

@[expose] public section

noncomputable section

namespace Cert.Proof.Rows

open Cert.KernelIdeal Cert.KernelIdeal.Gen

open Idealize.ShloMosaic Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ (UU F) ℕ

/-! ## What the buffers hold -/

/-- A TensorCore buffer's name on the device. -/
abbrev tcr (b : Ref sig .tc) : DevRef τ sig := Proc.devRef .tc b

section Vals
variable (m : (ℓ : Loc nD τ sig) → Buf (Elt F) ℓ) (d : Dev nD)

/-- At launch; -/
def V0 : Valuation τ sig (Elt F) := fun b => m (d, b)
/-- after the first layer norm; -/
def VP : Valuation τ sig (Elt F) := after opsR1 (V0 m d)
/-- after the attention; -/
def VQ : Valuation τ sig (Elt F) := after opsR2 (VP m d)
/-- after the second layer norm; -/
def VR : Valuation τ sig (Elt F) := after opsR3 (VQ m d)
/-- after the router; -/
def VS : Valuation τ sig (Elt F) := after opsR4 (VR m d)
/-- before the first gather; -/
def VA : Valuation τ sig (Elt F) := after ops0 (VS m d)
/-- the rows the first gather takes; -/
def R0 : S32768x128.Idx → BitVec 32 := G0 (VA m d (tcr main_v95)) (VA m d (tcr main_v104))
/-- after it; -/
def VB : Valuation τ sig (Elt F) := Function.update (VA m d) (tcr main_v105) (R0 m d)
/-- before the second; -/
def VC : Valuation τ sig (Elt F) := after ops1 (VB m d)
/-- the rows it takes; -/
def R1 : S32768x128.Idx → BitVec 32 := G1 (VC m d (tcr main_v113)) (VC m d (tcr main_v122))
/-- after it; -/
def VD : Valuation τ sig (Elt F) := Function.update (VC m d) (tcr main_v123) (R1 m d)
/-- at the end. -/
def VE : Valuation τ sig (Elt F) := after ops2 (VD m d)

/-- The router's logits. -/
def lgts : Arr F S2x2048x8 :=
  lgt (V0 m d (tcr main_arg0)) (V0 m d (tcr main_arg1)) (V0 m d (tcr main_arg2)) (V0 m d (tcr main_arg3)) (V0 m d (tcr main_arg4))
    (V0 m d (tcr main_arg5)) (V0 m d (tcr main_arg6)) (V0 m d (tcr main_arg7)) (V0 m d (tcr main_arg8)) (V0 m d (tcr main_arg9)) (V0 m d (tcr main_arg10))

/-- What the first layer norm does not write; -/
theorem VP_keep {b : Ref sig .tc} (h : b ∉ wrtR1) : VP m d (tcr b) = V0 m d (tcr b) := keepR1 _ b h
/-- nor the attention; -/
theorem VQ_keep {b : Ref sig .tc} (h : b ∉ wrtR1 ++ wrtR2) : VQ m d (tcr b) = V0 m d (tcr b) :=
  (keepR2 _ b fun k => h (List.mem_append_right _ k)).trans (VP_keep m d fun k => h (List.mem_append_left _ k))
/-- nor the second layer norm; -/
theorem VR_keep {b : Ref sig .tc} (h : b ∉ wrtR1 ++ wrtR2 ++ wrtR3) : VR m d (tcr b) = V0 m d (tcr b) :=
  (keepR3 _ b fun k => h (List.mem_append_right _ k)).trans (VQ_keep m d fun k => h (List.mem_append_left _ k))
/-- nor the router. -/
theorem VS_keep {b : Ref sig .tc} (h : b ∉ wrtR1 ++ wrtR2 ++ wrtR3 ++ wrtR4) : VS m d (tcr b) = V0 m d (tcr b) :=
  (keepR4 _ b fun k => h (List.mem_append_right _ k)).trans (VR_keep m d fun k => h (List.mem_append_left _ k))

theorem VP_v23 : VP m d (tcr main_v23) = layerNorm (V0 m d (tcr main_arg0)) (V0 m d (tcr main_arg1)) (V0 m d (tcr main_arg2)) := afterR1_v23 (V0 m d)
theorem VQ_v54 : VQ m d (tcr main_v54) = attend (V0 m d (tcr main_arg0))
    (layerNorm (V0 m d (tcr main_arg0)) (V0 m d (tcr main_arg1)) (V0 m d (tcr main_arg2))) (V0 m d (tcr main_arg3)) (V0 m d (tcr main_arg4))
    (V0 m d (tcr main_arg5)) (V0 m d (tcr main_arg6)) (V0 m d (tcr main_arg10)) := by
  refine (afterR2_v54 (VP m d)).trans ?_
  rw [VP_v23, VP_keep m d (b := main_arg0) (by decide), VP_keep m d (b := main_arg3) (by decide), VP_keep m d (b := main_arg4) (by decide),
    VP_keep m d (b := main_arg5) (by decide), VP_keep m d (b := main_arg6) (by decide), VP_keep m d (b := main_arg10) (by decide)]
theorem VR_v78 : VR m d (tcr main_v78) = layerNorm (attend (V0 m d (tcr main_arg0))
    (layerNorm (V0 m d (tcr main_arg0)) (V0 m d (tcr main_arg1)) (V0 m d (tcr main_arg2))) (V0 m d (tcr main_arg3)) (V0 m d (tcr main_arg4))
    (V0 m d (tcr main_arg5)) (V0 m d (tcr main_arg6)) (V0 m d (tcr main_arg10))) (V0 m d (tcr main_arg7)) (V0 m d (tcr main_arg8)) := by
  refine (afterR3_v78 (VQ m d)).trans ?_
  rw [VQ_v54, VQ_keep m d (b := main_arg7) (by decide), VQ_keep m d (b := main_arg8) (by decide)]
theorem VS_v79 : VS m d (tcr main_v79) = lgts m d := by
  refine (afterR4_v79 (VR m d)).trans ?_
  rw [VR_v78, VR_keep m d (b := main_arg9) (by decide)]
  rfl
theorem VS_indices : VS m d (tcr main_indices) = choice (lgts m d) := by
  refine (afterR4_indices (VR m d)).trans ?_
  rw [VR_v78, VR_keep m d (b := main_arg9) (by decide)]
  rfl

/-- The chosen experts as one vector. -/
def route : S8192.Idx → BitVec 32 := shapeCast S8192 (choice (lgts m d)) shapeCasts_S2x2048x2_S8192

theorem VA_v93 : VA m d (tcr main_v93) = argS (argS (route m d)) :=
  (after0_v93 (VS m d)).trans (congrArg (fun x : S2x2048x2.Idx → BitVec 32 => argS (argS (shapeCast S8192 x shapeCasts_S2x2048x2_S8192))) (VS_indices m d))
theorem VA_list : VA m d (tcr main_v104) = lstOf (half (argS (route m d))) :=
  (after0_v104 (VS m d)).trans (congrArg (fun x : S2x2048x2.Idx → BitVec 32 => lstOf (half (argS (shapeCast S8192 x shapeCasts_S2x2048x2_S8192)))) (VS_indices m d))
theorem VC_list : VC m d (tcr main_v122) = lstOf (evOdd (argS (argS (route m d)))) := by
  refine (after1_v122 (VB m d)).trans (congrArg (fun x => lstOf (evOdd x)) ?_)
  exact (Function.update_of_ne (devRef_ne_of_ne (show (main_v93 : Ref sig .tc) ≠ main_v105 by decide)) _ _).trans (VA_v93 m d)

theorem VA_list_lt (n : Fin 32768) : ((VA m d (tcr main_v104) : S1x32768.Idx → BitVec 32) (ix2 (0 : Fin 1) n)).toNat < 16384 := by
  have h := half_lt (route m d)
  have e := lstOf_toNat (half (argS (route m d))) (fun i => lt_trans (h i) (by decide)) n
  have := h (rowOf n)
  rw [VA_list, e]
  omega
theorem VC_list_lt (n : Fin 32768) : ((VC m d (tcr main_v122) : S1x32768.Idx → BitVec 32) (ix2 (0 : Fin 1) n)).toNat < 32768 := by
  have h := evOdd_lt (argS (argS (route m d))) (argS_lt _)
  have e := lstOf_toNat (evOdd (argS (argS (route m d)))) h n
  have := h (rowOf n)
  rw [VC_list, e]
  omega

end Vals

variable (m : (ℓ : Loc nD τ sig) → Buf (Elt F) ℓ) (ρ : Dev nD → PrngReg)

/-- The contents the gathers meet. -/
def vls : Vls where
  t0 := fun d => VA m d (tcr main_v95)
  l0 := fun d => VA m d (tcr main_v104)
  o0 := fun d => VA m d (tcr main_v105)
  t1 := fun d => VC m d (tcr main_v113)
  l1 := fun d => VC m d (tcr main_v122)
  o1 := fun d => VC m d (tcr main_v123)
  h0 := fun d n => VA_list_lt m d n
  h1 := fun d n => VC_list_lt m d n

/-! ## Assertions rearranged -/

/-- Two triples paired entry by entry. -/
theorem six_swap (A B C A' B' C' : sProp 𝕄) : iprop((A ∗ B ∗ C) ∗ A' ∗ B' ∗ C') = iprop((A ∗ A') ∗ (B ∗ B') ∗ C ∗ C') := by
  refine BI.Entails.antisymm (show iprop((A ∗ B ∗ C) ∗ A' ∗ B' ∗ C') ⊢ iprop((A ∗ A') ∗ (B ∗ B') ∗ C ∗ C') from ?_)
    (show iprop((A ∗ A') ∗ (B ∗ B') ∗ C ∗ C') ⊢ iprop((A ∗ B ∗ C) ∗ A' ∗ B' ∗ C') from ?_)
  · iintro ⟨⟨HA, HB, HC⟩, HA', HB', HC'⟩
    isplitl [HA HA']
    · isplitl [HA]; · iexact HA
      iexact HA'
    isplitl [HB HB']
    · isplitl [HB]; · iexact HB
      iexact HB'
    isplitl [HC]; · iexact HC
    iexact HC'
  · iintro ⟨⟨HA, HA'⟩, ⟨HB, HB'⟩, HC, HC'⟩
    isplitl [HA HB HC]
    · isplitl [HA]; · iexact HA
      isplitl [HB]; · iexact HB
      iexact HC
    isplitl [HA']; · iexact HA'
    isplitl [HB']; · iexact HB'
    iexact HC'

/-- What one persistent assertion gives, it gives any number of times. -/
theorem persistent_all {R : sProp 𝕄} [BI.Persistent R] {I : Type} (s : Finset I) (Φ : I → sProp 𝕄) (h : ∀ i, R ⊢ Φ i) : R ⊢ bigSep s Φ := by
  classical
  refine Finset.induction_on s ?_ fun i s hi ih => ?_
  · iintro -
    iapply (Entails.of_eq (bigSep_empty (Φ := Φ)).symm); iempintro
  · iintro #H
    iapply (Entails.of_eq (bigSep_ins hi Φ).symm)
    isplitr
    · iapply (h i) $$ H
    · iapply ih $$ H

/-! ## Three buffers out of all, and back -/

theorem vls_t0 (d : Dev nD) : VA m d (tcr main_v95) = (vls m).t0 d := by unfold vls; rfl
theorem vls_l0 (d : Dev nD) : VA m d (tcr main_v104) = (vls m).l0 d := by unfold vls; rfl
theorem vls_o0 (d : Dev nD) : VA m d (tcr main_v105) = (vls m).o0 d := by unfold vls; rfl
theorem vls_t1 (d : Dev nD) : VC m d (tcr main_v113) = (vls m).t1 d := by unfold vls; rfl
theorem vls_l1 (d : Dev nD) : VC m d (tcr main_v122) = (vls m).l1 d := by unfold vls; rfl
theorem vls_o1 (d : Dev nD) : VC m d (tcr main_v123) = (vls m).o1 d := by unfold vls; rfl
theorem VB_eq (d : Dev nD) : Function.update (VA m d) (tcr main_v105) (G0 ((vls m).t0 d) ((vls m).l0 d)) = VB m d := by
  rw [← vls_t0, ← vls_l0]; unfold VB R0; rfl
theorem VD_eq (d : Dev nD) : Function.update (VC m d) (tcr main_v123) (G1 ((vls m).t1 d) ((vls m).l1 d)) = VD m d := by
  rw [← vls_t1, ← vls_l1]; unfold VD R1; rfl

section Three
variable (d : Dev nD) (a b c : Ref sig .tc) (W : Valuation τ sig (Elt F))

/-- The buffers but three. -/
def rest3 : sProp (MT nD τ sig (HIx 2) (Elt F) ℕ (UU F) ℕ) :=
  held (d.tc : Thread nD τ) ((((tcRefs τ sig).erase (tcr a)).erase (tcr b)).erase (tcr c)) W

theorem held_three (hb : b ≠ a) (hc : c ≠ a) (hc' : c ≠ b) :
    (held (d.tc : Thread nD τ) (tcRefs τ sig) W : sProp 𝕄)
      = iprop(((SparseCore.T d).loc a ↦{fullShare} W (tcr a)) ∗ ((SparseCore.T d).loc b ↦{fullShare} W (tcr b))
        ∗ ((SparseCore.T d).loc c ↦{fullShare} W (tcr c)) ∗ rest3 d a b c W) := by
  unfold rest3 held
  rw [SparseCore.bigSep_erase' (devRef_mem_tcRefs a),
    SparseCore.bigSep_erase' (Finset.mem_erase.mpr ⟨devRef_ne_of_ne hb, devRef_mem_tcRefs b⟩),
    SparseCore.bigSep_erase' (Finset.mem_erase.mpr ⟨devRef_ne_of_ne hc', Finset.mem_erase.mpr ⟨devRef_ne_of_ne hc, devRef_mem_tcRefs c⟩⟩)]

/-- The third may hold something else. -/
theorem held_three_update (hb : b ≠ a) (hc : c ≠ a) (hc' : c ≠ b) (x : Buf (Elt F) ((SparseCore.T d).loc c)) :
    (held (d.tc : Thread nD τ) (tcRefs τ sig) (Function.update W (tcr c) x) : sProp 𝕄)
      = iprop(((SparseCore.T d).loc a ↦{fullShare} W (tcr a)) ∗ ((SparseCore.T d).loc b ↦{fullShare} W (tcr b))
        ∗ ((SparseCore.T d).loc c ↦{fullShare} x) ∗ rest3 d a b c W) := by
  rw [held_three d a b c _ hb hc hc', Function.update_of_ne (devRef_ne_of_ne hc.symm), Function.update_of_ne (devRef_ne_of_ne hc'.symm), Function.update_self]
  have : (rest3 d a b c (Function.update W (tcr c) x) : sProp 𝕄) = rest3 d a b c W :=
    held_congr _ fun y hy => Function.update_of_ne (Finset.ne_of_mem_erase hy) _ _
  rw [this]
end Three

/-! ## The calls -/

section Calls
variable (v : Vls) (d : Dev nD)

theorem cores0 (W : Finset S32768x128.Idx) :
    (bigSep Finset.univ fun c : Fin 2 => (core0 v d (qc c.val) W : sProp 𝕄)) = core0 v d fullShare W := by
  rw [bigSep_univ_two]
  have ht := pointsTo_halves (F := F) (ℓ := tLoc0 d) Finset.univ fullShare (v.t0 d)
  have hl := pointsTo_halves (F := F) (ℓ := lLoc0 d) Finset.univ fullShare (v.l0 d)
  have ho := willBe_halves (F := F) (ℓ := oLoc0 d) Finset.univ fullShare (v.o0 d) (tgt0 v d) W
  rw [show (core0 (F := F) v d fullShare W : sProp 𝕄) = _ from congrArg₂ (fun A B : sProp 𝕄 => iprop(A ∗ B)) ht (congrArg₂ (fun A B : sProp 𝕄 => iprop(A ∗ B)) hl ho)]
  show iprop(core0 v d fullShare.left W ∗ core0 v d fullShare.right W) = _
  exact six_swap _ _ _ _ _ _

/-- Gather 0 as @main calls it: the buffer of its result comes to hold the rows its list names. -/
theorem wp_call0 (κ : GSem nD τ sig → ℕ) (W : Valuation τ sig (Elt F)) (ht : W (tcr main_v95) = v.t0 d) (hl : W (tcr main_v104) = v.l0 d)
    (ho : W (tcr main_v105) = v.o0 d) {ι : ℕ} {k : PUnit → Prog (TpuEff nD τ sig (Elt F) (SparseCore.Sig (ΛP (F := F)) 2) .tc) PUnit} {Φ : PUnit → sProp 𝕄} :
    iprop(wmInv (EW (F := F)) ι ∗ (K (F := F)).ctx EH (P v) κ ∗ (K (F := F)).tcSt EH d 0 ∗ held (d.tc : Thread nD τ) (tcRefs τ sig) W
        ∗ (((K (F := F)).tcSt EH d 1 ∗ held (d.tc : Thread nD τ) (tcRefs τ sig) (Function.update W (tcr main_v105) (G0 (v.t0 d) (v.l0 d))))
          -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 0 >>= k) Φ := by
  rw [wp_bind, held_three d main_v95 main_v104 main_v105 W (by decide) (by decide) (by decide),
    held_three_update d main_v95 main_v104 main_v105 W (by decide) (by decide) (by decide), ht, hl, ho]
  iintro ⟨#Hwm, #Hctx, Hst, ⟨Ht, Hl, Ho, Hr⟩, Hk⟩
  imod (pointsTo_castIn (emb := EW (F := F)) (ιwm := ι) (E := Set.univ) (ℓ := oLoc0 d) (tgt0 v d)) $$ [Ho] with Ho
  · isplitr; · iexact Hwm
    iexact Ho
  ihave Hc := (Entails.of_eq (cores0 (F := F) v d ∅).symm) $$ [Ht Hl Ho]
  · isplitl [Ht]; · iexact Ht
    isplitl [Hl]; · iexact Hl
    iexact Ho
  iapply ((K (F := F)).wp_run (D (F := F)) 𝒱 (EH := EH) (P := P v) κ d 0) $$ [Hst Hc Hr Hk]
  isplitr; · iexact Hctx
  isplitl [Hst]; · iexact Hst
  isplitl [Hc]; · iexact Hc
  iintro ⟨Hst, Hc⟩
  ihave Hc := (Entails.of_eq (show (bigSep Finset.univ fun c : Fin ((K (F := F)).nCore 0) => (P v).dn 0 d c) = core0 v d fullShare Finset.univ from
    cores0 (F := F) v d Finset.univ)) $$ Hc
  icases Hc with ⟨Ht, Hl, Ho⟩
  imod (willBeTo_castOut_some (emb := EW (F := F)) (ιwm := ι) (E := Set.univ) (ℓ := oLoc0 d) (g := G0 (v.t0 d) (v.l0 d))) $$ [Ho] with Ho
  · isplitr; · iexact Hwm
    iexact Ho
  iapply Hk
  isplitl [Hst]; · iexact Hst
  isplitl [Ht]; · iexact Ht
  isplitl [Hl]; · iexact Hl
  isplitl [Ho]
  · iapply (Entails.of_eq (congrArg (fun f => (oLoc0 d ↦{fullShare} f : sProp 𝕄))
      (Finset.piecewise_univ (G0 (v.t0 d) (v.l0 d)) (v.o0 d)))) $$ Ho
  iexact Hr

theorem cores1 (W : Finset S32768x128.Idx) :
    (bigSep Finset.univ fun c : Fin 2 => (core1 v d (qc c.val) W : sProp 𝕄)) = core1 v d fullShare W := by
  rw [bigSep_univ_two]
  have ht := pointsTo_halves (F := F) (ℓ := tLoc1 d) Finset.univ fullShare (v.t1 d)
  have hl := pointsTo_halves (F := F) (ℓ := lLoc1 d) Finset.univ fullShare (v.l1 d)
  have ho := willBe_halves (F := F) (ℓ := oLoc1 d) Finset.univ fullShare (v.o1 d) (tgt1 v d) W
  rw [show (core1 (F := F) v d fullShare W : sProp 𝕄) = _ from congrArg₂ (fun A B : sProp 𝕄 => iprop(A ∗ B)) ht (congrArg₂ (fun A B : sProp 𝕄 => iprop(A ∗ B)) hl ho)]
  show iprop(core1 v d fullShare.left W ∗ core1 v d fullShare.right W) = _
  exact six_swap _ _ _ _ _ _

/-- Gather 1 as @main calls it: the buffer of its result comes to hold the rows its list names. -/
theorem wp_call1 (κ : GSem nD τ sig → ℕ) (W : Valuation τ sig (Elt F)) (ht : W (tcr main_v113) = v.t1 d) (hl : W (tcr main_v122) = v.l1 d)
    (ho : W (tcr main_v123) = v.o1 d) {ι : ℕ} {k : PUnit → Prog (TpuEff nD τ sig (Elt F) (SparseCore.Sig (ΛP (F := F)) 2) .tc) PUnit} {Φ : PUnit → sProp 𝕄} :
    iprop(wmInv (EW (F := F)) ι ∗ (K (F := F)).ctx EH (P v) κ ∗ (K (F := F)).tcSt EH d 1 ∗ held (d.tc : Thread nD τ) (tcRefs τ sig) W
        ∗ (((K (F := F)).tcSt EH d 2 ∗ held (d.tc : Thread nD τ) (tcRefs τ sig) (Function.update W (tcr main_v123) (G1 (v.t1 d) (v.l1 d))))
          -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 1 >>= k) Φ := by
  rw [wp_bind, held_three d main_v113 main_v122 main_v123 W (by decide) (by decide) (by decide),
    held_three_update d main_v113 main_v122 main_v123 W (by decide) (by decide) (by decide), ht, hl, ho]
  iintro ⟨#Hwm, #Hctx, Hst, ⟨Ht, Hl, Ho, Hr⟩, Hk⟩
  imod (pointsTo_castIn (emb := EW (F := F)) (ιwm := ι) (E := Set.univ) (ℓ := oLoc1 d) (tgt1 v d)) $$ [Ho] with Ho
  · isplitr; · iexact Hwm
    iexact Ho
  ihave Hc := (Entails.of_eq (cores1 (F := F) v d ∅).symm) $$ [Ht Hl Ho]
  · isplitl [Ht]; · iexact Ht
    isplitl [Hl]; · iexact Hl
    iexact Ho
  iapply ((K (F := F)).wp_run (D (F := F)) 𝒱 (EH := EH) (P := P v) κ d 1) $$ [Hst Hc Hr Hk]
  isplitr; · iexact Hctx
  isplitl [Hst]; · iexact Hst
  isplitl [Hc]; · iexact Hc
  iintro ⟨Hst, Hc⟩
  ihave Hc := (Entails.of_eq (show (bigSep Finset.univ fun c : Fin ((K (F := F)).nCore 1) => (P v).dn 1 d c) = core1 v d fullShare Finset.univ from
    cores1 (F := F) v d Finset.univ)) $$ Hc
  icases Hc with ⟨Ht, Hl, Ho⟩
  imod (willBeTo_castOut_some (emb := EW (F := F)) (ιwm := ι) (E := Set.univ) (ℓ := oLoc1 d) (g := G1 (v.t1 d) (v.l1 d))) $$ [Ho] with Ho
  · isplitr; · iexact Hwm
    iexact Ho
  iapply Hk
  isplitl [Hst]; · iexact Hst
  isplitl [Ht]; · iexact Ht
  isplitl [Hl]; · iexact Hl
  isplitl [Ho]
  · iapply (Entails.of_eq (congrArg (fun f => (oLoc1 d ↦{fullShare} f : sProp 𝕄))
      (Finset.piecewise_univ (G1 (v.t1 d) (v.l1 d)) (v.o1 d)))) $$ Ho
  iexact Hr

end Calls

/-! ## The launch's ghost state -/

/-- The handshakes' rounds at their start, nothing in write mode, the counters at nothing. -/
def u₀ : UU F := (initOf (K (F := F)).hsCells (K (F := F)).hsToks, (wm₀ nD τ sig (Elt F), 1))

theorem hu₀ : (ownU (u₀ (F := F)) : sProp 𝕄)
    ⊢ |={Set.univ}=> iprop(BI.own (EH (initOf (K (F := F)).hsCells (K (F := F)).hsToks)) ∗ (bigSep Finset.univ fun _ : Dev nD => iprop(∃ ι, wmInv (EW (F := F)) ι))
        ∗ bigSep Finset.univ fun thr : Thread nD τ => bigSep Finset.univ fun q : Fin 2 => (P (F := F) (vls m)).x q thr) := by
  have hx : (bigSep Finset.univ fun thr : Thread nD τ => bigSep Finset.univ fun q : Fin 2 => (P (F := F) (vls m)).x q thr)
      = bigSep Finset.univ fun _ : Thread nD τ => bigSep Finset.univ fun _ : Fin 2 => (iprop(∃ ι, wmInv (EW (F := F)) ι) : sProp 𝕄) := rfl
  rw [hx]
  unfold u₀
  iintro Hu
  ihave H := (ownU_pair (initOf (K (F := F)).hsCells (K (F := F)).hsToks) (wm₀ nD τ sig (Elt F), (1 : Counters))) $$ Hu
  icases H with ⟨HH, HW⟩
  ihave HW := (show (BI.own (embR ((wm₀ nD τ sig (Elt F), (1 : Counters)) : WmRA nD τ sig (Elt F) × Counters)) : sProp 𝕄) ⊢ ownU (EW (F := F) (wm₀ nD τ sig (Elt F))) from .rfl) $$ HW
  imod (wmInv_alloc (Name := ℕ) (emb := EW (F := F)) ⟨m, fun _ => 0, fun _ => default⟩ (E := Set.univ)) $$ HW with ⟨%ι, -, #Hwm⟩
  imodintro
  isplitl [HH]; · iexact HH
  isplitr
  · iapply (persistent_all Finset.univ (fun _ => (iprop(∃ ι, wmInv (EW (F := F)) ι) : sProp 𝕄)) fun _ => by
      iintro #H; iexists ι; iexact H) $$ Hwm
  · iapply (persistent_all Finset.univ (fun _ => (bigSep Finset.univ fun _ : Fin 2 => iprop(∃ ι, wmInv (EW (F := F)) ι) : sProp 𝕄)) fun _ =>
      persistent_all Finset.univ _ fun _ => by iintro #H; iexists ι; iexact H) $$ Hwm

/-! ## @main -/

theorem unscopedBufs_eq (d : Dev nD) :
    (unscopedBufs d (fun b => m ((SparseCore.T d).loc b)) : sProp 𝕄) = held (d.tc : Thread nD τ) (tcRefs τ sig) (V0 m d) := by
  unfold unscopedBufs held tcRefs
  rw [show (Finset.univ.filter fun b : Ref sig .tc => ¬ b.isScoped) = Finset.univ by decide, bigSep_map]
  rfl

abbrev FIN (d : Dev nD) : sProp 𝕄 := held (d.tc : Thread nD τ) (tcRefs τ sig) (VE m d)

theorem freshR1 : ∀ op ∈ (opsR1 : List (HloOp τ sig (Elt F))), op.fresh = ∅ :=
  List.forall_iff_forall_mem.1 (forall_fresh_of_map rfl)
theorem freshR2 : ∀ op ∈ (opsR2 : List (HloOp τ sig (Elt F))), op.fresh = ∅ :=
  List.forall_iff_forall_mem.1 (forall_fresh_of_map rfl)
theorem freshR3 : ∀ op ∈ (opsR3 : List (HloOp τ sig (Elt F))), op.fresh = ∅ :=
  List.forall_iff_forall_mem.1 (forall_fresh_of_map rfl)
theorem freshR4 : ∀ op ∈ (opsR4 : List (HloOp τ sig (Elt F))), op.fresh = ∅ :=
  List.forall_iff_forall_mem.1 (forall_fresh_of_map rfl)
theorem fresh0 : ∀ op ∈ (ops0 : List (HloOp τ sig (Elt F))), op.fresh = ∅ :=
  List.forall_iff_forall_mem.1 (forall_fresh_of_map rfl)
theorem fresh1 : ∀ op ∈ (ops1 : List (HloOp τ sig (Elt F))), op.fresh = ∅ :=
  List.forall_iff_forall_mem.1 (forall_fresh_of_map rfl)
theorem fresh2 : ∀ op ∈ (ops2 : List (HloOp τ sig (Elt F))), op.fresh = ∅ :=
  List.forall_iff_forall_mem.1 (forall_fresh_of_map rfl)

set_option backward.isDefEq.respectTransparency.types false in
set_option maxRecDepth 8192 in
/-- @main: the operations and the gathers in turn, every buffer followed. -/
theorem hmain (κ : GSem nD τ sig → ℕ) (d : Dev nD) :
    iprop((K (F := F)).ctx EH (P (vls m)) κ ∗ (K (F := F)).tcSt EH d 0 ∗ (K (F := F)).tcRes m ρ d ∗ ∃ ι, wmInv (EW (F := F)) ι)
      ⊢ (wp frame (wpE ((K (F := F)).defs (D (F := F))) 𝒱 (SparseCore.T d) none) Set.univ (main d)
          fun _ => iprop((K (F := F)).tcSt EH d 2 ∗ FIN m d ∗ (K (F := F)).tcEnd d) : sProp 𝕄) := by
  unfold SparseCore.Cfg.tcRes SparseCore.Cfg.tcEnd
  rw [unscopedBufs_eq, main_eq]
  iintro ⟨#Hctx, Hst, ⟨Hb, Hbufs, Hts, -⟩, ⟨%ι, #Hwm⟩⟩
  iapply (wp_seq 𝒱 none Set.univ d (tcRefs τ sig) _ opsR1 (List.forall_iff_forall_mem.1 opsR1_sub) freshR1 (V0 m d)) $$ [Hb Hbufs]
  · isplitl [Hb]; · iexact Hb
    iexact Hbufs
  iintro ⟨Hb, Hbufs⟩
  iapply (wp_seq 𝒱 none Set.univ d (tcRefs τ sig) _ opsR2 (List.forall_iff_forall_mem.1 opsR2_sub) freshR2 (VP m d)) $$ [Hb Hbufs]
  · isplitl [Hb]; · iexact Hb
    iexact Hbufs
  iintro ⟨Hb, Hbufs⟩
  iapply (wp_seq 𝒱 none Set.univ d (tcRefs τ sig) _ opsR3 (List.forall_iff_forall_mem.1 opsR3_sub) freshR3 (VQ m d)) $$ [Hb Hbufs]
  · isplitl [Hb]; · iexact Hb
    iexact Hbufs
  iintro ⟨Hb, Hbufs⟩
  iapply (wp_seq 𝒱 none Set.univ d (tcRefs τ sig) _ opsR4 (List.forall_iff_forall_mem.1 opsR4_sub) freshR4 (VR m d)) $$ [Hb Hbufs]
  · isplitl [Hb]; · iexact Hb
    iexact Hbufs
  iintro ⟨Hb, Hbufs⟩
  iapply (wp_seq 𝒱 none Set.univ d (tcRefs τ sig) _ ops0 (List.forall_iff_forall_mem.1 ops0_sub) fresh0 (VS m d)) $$ [Hb Hbufs]
  · isplitl [Hb]; · iexact Hb
    iexact Hbufs
  iintro ⟨Hb, Hbufs⟩
  iapply (wp_call0 (vls m) d κ (VA m d) (vls_t0 m d) (vls_l0 m d) (vls_o0 m d) (ι := ι))
  isplitr; · iexact Hwm
  isplitr; · iexact Hctx
  isplitl [Hst]; · iexact Hst
  isplitl [Hbufs]; · iexact Hbufs
  iintro ⟨Hst, Hbufs⟩
  ihave Hbufs := (Entails.of_eq (congrArg (fun W => (held (d.tc : Thread nD τ) (tcRefs τ sig) W : sProp 𝕄)) (VB_eq m d))) $$ Hbufs
  iapply (wp_seq 𝒱 none Set.univ d (tcRefs τ sig) _ ops1 (List.forall_iff_forall_mem.1 ops1_sub) fresh1 (VB m d)) $$ [Hb Hbufs]
  · isplitl [Hb]; · iexact Hb
    iexact Hbufs
  iintro ⟨Hb, Hbufs⟩
  iapply (wp_call1 (vls m) d κ (VC m d) (vls_t1 m d) (vls_l1 m d) (vls_o1 m d) (ι := ι))
  isplitr; · iexact Hwm
  isplitr; · iexact Hctx
  isplitl [Hst]; · iexact Hst
  isplitl [Hbufs]; · iexact Hbufs
  iintro ⟨Hst, Hbufs⟩
  ihave Hbufs := (Entails.of_eq (congrArg (fun W => (held (d.tc : Thread nD τ) (tcRefs τ sig) W : sProp 𝕄)) (VD_eq m d))) $$ Hbufs
  iapply (wp_seq 𝒱 none Set.univ d (tcRefs τ sig) _ ops2 (List.forall_iff_forall_mem.1 ops2_sub) fresh2 (VD m d)) $$ [Hb Hbufs]
  · isplitl [Hb]; · iexact Hb
    iexact Hbufs
  iintro ⟨Hb, Hbufs⟩
  rw [wp_pure]
  imodintro
  isplitl [Hst]; · iexact Hst
  isplitl [Hbufs]; · iexact Hbufs
  isplitl [Hb]; · iexact Hb
  iexact Hts

/-- What the run leaves: every TensorCore buffer at the contents computed. -/
def fq (d : Dev nD) (s' : Phys nD τ sig (Elt F)) : Prop := ∀ b ∈ tcRefs τ sig, s'.mem.mem (d, b) = VE m d b

theorem hfin (d : Dev nD) (s' : Phys nD τ sig (Elt F)) : iprop(FIN m d ∗ SI s') ⊢ (⌜fq m d s'⌝ : sProp 𝕄) := by
  iintro ⟨Hbufs, HSI⟩
  ihave Hbufs := (show FIN m d ⊢ (bigSep (tcRefs τ sig) fun b : DevRef τ sig => ((d, b) : Loc nD τ sig) ↦{fullShare} VE m d b : sProp 𝕄) from .rfl) $$ Hbufs
  iapply (SI_pointsTo_bufs_agree (st := s') (c := d) (qs := fun _ => fullShare) (F := VE m d) (tcRefs τ sig))
  isplitl [HSI]; · iexact HSI
  iexact Hbufs

/-- The run's outcome. -/
def QC : PUnit × MemSt nD τ sig (Elt F) → Prop := fun r => (∀ d : Dev nD, ∀ b : Ref sig .tc, r.2.mem ((SparseCore.T d).loc b) = VE m d (tcr b)) ∧ r.2.sem = fun _ => 0

/-- Every execution ends, with every buffer at the contents computed and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vls m)) (A := ∅) facts v₀
    (fun q hq => match q with | 0 => nomatch hq | 1 => nomatch hq)
    (fun q _ => match q with | 0 => tileObl0 (vls m) facts | 1 => tileObl1 (vls m) facts)
    (fun q _ => match q with
      | 0 => SparseCore.Cfg.VecSplit.of_plain (vecSplit0 (vls m))
      | 1 => SparseCore.Cfg.VecSplit.of_plain (vecSplit1 (vls m)))
    m ρ main (fun _ => iprop(∃ ι, wmInv (EW (F := F)) ι)) (FIN m) (u₀ (F := F)) (sep_elim_left.trans (hu₀ m)) (hmain m ρ) (fq m) (hfin m) (QC m)
    (fun _ h hz => ⟨fun d b => h d (tcr b) (devRef_mem_tcRefs b), hz⟩)

end Cert.Proof.Rows

end
-- ==== Proof.Results.lean ====
/-
  What the results hold at the end, in terms of the arguments; and that the arguments are as they were.
-/
module

public import proofs.«01_k».proof.Proof.Launch

@[expose] public section

noncomputable section

namespace Cert.Proof.Rows

open Cert.KernelIdeal Cert.KernelIdeal.Gen
open Idealize.ShloMosaic Idealize.ShloMosaic.StableHlo

variable {F : FTy → Type} [FloatOps F]
variable (m : (ℓ : Loc nD τ sig) → Buf (Elt F) ℓ) (d : Dev nD)

theorem VB_of_ne {b : Ref sig .tc} (h : b ≠ main_v105) : VB m d (tcr b) = VA m d (tcr b) := Function.update_of_ne (devRef_ne_of_ne h) _ _
theorem VD_of_ne {b : Ref sig .tc} (h : b ≠ main_v123) : VD m d (tcr b) = VC m d (tcr b) := Function.update_of_ne (devRef_ne_of_ne h) _ _
theorem VB_self : VB m d (tcr main_v105) = R0 m d := Function.update_self _ _ _
theorem VD_self : VD m d (tcr main_v123) = R1 m d := Function.update_self _ _ _

/-- All the buffers that @main writes. -/
abbrev wrtAll : List (Ref sig .tc) := wrtR1 ++ wrtR2 ++ wrtR3 ++ wrtR4 ++ (wrt0 ++ [main_v105] ++ wrt1 ++ [main_v123] ++ wrt2)

/-- What nothing from the first gather's list on writes, ends as the router left it. -/
theorem VE_tail {b : Ref sig .tc} (h : b ∉ wrt0 ++ [main_v105] ++ wrt1 ++ [main_v123] ++ wrt2) : VE m d (tcr b) = VS m d (tcr b) := by
  simp only [List.mem_append, List.mem_singleton, not_or] at h
  obtain ⟨⟨⟨⟨h0, h1⟩, h2⟩, h3⟩, h4⟩ := h
  exact (keep2 _ b (List.mem_singleton.not.mpr h4)).trans ((VD_of_ne m d h3).trans ((keep1 _ b h2).trans ((VB_of_ne m d h1).trans (keep0 _ b h0))))
/-- What nothing writes, ends as it was. -/
theorem VE_keep {b : Ref sig .tc} (h : b ∉ wrtAll) : VE m d (tcr b) = V0 m d (tcr b) :=
  (VE_tail m d fun k => h (List.mem_append_right _ k)).trans (VS_keep m d fun k => h (List.mem_append_left _ k))

/-- The third result: the logits. -/
theorem VE_v79 : VE m d (tcr main_v79) = lgts m d := (VE_tail m d (by decide)).trans (VS_v79 m d)
/-- The fourth: the chosen experts. -/
theorem VE_indices : VE m d (tcr main_indices) = choice (lgts m d) := (VE_tail m d (by decide)).trans (VS_indices m d)

/-- The first gather's table is the first table, recut. -/
theorem VA_table : VA m d (tcr main_v95) = shapeCast S16384x128 (V0 m d (tcr main_arg11) : S4096x512.Idx → BitVec 32) shapeCasts_S4096x512_S16384x128 :=
  (after0_v95 (VS m d)).trans (congrArg (fun W : S4096x512.Idx → BitVec 32 => shapeCast S16384x128 W shapeCasts_S4096x512_S16384x128) (VS_keep m d (by decide)))
/-- The second's is the second table, recut. -/
theorem VC_table : VC m d (tcr main_v113) = shapeCast S32768x128 (V0 m d (tcr main_arg12) : S8192x512.Idx → BitVec 32) shapeCasts_S8192x512_S32768x128 :=
  (after1_v113 (VB m d)).trans (congrArg (fun W : S8192x512.Idx → BitVec 32 => shapeCast S32768x128 W shapeCasts_S8192x512_S32768x128)
    ((VB_of_ne m d (by decide)).trans ((keep0 _ _ (by decide)).trans (VS_keep m d (by decide)))))

/-- The first result: the first gather's rows, recut. -/
theorem VE_v106 : VE m d (tcr main_v106) = shapeCast S8192x512
    (G0 (shapeCast S16384x128 (V0 m d (tcr main_arg11) : S4096x512.Idx → BitVec 32) shapeCasts_S4096x512_S16384x128) (lstOf (half (argS (route m d)))))
    shapeCasts_S32768x128_S8192x512 := by
  refine (keep2 (VD m d) main_v106 (by decide)).trans ((VD_of_ne m d (by decide)).trans ((after1_v106 (VB m d)).trans ?_))
  rw [VB_self, R0, VA_table, VA_list]

/-- The second: the second's. -/
theorem VE_v124 : VE m d (tcr main_v124) = shapeCast S8192x512
    (G1 (shapeCast S32768x128 (V0 m d (tcr main_arg12) : S8192x512.Idx → BitVec 32) shapeCasts_S8192x512_S32768x128) (lstOf (evOdd (argS (argS (route m d))))))
    shapeCasts_S32768x128_S8192x512 := by
  refine (after2_v124 (VD m d)).trans ?_
  rw [VD_self, R1, VC_table, VC_list]

end Cert.Proof.Rows

end
-- ==== Proof.RefRouter.lean ====
/-
  The reference's router computes the same functions of the arguments as the kernel's.
-/
module

public import proofs.«01_k».proof.Proof.Ref

@[expose] public section

noncomputable section

namespace Cert.Proof.Rows

open Cert.KernelIdeal Cert.KernelIdeal.Gen
open Idealize.ShloMosaic Idealize.ShloMosaic.StableHlo

variable {F : FTy → Type} [FloatOps F]

/-- Equal arguments, equal logits. -/
theorem lgt_congr {x x₁ : Arr F S2x2048x1024} {g g₁ : Arr F S1024} {b b₁ : Arr F S1024} {wq wq₁ : Arr F S1024x1024} {wk wk₁ : Arr F S1024x1024} {wv wv₁ : Arr F S1024x1024} {wo wo₁ : Arr F S1024x1024} {g' g'₁ : Arr F S1024} {b' b'₁ : Arr F S1024} {wr wr₁ : Arr F S1024x8} {msk msk₁ : S2x2048.Idx → BitVec 1}
    (h0 : x = x₁) (h1 : g = g₁) (h2 : b = b₁) (h3 : wq = wq₁) (h4 : wk = wk₁) (h5 : wv = wv₁) (h6 : wo = wo₁) (h7 : g' = g'₁) (h8 : b' = b'₁) (h9 : wr = wr₁) (h10 : msk = msk₁) :
    lgt x g b wq wk wv wo g' b' wr msk = lgt x₁ g₁ b₁ wq₁ wk₁ wv₁ wo₁ g'₁ b'₁ wr₁ msk₁ := by
  subst h0 h1 h2 h3 h4 h5 h6 h7 h8 h9 h10; rfl

section
open Cert.ReferenceIdeal (main_arg0 main_arg1 main_arg2 main_arg3 main_arg4 main_arg5 main_arg6 main_arg7 main_arg8 main_arg9 main_arg10)
open Cert.ReferenceIdeal.Value

variable (W : Valuation Cert.ReferenceIdeal.τ Cert.ReferenceIdeal.sig (Elt F))

theorem ref_v23 : res_main_v23 W = layerNorm (W (Proc.devRef .tc main_arg0)) (W (Proc.devRef .tc main_arg1)) (W (Proc.devRef .tc main_arg2)) := rfl
theorem ref_v54 : res_main_v54 W = attend (W (Proc.devRef .tc main_arg0)) (res_main_v23 W) (W (Proc.devRef .tc main_arg3)) (W (Proc.devRef .tc main_arg4))
    (W (Proc.devRef .tc main_arg5)) (W (Proc.devRef .tc main_arg6)) (W (Proc.devRef .tc main_arg10)) := rfl
theorem ref_v79 : res_main_v79 W = logits (layerNorm (res_main_v54 W) (W (Proc.devRef .tc main_arg7)) (W (Proc.devRef .tc main_arg8))) (W (Proc.devRef .tc main_arg9)) := rfl
/-- The logits. -/
theorem ref_lgt : res_main_v79 W = lgt (W (Proc.devRef .tc main_arg0)) (W (Proc.devRef .tc main_arg1)) (W (Proc.devRef .tc main_arg2))
    (W (Proc.devRef .tc main_arg3)) (W (Proc.devRef .tc main_arg4)) (W (Proc.devRef .tc main_arg5)) (W (Proc.devRef .tc main_arg6))
    (W (Proc.devRef .tc main_arg7)) (W (Proc.devRef .tc main_arg8)) (W (Proc.devRef .tc main_arg9)) (W (Proc.devRef .tc main_arg10)) := by
  rw [ref_v79, ref_v54, ref_v23]; rfl
/-- The chosen experts. -/
theorem ref_choice : (Host.topK Cert.ReferenceIdeal.S2x2048x2 2 (FloatOps.cmpfTotal .gt) (res_main_v90 W) Cert.ReferenceIdeal.Gen.sliceFits_S2x2048x8_S2x2048x2).2 = choice (res_main_v79 W) := rfl
/-- The chosen experts as one vector. -/
def refRoute : S8192.Idx → BitVec 32 := shapeCast S8192 (choice (res_main_v79 W)) shapeCasts_S2x2048x2_S8192
/-- The tokens in expert order. -/
theorem ref_v93 : res_main_v93 W = half (argS (refRoute W)) := rfl
/-- The two columns of the inverse order. -/
theorem ref_v104 : res_main_v104 W = col (argS (argS (refRoute W))) 0 slices_S4096x2_S4096x1_0_0 := rfl
theorem ref_v113 : res_main_v113 W = col (argS (argS (refRoute W))) 1 slices_S4096x2_S4096x1_0_1 := rfl
end

end Cert.Proof.Rows

end
-- ==== Proof.lean ====
/-
  The five claims about the router, the two row gathers and the routing that feeds them: from one run of the kernel over any
  float values (Proof/Launch.lean), and the reference's own run. And the claims about each of six further calls of
  the same kernel, each with its own reference.
-/
module

public import proofs.«01_k».proof.Proof.MoeCall
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.QkvCall
public import proofs.«01_k».proof.Proof.Gen.Qkv
public import proofs.«01_k».proof.Proof.AttnCall
public import proofs.«01_k».proof.Proof.OprojCall
public import proofs.«01_k».proof.Proof.SharedCall
public import proofs.«01_k».proof.Proof.FinalCall
public import proofs.«01_k».proof.Proof.Gen.Attn.Frame
public import proofs.«01_k».proof.Proof.Gen.Oproj.Frame
public import proofs.«01_k».proof.Proof.Gen.Shared.Frame
public import proofs.«01_k».proof.Proof.Gen.Final.Frame
public import proofs.«01_k».proof.Proof.Results
public import proofs.«01_k».proof.Proof.RefRouter
public import Idealize.ShloMosaic.Lib.Quiescent

@[expose] public section

noncomputable section

namespace Cert.Proof

open Idealize.ShloMosaic Idealize.ShloMosaic.StableHlo Idealize.SL.Sem Cert.Proof.Rows

open Cert.KernelIdeal in
/-- The arguments end as they were. -/
theorem kept {F : FTy → Type} [FloatOps F] (m : (ℓ : Loc nD τ sig) → Buf (Elt F) ℓ) (c : Dev nD) (r : PUnit × MemSt nD τ sig (Elt F))
    (h : ∀ d : Dev nD, ∀ b : Ref sig .tc, r.2.mem ((SparseCore.T d).loc b) = VE m d (tcr b)) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  have k : ∀ b : Ref sig .tc, b ∉ wrtAll → r.2.mem ((c.tc : Thread nD τ).loc b) = m ((c.tc : Thread nD τ).loc b) :=
    fun b hb => (h c b).trans (VE_keep m c hb)
  ⟨k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide)⟩

set_option maxRecDepth 8192 in
set_option maxHeartbeats 4000000 in
/-- The kernel over machine words: it ends, its arguments as they were, every semaphore at zero. -/
theorem frame_k : Cert.quiescent_Kernel := fun m ρ _ =>
  (θ_run Cert.KernelIdeal.defs _ _).mono
    (fun _ h => ⟨fun c => kept m c _ h.1, h.2⟩)
    (run_main (F := Bits) m ρ)

/-- The same over extended reals. -/
theorem frame_ki : Cert.quiescent_KernelIdeal := fun m ρ _ =>
  (θ_run Cert.KernelIdeal.defs _ _).mono
    (fun _ h => ⟨fun c => kept m c _ h.1, h.2⟩)
    (run_main (F := Ideal) m ρ)

/-- The reference ends, its arguments as they were; it has no semaphore. -/
theorem frame_ri : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run m ρ)

set_option maxRecDepth 8192 in
/-- Kernel and reference end with equal results. -/
theorem alg : Cert.algebraic_KernelIdeal_ReferenceIdeal := fun m g m' g' _ hargs =>
  ⟨fun c => VE m c (tcr Cert.KernelIdeal.main_v106), fun c => VE m c (tcr Cert.KernelIdeal.main_v124),
    fun c => VE m c (tcr Cert.KernelIdeal.main_v79), fun c => VE m c (tcr Cert.KernelIdeal.main_indices),
    (θ_run Cert.KernelIdeal.defs _ _).mono
      (fun _ h c => ⟨h.1 c _, h.1 c _, h.1 c _, h.1 c _, kept m c _ h.1⟩)
      (run_main (F := Ideal) m g),
    (θ_run Cert.ReferenceIdeal.defs _ _).mono
      (fun _ h c => by
        obtain ⟨h0, h1, h2, h3, ha⟩ := h c
        obtain ⟨e0, e1, e2, e3, e4, e5, e6, e7, e8, e9, e10, e11, e12⟩ := hargs c
        have hl : Cert.ReferenceIdeal.Value.res_main_v79 (launchContents m' c) = lgts m c := by
          rw [ref_lgt]
          unfold launchContents lgts V0
          exact lgt_congr e0 e1 e2 e3 e4 e5 e6 e7 e8 e9 e10
        have hr : refRoute (launchContents m' c) = route m c := by unfold refRoute route; rw [hl]
        rw [ref_v93, hr] at h0
        rw [ref_v104, ref_v113, hr] at h1
        rw [hl] at h2
        rw [ref_choice, hl] at h3
        refine ⟨h0.trans ?_, h1.trans ?_, h2.trans (VE_v79 m c).symm, h3.trans (VE_indices m c).symm, ha⟩
        · refine Eq.trans ?_ ((VE_v106 m c).trans (val0 _ (route m c))).symm
          unfold launchContents; rw [e11]; rfl
        · refine Eq.trans ?_ ((VE_v124 m c).trans (val1 _ (argS (route m c)))).symm
          unfold launchContents; rw [e12]; rfl)
      (Cert.ReferenceIdeal.Value.run m' g')⟩

/-- The projections' call as printed and its twin over extended reals have one table of bodies, -/
theorem qkv_bodies {F : FTy → Type} [FloatOps F] : Cert.Qkv.defs₀ (F := F) = Cert.QkvIdeal.defs₀ (F := F) :=
  congrArg Defs.onTc (funext fun l => match l with | 0 => funext fun a => match a with | (t, s) => rfl)

/-- and so one table with the pipeline's. -/
theorem qkv_defs {F : FTy → Type} [FloatOps F] : Cert.Qkv.defs (F := F) = Cert.QkvIdeal.defs (F := F) :=
  congrArg (Pipeline.defs (Cert.QkvIdeal.pcfgs (F := F))) qkv_bodies

set_option maxRecDepth 8192 in
/-- The call that projects to queries, keys and values over machine words, over extended reals, and its reference: each ends, its arguments as they were. -/
theorem frames_Qkv : Cert.quiescent_Qkv ∧ Cert.quiescent_QkvIdeal ∧ Cert.quiescent_QkvReferenceIdeal :=
  ⟨fun m ρ _ => by rw [qkv_defs]; exact QkvRun.quiet (F := Bits) m ρ, fun m ρ _ => QkvRun.quiet (F := Ideal) m ρ, fun m ρ _ =>
    (θ_run Cert.QkvReferenceIdeal.defs _ _).mono
      (fun r h => ⟨fun c => (h c).2.2.2, Idealize.ShloMosaic.sem_eq_zero_of_no_sems (by decide) r.2⟩)
      (Cert.QkvReferenceIdeal.Value.run m ρ)⟩

/-- The attention call over machine words, over extended reals, and its reference: each ends, its arguments as they were. -/
theorem frames_Attn : Cert.quiescent_Attn ∧ Cert.quiescent_AttnIdeal ∧ Cert.quiescent_AttnReferenceIdeal :=
  ⟨fun m ρ _ => Cert.Attn.Gen.frame (F := Bits) m ρ, fun m ρ _ => Cert.AttnIdeal.Gen.frame (F := Ideal) m ρ, fun m ρ _ =>
    (θ_run Cert.AttnReferenceIdeal.defs _ _).mono
      (fun r h => ⟨fun c => (h c).2, Idealize.ShloMosaic.sem_eq_zero_of_no_sems (by decide) r.2⟩)
      (Cert.AttnReferenceIdeal.Value.run m ρ)⟩

/-- The call that projects the heads' outputs over machine words, over extended reals, and its reference: each ends, its arguments as they were. -/
theorem frames_Oproj : Cert.quiescent_Oproj ∧ Cert.quiescent_OprojIdeal ∧ Cert.quiescent_OprojReferenceIdeal :=
  ⟨fun m ρ _ => Cert.Oproj.Gen.frame (F := Bits) m ρ, fun m ρ _ => Cert.OprojIdeal.Gen.frame (F := Ideal) m ρ, fun m ρ _ =>
    (θ_run Cert.OprojReferenceIdeal.defs _ _).mono
      (fun r h => ⟨fun c => (h c).2, Idealize.ShloMosaic.sem_eq_zero_of_no_sems (by decide) r.2⟩)
      (Cert.OprojReferenceIdeal.Value.run m ρ)⟩

/-- The shared expert's call over machine words, over extended reals, and its reference: each ends, its arguments as they were. -/
theorem frames_Shared : Cert.quiescent_Shared ∧ Cert.quiescent_SharedIdeal ∧ Cert.quiescent_SharedReferenceIdeal :=
  ⟨fun m ρ _ => Cert.Shared.Gen.frame (F := Bits) m ρ, fun m ρ _ => Cert.SharedIdeal.Gen.frame (F := Ideal) m ρ, fun m ρ _ =>
    (θ_run Cert.SharedReferenceIdeal.defs _ _).mono
      (fun r h => ⟨fun c => (h c).2, Idealize.ShloMosaic.sem_eq_zero_of_no_sems (by decide) r.2⟩)
      (Cert.SharedReferenceIdeal.Value.run m ρ)⟩

/-- The call that adds the two rows over machine words, over extended reals, and its reference: each ends, its arguments as they were. -/
theorem frames_Final : Cert.quiescent_Final ∧ Cert.quiescent_FinalIdeal ∧ Cert.quiescent_FinalReferenceIdeal :=
  ⟨fun m ρ _ => Cert.Final.Gen.frame (F := Bits) m ρ, fun m ρ _ => Cert.FinalIdeal.Gen.frame (F := Ideal) m ρ, fun m ρ _ =>
    (θ_run Cert.FinalReferenceIdeal.defs _ _).mono
      (fun r h => ⟨fun c => (h c).2, Idealize.ShloMosaic.sem_eq_zero_of_no_sems (by decide) r.2⟩)
      (Cert.FinalReferenceIdeal.Value.run m ρ)⟩

theorem claim : Cert.Claim := ⟨Cert.Kernel.Gen.facts, Cert.KernelIdeal.Gen.facts, Cert.ReferenceIdeal.Gen.facts, Cert.Qkv.Gen.facts, Cert.QkvIdeal.Gen.facts, Cert.QkvReferenceIdeal.Gen.facts, Cert.Attn.Gen.facts, Cert.AttnIdeal.Gen.facts, Cert.AttnReferenceIdeal.Gen.facts, Cert.Oproj.Gen.facts, Cert.OprojIdeal.Gen.facts, Cert.OprojReferenceIdeal.Gen.facts, Cert.Shared.Gen.facts, Cert.SharedIdeal.Gen.facts, Cert.SharedReferenceIdeal.Gen.facts, Cert.Final.Gen.facts, Cert.FinalIdeal.Gen.facts, Cert.FinalReferenceIdeal.Gen.facts, Cert.Moe.Gen.facts, Cert.MoeIdeal.Gen.facts, Cert.MoeReferenceIdeal.Gen.facts, Cert.Pre_moe_in_range.Gen.facts, Cert.Pre_moe_partition.Gen.facts,
  frame_k, frame_ki, frame_ri,
  frames_Qkv.1, frames_Qkv.2.1, frames_Qkv.2.2,
  frames_Attn.1, frames_Attn.2.1, frames_Attn.2.2,
  frames_Oproj.1, frames_Oproj.2.1, frames_Oproj.2.2,
  frames_Shared.1, frames_Shared.2.1, frames_Shared.2.2,
  frames_Final.1, frames_Final.2.1, frames_Final.2.2,
  MoeRun.frame_words, MoeRun.frame_ideal, MoeRun.frame_parted, MoeRun.frame_ref, MoeRun.frame_ref_parted,
  trivial, alg, trivial, QkvCall.alg, trivial, AttnCall.alg, trivial, OprojCall.alg, trivial, SharedCall.alg, trivial, FinalCall.alg, trivial, MoeRun.alg⟩

end Cert.Proof

end
